-- ==== Defs.lean ====
def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))) = (fun _ => 1#1)

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossIdeal_finite_loss [hPre_finite_loss : Cert.Pre_finite_loss.Facts] (m : (ℓ : Loc Cert.LnLossIdeal.nD Cert.LnLossIdeal.τ Cert.LnLossIdeal.sig) → Buf (Elt Ideal) ℓ) : Prop :=
  ∀ c : Dev Cert.LnLossIdeal.nD,
    (Cert.Pre_finite_loss.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3))) = (fun _ => 1#1)

def Pre_LnLossRefIdeal (m : (ℓ : Loc Cert.LnLossRefIdeal.nD Cert.LnLossRefIdeal.τ Cert.LnLossRefIdeal.sig) → Buf (Elt Ideal) ℓ) : Prop :=
  True

def Pre_LnLossRefIdeal_finite_loss [hPre_finite_loss : Cert.Pre_finite_loss.Facts] (m : (ℓ : Loc Cert.LnLossRefIdeal.nD Cert.LnLossRefIdeal.τ Cert.LnLossRefIdeal.sig) → Buf (Elt Ideal) ℓ) : Prop :=
  ∀ c : Dev Cert.LnLossRefIdeal.nD,
    (Cert.Pre_finite_loss.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3))) = (fun _ => 1#1)

def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScBwdRefIdeal (m : (ℓ : Loc Cert.ScBwdRefIdeal.nD Cert.ScBwdRefIdeal.τ Cert.ScBwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DownLn (m : (ℓ : Loc Cert.DownLn.nD Cert.DownLn.τ Cert.DownLn.sig) → Buf (Elt Bits) ℓ) : Prop :=
  True

def Pre_DownLnIdeal (m : (ℓ : Loc Cert.DownLnIdeal.nD Cert.DownLnIdeal.τ Cert.DownLnIdeal.sig) → Buf (Elt Ideal) ℓ) : Prop :=
  True

def Pre_DownLnRefIdeal (m : (ℓ : Loc Cert.DownLnRefIdeal.nD Cert.DownLnRefIdeal.τ Cert.DownLnRefIdeal.sig) → Buf (Elt Ideal) ℓ) : Prop :=
  True

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdRefIdeal (m : (ℓ : Loc Cert.LruFwdRefIdeal.nD Cert.LruFwdRefIdeal.τ Cert.LruFwdRefIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_MmNtRes (m : (ℓ : Loc Cert.MmNtRes.nD Cert.MmNtRes.τ Cert.MmNtRes.sig) → Buf (Elt Bits) ℓ) : Prop :=
  True

def Pre_MmNtResIdeal (m : (ℓ : Loc Cert.MmNtResIdeal.nD Cert.MmNtResIdeal.τ Cert.MmNtResIdeal.sig) → Buf (Elt Ideal) ℓ) : Prop :=
  True

def Pre_MmNtResRefIdeal (m : (ℓ : Loc Cert.MmNtResRefIdeal.nD Cert.MmNtResRefIdeal.τ Cert.MmNtResRefIdeal.sig) → Buf (Elt Ideal) ℓ) : Prop :=
  True

def Pre_AddChips (m : (ℓ : Loc Cert.AddChips.nD Cert.AddChips.τ Cert.AddChips.sig) → Buf (Elt Bits) ℓ) : Prop :=
  True

def Pre_AddChipsIdeal (m : (ℓ : Loc Cert.AddChipsIdeal.nD Cert.AddChipsIdeal.τ Cert.AddChipsIdeal.sig) → Buf (Elt Ideal) ℓ) : Prop :=
  True

def Pre_AddChipsRefIdeal (m : (ℓ : Loc Cert.AddChipsRefIdeal.nD Cert.AddChipsRefIdeal.τ Cert.AddChipsRefIdeal.sig) → Buf (Elt Ideal) ℓ) : Prop :=
  True

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3))
      ∧ r.2.sem = fun _ => 0)

def quiescent_LnLossIdeal_pre_finite_loss [hLnLossIdeal : Cert.LnLossIdeal.Facts] [hPre_finite_loss : Cert.Pre_finite_loss.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal_finite_loss m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3))
      ∧ r.2.sem = fun _ => 0)

def quiescent_LnLossRefIdeal_pre_finite_loss [hLnLossRefIdeal : Cert.LnLossRefIdeal.Facts] [hPre_finite_loss : Cert.Pre_finite_loss.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal_finite_loss m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3))
      ∧ r.2.sem = fun _ => 0)

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2)
      ∧ r.2.mem ((c.tc : Thread Cert.ScBwd.nD Cert.ScBwd.τ).loc Cert.ScBwd.main_arg3) = m ((c.tc : Thread Cert.ScBwd.nD Cert.ScBwd.τ).loc Cert.ScBwd.main_arg3))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
      ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3))
      ∧ r.2.sem = fun _ => 0)

def quiescent_ScBwdRefIdeal [hScBwdRefIdeal : Cert.ScBwdRefIdeal.Facts] : Prop :=
  ∀ (m : (ℓ : Loc Cert.ScBwdRefIdeal.nD Cert.ScBwdRefIdeal.τ Cert.ScBwdRefIdeal.sig) → Buf (Elt Ideal) ℓ) (g : Dev Cert.ScBwdRefIdeal.nD → PrngReg), Pre_ScBwdRefIdeal m →
    θ_run (Cert.ScBwdRefIdeal.defs (F := Ideal)) (onTc (τ := Cert.ScBwdRefIdeal.τ) (Cert.ScBwdRefIdeal.main (F := Ideal))) ⟨m, fun _ => 0, g⟩ (fun r => (∀ c : Dev Cert.ScBwdRefIdeal.nD,
      r.2.mem ((c.tc : Thread Cert.ScBwdRefIdeal.nD Cert.ScBwdRefIdeal.τ).loc Cert.ScBwdRefIdeal.main_arg0) = m ((c.tc : Thread Cert.ScBwdRefIdeal.nD Cert.ScBwdRefIdeal.τ).loc Cert.ScBwdRefIdeal.main_arg0)
      ∧ r.2.mem ((c.tc : Thread Cert.ScBwdRefIdeal.nD Cert.ScBwdRefIdeal.τ).loc Cert.ScBwdRefIdeal.main_arg1) = m ((c.tc : Thread Cert.ScBwdRefIdeal.nD Cert.ScBwdRefIdeal.τ).loc Cert.ScBwdRefIdeal.main_arg1)
      ∧ r.2.mem ((c.tc : Thread Cert.ScBwdRefIdeal.nD Cert.ScBwdRefIdeal.τ).loc Cert.ScBwdRefIdeal.main_arg2) = m ((c.tc : Thread Cert.ScBwdRefIdeal.nD Cert.ScBwdRefIdeal.τ).loc Cert.ScBwdRefIdeal.main_arg2)
      ∧ r.2.mem ((c.tc : Thread Cert.ScBwdRefIdeal.nD Cert.ScBwdRefIdeal.τ).loc Cert.ScBwdRefIdeal.main_arg3) = m ((c.tc : Thread Cert.ScBwdRefIdeal.nD Cert.ScBwdRefIdeal.τ).loc Cert.ScBwdRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_DownLn [hDownLn : Cert.DownLn.Facts] : Prop :=
  ∀ (m : (ℓ : Loc Cert.DownLn.nD Cert.DownLn.τ Cert.DownLn.sig) → Buf (Elt Bits) ℓ) (g : Dev Cert.DownLn.nD → PrngReg), Pre_DownLn m →
    θ_run (Cert.DownLn.defs (F := Bits)) (onTc (τ := Cert.DownLn.τ) (Cert.DownLn.main (F := Bits))) ⟨m, fun _ => 0, g⟩ (fun r => (∀ c : Dev Cert.DownLn.nD,
      r.2.mem ((c.tc : Thread Cert.DownLn.nD Cert.DownLn.τ).loc Cert.DownLn.main_arg0) = m ((c.tc : Thread Cert.DownLn.nD Cert.DownLn.τ).loc Cert.DownLn.main_arg0)
      ∧ r.2.mem ((c.tc : Thread Cert.DownLn.nD Cert.DownLn.τ).loc Cert.DownLn.main_arg1) = m ((c.tc : Thread Cert.DownLn.nD Cert.DownLn.τ).loc Cert.DownLn.main_arg1)
      ∧ r.2.mem ((c.tc : Thread Cert.DownLn.nD Cert.DownLn.τ).loc Cert.DownLn.main_arg2) = m ((c.tc : Thread Cert.DownLn.nD Cert.DownLn.τ).loc Cert.DownLn.main_arg2)
      ∧ r.2.mem ((c.tc : Thread Cert.DownLn.nD Cert.DownLn.τ).loc Cert.DownLn.main_arg3) = m ((c.tc : Thread Cert.DownLn.nD Cert.DownLn.τ).loc Cert.DownLn.main_arg3)
      ∧ r.2.mem ((c.tc : Thread Cert.DownLn.nD Cert.DownLn.τ).loc Cert.DownLn.main_arg4) = m ((c.tc : Thread Cert.DownLn.nD Cert.DownLn.τ).loc Cert.DownLn.main_arg4))
      ∧ r.2.sem = fun _ => 0)

def quiescent_DownLnIdeal [hDownLnIdeal : Cert.DownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg), Pre_DownLnIdeal m →
    θ_run (Cert.DownLnIdeal.defs (F := Ideal)) (onTc (τ := Cert.DownLnIdeal.τ) (Cert.DownLnIdeal.main (F := Ideal))) ⟨m, fun _ => 0, g⟩ (fun r => (∀ c : Dev Cert.DownLnIdeal.nD,
      r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
      ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
      ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
      ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
      ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ r.2.sem = fun _ => 0)

def quiescent_DownLnRefIdeal [hDownLnRefIdeal : Cert.DownLnRefIdeal.Facts] : Prop :=
  ∀ (m : (ℓ : Loc Cert.DownLnRefIdeal.nD Cert.DownLnRefIdeal.τ Cert.DownLnRefIdeal.sig) → Buf (Elt Ideal) ℓ) (g : Dev Cert.DownLnRefIdeal.nD → PrngReg), Pre_DownLnRefIdeal m →
    θ_run (Cert.DownLnRefIdeal.defs (F := Ideal)) (onTc (τ := Cert.DownLnRefIdeal.τ) (Cert.DownLnRefIdeal.main (F := Ideal))) ⟨m, fun _ => 0, g⟩ (fun r => (∀ c : Dev Cert.DownLnRefIdeal.nD,
      r.2.mem ((c.tc : Thread Cert.DownLnRefIdeal.nD Cert.DownLnRefIdeal.τ).loc Cert.DownLnRefIdeal.main_arg0) = m ((c.tc : Thread Cert.DownLnRefIdeal.nD Cert.DownLnRefIdeal.τ).loc Cert.DownLnRefIdeal.main_arg0)
      ∧ r.2.mem ((c.tc : Thread Cert.DownLnRefIdeal.nD Cert.DownLnRefIdeal.τ).loc Cert.DownLnRefIdeal.main_arg1) = m ((c.tc : Thread Cert.DownLnRefIdeal.nD Cert.DownLnRefIdeal.τ).loc Cert.DownLnRefIdeal.main_arg1)
      ∧ r.2.mem ((c.tc : Thread Cert.DownLnRefIdeal.nD Cert.DownLnRefIdeal.τ).loc Cert.DownLnRefIdeal.main_arg2) = m ((c.tc : Thread Cert.DownLnRefIdeal.nD Cert.DownLnRefIdeal.τ).loc Cert.DownLnRefIdeal.main_arg2)
      ∧ r.2.mem ((c.tc : Thread Cert.DownLnRefIdeal.nD Cert.DownLnRefIdeal.τ).loc Cert.DownLnRefIdeal.main_arg3) = m ((c.tc : Thread Cert.DownLnRefIdeal.nD Cert.DownLnRefIdeal.τ).loc Cert.DownLnRefIdeal.main_arg3)
      ∧ r.2.mem ((c.tc : Thread Cert.DownLnRefIdeal.nD Cert.DownLnRefIdeal.τ).loc Cert.DownLnRefIdeal.main_arg4) = m ((c.tc : Thread Cert.DownLnRefIdeal.nD Cert.DownLnRefIdeal.τ).loc Cert.DownLnRefIdeal.main_arg4))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1)
      ∧ r.2.mem ((c.tc : Thread Cert.ScFwd.nD Cert.ScFwd.τ).loc Cert.ScFwd.main_arg2) = m ((c.tc : Thread Cert.ScFwd.nD Cert.ScFwd.τ).loc Cert.ScFwd.main_arg2))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1)
      ∧ r.2.mem ((c.tc : Thread Cert.ScFwdIdeal.nD Cert.ScFwdIdeal.τ).loc Cert.ScFwdIdeal.main_arg2) = m ((c.tc : Thread Cert.ScFwdIdeal.nD Cert.ScFwdIdeal.τ).loc Cert.ScFwdIdeal.main_arg2))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1)
      ∧ r.2.mem ((c.tc : Thread Cert.ScFwdRefIdeal.nD Cert.ScFwdRefIdeal.τ).loc Cert.ScFwdRefIdeal.main_arg2) = m ((c.tc : Thread Cert.ScFwdRefIdeal.nD Cert.ScFwdRefIdeal.τ).loc Cert.ScFwdRefIdeal.main_arg2))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_MmNtRes [hMmNtRes : Cert.MmNtRes.Facts] : Prop :=
  ∀ (m : (ℓ : Loc Cert.MmNtRes.nD Cert.MmNtRes.τ Cert.MmNtRes.sig) → Buf (Elt Bits) ℓ) (g : Dev Cert.MmNtRes.nD → PrngReg), Pre_MmNtRes m →
    θ_run (Cert.MmNtRes.defs (F := Bits)) (onTc (τ := Cert.MmNtRes.τ) (Cert.MmNtRes.main (F := Bits))) ⟨m, fun _ => 0, g⟩ (fun r => (∀ c : Dev Cert.MmNtRes.nD,
      r.2.mem ((c.tc : Thread Cert.MmNtRes.nD Cert.MmNtRes.τ).loc Cert.MmNtRes.main_arg0) = m ((c.tc : Thread Cert.MmNtRes.nD Cert.MmNtRes.τ).loc Cert.MmNtRes.main_arg0)
      ∧ r.2.mem ((c.tc : Thread Cert.MmNtRes.nD Cert.MmNtRes.τ).loc Cert.MmNtRes.main_arg1) = m ((c.tc : Thread Cert.MmNtRes.nD Cert.MmNtRes.τ).loc Cert.MmNtRes.main_arg1)
      ∧ r.2.mem ((c.tc : Thread Cert.MmNtRes.nD Cert.MmNtRes.τ).loc Cert.MmNtRes.main_arg2) = m ((c.tc : Thread Cert.MmNtRes.nD Cert.MmNtRes.τ).loc Cert.MmNtRes.main_arg2))
      ∧ r.2.sem = fun _ => 0)

def quiescent_MmNtResIdeal [hMmNtResIdeal : Cert.MmNtResIdeal.Facts] : Prop :=
  ∀ (m : (ℓ : Loc Cert.MmNtResIdeal.nD Cert.MmNtResIdeal.τ Cert.MmNtResIdeal.sig) → Buf (Elt Ideal) ℓ) (g : Dev Cert.MmNtResIdeal.nD → PrngReg), Pre_MmNtResIdeal m →
    θ_run (Cert.MmNtResIdeal.defs (F := Ideal)) (onTc (τ := Cert.MmNtResIdeal.τ) (Cert.MmNtResIdeal.main (F := Ideal))) ⟨m, fun _ => 0, g⟩ (fun r => (∀ c : Dev Cert.MmNtResIdeal.nD,
      r.2.mem ((c.tc : Thread Cert.MmNtResIdeal.nD Cert.MmNtResIdeal.τ).loc Cert.MmNtResIdeal.main_arg0) = m ((c.tc : Thread Cert.MmNtResIdeal.nD Cert.MmNtResIdeal.τ).loc Cert.MmNtResIdeal.main_arg0)
      ∧ r.2.mem ((c.tc : Thread Cert.MmNtResIdeal.nD Cert.MmNtResIdeal.τ).loc Cert.MmNtResIdeal.main_arg1) = m ((c.tc : Thread Cert.MmNtResIdeal.nD Cert.MmNtResIdeal.τ).loc Cert.MmNtResIdeal.main_arg1)
      ∧ r.2.mem ((c.tc : Thread Cert.MmNtResIdeal.nD Cert.MmNtResIdeal.τ).loc Cert.MmNtResIdeal.main_arg2) = m ((c.tc : Thread Cert.MmNtResIdeal.nD Cert.MmNtResIdeal.τ).loc Cert.MmNtResIdeal.main_arg2))
      ∧ r.2.sem = fun _ => 0)

def quiescent_MmNtResRefIdeal [hMmNtResRefIdeal : Cert.MmNtResRefIdeal.Facts] : Prop :=
  ∀ (m : (ℓ : Loc Cert.MmNtResRefIdeal.nD Cert.MmNtResRefIdeal.τ Cert.MmNtResRefIdeal.sig) → Buf (Elt Ideal) ℓ) (g : Dev Cert.MmNtResRefIdeal.nD → PrngReg), Pre_MmNtResRefIdeal m →
    θ_run (Cert.MmNtResRefIdeal.defs (F := Ideal)) (onTc (τ := Cert.MmNtResRefIdeal.τ) (Cert.MmNtResRefIdeal.main (F := Ideal))) ⟨m, fun _ => 0, g⟩ (fun r => (∀ c : Dev Cert.MmNtResRefIdeal.nD,
      r.2.mem ((c.tc : Thread Cert.MmNtResRefIdeal.nD Cert.MmNtResRefIdeal.τ).loc Cert.MmNtResRefIdeal.main_arg0) = m ((c.tc : Thread Cert.MmNtResRefIdeal.nD Cert.MmNtResRefIdeal.τ).loc Cert.MmNtResRefIdeal.main_arg0)
      ∧ r.2.mem ((c.tc : Thread Cert.MmNtResRefIdeal.nD Cert.MmNtResRefIdeal.τ).loc Cert.MmNtResRefIdeal.main_arg1) = m ((c.tc : Thread Cert.MmNtResRefIdeal.nD Cert.MmNtResRefIdeal.τ).loc Cert.MmNtResRefIdeal.main_arg1)
      ∧ r.2.mem ((c.tc : Thread Cert.MmNtResRefIdeal.nD Cert.MmNtResRefIdeal.τ).loc Cert.MmNtResRefIdeal.main_arg2) = m ((c.tc : Thread Cert.MmNtResRefIdeal.nD Cert.MmNtResRefIdeal.τ).loc Cert.MmNtResRefIdeal.main_arg2))
      ∧ r.2.sem = fun _ => 0)

def quiescent_AddChips [hAddChips : Cert.AddChips.Facts] : Prop :=
  ∀ (m : (ℓ : Loc Cert.AddChips.nD Cert.AddChips.τ Cert.AddChips.sig) → Buf (Elt Bits) ℓ) (g : Dev Cert.AddChips.nD → PrngReg), Pre_AddChips m →
    θ_run (Cert.AddChips.defs (F := Bits)) (onTc (τ := Cert.AddChips.τ) (Cert.AddChips.main (F := Bits))) ⟨m, fun _ => 0, g⟩ (fun r => (∀ c : Dev Cert.AddChips.nD,
      r.2.mem ((c.tc : Thread Cert.AddChips.nD Cert.AddChips.τ).loc Cert.AddChips.main_arg0) = m ((c.tc : Thread Cert.AddChips.nD Cert.AddChips.τ).loc Cert.AddChips.main_arg0))
      ∧ r.2.sem = fun _ => 0)

def quiescent_AddChipsIdeal [hAddChipsIdeal : Cert.AddChipsIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg), Pre_AddChipsIdeal m →
    θ_run (Cert.AddChipsIdeal.defs (F := Ideal)) (onTc (τ := Cert.AddChipsIdeal.τ) (Cert.AddChipsIdeal.main (F := Ideal))) ⟨m, fun _ => 0, g⟩ (fun r => (∀ c : Dev Cert.AddChipsIdeal.nD,
      r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0))
      ∧ r.2.sem = fun _ => 0)

def quiescent_AddChipsRefIdeal [hAddChipsRefIdeal : Cert.AddChipsRefIdeal.Facts] : Prop :=
  ∀ (m : (ℓ : Loc Cert.AddChipsRefIdeal.nD Cert.AddChipsRefIdeal.τ Cert.AddChipsRefIdeal.sig) → Buf (Elt Ideal) ℓ) (g : Dev Cert.AddChipsRefIdeal.nD → PrngReg), Pre_AddChipsRefIdeal m →
    θ_run (Cert.AddChipsRefIdeal.defs (F := Ideal)) (onTc (τ := Cert.AddChipsRefIdeal.τ) (Cert.AddChipsRefIdeal.main (F := Ideal))) ⟨m, fun _ => 0, g⟩ (fun r => (∀ c : Dev Cert.AddChipsRefIdeal.nD,
      r.2.mem ((c.tc : Thread Cert.AddChipsRefIdeal.nD Cert.AddChipsRefIdeal.τ).loc Cert.AddChipsRefIdeal.main_arg0) = m ((c.tc : Thread Cert.AddChipsRefIdeal.nD Cert.AddChipsRefIdeal.τ).loc Cert.AddChipsRefIdeal.main_arg0))
      ∧ r.2.sem = fun _ => 0)

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v62) = v0 c
          ∧ r.2.mem ((c.tc : Thread Cert.LnBwdRefIdeal.nD Cert.LnBwdRefIdeal.τ).loc Cert.LnBwdRefIdeal.main_v63) = v1 c
          ∧ r.2.mem ((c.tc : Thread Cert.LnBwdRefIdeal.nD Cert.LnBwdRefIdeal.τ).loc Cert.LnBwdRefIdeal.main_v64) = v2 c
          ∧ r.2.mem ((c.tc : Thread Cert.LnBwdRefIdeal.nD Cert.LnBwdRefIdeal.τ).loc Cert.LnBwdRefIdeal.main_v65) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_LnLoss_LnLossIdeal : Prop :=
  True

def algebraic_LnLossIdeal_LnLossRefIdeal_pre_finite_loss [hLnLossIdeal : Cert.LnLossIdeal.Facts] [hLnLossRefIdeal : Cert.LnLossRefIdeal.Facts] [hPre_finite_loss : Cert.Pre_finite_loss.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal_finite_loss m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)) →
    ∃ (v0 : (c : Dev Cert.LnLossIdeal.nD) → Buf (Elt Ideal) ((c.tc : Thread Cert.LnLossIdeal.nD Cert.LnLossIdeal.τ).loc Cert.LnLossIdeal.main_v25_0)) (v1 : (c : Dev Cert.LnLossIdeal.nD) → Buf (Elt Ideal) ((c.tc : Thread Cert.LnLossIdeal.nD Cert.LnLossIdeal.τ).loc Cert.LnLossIdeal.main_v25_1)) (v2 : (c : Dev Cert.LnLossIdeal.nD) → Buf (Elt Ideal) ((c.tc : Thread Cert.LnLossIdeal.nD Cert.LnLossIdeal.τ).loc Cert.LnLossIdeal.main_v25_2)) (v3 : (c : Dev Cert.LnLossIdeal.nD) → Buf (Elt Ideal) ((c.tc : Thread Cert.LnLossIdeal.nD Cert.LnLossIdeal.τ).loc Cert.LnLossIdeal.main_v25_3)) (v4 : (c : Dev Cert.LnLossIdeal.nD) → Buf (Elt Ideal) ((c.tc : Thread Cert.LnLossIdeal.nD Cert.LnLossIdeal.τ).loc Cert.LnLossIdeal.main_v26)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v25_0) = v0 c
          ∧ r.2.mem ((c.tc : Thread Cert.LnLossIdeal.nD Cert.LnLossIdeal.τ).loc Cert.LnLossIdeal.main_v25_1) = v1 c
          ∧ r.2.mem ((c.tc : Thread Cert.LnLossIdeal.nD Cert.LnLossIdeal.τ).loc Cert.LnLossIdeal.main_v25_2) = v2 c
          ∧ r.2.mem ((c.tc : Thread Cert.LnLossIdeal.nD Cert.LnLossIdeal.τ).loc Cert.LnLossIdeal.main_v25_3) = v3 c
          ∧ r.2.mem ((c.tc : Thread Cert.LnLossIdeal.nD Cert.LnLossIdeal.τ).loc Cert.LnLossIdeal.main_v26) = v4 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v76) = v0 c
          ∧ r.2.mem ((c.tc : Thread Cert.LnLossRefIdeal.nD Cert.LnLossRefIdeal.τ).loc Cert.LnLossRefIdeal.main_v77) = v1 c
          ∧ r.2.mem ((c.tc : Thread Cert.LnLossRefIdeal.nD Cert.LnLossRefIdeal.τ).loc Cert.LnLossRefIdeal.main_v78) = v2 c
          ∧ r.2.mem ((c.tc : Thread Cert.LnLossRefIdeal.nD Cert.LnLossRefIdeal.τ).loc Cert.LnLossRefIdeal.main_v79) = v3 c
          ∧ r.2.mem ((c.tc : Thread Cert.LnLossRefIdeal.nD Cert.LnLossRefIdeal.τ).loc Cert.LnLossRefIdeal.main_v37) = v4 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3))

def preserves_ScBwd_ScBwdIdeal : Prop :=
  True

def algebraic_ScBwdIdeal_ScBwdRefIdeal [hScBwdIdeal : Cert.ScBwdIdeal.Facts] [hScBwdRefIdeal : Cert.ScBwdRefIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScBwdRefIdeal.nD Cert.ScBwdRefIdeal.τ Cert.ScBwdRefIdeal.sig) → Buf (Elt Ideal) ℓ) (g' : Dev Cert.ScBwdRefIdeal.nD → PrngReg), Pre_ScBwdIdeal m →
    (∀ c : Dev Cert.ScBwdIdeal.nD,
      m' ((c.tc : Thread Cert.ScBwdRefIdeal.nD Cert.ScBwdRefIdeal.τ).loc Cert.ScBwdRefIdeal.main_arg0) = m ((c.tc : Thread Cert.ScBwdIdeal.nD Cert.ScBwdIdeal.τ).loc Cert.ScBwdIdeal.main_arg0)
      ∧ m' ((c.tc : Thread Cert.ScBwdRefIdeal.nD Cert.ScBwdRefIdeal.τ).loc Cert.ScBwdRefIdeal.main_arg1) = m ((c.tc : Thread Cert.ScBwdIdeal.nD Cert.ScBwdIdeal.τ).loc Cert.ScBwdIdeal.main_arg1)
      ∧ m' ((c.tc : Thread Cert.ScBwdRefIdeal.nD Cert.ScBwdRefIdeal.τ).loc Cert.ScBwdRefIdeal.main_arg2) = m ((c.tc : Thread Cert.ScBwdIdeal.nD Cert.ScBwdIdeal.τ).loc Cert.ScBwdIdeal.main_arg2)
      ∧ m' ((c.tc : Thread Cert.ScBwdRefIdeal.nD Cert.ScBwdRefIdeal.τ).loc Cert.ScBwdRefIdeal.main_arg3) = m ((c.tc : Thread Cert.ScBwdIdeal.nD Cert.ScBwdIdeal.τ).loc Cert.ScBwdIdeal.main_arg3)) →
    ∃ (v0 : (c : Dev Cert.ScBwdIdeal.nD) → Buf (Elt Ideal) ((c.tc : Thread Cert.ScBwdIdeal.nD Cert.ScBwdIdeal.τ).loc Cert.ScBwdIdeal.main_v1_0)) (v1 : (c : Dev Cert.ScBwdIdeal.nD) → Buf (Elt Ideal) ((c.tc : Thread Cert.ScBwdIdeal.nD Cert.ScBwdIdeal.τ).loc Cert.ScBwdIdeal.main_v1_1)) (v2 : (c : Dev Cert.ScBwdIdeal.nD) → Buf (Elt Ideal) ((c.tc : Thread Cert.ScBwdIdeal.nD Cert.ScBwdIdeal.τ).loc Cert.ScBwdIdeal.main_v1_2)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v1_0) = v0 c
          ∧ r.2.mem ((c.tc : Thread Cert.ScBwdIdeal.nD Cert.ScBwdIdeal.τ).loc Cert.ScBwdIdeal.main_v1_1) = v1 c
          ∧ r.2.mem ((c.tc : Thread Cert.ScBwdIdeal.nD Cert.ScBwdIdeal.τ).loc Cert.ScBwdIdeal.main_v1_2) = v2 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2)
          ∧ r.2.mem ((c.tc : Thread Cert.ScBwdIdeal.nD Cert.ScBwdIdeal.τ).loc Cert.ScBwdIdeal.main_arg3) = m ((c.tc : Thread Cert.ScBwdIdeal.nD Cert.ScBwdIdeal.τ).loc Cert.ScBwdIdeal.main_arg3))
      ∧ θ_run (Cert.ScBwdRefIdeal.defs (F := Ideal)) (onTc (τ := Cert.ScBwdRefIdeal.τ) (Cert.ScBwdRefIdeal.main (F := Ideal))) ⟨m', fun _ => 0, g'⟩ (fun r => ∀ c : Dev Cert.ScBwdRefIdeal.nD,
          r.2.mem ((c.tc : Thread Cert.ScBwdRefIdeal.nD Cert.ScBwdRefIdeal.τ).loc Cert.ScBwdRefIdeal.main_v80) = v0 c
          ∧ r.2.mem ((c.tc : Thread Cert.ScBwdRefIdeal.nD Cert.ScBwdRefIdeal.τ).loc Cert.ScBwdRefIdeal.main_v69) = v1 c
          ∧ r.2.mem ((c.tc : Thread Cert.ScBwdRefIdeal.nD Cert.ScBwdRefIdeal.τ).loc Cert.ScBwdRefIdeal.main_v81) = v2 c
          ∧ r.2.mem ((c.tc : Thread Cert.ScBwdRefIdeal.nD Cert.ScBwdRefIdeal.τ).loc Cert.ScBwdRefIdeal.main_arg0) = m' ((c.tc : Thread Cert.ScBwdRefIdeal.nD Cert.ScBwdRefIdeal.τ).loc Cert.ScBwdRefIdeal.main_arg0)
          ∧ r.2.mem ((c.tc : Thread Cert.ScBwdRefIdeal.nD Cert.ScBwdRefIdeal.τ).loc Cert.ScBwdRefIdeal.main_arg1) = m' ((c.tc : Thread Cert.ScBwdRefIdeal.nD Cert.ScBwdRefIdeal.τ).loc Cert.ScBwdRefIdeal.main_arg1)
          ∧ r.2.mem ((c.tc : Thread Cert.ScBwdRefIdeal.nD Cert.ScBwdRefIdeal.τ).loc Cert.ScBwdRefIdeal.main_arg2) = m' ((c.tc : Thread Cert.ScBwdRefIdeal.nD Cert.ScBwdRefIdeal.τ).loc Cert.ScBwdRefIdeal.main_arg2)
          ∧ r.2.mem ((c.tc : Thread Cert.ScBwdRefIdeal.nD Cert.ScBwdRefIdeal.τ).loc Cert.ScBwdRefIdeal.main_arg3) = m' ((c.tc : Thread Cert.ScBwdRefIdeal.nD Cert.ScBwdRefIdeal.τ).loc Cert.ScBwdRefIdeal.main_arg3))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v33_0)) (v1 : (c : Dev Cert.FfnBwdIdeal.nD) → Buf (Elt Ideal) ((c.tc : Thread Cert.FfnBwdIdeal.nD Cert.FfnBwdIdeal.τ).loc Cert.FfnBwdIdeal.main_v33_1)) (v2 : (c : Dev Cert.FfnBwdIdeal.nD) → Buf (Elt Ideal) ((c.tc : Thread Cert.FfnBwdIdeal.nD Cert.FfnBwdIdeal.τ).loc Cert.FfnBwdIdeal.main_v33_2)) (v3 : (c : Dev Cert.FfnBwdIdeal.nD) → Buf (Elt Ideal) ((c.tc : Thread Cert.FfnBwdIdeal.nD Cert.FfnBwdIdeal.τ).loc Cert.FfnBwdIdeal.main_v33_3)) (v4 : (c : Dev Cert.FfnBwdIdeal.nD) → Buf (Elt Ideal) ((c.tc : Thread Cert.FfnBwdIdeal.nD Cert.FfnBwdIdeal.τ).loc Cert.FfnBwdIdeal.main_v33_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v33_0) = v0 c
          ∧ r.2.mem ((c.tc : Thread Cert.FfnBwdIdeal.nD Cert.FfnBwdIdeal.τ).loc Cert.FfnBwdIdeal.main_v33_1) = v1 c
          ∧ r.2.mem ((c.tc : Thread Cert.FfnBwdIdeal.nD Cert.FfnBwdIdeal.τ).loc Cert.FfnBwdIdeal.main_v33_2) = v2 c
          ∧ r.2.mem ((c.tc : Thread Cert.FfnBwdIdeal.nD Cert.FfnBwdIdeal.τ).loc Cert.FfnBwdIdeal.main_v33_3) = v3 c
          ∧ r.2.mem ((c.tc : Thread Cert.FfnBwdIdeal.nD Cert.FfnBwdIdeal.τ).loc Cert.FfnBwdIdeal.main_v33_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v81) = v0 c
          ∧ r.2.mem ((c.tc : Thread Cert.FfnBwdRefIdeal.nD Cert.FfnBwdRefIdeal.τ).loc Cert.FfnBwdRefIdeal.main_v82) = v1 c
          ∧ r.2.mem ((c.tc : Thread Cert.FfnBwdRefIdeal.nD Cert.FfnBwdRefIdeal.τ).loc Cert.FfnBwdRefIdeal.main_v83) = v2 c
          ∧ r.2.mem ((c.tc : Thread Cert.FfnBwdRefIdeal.nD Cert.FfnBwdRefIdeal.τ).loc Cert.FfnBwdRefIdeal.main_v85) = v3 c
          ∧ r.2.mem ((c.tc : Thread Cert.FfnBwdRefIdeal.nD Cert.FfnBwdRefIdeal.τ).loc Cert.FfnBwdRefIdeal.main_v87) = v4 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)) (v2 : (c : Dev Cert.FfnUpIdeal.nD) → Buf (Elt Ideal) ((c.tc : Thread Cert.FfnUpIdeal.nD Cert.FfnUpIdeal.τ).loc Cert.FfnUpIdeal.main_v2_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_v2_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v33) = v0 c
          ∧ r.2.mem ((c.tc : Thread Cert.FfnUpRefIdeal.nD Cert.FfnUpRefIdeal.τ).loc Cert.FfnUpRefIdeal.main_v36) = v1 c
          ∧ r.2.mem ((c.tc : Thread Cert.FfnUpRefIdeal.nD Cert.FfnUpRefIdeal.τ).loc Cert.FfnUpRefIdeal.main_v40) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_DownLn_DownLnIdeal : Prop :=
  True

def algebraic_DownLnIdeal_DownLnRefIdeal [hDownLnIdeal : Cert.DownLnIdeal.Facts] [hDownLnRefIdeal : Cert.DownLnRefIdeal.Facts] : Prop :=
  ∀ (m : (ℓ : Loc Cert.DownLnIdeal.nD Cert.DownLnIdeal.τ Cert.DownLnIdeal.sig) → Buf (Elt Ideal) ℓ) (g : Dev Cert.DownLnIdeal.nD → PrngReg)
    (m' : (ℓ : Loc Cert.DownLnRefIdeal.nD Cert.DownLnRefIdeal.τ Cert.DownLnRefIdeal.sig) → Buf (Elt Ideal) ℓ) (g' : Dev Cert.DownLnRefIdeal.nD → PrngReg), Pre_DownLnIdeal m →
    (∀ c : Dev Cert.DownLnIdeal.nD,
      m' ((c.tc : Thread Cert.DownLnRefIdeal.nD Cert.DownLnRefIdeal.τ).loc Cert.DownLnRefIdeal.main_arg0) = m ((c.tc : Thread Cert.DownLnIdeal.nD Cert.DownLnIdeal.τ).loc Cert.DownLnIdeal.main_arg0)
      ∧ m' ((c.tc : Thread Cert.DownLnRefIdeal.nD Cert.DownLnRefIdeal.τ).loc Cert.DownLnRefIdeal.main_arg1) = m ((c.tc : Thread Cert.DownLnIdeal.nD Cert.DownLnIdeal.τ).loc Cert.DownLnIdeal.main_arg1)
      ∧ m' ((c.tc : Thread Cert.DownLnRefIdeal.nD Cert.DownLnRefIdeal.τ).loc Cert.DownLnRefIdeal.main_arg2) = m ((c.tc : Thread Cert.DownLnIdeal.nD Cert.DownLnIdeal.τ).loc Cert.DownLnIdeal.main_arg2)
      ∧ m' ((c.tc : Thread Cert.DownLnRefIdeal.nD Cert.DownLnRefIdeal.τ).loc Cert.DownLnRefIdeal.main_arg3) = m ((c.tc : Thread Cert.DownLnIdeal.nD Cert.DownLnIdeal.τ).loc Cert.DownLnIdeal.main_arg3)
      ∧ m' ((c.tc : Thread Cert.DownLnRefIdeal.nD Cert.DownLnRefIdeal.τ).loc Cert.DownLnRefIdeal.main_arg4) = m ((c.tc : Thread Cert.DownLnIdeal.nD Cert.DownLnIdeal.τ).loc Cert.DownLnIdeal.main_arg4)) →
    ∃ (v0 : (c : Dev Cert.DownLnIdeal.nD) → Buf (Elt Ideal) ((c.tc : Thread Cert.DownLnIdeal.nD Cert.DownLnIdeal.τ).loc Cert.DownLnIdeal.main_v3_0)) (v1 : (c : Dev Cert.DownLnIdeal.nD) → Buf (Elt Ideal) ((c.tc : Thread Cert.DownLnIdeal.nD Cert.DownLnIdeal.τ).loc Cert.DownLnIdeal.main_v3_1)) (v2 : (c : Dev Cert.DownLnIdeal.nD) → Buf (Elt Ideal) ((c.tc : Thread Cert.DownLnIdeal.nD Cert.DownLnIdeal.τ).loc Cert.DownLnIdeal.main_v3_2)),
      θ_run (Cert.DownLnIdeal.defs (F := Ideal)) (onTc (τ := Cert.DownLnIdeal.τ) (Cert.DownLnIdeal.main (F := Ideal))) ⟨m, fun _ => 0, g⟩ (fun r => ∀ c : Dev Cert.DownLnIdeal.nD,
          r.2.mem ((c.tc : Thread Cert.DownLnIdeal.nD Cert.DownLnIdeal.τ).loc Cert.DownLnIdeal.main_v3_0) = v0 c
          ∧ r.2.mem ((c.tc : Thread Cert.DownLnIdeal.nD Cert.DownLnIdeal.τ).loc Cert.DownLnIdeal.main_v3_1) = v1 c
          ∧ r.2.mem ((c.tc : Thread Cert.DownLnIdeal.nD Cert.DownLnIdeal.τ).loc Cert.DownLnIdeal.main_v3_2) = v2 c
          ∧ r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
          ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
          ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
          ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
          ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ θ_run (Cert.DownLnRefIdeal.defs (F := Ideal)) (onTc (τ := Cert.DownLnRefIdeal.τ) (Cert.DownLnRefIdeal.main (F := Ideal))) ⟨m', fun _ => 0, g'⟩ (fun r => ∀ c : Dev Cert.DownLnRefIdeal.nD,
          r.2.mem ((c.tc : Thread Cert.DownLnRefIdeal.nD Cert.DownLnRefIdeal.τ).loc Cert.DownLnRefIdeal.main_v5) = v0 c
          ∧ r.2.mem ((c.tc : Thread Cert.DownLnRefIdeal.nD Cert.DownLnRefIdeal.τ).loc Cert.DownLnRefIdeal.main_v29) = v1 c
          ∧ r.2.mem ((c.tc : Thread Cert.DownLnRefIdeal.nD Cert.DownLnRefIdeal.τ).loc Cert.DownLnRefIdeal.main_v30) = v2 c
          ∧ r.2.mem ((c.tc : Thread Cert.DownLnRefIdeal.nD Cert.DownLnRefIdeal.τ).loc Cert.DownLnRefIdeal.main_arg0) = m' ((c.tc : Thread Cert.DownLnRefIdeal.nD Cert.DownLnRefIdeal.τ).loc Cert.DownLnRefIdeal.main_arg0)
          ∧ r.2.mem ((c.tc : Thread Cert.DownLnRefIdeal.nD Cert.DownLnRefIdeal.τ).loc Cert.DownLnRefIdeal.main_arg1) = m' ((c.tc : Thread Cert.DownLnRefIdeal.nD Cert.DownLnRefIdeal.τ).loc Cert.DownLnRefIdeal.main_arg1)
          ∧ r.2.mem ((c.tc : Thread Cert.DownLnRefIdeal.nD Cert.DownLnRefIdeal.τ).loc Cert.DownLnRefIdeal.main_arg2) = m' ((c.tc : Thread Cert.DownLnRefIdeal.nD Cert.DownLnRefIdeal.τ).loc Cert.DownLnRefIdeal.main_arg2)
          ∧ r.2.mem ((c.tc : Thread Cert.DownLnRefIdeal.nD Cert.DownLnRefIdeal.τ).loc Cert.DownLnRefIdeal.main_arg3) = m' ((c.tc : Thread Cert.DownLnRefIdeal.nD Cert.DownLnRefIdeal.τ).loc Cert.DownLnRefIdeal.main_arg3)
          ∧ r.2.mem ((c.tc : Thread Cert.DownLnRefIdeal.nD Cert.DownLnRefIdeal.τ).loc Cert.DownLnRefIdeal.main_arg4) = m' ((c.tc : Thread Cert.DownLnRefIdeal.nD Cert.DownLnRefIdeal.τ).loc Cert.DownLnRefIdeal.main_arg4))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)
      ∧ m' ((c.tc : Thread Cert.ScFwdRefIdeal.nD Cert.ScFwdRefIdeal.τ).loc Cert.ScFwdRefIdeal.main_arg2) = m ((c.tc : Thread Cert.ScFwdIdeal.nD Cert.ScFwdIdeal.τ).loc Cert.ScFwdIdeal.main_arg2)) →
    ∃ (v0 : (c : Dev Cert.ScFwdIdeal.nD) → Buf (Elt Ideal) ((c.tc : Thread Cert.ScFwdIdeal.nD Cert.ScFwdIdeal.τ).loc Cert.ScFwdIdeal.main_v1)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v1) = v0 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1)
          ∧ r.2.mem ((c.tc : Thread Cert.ScFwdIdeal.nD Cert.ScFwdIdeal.τ).loc Cert.ScFwdIdeal.main_arg2) = m ((c.tc : Thread Cert.ScFwdIdeal.nD Cert.ScFwdIdeal.τ).loc Cert.ScFwdIdeal.main_arg2))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v33) = v0 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1)
          ∧ r.2.mem ((c.tc : Thread Cert.ScFwdRefIdeal.nD Cert.ScFwdRefIdeal.τ).loc Cert.ScFwdRefIdeal.main_arg2) = m' ((c.tc : Thread Cert.ScFwdRefIdeal.nD Cert.ScFwdRefIdeal.τ).loc Cert.ScFwdRefIdeal.main_arg2))

def preserves_LruFwd_LruFwdIdeal : Prop :=
  IdealRules.named_const.Statement Cert.LruFwdIdeal.κ "small" .f32 0x3A83126F#32 ⊥
  ∧ IdealRules.named_const.Statement Cert.LruFwdIdeal.κ "near_zero" .f32 0xBCA3D70A#32 ⊤

def algebraic_LruFwdIdeal_LruFwdRefIdeal [hLruFwdIdeal : Cert.LruFwdIdeal.Facts] [hLruFwdRefIdeal : Cert.LruFwdRefIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg)
    (m' : (ℓ : Loc Cert.LruFwdRefIdeal.nD Cert.LruFwdRefIdeal.τ Cert.LruFwdRefIdeal.sig) → Buf (Elt Ideal) ℓ) (g' : Dev Cert.LruFwdRefIdeal.nD → PrngReg), Pre_LruFwdIdeal m →
    (∀ c : Dev Cert.LruFwdIdeal.nD,
      m' ((c.tc : Thread Cert.LruFwdRefIdeal.nD Cert.LruFwdRefIdeal.τ).loc Cert.LruFwdRefIdeal.main_arg0) = m ((c.tc : Thread Cert.LruFwdIdeal.nD Cert.LruFwdIdeal.τ).loc Cert.LruFwdIdeal.main_arg0)
      ∧ m' ((c.tc : Thread Cert.LruFwdRefIdeal.nD Cert.LruFwdRefIdeal.τ).loc Cert.LruFwdRefIdeal.main_arg1) = m ((c.tc : Thread Cert.LruFwdIdeal.nD Cert.LruFwdIdeal.τ).loc Cert.LruFwdIdeal.main_arg1)
      ∧ m' ((c.tc : Thread Cert.LruFwdRefIdeal.nD Cert.LruFwdRefIdeal.τ).loc Cert.LruFwdRefIdeal.main_arg2) = m ((c.tc : Thread Cert.LruFwdIdeal.nD Cert.LruFwdIdeal.τ).loc Cert.LruFwdIdeal.main_arg2)
      ∧ m' ((c.tc : Thread Cert.LruFwdRefIdeal.nD Cert.LruFwdRefIdeal.τ).loc Cert.LruFwdRefIdeal.main_arg3) = m ((c.tc : Thread Cert.LruFwdIdeal.nD Cert.LruFwdIdeal.τ).loc Cert.LruFwdIdeal.main_arg3)
      ∧ m' ((c.tc : Thread Cert.LruFwdRefIdeal.nD Cert.LruFwdRefIdeal.τ).loc Cert.LruFwdRefIdeal.main_arg4) = m ((c.tc : Thread Cert.LruFwdIdeal.nD Cert.LruFwdIdeal.τ).loc Cert.LruFwdIdeal.main_arg4)
      ∧ m' ((c.tc : Thread Cert.LruFwdRefIdeal.nD Cert.LruFwdRefIdeal.τ).loc Cert.LruFwdRefIdeal.main_arg5) = m ((c.tc : Thread Cert.LruFwdIdeal.nD Cert.LruFwdIdeal.τ).loc Cert.LruFwdIdeal.main_arg5)) →
    ∃ (v0 : (c : Dev Cert.LruFwdIdeal.nD) → Buf (Elt Ideal) ((c.tc : Thread Cert.LruFwdIdeal.nD Cert.LruFwdIdeal.τ).loc Cert.LruFwdIdeal.main_v2_0)) (v1 : (c : Dev Cert.LruFwdIdeal.nD) → Buf (Elt Ideal) ((c.tc : Thread Cert.LruFwdIdeal.nD Cert.LruFwdIdeal.τ).loc Cert.LruFwdIdeal.main_v2_1)),
      θ_run (Cert.LruFwdIdeal.defs (F := Ideal)) (onTc (τ := Cert.LruFwdIdeal.τ) (Cert.LruFwdIdeal.main (F := Ideal))) ⟨m, fun _ => 0, g⟩ (fun r => ∀ c : Dev Cert.LruFwdIdeal.nD,
          r.2.mem ((c.tc : Thread Cert.LruFwdIdeal.nD Cert.LruFwdIdeal.τ).loc Cert.LruFwdIdeal.main_v2_0) = v0 c
          ∧ r.2.mem ((c.tc : Thread Cert.LruFwdIdeal.nD Cert.LruFwdIdeal.τ).loc Cert.LruFwdIdeal.main_v2_1) = v1 c
          ∧ r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
          ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
          ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
          ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
          ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
          ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5))
      ∧ θ_run (Cert.LruFwdRefIdeal.defs (F := Ideal)) (onTc (τ := Cert.LruFwdRefIdeal.τ) (Cert.LruFwdRefIdeal.main (F := Ideal))) ⟨m', fun _ => 0, g'⟩ (fun r => ∀ c : Dev Cert.LruFwdRefIdeal.nD,
          r.2.mem ((c.tc : Thread Cert.LruFwdRefIdeal.nD Cert.LruFwdRefIdeal.τ).loc Cert.LruFwdRefIdeal.main_v95) = v0 c
          ∧ r.2.mem ((c.tc : Thread Cert.LruFwdRefIdeal.nD Cert.LruFwdRefIdeal.τ).loc Cert.LruFwdRefIdeal.main_v98) = v1 c
          ∧ r.2.mem ((c.tc : Thread Cert.LruFwdRefIdeal.nD Cert.LruFwdRefIdeal.τ).loc Cert.LruFwdRefIdeal.main_arg0) = m' ((c.tc : Thread Cert.LruFwdRefIdeal.nD Cert.LruFwdRefIdeal.τ).loc Cert.LruFwdRefIdeal.main_arg0)
          ∧ r.2.mem ((c.tc : Thread Cert.LruFwdRefIdeal.nD Cert.LruFwdRefIdeal.τ).loc Cert.LruFwdRefIdeal.main_arg1) = m' ((c.tc : Thread Cert.LruFwdRefIdeal.nD Cert.LruFwdRefIdeal.τ).loc Cert.LruFwdRefIdeal.main_arg1)
          ∧ r.2.mem ((c.tc : Thread Cert.LruFwdRefIdeal.nD Cert.LruFwdRefIdeal.τ).loc Cert.LruFwdRefIdeal.main_arg2) = m' ((c.tc : Thread Cert.LruFwdRefIdeal.nD Cert.LruFwdRefIdeal.τ).loc Cert.LruFwdRefIdeal.main_arg2)
          ∧ r.2.mem ((c.tc : Thread Cert.LruFwdRefIdeal.nD Cert.LruFwdRefIdeal.τ).loc Cert.LruFwdRefIdeal.main_arg3) = m' ((c.tc : Thread Cert.LruFwdRefIdeal.nD Cert.LruFwdRefIdeal.τ).loc Cert.LruFwdRefIdeal.main_arg3)
          ∧ r.2.mem ((c.tc : Thread Cert.LruFwdRefIdeal.nD Cert.LruFwdRefIdeal.τ).loc Cert.LruFwdRefIdeal.main_arg4) = m' ((c.tc : Thread Cert.LruFwdRefIdeal.nD Cert.LruFwdRefIdeal.τ).loc Cert.LruFwdRefIdeal.main_arg4)
          ∧ r.2.mem ((c.tc : Thread Cert.LruFwdRefIdeal.nD Cert.LruFwdRefIdeal.τ).loc Cert.LruFwdRefIdeal.main_arg5) = m' ((c.tc : Thread Cert.LruFwdRefIdeal.nD Cert.LruFwdRefIdeal.τ).loc Cert.LruFwdRefIdeal.main_arg5))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)) →
    ∃ (v0 : (c : Dev Cert.MmNnIdeal.nD) → Buf (Elt Ideal) ((c.tc : Thread Cert.MmNnIdeal.nD Cert.MmNnIdeal.τ).loc Cert.MmNnIdeal.main_v1)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v1) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v3) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v1)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v1) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v5) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v2)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v2) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v6) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_MmNtRes_MmNtResIdeal : Prop :=
  True

def algebraic_MmNtResIdeal_MmNtResRefIdeal [hMmNtResIdeal : Cert.MmNtResIdeal.Facts] [hMmNtResRefIdeal : Cert.MmNtResRefIdeal.Facts] : Prop :=
  ∀ (m : (ℓ : Loc Cert.MmNtResIdeal.nD Cert.MmNtResIdeal.τ Cert.MmNtResIdeal.sig) → Buf (Elt Ideal) ℓ) (g : Dev Cert.MmNtResIdeal.nD → PrngReg)
    (m' : (ℓ : Loc Cert.MmNtResRefIdeal.nD Cert.MmNtResRefIdeal.τ Cert.MmNtResRefIdeal.sig) → Buf (Elt Ideal) ℓ) (g' : Dev Cert.MmNtResRefIdeal.nD → PrngReg), Pre_MmNtResIdeal m →
    (∀ c : Dev Cert.MmNtResIdeal.nD,
      m' ((c.tc : Thread Cert.MmNtResRefIdeal.nD Cert.MmNtResRefIdeal.τ).loc Cert.MmNtResRefIdeal.main_arg0) = m ((c.tc : Thread Cert.MmNtResIdeal.nD Cert.MmNtResIdeal.τ).loc Cert.MmNtResIdeal.main_arg0)
      ∧ m' ((c.tc : Thread Cert.MmNtResRefIdeal.nD Cert.MmNtResRefIdeal.τ).loc Cert.MmNtResRefIdeal.main_arg1) = m ((c.tc : Thread Cert.MmNtResIdeal.nD Cert.MmNtResIdeal.τ).loc Cert.MmNtResIdeal.main_arg1)
      ∧ m' ((c.tc : Thread Cert.MmNtResRefIdeal.nD Cert.MmNtResRefIdeal.τ).loc Cert.MmNtResRefIdeal.main_arg2) = m ((c.tc : Thread Cert.MmNtResIdeal.nD Cert.MmNtResIdeal.τ).loc Cert.MmNtResIdeal.main_arg2)) →
    ∃ (v0 : (c : Dev Cert.MmNtResIdeal.nD) → Buf (Elt Ideal) ((c.tc : Thread Cert.MmNtResIdeal.nD Cert.MmNtResIdeal.τ).loc Cert.MmNtResIdeal.main_v3)),
      θ_run (Cert.MmNtResIdeal.defs (F := Ideal)) (onTc (τ := Cert.MmNtResIdeal.τ) (Cert.MmNtResIdeal.main (F := Ideal))) ⟨m, fun _ => 0, g⟩ (fun r => ∀ c : Dev Cert.MmNtResIdeal.nD,
          r.2.mem ((c.tc : Thread Cert.MmNtResIdeal.nD Cert.MmNtResIdeal.τ).loc Cert.MmNtResIdeal.main_v3) = v0 c
          ∧ r.2.mem ((c.tc : Thread Cert.MmNtResIdeal.nD Cert.MmNtResIdeal.τ).loc Cert.MmNtResIdeal.main_arg0) = m ((c.tc : Thread Cert.MmNtResIdeal.nD Cert.MmNtResIdeal.τ).loc Cert.MmNtResIdeal.main_arg0)
          ∧ r.2.mem ((c.tc : Thread Cert.MmNtResIdeal.nD Cert.MmNtResIdeal.τ).loc Cert.MmNtResIdeal.main_arg1) = m ((c.tc : Thread Cert.MmNtResIdeal.nD Cert.MmNtResIdeal.τ).loc Cert.MmNtResIdeal.main_arg1)
          ∧ r.2.mem ((c.tc : Thread Cert.MmNtResIdeal.nD Cert.MmNtResIdeal.τ).loc Cert.MmNtResIdeal.main_arg2) = m ((c.tc : Thread Cert.MmNtResIdeal.nD Cert.MmNtResIdeal.τ).loc Cert.MmNtResIdeal.main_arg2))
      ∧ θ_run (Cert.MmNtResRefIdeal.defs (F := Ideal)) (onTc (τ := Cert.MmNtResRefIdeal.τ) (Cert.MmNtResRefIdeal.main (F := Ideal))) ⟨m', fun _ => 0, g'⟩ (fun r => ∀ c : Dev Cert.MmNtResRefIdeal.nD,
          r.2.mem ((c.tc : Thread Cert.MmNtResRefIdeal.nD Cert.MmNtResRefIdeal.τ).loc Cert.MmNtResRefIdeal.main_v9) = v0 c
          ∧ r.2.mem ((c.tc : Thread Cert.MmNtResRefIdeal.nD Cert.MmNtResRefIdeal.τ).loc Cert.MmNtResRefIdeal.main_arg0) = m' ((c.tc : Thread Cert.MmNtResRefIdeal.nD Cert.MmNtResRefIdeal.τ).loc Cert.MmNtResRefIdeal.main_arg0)
          ∧ r.2.mem ((c.tc : Thread Cert.MmNtResRefIdeal.nD Cert.MmNtResRefIdeal.τ).loc Cert.MmNtResRefIdeal.main_arg1) = m' ((c.tc : Thread Cert.MmNtResRefIdeal.nD Cert.MmNtResRefIdeal.τ).loc Cert.MmNtResRefIdeal.main_arg1)
          ∧ r.2.mem ((c.tc : Thread Cert.MmNtResRefIdeal.nD Cert.MmNtResRefIdeal.τ).loc Cert.MmNtResRefIdeal.main_arg2) = m' ((c.tc : Thread Cert.MmNtResRefIdeal.nD Cert.MmNtResRefIdeal.τ).loc Cert.MmNtResRefIdeal.main_arg2))

def preserves_AddChips_AddChipsIdeal : Prop :=
  True

def algebraic_AddChipsIdeal_AddChipsRefIdeal [hAddChipsIdeal : Cert.AddChipsIdeal.Facts] [hAddChipsRefIdeal : Cert.AddChipsRefIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg)
    (m' : (ℓ : Loc Cert.AddChipsRefIdeal.nD Cert.AddChipsRefIdeal.τ Cert.AddChipsRefIdeal.sig) → Buf (Elt Ideal) ℓ) (g' : Dev Cert.AddChipsRefIdeal.nD → PrngReg), Pre_AddChipsIdeal m →
    (∀ c : Dev Cert.AddChipsIdeal.nD,
      m' ((c.tc : Thread Cert.AddChipsRefIdeal.nD Cert.AddChipsRefIdeal.τ).loc Cert.AddChipsRefIdeal.main_arg0) = m ((c.tc : Thread Cert.AddChipsIdeal.nD Cert.AddChipsIdeal.τ).loc Cert.AddChipsIdeal.main_arg0)) →
    ∃ (v0 : (c : Dev Cert.AddChipsIdeal.nD) → Buf (Elt Ideal) ((c.tc : Thread Cert.AddChipsIdeal.nD Cert.AddChipsIdeal.τ).loc Cert.AddChipsIdeal.main_v0)),
      θ_run (Cert.AddChipsIdeal.defs (F := Ideal)) (onTc (τ := Cert.AddChipsIdeal.τ) (Cert.AddChipsIdeal.main (F := Ideal))) ⟨m, fun _ => 0, g⟩ (fun r => ∀ c : Dev Cert.AddChipsIdeal.nD,
          r.2.mem ((c.tc : Thread Cert.AddChipsIdeal.nD Cert.AddChipsIdeal.τ).loc Cert.AddChipsIdeal.main_v0) = v0 c
          ∧ r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0))
      ∧ θ_run (Cert.AddChipsRefIdeal.defs (F := Ideal)) (onTc (τ := Cert.AddChipsRefIdeal.τ) (Cert.AddChipsRefIdeal.main (F := Ideal))) ⟨m', fun _ => 0, g'⟩ (fun r => ∀ c : Dev Cert.AddChipsRefIdeal.nD,
          r.2.mem ((c.tc : Thread Cert.AddChipsRefIdeal.nD Cert.AddChipsRefIdeal.τ).loc Cert.AddChipsRefIdeal.main_v1) = v0 c
          ∧ r.2.mem ((c.tc : Thread Cert.AddChipsRefIdeal.nD Cert.AddChipsRefIdeal.τ).loc Cert.AddChipsRefIdeal.main_arg0) = m' ((c.tc : Thread Cert.AddChipsRefIdeal.nD Cert.AddChipsRefIdeal.τ).loc Cert.AddChipsRefIdeal.main_arg0))

def Claim : Prop :=
  ∃ (hLnBwd : Cert.LnBwd.Facts) (hLnBwdIdeal : Cert.LnBwdIdeal.Facts) (hLnBwdRefIdeal : Cert.LnBwdRefIdeal.Facts) (hLnLoss : Cert.LnLoss.Facts) (hLnLossIdeal : Cert.LnLossIdeal.Facts) (hLnLossRefIdeal : Cert.LnLossRefIdeal.Facts) (hScBwd : Cert.ScBwd.Facts) (hScBwdIdeal : Cert.ScBwdIdeal.Facts) (hScBwdRefIdeal : Cert.ScBwdRefIdeal.Facts) (hFfnBwd : Cert.FfnBwd.Facts) (hFfnBwdIdeal : Cert.FfnBwdIdeal.Facts) (hFfnBwdRefIdeal : Cert.FfnBwdRefIdeal.Facts) (hFfnUp : Cert.FfnUp.Facts) (hFfnUpIdeal : Cert.FfnUpIdeal.Facts) (hFfnUpRefIdeal : Cert.FfnUpRefIdeal.Facts) (hDownLn : Cert.DownLn.Facts) (hDownLnIdeal : Cert.DownLnIdeal.Facts) (hDownLnRefIdeal : Cert.DownLnRefIdeal.Facts) (hScFwd : Cert.ScFwd.Facts) (hScFwdIdeal : Cert.ScFwdIdeal.Facts) (hScFwdRefIdeal : Cert.ScFwdRefIdeal.Facts) (hLruFwd : Cert.LruFwd.Facts) (hLruFwdIdeal : Cert.LruFwdIdeal.Facts) (hLruFwdRefIdeal : Cert.LruFwdRefIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hMmTn : Cert.MmTn.Facts) (hMmTnIdeal : Cert.MmTnIdeal.Facts) (hMmTnRefIdeal : Cert.MmTnRefIdeal.Facts) (hMmNtRes : Cert.MmNtRes.Facts) (hMmNtResIdeal : Cert.MmNtResIdeal.Facts) (hMmNtResRefIdeal : Cert.MmNtResRefIdeal.Facts) (hAddChips : Cert.AddChips.Facts) (hAddChipsIdeal : Cert.AddChipsIdeal.Facts) (hAddChipsRefIdeal : Cert.AddChipsRefIdeal.Facts) (hPre_finite_ln : Cert.Pre_finite_ln.Facts) (hPre_finite_loss : Cert.Pre_finite_loss.Facts) (hPre_finite_ffn : Cert.Pre_finite_ffn.Facts),
    quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_LnLoss (hLnLoss := hLnLoss)
    ∧ quiescent_LnLossIdeal (hLnLossIdeal := hLnLossIdeal)
    ∧ quiescent_LnLossIdeal_pre_finite_loss (hLnLossIdeal := hLnLossIdeal) (hPre_finite_loss := hPre_finite_loss)
    ∧ quiescent_LnLossRefIdeal (hLnLossRefIdeal := hLnLossRefIdeal)
    ∧ quiescent_LnLossRefIdeal_pre_finite_loss (hLnLossRefIdeal := hLnLossRefIdeal) (hPre_finite_loss := hPre_finite_loss)
    ∧ quiescent_ScBwd (hScBwd := hScBwd)
    ∧ quiescent_ScBwdIdeal (hScBwdIdeal := hScBwdIdeal)
    ∧ quiescent_ScBwdRefIdeal (hScBwdRefIdeal := hScBwdRefIdeal)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DownLn (hDownLn := hDownLn)
    ∧ quiescent_DownLnIdeal (hDownLnIdeal := hDownLnIdeal)
    ∧ quiescent_DownLnRefIdeal (hDownLnRefIdeal := hDownLnRefIdeal)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_LruFwd (hLruFwd := hLruFwd)
    ∧ quiescent_LruFwdIdeal (hLruFwdIdeal := hLruFwdIdeal)
    ∧ quiescent_LruFwdRefIdeal (hLruFwdRefIdeal := hLruFwdRefIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_MmNtRes (hMmNtRes := hMmNtRes)
    ∧ quiescent_MmNtResIdeal (hMmNtResIdeal := hMmNtResIdeal)
    ∧ quiescent_MmNtResRefIdeal (hMmNtResRefIdeal := hMmNtResRefIdeal)
    ∧ quiescent_AddChips (hAddChips := hAddChips)
    ∧ quiescent_AddChipsIdeal (hAddChipsIdeal := hAddChipsIdeal)
    ∧ quiescent_AddChipsRefIdeal (hAddChipsRefIdeal := hAddChipsRefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_LnLoss_LnLossIdeal
    ∧ algebraic_LnLossIdeal_LnLossRefIdeal_pre_finite_loss (hLnLossIdeal := hLnLossIdeal) (hLnLossRefIdeal := hLnLossRefIdeal) (hPre_finite_loss := hPre_finite_loss)
    ∧ preserves_ScBwd_ScBwdIdeal
    ∧ algebraic_ScBwdIdeal_ScBwdRefIdeal (hScBwdIdeal := hScBwdIdeal) (hScBwdRefIdeal := hScBwdRefIdeal)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_FfnUp_FfnUpIdeal
    ∧ algebraic_FfnUpIdeal_FfnUpRefIdeal (hFfnUpIdeal := hFfnUpIdeal) (hFfnUpRefIdeal := hFfnUpRefIdeal)
    ∧ preserves_DownLn_DownLnIdeal
    ∧ algebraic_DownLnIdeal_DownLnRefIdeal (hDownLnIdeal := hDownLnIdeal) (hDownLnRefIdeal := hDownLnRefIdeal)
    ∧ preserves_ScFwd_ScFwdIdeal
    ∧ algebraic_ScFwdIdeal_ScFwdRefIdeal (hScFwdIdeal := hScFwdIdeal) (hScFwdRefIdeal := hScFwdRefIdeal)
    ∧ preserves_LruFwd_LruFwdIdeal
    ∧ algebraic_LruFwdIdeal_LruFwdRefIdeal (hLruFwdIdeal := hLruFwdIdeal) (hLruFwdRefIdeal := hLruFwdRefIdeal)
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_MmTn_MmTnIdeal
    ∧ algebraic_MmTnIdeal_MmTnRefIdeal (hMmTnIdeal := hMmTnIdeal) (hMmTnRefIdeal := hMmTnRefIdeal)
    ∧ preserves_MmNtRes_MmNtResIdeal
    ∧ algebraic_MmNtResIdeal_MmNtResRefIdeal (hMmNtResIdeal := hMmNtResIdeal) (hMmNtResRefIdeal := hMmNtResRefIdeal)
    ∧ preserves_AddChips_AddChipsIdeal
    ∧ algebraic_AddChipsIdeal_AddChipsRefIdeal (hAddChipsIdeal := hAddChipsIdeal) (hAddChipsRefIdeal := hAddChipsRefIdeal)
-- ==== Pre_finite_ffn.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x5632 .bf16) (main_arg1 : FVec F S3x5632 .f32) (main_arg2 : FVec F S5632 .f32) (main_arg3 : FVec F S2816x1024 .bf16) (main_arg4 : FVec F S8192x1024 .bf16) : IVec S8192x5632 1 × IVec S3x5632 1 × IVec S5632 1 × IVec S2816x1024 1 × IVec S8192x1024 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_v7 : FVec F S5632 .f32 := Host.absf main_arg2
  let main_cst_1 : FVec F S_ .f32 := constant S_ .f32 0x7F800000#32
  let main_v8 : FVec F S5632 .f32 := broadcastInDim S5632 ![] bcast_S_S5632 main_cst_1
  let main_v9 : IVec S5632 1 := cmpf .olt main_v7 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_v14 : FVec F S8192x1024 .f32 := (extf .f32 · bitsLt_bf16_f32) main_arg4
  let main_v15 : FVec F S8192x1024 .f32 := Host.absf main_v14
  let main_cst_3 : FVec F S_ .f32 := constant S_ .f32 0x7F800000#32
  let main_v16 : FVec F S8192x1024 .f32 := broadcastInDim S8192x1024 ![] bcast_S_S8192x1024 main_cst_3
  let main_v17 : IVec S8192x1024 1 := cmpf .olt main_v15 main_v16
  (main_v3, main_v6, main_v9, main_v13, main_v17)
-- ==== Pre_finite_ln.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S1024 .f32) (main_arg2 : FVec F S1024 .f32) (main_arg3 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1x1024 1 := broadcastInDim S1x1024 ![1] bcast_S1024_S1x1024_1 main_v5
  let main_v7 : IVec S8192x1024 1 := broadcastInDim S8192x1024 ![0, 1] bcast_S1x1024_S8192x1024_0_1 main_v6
  let main_v8 : IVec S8192x1024 1 := andi main_v2 main_v7
  let main_v9 : FVec F S8192x1024 .f32 := Host.absf main_arg3
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : IVec S8192x1024 1 := andi main_v8 main_v11
  main_v12
-- ==== Pre_finite_loss.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S1024 .f32) (main_arg2 : FVec F S1024 .f32) (main_arg3 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1x1024 1 := broadcastInDim S1x1024 ![1] bcast_S1024_S1x1024_1 main_v5
  let main_v7 : IVec S8192x1024 1 := broadcastInDim S8192x1024 ![0, 1] bcast_S1x1024_S8192x1024_0_1 main_v6
  let main_v8 : IVec S8192x1024 1 := andi main_v2 main_v7
  let main_v9 : FVec F S1024 .f32 := Host.absf main_arg2
  let main_cst_1 : FVec F S_ .f32 := constant S_ .f32 0x7F800000#32
  let main_v10 : FVec F S1024 .f32 := broadcastInDim S1024 ![] bcast_S_S1024 main_cst_1
  let main_v11 : IVec S1024 1 := cmpf .olt main_v9 main_v10
  let main_v12 : IVec S1x1024 1 := broadcastInDim S1x1024 ![1] bcast_S1024_S1x1024_1 main_v11
  let main_v13 : IVec S8192x1024 1 := broadcastInDim S8192x1024 ![0, 1] bcast_S1x1024_S8192x1024_0_1 main_v12
  let main_v14 : IVec S8192x1024 1 := andi main_v8 main_v13
  let main_v15 : FVec F S8192x1024 .f32 := Host.absf main_arg3
  let main_cst_2 : FVec F S_ .f32 := constant S_ .f32 0x7F800000#32
  let main_v16 : FVec F S8192x1024 .f32 := broadcastInDim S8192x1024 ![] bcast_S_S8192x1024 main_cst_2
  let main_v17 : IVec S8192x1024 1 := cmpf .olt main_v15 main_v16
  let main_v18 : IVec S8192x1024 1 := andi main_v14 main_v17
  main_v18
-- ==== LnBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S1x1024, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== LnLoss.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 41
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_cst_4 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnLossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S8192x1024, .bf16⟩
  | .hbm, ⟨108, _⟩ => ⟨S1x1024, .f32⟩
  | .hbm, ⟨109, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_22 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== ScBwd.lean ====
abbrev S8192x3072 : Shape := ⟨2, ![8192, 3072]⟩
abbrev S8192x1024 : Shape := ⟨2, ![8192, 1024]⟩
abbrev S3x1024 : Shape := ⟨2, ![3, 1024]⟩
abbrev S1024 : Shape := ⟨1, ![1024]⟩
abbrev S1x1024 : Shape := ⟨2, ![1, 1024]⟩
abbrev S3x8192x1024 : Shape := ⟨3, ![3, 8192, 1024]⟩
abbrev S256x1024 : Shape := ⟨2, ![256, 1024]⟩
abbrev S16x1024 : Shape := ⟨2, ![16, 1024]⟩
abbrev S3x256x1024 : Shape := ⟨3, ![3, 256, 1024]⟩
abbrev S8x1024 : Shape := ⟨2, ![8, 1024]⟩
abbrev S272x1024 : Shape := ⟨2, ![272, 1024]⟩
abbrev S264x1024 : Shape := ⟨2, ![264, 1024]⟩
abbrev S1x256x1024 : Shape := ⟨3, ![1, 256, 1024]⟩

abbrev nBuf : Space → Nat
  | .hbm => 8
  | .vmem => 19
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S1024, .f32⟩
  | .hbm, ⟨4, _⟩ => ⟨S1x1024, .f32⟩
  | .hbm, ⟨5, _⟩ => ⟨S3x8192x1024, .bf16⟩
  | .hbm, ⟨6, _⟩ => ⟨S3x1024, .f32⟩
  | .hbm, ⟨7, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1024, .bf16⟩
  | .local _ .vmem, ⟨11, _⟩ => ⟨S256x1024, .bf16⟩
  | .local _ .vmem, ⟨12, _⟩ => ⟨S3x1024, .f32⟩
  | .local _ .vmem, ⟨13, _⟩ => ⟨S1x1024, .f32⟩
  | .local _ .vmem, ⟨14, _⟩ => ⟨S3x256x1024, .bf16⟩
  | .local _ .vmem, ⟨15, _⟩ => ⟨S3x256x1024, .bf16⟩
  | .local _ .vmem, ⟨16, _⟩ => ⟨S3x1024, .f32⟩
  | .local _ .vmem, ⟨17, _⟩ => ⟨S1x1024, .f32⟩
  | .local _ .vmem, ⟨18, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ScBwdRefIdeal.lean ====
abbrev S8192x3072 : Shape := ⟨2, ![8192, 3072]⟩
abbrev S8192x1024 : Shape := ⟨2, ![8192, 1024]⟩
abbrev S3x1024 : Shape := ⟨2, ![3, 1024]⟩
abbrev S1024 : Shape := ⟨1, ![1024]⟩
abbrev S4x2048x3072 : Shape := ⟨3, ![4, 2048, 3072]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1x1x1024 : Shape := ⟨3, ![1, 1, 1024]⟩
abbrev S8192x3x1024 : Shape := ⟨3, ![8192, 3, 1024]⟩
abbrev S3x8192x1024 : Shape := ⟨3, ![3, 8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S1024, .f32⟩
  | .hbm, ⟨4, _⟩ => ⟨S8192x3072, .f32⟩
  | .hbm, ⟨5, _⟩ => ⟨S4x2048x3072, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2x1024, .f32⟩
  | .hbm, ⟨12, _⟩ => ⟨S4x2050x1024, .f32⟩
  | .hbm, ⟨13, _⟩ => ⟨S_, .f32⟩
  | .hbm, ⟨14, _⟩ => ⟨S4x2x1024, .f32⟩
  | .hbm, ⟨15, _⟩ => ⟨S4x2048x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S8192x1024, .f32⟩
  | .hbm, ⟨40, _⟩ => ⟨S8192x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S1024, .f32⟩
  | .hbm, ⟨47, _⟩ => ⟨S1x1x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S3x1024, .f32⟩
  | .hbm, ⟨55, _⟩ => ⟨S_, .f32⟩
  | .hbm, ⟨56, _⟩ => ⟨S4x2050x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S_, .f32⟩
  | .hbm, ⟨70, _⟩ => ⟨S4x2050x1024, .f32⟩
  | .hbm, ⟨71, _⟩ => ⟨S4x2050x1024, .f32⟩
  | .hbm, ⟨72, _⟩ => ⟨S_, .f32⟩
  | .hbm, ⟨73, _⟩ => ⟨S1024, .f32⟩
  | .hbm, ⟨74, _⟩ => ⟨S1x1x1024, .f32⟩
  | .hbm, ⟨75, _⟩ => ⟨S_, .f32⟩
  | .hbm, ⟨76, _⟩ => ⟨S1024, .f32⟩
  | .hbm, ⟨77, _⟩ => ⟨S4x2048x1024, .f32⟩
  | .hbm, ⟨78, _⟩ => ⟨S_, .f32⟩
  | .hbm, ⟨79, _⟩ => ⟨S1024, .f32⟩
  | .hbm, ⟨80, _⟩ => ⟨S1x1x1024, .f32⟩
  | .hbm, ⟨81, _⟩ => ⟨S4x2048x1024, .f32⟩
  | .hbm, ⟨82, _⟩ => ⟨S4x2048x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S3x1024, .f32⟩
  | .hbm, ⟨88, _⟩ => ⟨S3x1024, .f32⟩
  | .hbm, ⟨89, _⟩ => ⟨S_, .f32⟩
  | .hbm, ⟨90, _⟩ => ⟨S4x2050x1024, .f32⟩
  | .hbm, ⟨91, _⟩ => ⟨S4x2050x1024, .f32⟩
  | .hbm, ⟨92, _⟩ => ⟨S4x2x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x3072, .f32⟩
  | .hbm, ⟨97, _⟩ => ⟨S8192x3072, .f32⟩
  | .hbm, ⟨98, _⟩ => ⟨S8192x3x1024, .f32⟩
  | .hbm, ⟨99, _⟩ => ⟨S3x8192x1024, .f32⟩
  | .hbm, ⟨100, _⟩ => ⟨S3x8192x1024, .bf16⟩
  | .hbm, ⟨101, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== FfnBwd.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S8192x2x2816 : Shape := ⟨3, ![8192, 2, 2816]⟩
abbrev S2x8192x2816 : Shape := ⟨3, ![2, 8192, 2816]⟩
abbrev S1x2816x1024 : Shape := ⟨3, ![1, 2816, 1024]⟩
abbrev S3x2816 : Shape := ⟨2, ![3, 2816]⟩
abbrev S1x2816 : Shape := ⟨2, ![1, 2816]⟩
abbrev S512x1024 : Shape := ⟨2, ![512, 1024]⟩
abbrev S1x1408x1024 : Shape := ⟨3, ![1, 1408, 1024]⟩
abbrev S2x512x1408 : Shape := ⟨3, ![2, 512, 1408]⟩
abbrev S3x1408 : Shape := ⟨2, ![3, 1408]⟩
abbrev S1x1408 : Shape := ⟨2, ![1, 1408]⟩
abbrev S512x1408 : Shape := ⟨2, ![512, 1408]⟩
abbrev S2x8x1408 : Shape := ⟨3, ![2, 8, 1408]⟩
abbrev S1x256x1024 : Shape := ⟨3, ![1, 256, 1024]⟩
abbrev S256x1024 : Shape := ⟨2, ![256, 1024]⟩
abbrev S512x256 : Shape := ⟨2, ![512, 256]⟩
abbrev S1x128 : Shape := ⟨2, ![1, 128]⟩
abbrev S8x128 : Shape := ⟨2, ![8, 128]⟩
abbrev S128x128 : Shape := ⟨2, ![128, 128]⟩
abbrev S1x128x128 : Shape := ⟨3, ![1, 128, 128]⟩
abbrev S1x8x128 : Shape := ⟨3, ![1, 8, 128]⟩
abbrev S136x128 : Shape := ⟨2, ![136, 128]⟩
abbrev S16x8x128 : Shape := ⟨3, ![16, 8, 128]⟩
abbrev S128 : Shape := ⟨1, ![128]⟩
abbrev S1x128x1024 : Shape := ⟨3, ![1, 128, 1024]⟩
abbrev S128x1024 : Shape := ⟨2, ![128, 1024]⟩
abbrev S512x128 : Shape := ⟨2, ![512, 128]⟩

abbrev nBuf : Space → Nat
  | .hbm => 44
  | .vmem => 24
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S2816x1024, .bf16⟩
  | .hbm, ⟨4, _⟩ => ⟨S8192x1024, .bf16⟩
  | .hbm, ⟨5, _⟩ => ⟨S8192x5632, .f32⟩
  | .hbm, ⟨6, _⟩ => ⟨S4x2048x5632, .f32⟩
  | .hbm, ⟨7, _⟩ => ⟨S_, .f32⟩
  | .hbm, ⟨8, _⟩ => ⟨S4x2x5632, .f32⟩
  | .hbm, ⟨9, _⟩ => ⟨S4x2050x5632, .f32⟩
  | .hbm, ⟨10, _⟩ => ⟨S4x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S4x2048x5632, .f32⟩
  | .hbm, ⟨15, _⟩ => ⟨S4x2048x5632, .f32⟩
  | .hbm, ⟨16, _⟩ => ⟨S1x1x5632, .f32⟩
  | .hbm, ⟨17, _⟩ => ⟨S4x2048x5632, .f32⟩
  | .hbm, ⟨18, _⟩ => ⟨S4x2048x5632, .f32⟩
  | .hbm, ⟨19, _⟩ => ⟨S4x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S4x2048x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S4x2048x5632, .bf16⟩
  | .hbm, ⟨34, _⟩ => ⟨S8192x2x2816, .bf16⟩
  | .hbm, ⟨35, _⟩ => ⟨S2x8192x2816, .bf16⟩
  | .hbm, ⟨36, _⟩ => ⟨S8192x2x2816, .bf16⟩
  | .hbm, ⟨37, _⟩ => ⟨S2x8192x2816, .bf16⟩
  | .hbm, ⟨38, _⟩ => ⟨S1x2816x1024, .bf16⟩
  | .hbm, ⟨39, _⟩ => ⟨S2x8192x2816, .bf16⟩
  | .hbm, ⟨40, _⟩ => ⟨S3x2816, .f32⟩
  | .hbm, ⟨41, _⟩ => ⟨S3x2816, .f32⟩
  | .hbm, ⟨42, _⟩ => ⟨S1x2816, .f32⟩
  | .hbm, ⟨43, _⟩ => ⟨S1x2816, .f32⟩
  | .local _ .vmem, ⟨0, _⟩ => ⟨S512x1024, .bf16⟩
  | .local _ .vmem, ⟨1, _⟩ => ⟨S512x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S2x512x1408, .bf16⟩
  | .local _ .vmem, ⟨13, _⟩ => ⟨S2x512x1408, .bf16⟩
  | .local _ .vmem, ⟨14, _⟩ => ⟨S3x1408, .f32⟩
  | .local _ .vmem, ⟨15, _⟩ => ⟨S3x1408, .f32⟩
  | .local _ .vmem, ⟨16, _⟩ => ⟨S3x1408, .f32⟩
  | .local _ .vmem, ⟨17, _⟩ => ⟨S3x1408, .f32⟩
  | .local _ .vmem, ⟨18, _⟩ => ⟨S1x1408, .f32⟩
  | .local _ .vmem, ⟨19, _⟩ => ⟨S1x1408, .f32⟩
  | .local _ .vmem, ⟨20, _⟩ => ⟨S1x1408, .f32⟩
  | .local _ .vmem, ⟨21, _⟩ => ⟨S1x1408, .f32⟩
  | .local _ .vmem, ⟨22, _⟩ => ⟨S512x1408, .f32⟩
  | .local _ .vmem, ⟨23, _⟩ => ⟨S2x8x1408, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev main_v33_3 : Ref sig .tc := ⟨.hbm, 42, rfl⟩
abbrev main_v33_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnBwdRefIdeal.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S4x2048x1024 : Shape := ⟨3, ![4, 2048, 1024]⟩
abbrev S8192x2x2816 : Shape := ⟨3, ![8192, 2, 2816]⟩
abbrev S2x8192x2816 : Shape := ⟨3, ![2, 8192, 2816]⟩
abbrev S3x2816 : Shape := ⟨2, ![3, 2816]⟩
abbrev S2816 : Shape := ⟨1, ![2816]⟩
abbrev S1x2816 : Shape := ⟨2, ![1, 2816]⟩

abbrev nBuf : Space → Nat
  | .hbm => 124
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S2816x1024, .bf16⟩
  | .hbm, ⟨4, _⟩ => ⟨S8192x1024, .bf16⟩
  | .hbm, ⟨5, _⟩ => ⟨S8192x5632, .f32⟩
  | .hbm, ⟨6, _⟩ => ⟨S2816x1024, .f32⟩
  | .hbm, ⟨7, _⟩ => ⟨S4x2048x5632, .f32⟩
  | .hbm, ⟨8, _⟩ => ⟨S_, .f32⟩
  | .hbm, ⟨9, _⟩ => ⟨S4x2x5632, .f32⟩
  | .hbm, ⟨10, _⟩ => ⟨S4x2050x5632, .f32⟩
  | .hbm, ⟨11, _⟩ => ⟨S_, .f32⟩
  | .hbm, ⟨12, _⟩ => ⟨S4x2x5632, .f32⟩
  | .hbm, ⟨13, _⟩ => ⟨S4x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S4x2048x5632, .f32⟩
  | .hbm, ⟨18, _⟩ => ⟨S4x2048x5632, .f32⟩
  | .hbm, ⟨19, _⟩ => ⟨S1x1x5632, .f32⟩
  | .hbm, ⟨20, _⟩ => ⟨S4x2048x5632, .f32⟩
  | .hbm, ⟨21, _⟩ => ⟨S4x2048x5632, .f32⟩
  | .hbm, ⟨22, _⟩ => ⟨S4x2048x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S4x2048x2816, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S_, .f32⟩
  | .hbm, ⟨44, _⟩ => ⟨S4x2048x2816, .f32⟩
  | .hbm, ⟨45, _⟩ => ⟨S4x2048x2816, .f32⟩
  | .hbm, ⟨46, _⟩ => ⟨S_, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x1024, .f32⟩
  | .hbm, ⟨53, _⟩ => ⟨S8192x1024, .f32⟩
  | .hbm, ⟨54, _⟩ => ⟨S8192x1024, .f32⟩
  | .hbm, ⟨55, _⟩ => ⟨S4x2048x1024, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S4x2048x2816, .f32⟩
  | .hbm, ⟨61, _⟩ => ⟨S4x2048x2816, .f32⟩
  | .hbm, ⟨62, _⟩ => ⟨S4x2048x2816, .f32⟩
  | .hbm, ⟨63, _⟩ => ⟨S4x2048x5632, .f32⟩
  | .hbm, ⟨64, _⟩ => ⟨S4x2048x5632, .f32⟩
  | .hbm, ⟨65, _⟩ => ⟨S_, .f32⟩
  | .hbm, ⟨66, _⟩ => ⟨S5632, .f32⟩
  | .hbm, ⟨67, _⟩ => ⟨S1x1x5632, .f32⟩
  | .hbm, ⟨68, _⟩ => ⟨S4x2048x5632, .f32⟩
  | .hbm, ⟨69, _⟩ => ⟨S4x2048x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S3x5632, .f32⟩
  | .hbm, ⟨75, _⟩ => ⟨S_, .f32⟩
  | .hbm, ⟨76, _⟩ => ⟨S4x2050x5632, .f32⟩
  | .hbm, ⟨77, _⟩ => ⟨S4x2048x5632, .f32⟩
  | .hbm, ⟨78, _⟩ => ⟨S_, .f32⟩
  | .hbm, ⟨79, _⟩ => ⟨S5632, .f32⟩
  | .hbm, ⟨80, _⟩ => ⟨S1x1x5632, .f32⟩
  | .hbm, ⟨81, _⟩ => ⟨S4x2048x5632, .f32⟩
  | .hbm, ⟨82, _⟩ => ⟨S4x2048x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S_, .f32⟩
  | .hbm, ⟨87, _⟩ => ⟨S3x5632, .f32⟩
  | .hbm, ⟨88, _⟩ => ⟨S3x5632, .f32⟩
  | .hbm, ⟨89, _⟩ => ⟨S_, .f32⟩
  | .hbm, ⟨90, _⟩ => ⟨S4x2050x5632, .f32⟩
  | .hbm, ⟨91, _⟩ => ⟨S4x2050x5632, .f32⟩
  | .hbm, ⟨92, _⟩ => ⟨S_, .f32⟩
  | .hbm, ⟨93, _⟩ => ⟨S5632, .f32⟩
  | .hbm, ⟨94, _⟩ => ⟨S1x1x5632, .f32⟩
  | .hbm, ⟨95, _⟩ => ⟨S_, .f32⟩
  | .hbm, ⟨96, _⟩ => ⟨S5632, .f32⟩
  | .hbm, ⟨97, _⟩ => ⟨S4x2048x5632, .f32⟩
  | .hbm, ⟨98, _⟩ => ⟨S_, .f32⟩
  | .hbm, ⟨99, _⟩ => ⟨S5632, .f32⟩
  | .hbm, ⟨100, _⟩ => ⟨S1x1x5632, .f32⟩
  | .hbm, ⟨101, _⟩ => ⟨S4x2048x5632, .f32⟩
  | .hbm, ⟨102, _⟩ => ⟨S4x2048x5632, .f32⟩
  | .hbm, ⟨103, _⟩ => ⟨S_, .f32⟩
  | .hbm, ⟨104, _⟩ => ⟨S5632, .f32⟩
  | .hbm, ⟨105, _⟩ => ⟨S1x5632, .f32⟩
  | .hbm, ⟨106, _⟩ => ⟨S_, .f32⟩
  | .hbm, ⟨107, _⟩ => ⟨S3x5632, .f32⟩
  | .hbm, ⟨108, _⟩ => ⟨S3x5632, .f32⟩
  | .hbm, ⟨109, _⟩ => ⟨S_, .f32⟩
  | .hbm, ⟨110, _⟩ => ⟨S4x2050x5632, .f32⟩
  | .hbm, ⟨111, _⟩ => ⟨S4x2050x5632, .f32⟩
  | .hbm, ⟨112, _⟩ => ⟨S4x2x5632, .f32⟩
  | .hbm, ⟨113, _⟩ => ⟨S4x2048x5632, .f32⟩
  | .hbm, ⟨114, _⟩ => ⟨S8192x5632, .f32⟩
  | .hbm, ⟨115, _⟩ => ⟨S8192x2x2816, .f32⟩
  | .hbm, ⟨116, _⟩ => ⟨S2x8192x2816, .f32⟩
  | .hbm, ⟨117, _⟩ => ⟨S2x8192x2816, .bf16⟩
  | .hbm, ⟨118, _⟩ => ⟨S3x2816, .f32⟩
  | .hbm, ⟨119, _⟩ => ⟨S3x2816, .f32⟩
  | .hbm, ⟨120, _⟩ => ⟨S2816, .f32⟩
  | .hbm, ⟨121, _⟩ => ⟨S1x2816, .f32⟩
  | .hbm, ⟨122, _⟩ => ⟨S2816, .f32⟩
  | .hbm, ⟨123, _⟩ => ⟨S1x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_1 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_2 : Ref sig .tc := ⟨.hbm, 70, rfl⟩
abbrev main_v47 : Ref sig .tc := ⟨.hbm, 71, rfl⟩
abbrev main_v48 : Ref sig .tc := ⟨.hbm, 72, rfl⟩
abbrev main_cst_3 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_6 : Ref sig .tc := ⟨.hbm, 83, rfl⟩
abbrev main_v56 : Ref sig .tc := ⟨.hbm, 84, rfl⟩
abbrev main_v57 : Ref sig .tc := ⟨.hbm, 85, rfl⟩
abbrev main_cst_7 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S1x1024x5632 : Shape := ⟨3, ![1, 1024, 5632]⟩
abbrev S1x5632 : Shape := ⟨2, ![1, 5632]⟩
abbrev S2x8192x2816 : Shape := ⟨3, ![2, 8192, 2816]⟩
abbrev S8192x2816 : Shape := ⟨2, ![8192, 2816]⟩
abbrev S512x1024 : Shape := ⟨2, ![512, 1024]⟩
abbrev S1x1024x1408 : Shape := ⟨3, ![1, 1024, 1408]⟩
abbrev S3x1408 : Shape := ⟨2, ![3, 1408]⟩
abbrev S1x1408 : Shape := ⟨2, ![1, 1408]⟩
abbrev S2x512x1408 : Shape := ⟨3, ![2, 512, 1408]⟩
abbrev S512x1408 : Shape := ⟨2, ![512, 1408]⟩
abbrev S520x1408 : Shape := ⟨2, ![520, 1408]⟩
abbrev S8x1408 : Shape := ⟨2, ![8, 1408]⟩
abbrev S1x1024x256 : Shape := ⟨3, ![1, 1024, 256]⟩
abbrev S1024x256 : Shape := ⟨2, ![1024, 256]⟩
abbrev S512x256 : Shape := ⟨2, ![512, 256]⟩
abbrev S1x128 : Shape := ⟨2, ![1, 128]⟩
abbrev S136x128 : Shape := ⟨2, ![136, 128]⟩
abbrev S128x128 : Shape := ⟨2, ![128, 128]⟩
abbrev S1x128x128 : Shape := ⟨3, ![1, 128, 128]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 9
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S1x1024x5632, .bf16⟩
  | .hbm, ⟨5, _⟩ => ⟨S1x5632, .f32⟩
  | .hbm, ⟨6, _⟩ => ⟨S2x8192x2816, .bf16⟩
  | .hbm, ⟨7, _⟩ => ⟨S2x8192x2816, .bf16⟩
  | .hbm, ⟨8, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S2x512x1408, .bf16⟩
  | .local _ .vmem, ⟨15, _⟩ => ⟨S2x512x1408, .bf16⟩
  | .local _ .vmem, ⟨16, _⟩ => ⟨S2x512x1408, .bf16⟩
  | .local _ .vmem, ⟨17, _⟩ => ⟨S2x512x1408, .bf16⟩
  | .local _ .vmem, ⟨18, _⟩ => ⟨S512x1408, .bf16⟩
  | .local _ .vmem, ⟨19, _⟩ => ⟨S512x1408, .bf16⟩
  | .local _ .vmem, ⟨20, _⟩ => ⟨S520x1408, .f32⟩
  | .local _ .vmem, ⟨21, _⟩ => ⟨S520x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnUpRefIdeal.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S8192x5632 : Shape := ⟨2, ![8192, 5632]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S8192x2x2816 : Shape := ⟨3, ![8192, 2, 2816]⟩
abbrev S2x8192x2816 : Shape := ⟨3, ![2, 8192, 2816]⟩
abbrev S8192x2816 : Shape := ⟨2, ![8192, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S4x2048x5632, .f32⟩
  | .hbm, ⟨8, _⟩ => ⟨S_, .f32⟩
  | .hbm, ⟨9, _⟩ => ⟨S4x2x5632, .f32⟩
  | .hbm, ⟨10, _⟩ => ⟨S4x2050x5632, .f32⟩
  | .hbm, ⟨11, _⟩ => ⟨S4x2048x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S4x2048x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S4x2048x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S4x2048x2816, .f32⟩
  | .hbm, ⟨35, _⟩ => ⟨S4x2048x2816, .f32⟩
  | .hbm, ⟨36, _⟩ => ⟨S8192x2x2816, .f32⟩
  | .hbm, ⟨37, _⟩ => ⟨S2x8192x2816, .f32⟩
  | .hbm, ⟨38, _⟩ => ⟨S2x8192x2816, .bf16⟩
  | .hbm, ⟨39, _⟩ => ⟨S8192x2x2816, .f32⟩
  | .hbm, ⟨40, _⟩ => ⟨S2x8192x2816, .f32⟩
  | .hbm, ⟨41, _⟩ => ⟨S2x8192x2816, .bf16⟩
  | .hbm, ⟨42, _⟩ => ⟨S4x2048x2816, .f32⟩
  | .hbm, ⟨43, _⟩ => ⟨S4x2048x2816, .f32⟩
  | .hbm, ⟨44, _⟩ => ⟨S_, .f32⟩
  | .hbm, ⟨45, _⟩ => ⟨S4x2048x2816, .f32⟩
  | .hbm, ⟨46, _⟩ => ⟨S4x2048x2816, .f32⟩
  | .hbm, ⟨47, _⟩ => ⟨S_, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S8192x2816, .f32⟩
  | .hbm, ⟨53, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== DownLn.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x2816x1024 : Shape := ⟨3, ![1, 2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x2816x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownLnRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== ScFwd.lean ====
abbrev S8192x3072 : Shape := ⟨2, ![8192, 3072]⟩
abbrev S3x1024 : Shape := ⟨2, ![3, 1024]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S8x1024 : Shape := ⟨2, ![8, 1024]⟩
abbrev S264x1024 : Shape := ⟨2, ![264, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S1024, .f32⟩
  | .hbm, ⟨3, _⟩ => ⟨S1x1024, .f32⟩
  | .hbm, ⟨4, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScFwdRefIdeal.lean ====
abbrev S8192x3072 : Shape := ⟨2, ![8192, 3072]⟩
abbrev S3x1024 : Shape := ⟨2, ![3, 1024]⟩
abbrev S1024 : Shape := ⟨1, ![1024]⟩
abbrev S4x2048x3072 : Shape := ⟨3, ![4, 2048, 3072]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1x1x1024 : Shape := ⟨3, ![1, 1, 1024]⟩
abbrev S8192x1024 : Shape := ⟨2, ![8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S1024, .f32⟩
  | .hbm, ⟨3, _⟩ => ⟨S8192x3072, .f32⟩
  | .hbm, ⟨4, _⟩ => ⟨S4x2048x3072, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2x1024, .f32⟩
  | .hbm, ⟨11, _⟩ => ⟨S4x2050x1024, .f32⟩
  | .hbm, ⟨12, _⟩ => ⟨S4x2048x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S8192x1024, .f32⟩
  | .hbm, ⟨37, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== LruFwd.lean ====
abbrev S8192x2560 : Shape := ⟨2, ![8192, 2560]⟩
abbrev S4x1280 : Shape := ⟨2, ![4, 1280]⟩
abbrev S1280 : Shape := ⟨1, ![1280]⟩
abbrev S10x128x256 : Shape := ⟨3, ![10, 128, 256]⟩
abbrev S10x256 : Shape := ⟨2, ![10, 256]⟩
abbrev S1x1280 : Shape := ⟨2, ![1, 1280]⟩
abbrev S8192x1280 : Shape := ⟨2, ![8192, 1280]⟩
abbrev S256x1280 : Shape := ⟨2, ![256, 1280]⟩
abbrev S8x1280 : Shape := ⟨2, ![8, 1280]⟩
abbrev S264x1280 : Shape := ⟨2, ![264, 1280]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S1x256 : Shape := ⟨2, ![1, 256]⟩

abbrev nBuf : Space → Nat
  | .hbm => 10
  | .vmem => 17
  | .smem => 0
  | _ => 0

abbrev bufTy : (tb : Table) → Fin (tcTables nBuf tb) → BufTy
  | .hbm, ⟨0, _⟩ => ⟨S8192x2560, .bf16⟩
  | .hbm, ⟨1, _⟩ => ⟨S4x1280, .f32⟩
  | .hbm, ⟨2, _⟩ => ⟨S1280, .f32⟩
  | .hbm, ⟨3, _⟩ => ⟨S10x128x256, .bf16⟩
  | .hbm, ⟨4, _⟩ => ⟨S10x256, .f32⟩
  | .hbm, ⟨5, _⟩ => ⟨S1280, .f32⟩
  | .hbm, ⟨6, _⟩ => ⟨S1x1280, .f32⟩
  | .hbm, ⟨7, _⟩ => ⟨S1x1280, .f32⟩
  | .hbm, ⟨8, _⟩ => ⟨S8192x1280, .f32⟩
  | .hbm, ⟨9, _⟩ => ⟨S8192x1280, .bf16⟩
  | .local _ .vmem, ⟨0, _⟩ => ⟨S256x1280, .bf16⟩
  | .local _ .vmem, ⟨1, _⟩ => ⟨S256x1280, .bf16⟩
  | .local _ .vmem, ⟨2, _⟩ => ⟨S256x1280, .bf16⟩
  | .local _ .vmem, ⟨3, _⟩ => ⟨S256x1280, .bf16⟩
  | .local _ .vmem, ⟨4, _⟩ => ⟨S4x1280, .f32⟩
  | .local _ .vmem, ⟨5, _⟩ => ⟨S1x1280, .f32⟩
  | .local _ .vmem, ⟨6, _⟩ => ⟨S10x128x256, .bf16⟩
  | .local _ .vmem, ⟨7, _⟩ => ⟨S10x256, .f32⟩
  | .local _ .vmem, ⟨8, _⟩ => ⟨S1x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .bf16⟩
  | .local _ .vmem, ⟨12, _⟩ => ⟨S256x1280, .bf16⟩
  | .local _ .vmem, ⟨13, _⟩ => ⟨S256x1280, .f32⟩
  | .local _ .vmem, ⟨14, _⟩ => ⟨S256x1280, .f32⟩
  | .local _ .vmem, ⟨15, _⟩ => ⟨S8x1280, .f32⟩
  | .local _ .vmem, ⟨16, _⟩ => ⟨S1x1280, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_97 : BitVec 32 := 0#32
  let c32_i32 : BitVec 32 := 32#32
  let v217 : BitVec 32 := Scalar.addi c0_i32_97 c32_i32
  let c1_i32_98 : BitVec 32 := 1#32
  ⟨c0_i32_97, v217, c1_i32_98⟩
def k0_mult1 (k0_t1 : Fin k0_t1_loop.trips) : BitVec 32 :=
  let c0_i32_97 : BitVec 32 := 0#32
  let c1_i32_98 : BitVec 32 := 1#32
  let arg14 : BitVec 32 := Scf.iv c0_i32_97 c1_i32_98 k0_t1
  let c8_i32 : BitVec 32 := 8#32
  let v242 : BitVec 32 := Scalar.muli arg14 c8_i32
  v242
def k0_off1 (k0_t1 : Fin k0_t1_loop.trips) : Fin 2 → Nat :=
  let c0_i32_97 : BitVec 32 := 0#32
  let c1_i32_98 : BitVec 32 := 1#32
  let arg14 : BitVec 32 := Scf.iv c0_i32_97 c1_i32_98 k0_t1
  let c8_i32 : BitVec 32 := 8#32
  let v242 : BitVec 32 := Scalar.muli arg14 c8_i32
  let v243 : BitVec 32 := v242
  let v244 : Index := Scalar.indexCast v243
  let c0_112 : Index := 0#32
  ![v244.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LruFwdIdeal.lean ====
variable {F : FTy → Type} [FloatOps F] [Named F]
def κ : String → Option EReal := fun
  | "near_zero" => some ⊤
  | "small" => some ⊥
  | _ => none
-- ==== LruFwdRefIdeal.lean ====
abbrev S8192x2560 : Shape := ⟨2, ![8192, 2560]⟩
abbrev S4x1280 : Shape := ⟨2, ![4, 1280]⟩
abbrev S1280 : Shape := ⟨1, ![1280]⟩
abbrev S10x128x256 : Shape := ⟨3, ![10, 128, 256]⟩
abbrev S10x256 : Shape := ⟨2, ![10, 256]⟩
abbrev S4x2048x2560 : Shape := ⟨3, ![4, 2048, 2560]⟩
abbrev S4x2048x1280 : Shape := ⟨3, ![4, 2048, 1280]⟩
abbrev S_ : Shape := ⟨0, ![]⟩
abbrev S4x3x1280 : Shape := ⟨3, ![4, 3, 1280]⟩
abbrev S4x2051x1280 : Shape := ⟨3, ![4, 2051, 1280]⟩
abbrev S1x1280 : Shape := ⟨2, ![1, 1280]⟩
abbrev S1x1x1280 : Shape := ⟨3, ![1, 1, 1280]⟩
abbrev S4x2048x10x128 : Shape := ⟨4, ![4, 2048, 10, 128]⟩
abbrev S10x256x4x2048 : Shape := ⟨4, ![10, 256, 4, 2048]⟩
abbrev S4x2048x10x256 : Shape := ⟨4, ![4, 2048, 10, 256]⟩
abbrev S1x1x10x256 : Shape := ⟨4, ![1, 1, 10, 256]⟩
abbrev S2048x4x1280 : Shape := ⟨3, ![2048, 4, 1280]⟩
abbrev S1x4x1280 : Shape := ⟨3, ![1, 4, 1280]⟩
abbrev S8192x1280 : Shape := ⟨2, ![8192, 1280]⟩

abbrev nBuf : Space → Nat
  | .hbm => 166
  | .vmem => 0
  | .smem => 0
  | _ => 0

abbrev hbmTy0_0 (i : Nat) : BufTy := match i % 128 with
  | 0 => ⟨S8192x2560, .bf16⟩
  | 1 => ⟨S4x1280, .f32⟩
  | 2 => ⟨S1280, .f32⟩
  | 3 => ⟨S10x128x256, .bf16⟩
  | 4 => ⟨S10x256, .f32⟩
  | 5 => ⟨S1280, .f32⟩
  | 6 => ⟨S8192x2560, .f32⟩
  | 7 => ⟨S4x2048x2560, .f32⟩
  | 8 => ⟨S4x2048x1280, .f32⟩
  | 9 => ⟨S4x2048x1280, .f32⟩
  | 10 => ⟨S_, .f32⟩
  | 11 => ⟨S4x3x1280, .f32⟩
  | 12 => ⟨S4x2051x1280, .f32⟩
  | 13 => ⟨S4x2048x1280, .f32⟩
  | 14 => ⟨S1x1280, .f32⟩
  | 15 => ⟨S1280, .f32⟩
  | 16 => ⟨S1x1x1280, .f32⟩
  | 17 => ⟨S4x2048x1280, .f32⟩
  | 18 => ⟨S4x2048x1280, .f32⟩
  | 19 => ⟨S1x1x1280, .f32⟩
  | 20 => ⟨S4x2048x1280, .f32⟩
  | 21 => ⟨S4x2048x1280, .f32⟩
  | 22 => ⟨S4x2048x1280, .f32⟩
  | 23 => ⟨S1x1280, .f32⟩
  | 24 => ⟨S1280, .f32⟩
  | 25 => ⟨S1x1x1280, .f32⟩
  | 26 => ⟨S4x2048x1280, .f32⟩
  | 27 => ⟨S4x2048x1280, .f32⟩
  | 28 => ⟨S4x2048x1280, .f32⟩
  | 29 => ⟨S4x2048x1280, .f32⟩
  | 30 => ⟨S1x1280, .f32⟩
  | 31 => ⟨S1280, .f32⟩
  | 32 => ⟨S1x1x1280, .f32⟩
  | 33 => ⟨S4x2048x1280, .f32⟩
  | 34 => ⟨S4x2048x1280, .f32⟩
  | 35 => ⟨S4x2048x1280, .f32⟩
  | 36 => ⟨S4x2048x1280, .f32⟩
  | 37 => ⟨S1x1280, .f32⟩
  | 38 => ⟨S1280, .f32⟩
  | 39 => ⟨S1x1x1280, .f32⟩
  | 40 => ⟨S4x2048x1280, .f32⟩
  | 41 => ⟨S4x2048x1280, .f32⟩
  | 42 => ⟨S4x2048x1280, .f32⟩
  | 43 => ⟨S4x2048x10x128, .f32⟩
  | 44 => ⟨S10x128x256, .f32⟩
  | 45 => ⟨S10x256x4x2048, .f32⟩
  | 46 => ⟨S4x2048x10x256, .f32⟩
  | 47 => ⟨S1x1x10x256, .f32⟩
  | 48 => ⟨S4x2048x10x256, .f32⟩
  | 49 => ⟨S4x2048x10x256, .f32⟩
  | 50 => ⟨S4x2048x10x128, .f32⟩
  | 51 => ⟨S4x2048x10x128, .f32⟩
  | 52 => ⟨S4x2048x10x128, .f32⟩
  | 53 => ⟨S4x2048x10x128, .f32⟩
  | 54 => ⟨S_, .f32⟩
  | 55 => ⟨S4x2048x10x128, .f32⟩
  | 56 => ⟨S4x2048x10x128, .f32⟩
  | 57 => ⟨S_, .f32⟩
  | 58 => ⟨S4x2048x10x128, .f32⟩
  | 59 => ⟨S4x2048x10x128, .f32⟩
  | 60 => ⟨S4x2048x1280, .f32⟩
  | 61 => ⟨S4x2048x10x128, .f32⟩
  | 62 => ⟨S4x2048x10x128, .f32⟩
  | 63 => ⟨S_, .f32⟩
  | 64 => ⟨S4x2048x10x128, .f32⟩
  | 65 => ⟨S4x2048x10x128, .f32⟩
  | 66 => ⟨S_, .f32⟩
  | 67 => ⟨S4x2048x10x128, .f32⟩
  | 68 => ⟨S4x2048x10x128, .f32⟩
  | 69 => ⟨S4x2048x1280, .f32⟩
  | 70 => ⟨S_, .f32⟩
  | 71 => ⟨S4x2048x1280, .f32⟩
  | 72 => ⟨S4x2048x1280, .f32⟩
  | 73 => ⟨S1280, .f32⟩
  | 74 => ⟨S_, .f32⟩
  | 75 => ⟨S1280, .f32⟩
  | 76 => ⟨S1280, .f32⟩
  | 77 => ⟨S1280, .f32⟩
  | 78 => ⟨S1280, .f32⟩
  | 79 => ⟨S1280, .i1⟩
  | 80 => ⟨S1280, .f32⟩
  | 81 => ⟨S1280, .f32⟩
  | 82 => ⟨S1280, .f32⟩
  | 83 => ⟨S1280, .f32⟩
  | 84 => ⟨S1280, .f32⟩
  | 85 => ⟨S1280, .f32⟩
  | 86 => ⟨S1280, .f32⟩
  | 87 => ⟨S1280, .f32⟩
  | 88 => ⟨S1x1x1280, .f32⟩
  | 89 => ⟨S4x2048x1280, .f32⟩
  | 90 => ⟨S4x2048x1280, .f32⟩
  | 91 => ⟨S4x2048x1280, .f32⟩
  | 92 => ⟨S_, .f32⟩
  | 93 => ⟨S4x2048x1280, .f32⟩
  | 94 => ⟨S4x2048x1280, .f32⟩
  | 95 => ⟨S4x2048x1280, .f32⟩
  | 96 => ⟨S4x2048x1280, .f32⟩
  | 97 => ⟨S4x2048x1280, .f32⟩
  | 98 => ⟨S4x2048x1280, .f32⟩
  | 99 => ⟨S4x2048x1280, .f32⟩
  | 100 => ⟨S4x2048x1280, .f32⟩
  | 101 => ⟨S4x2048x1280, .f32⟩
  | 102 => ⟨S_, .f32⟩
  | 103 => ⟨S4x2048x1280, .f32⟩
  | 104 => ⟨S4x2048x1280, .f32⟩
  | 105 => ⟨S4x2048x1280, .f32⟩
  | 106 => ⟨S_, .f32⟩
  | 107 => ⟨S4x2048x1280, .f32⟩
  | 108 => ⟨S4x2048x1280, .f32⟩
  | 109 => ⟨S4x2048x1280, .f32⟩
  | 110 => ⟨S_, .f32⟩
  | 111 => ⟨S4x2048x1280, .f32⟩
  | 112 => ⟨S4x2048x1280, .f32⟩
  | 113 => ⟨S_, .f32⟩
  | 114 => ⟨S4x2048x1280, .f32⟩
  | 115 => ⟨S4x2048x1280, .f32⟩
  | 116 => ⟨S4x2048x1280, .f32⟩
  | 117 => ⟨S_, .f32⟩
  | 118 => ⟨S4x1280, .f32⟩
  | 119 => ⟨S2048x4x1280, .f32⟩
  | 120 => ⟨S2048x4x1280, .f32⟩
  | 121 => ⟨S2048x4x1280, .f32⟩
  | 122 => ⟨S_, .f32⟩
  | 123 => ⟨S2048x4x1280, .f32⟩
  | 124 => ⟨S_, .f32⟩
  | 125 => ⟨S2048x4x1280, .f32⟩
  | 126 => ⟨S_, .i32⟩
  | 127 => ⟨S2048x4x1280, .f32⟩
  | _ => ⟨S8192x2560, .bf16⟩

abbrev hbmTy0_1 (i : Nat) : BufTy := match i % 128 with
  | 0 => ⟨S2048x4x1280, .f32⟩
  | 1 => ⟨S2048x4x1280, .f32⟩
  | 2 => ⟨S_, .i32⟩
  | 3 => ⟨S4x1280, .f32⟩
  | 4 => ⟨S2048x4x1280, .f32⟩
  | 5 => ⟨S2048x4x1280, .f32⟩
  | 6 => ⟨S_, .i32⟩
  | 7 => ⟨S_, .i1⟩
  | 8 => ⟨S_, .i32⟩
  | 9 => ⟨S_, .i32⟩
  | 10 => ⟨S1x4x1280, .f32⟩
  | 11 => ⟨S4x1280, .f32⟩
  | 12 => ⟨S_, .i32⟩
  | 13 => ⟨S_, .i32⟩
  | 14 => ⟨S1x4x1280, .f32⟩
  | 15 => ⟨S4x1280, .f32⟩
  | 16 => ⟨S_, .i32⟩
  | 17 => ⟨S_, .i32⟩
  | 18 => ⟨S1x4x1280, .f32⟩
  | 19 => ⟨S4x1280, .f32⟩
  | 20 => ⟨S4x1280, .f32⟩
  | 21 => ⟨S4x1280, .f32⟩
  | 22 => ⟨S4x1280, .f32⟩
  | 23 => ⟨S1x4x1280, .f32⟩
  | 24 => ⟨S_, .i32⟩
  | 25 => ⟨S_, .i32⟩
  | 26 => ⟨S2048x4x1280, .f32⟩
  | 27 => ⟨S1x4x1280, .f32⟩
  | 28 => ⟨S_, .i32⟩
  | 29 => ⟨S_, .i32⟩
  | 30 => ⟨S2048x4x1280, .f32⟩
  | 31 => ⟨S_, .i32⟩
  | 32 => ⟨S_, .i32⟩
  | 33 => ⟨S4x2048x1280, .f32⟩
  | 34 => ⟨S8192x1280, .f32⟩
  | 35 => ⟨S4x2048x1280, .f32⟩
  | 36 => ⟨S8192x1280, .f32⟩
  | 37 => ⟨S8192x1280, .bf16⟩
  | _ => ⟨S8192x2560, .bf16⟩

abbrev hbmTy (i : Nat) : BufTy := match i / 128 with
  | 0 => hbmTy0_0 i
  | 1 => hbmTy0_1 i
  | _ => ⟨S8192x2560, .bf16⟩

abbrev bufTy : (tb : Table) → Fin (tcTables nBuf tb) → BufTy
  | .hbm, ⟨i, _⟩ => hbmTy i
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_0 : Ref sig .tc := ⟨.hbm, 54, rfl⟩
abbrev main_v47 : Ref sig .tc := ⟨.hbm, 55, rfl⟩
abbrev main_v48 : Ref sig .tc := ⟨.hbm, 56, rfl⟩
abbrev main_cst_1 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_2 : Ref sig .tc := ⟨.hbm, 63, rfl⟩
abbrev main_v54 : Ref sig .tc := ⟨.hbm, 64, rfl⟩
abbrev main_v55 : Ref sig .tc := ⟨.hbm, 65, rfl⟩
abbrev main_cst_3 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_v8 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_5 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_6 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_7 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_8 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_10 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_11 : Ref sig .tc := ⟨.hbm, 122, rfl⟩
abbrev main_v91 : Ref sig .tc := ⟨.hbm, 123, rfl⟩
abbrev main_cst_12 : Ref sig .tc := ⟨.hbm, 124, rfl⟩
abbrev main_v92 : Ref sig .tc := ⟨.hbm, 125, rfl⟩
abbrev main_c : Ref sig .tc := ⟨.hbm, 126, rfl⟩
abbrev main_v93_0 : Ref sig .tc := ⟨.hbm, 127, rfl⟩
abbrev main_v93_1 : Ref sig .tc := ⟨.hbm, 128, rfl⟩
abbrev main_v93_2 : Ref sig .tc := ⟨.hbm, 129, rfl⟩
abbrev main_v93_3 : Ref sig .tc := ⟨.hbm, 130, rfl⟩
abbrev main_v93_4 : Ref sig .tc := ⟨.hbm, 131, rfl⟩
abbrev main_v93_5 : Ref sig .tc := ⟨.hbm, 132, rfl⟩
abbrev main_v93_6 : Ref sig .tc := ⟨.hbm, 133, rfl⟩
abbrev main_while0c_c_19 : Ref sig .tc := ⟨.hbm, 134, rfl⟩
abbrev main_while0c_v99 : Ref sig .tc := ⟨.hbm, 135, rfl⟩
abbrev main_while0b_call1_c : Ref sig .tc := ⟨.hbm, 136, rfl⟩
abbrev main_while0b_call1_c_0 : Ref sig .tc := ⟨.hbm, 137, rfl⟩
abbrev main_while0b_call1_v0 : Ref sig .tc := ⟨.hbm, 138, rfl⟩
abbrev main_while0b_v99 : Ref sig .tc := ⟨.hbm, 139, rfl⟩
abbrev main_while0b_call2_c : Ref sig .tc := ⟨.hbm, 140, rfl⟩
abbrev main_while0b_call2_c_0 : Ref sig .tc := ⟨.hbm, 141, rfl⟩
abbrev main_while0b_call2_v0 : Ref sig .tc := ⟨.hbm, 142, rfl⟩
abbrev main_while0b_v100 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_v0 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_call4_v0 : Ref sig .tc := ⟨.hbm, 151, rfl⟩
abbrev main_while0b_call4_c : Ref sig .tc := ⟨.hbm, 152, rfl⟩
abbrev main_while0b_call4_c_0 : Ref sig .tc := ⟨.hbm, 153, rfl⟩
abbrev main_while0b_v105 : Ref sig .tc := ⟨.hbm, 154, rfl⟩
abbrev main_while0b_call5_v0 : Ref sig .tc := ⟨.hbm, 155, rfl⟩
abbrev main_while0b_call5_c : Ref sig .tc := ⟨.hbm, 156, rfl⟩
abbrev main_while0b_call5_c_0 : Ref sig .tc := ⟨.hbm, 157, rfl⟩
abbrev main_while0b_v106 : Ref sig .tc := ⟨.hbm, 158, rfl⟩
abbrev main_while0b_c_19 : Ref sig .tc := ⟨.hbm, 159, rfl⟩
abbrev main_while0b_v107 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩

abbrev nD : Nat := 1
abbrev τ : Topo := Topo.v7x

variable {F : FTy → Type} [FloatOps F]

abbrev main_while0_count : Scf.Loop 32 := ⟨0#32, 2048#32, 1#32⟩
-- ==== MmNn.lean ====
abbrev S8192x1024 : Shape := ⟨2, ![8192, 1024]⟩
abbrev S1024x3072 : Shape := ⟨2, ![1024, 3072]⟩
abbrev S1x1024x3072 : Shape := ⟨3, ![1, 1024, 3072]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1x1024x3072, .bf16⟩
  | .hbm, ⟨3, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S1x1024x3072, .bf16⟩
  | .local _ .vmem, ⟨3, _⟩ => ⟨S512x3072, .bf16⟩
  | .local _ .vmem, ⟨4, _⟩ => ⟨S512x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNnRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmNt.lean ====
abbrev S8192x1024 : Shape := ⟨2, ![8192, 1024]⟩
abbrev S1280x1024 : Shape := ⟨2, ![1280, 1024]⟩
abbrev S1x1280x1024 : Shape := ⟨3, ![1, 1280, 1024]⟩
abbrev S8192x1280 : Shape := ⟨2, ![8192, 1280]⟩
abbrev S512x1024 : Shape := ⟨2, ![512, 1024]⟩
abbrev S512x1280 : Shape := ⟨2, ![512, 1280]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S1x1280x1024, .bf16⟩
  | .hbm, ⟨3, _⟩ => ⟨S8192x1280, .bf16⟩
  | .local _ .vmem, ⟨0, _⟩ => ⟨S512x1024, .bf16⟩
  | .local _ .vmem, ⟨1, _⟩ => ⟨S512x1024, .bf16⟩
  | .local _ .vmem, ⟨2, _⟩ => ⟨S1x1280x1024, .bf16⟩
  | .local _ .vmem, ⟨3, _⟩ => ⟨S512x1280, .bf16⟩
  | .local _ .vmem, ⟨4, _⟩ => ⟨S512x1280, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNtRefIdeal.lean ====
abbrev S8192x1024 : Shape := ⟨2, ![8192, 1024]⟩
abbrev S1280x1024 : Shape := ⟨2, ![1280, 1024]⟩
abbrev S_ : Shape := ⟨0, ![]⟩
abbrev S8192x1280 : Shape := ⟨2, ![8192, 1280]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S_, .f32⟩
  | .hbm, ⟨3, _⟩ => ⟨S8192x1280, .f32⟩
  | .hbm, ⟨4, _⟩ => ⟨S1280x1024, .f32⟩
  | .hbm, ⟨5, _⟩ => ⟨S8192x1024, .f32⟩
  | .hbm, ⟨6, _⟩ => ⟨S8192x1024, .f32⟩
  | .hbm, ⟨7, _⟩ => ⟨S8192x1280, .f32⟩
  | .hbm, ⟨8, _⟩ => ⟨S8192x1280, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MmTn.lean ====
abbrev S8192x1024 : Shape := ⟨2, ![8192, 1024]⟩
abbrev S8192x5632 : Shape := ⟨2, ![8192, 5632]⟩
abbrev S8192x2x2816 : Shape := ⟨3, ![8192, 2, 2816]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x2x2816, .bf16⟩
  | .hbm, ⟨3, _⟩ => ⟨S2x8192x2816, .bf16⟩
  | .hbm, ⟨4, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTnRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MmNtRes.lean ====
abbrev S8192x5632 : Shape := ⟨2, ![8192, 5632]⟩
abbrev S1024x5632 : Shape := ⟨2, ![1024, 5632]⟩
abbrev S8192x1024 : Shape := ⟨2, ![8192, 1024]⟩
abbrev S8192x2x2816 : Shape := ⟨3, ![8192, 2, 2816]⟩
abbrev S2x8192x2816 : Shape := ⟨3, ![2, 8192, 2816]⟩
abbrev S1x1024x5632 : Shape := ⟨3, ![1, 1024, 5632]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 7
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x2x2816, .bf16⟩
  | .hbm, ⟨4, _⟩ => ⟨S2x8192x2816, .bf16⟩
  | .hbm, ⟨5, _⟩ => ⟨S1x1024x5632, .bf16⟩
  | .hbm, ⟨6, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== MmNtResRefIdeal.lean ====
abbrev S8192x5632 : Shape := ⟨2, ![8192, 5632]⟩
abbrev S1024x5632 : Shape := ⟨2, ![1024, 5632]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S1024x5632, .f32⟩
  | .hbm, ⟨9, _⟩ => ⟨S8192x5632, .f32⟩
  | .hbm, ⟨10, _⟩ => ⟨S8192x5632, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== AddChips.lean ====
abbrev S4x512x1408 : Shape := ⟨3, ![4, 512, 1408]⟩
abbrev S512x1408 : Shape := ⟨2, ![512, 1408]⟩
abbrev S1x512x1408 : Shape := ⟨3, ![1, 512, 1408]⟩

abbrev nBuf : Space → Nat
  | .hbm => 2
  | .vmem => 2
  | .smem => 0
  | _ => 0

abbrev bufTy : (tb : Table) → Fin (tcTables nBuf tb) → BufTy
  | .hbm, ⟨0, _⟩ => ⟨S4x512x1408, .bf16⟩
  | .hbm, ⟨1, _⟩ => ⟨S512x1408, .f32⟩
  | .local _ .vmem, ⟨0, _⟩ => ⟨S4x512x1408, .bf16⟩
  | .local _ .vmem, ⟨1, _⟩ => ⟨S512x1408, .f32⟩
  | _, _ => ⟨S4x512x1408, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== AddChipsRefIdeal.lean ====
abbrev S4x512x1408 : Shape := ⟨3, ![4, 512, 1408]⟩
abbrev S_ : Shape := ⟨0, ![]⟩
abbrev S512x1408 : Shape := ⟨2, ![512, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1408, .bf16⟩
  | .hbm, ⟨1, _⟩ => ⟨S4x512x1408, .f32⟩
  | .hbm, ⟨2, _⟩ => ⟨S_, .f32⟩
  | .hbm, ⟨3, _⟩ => ⟨S512x1408, .f32⟩
  | _, _ => ⟨S4x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Reals.lean ====
/- Facts about extended reals that are finite: how the exact operations act on (casts of) real numbers, the values of the
   constants the programs hold, and what a finiteness precondition says of one element. -/
module
public import Idealize.ShloMosaic.Lib.Pointwise
public import Idealize.ShloMosaic.Lib.Claim

@[expose] public section
noncomputable section
open Idealize.ShloMosaic
open scoped BigOperators

namespace Cert.Reals

/-- A sum of finitely many real numbers, taken in the extended reals, is the real sum. -/
theorem sum_coe {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- Division by a real number other than zero is the real division. -/
theorem div_real {y : ℝ} (h : y ≠ 0) (x : ℝ) : Ideal.div (x : EReal) (y : EReal) = ((x / y : ℝ) : EReal) := by
  rw [Ideal.div_coe h, ← EReal.coe_mul, mul_one_div]

/-- The reciprocal square root of a positive real number. -/
theorem rsqrt_real {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg h.le.not_gt, if_neg h.ne']

/-- The pattern of 1024. -/
theorem c1024 : Ideal.ofBits .f32 0x44800000#32 = ((1024 : ℝ) : EReal) := by
  simp [Ideal.ofBits, Ideal.ieee, -EReal.coe_mul]; norm_num

/-- The pattern of 2. -/
theorem c2 : Ideal.ofBits .f32 0x40000000#32 = ((2 : ℝ) : EReal) := by
  simp [Ideal.ofBits, Ideal.ieee, -EReal.coe_mul]; norm_num

/-- The pattern of −1/2. -/
theorem cnegHalf : Ideal.ofBits .f32 0xBF000000#32 = ((-(1 / 2) : ℝ) : EReal) := by
  simp [Ideal.ofBits, Ideal.ieee, -EReal.coe_mul, -EReal.coe_neg]; norm_num

/-- The pattern of the layer norm's ε, a positive number. -/
theorem ceps : Ideal.ofBits .f32 0x3727C5AC#32 = ((10995116 / 1099511627776 : ℝ) : EReal) := by
  simp [Ideal.ofBits, Ideal.ieee, -EReal.coe_mul]; norm_num

/-- The pattern of 1/2. -/
theorem cHalf : Ideal.ofBits .f32 0x3F000000#32 = ((1 / 2 : ℝ) : EReal) := by
  simp [Ideal.ofBits, Ideal.ieee, -EReal.coe_mul]; norm_num

/-- The pattern of 1/1024. -/
theorem cRecip1024 : Ideal.ofBits .f32 0x3A800000#32 = ((1 / 1024 : ℝ) : EReal) := by
  simp [Ideal.ofBits, Ideal.ieee, -EReal.coe_mul]; norm_num

/-- The pattern of 1/2048. -/
theorem cHalfRecip1024 : Ideal.ofBits .f32 0x3A000000#32 = ((1 / 2048 : ℝ) : EReal) := by
  simp [Ideal.ofBits, Ideal.ieee, -EReal.coe_mul]; norm_num

/-- The pattern of 1. -/
theorem c1 : Ideal.ofBits .f32 0x3F800000#32 = ((1 : ℝ) : EReal) := by
  simp [Ideal.ofBits, Ideal.ieee, -EReal.coe_mul, -EReal.coe_one]; norm_num

/-- The pattern of +∞. -/
theorem cinf : Ideal.ofBits .f32 0x7F800000#32 = (⊤ : EReal) := by
  simp [Ideal.ofBits, Ideal.ieee]

/-- A conjunction of two bits is one only if both are. -/
theorem and_one {a b : BitVec 1} : IntOp.andi a b = 1#1 → a = 1#1 ∧ b = 1#1 := by
  revert a b; decide

/-- A bit made of a proposition is one only if it holds. -/
theorem ofBool_one {p : Prop} [Decidable p] (h : BitVec.ofBool (decide p) = 1#1) : p := by
  by_contra hp
  simp [hp] at h

/-- An extended real whose absolute value is below +∞ is a real number. -/
theorem real_of_abs {x : Ideal .f32} (h : FloatOps.absf x < Ideal.ofBits .f32 0x7F800000#32) : ∃ r : ℝ, x = (r : EReal) := by
  rw [cinf] at h
  change max (x : EReal) (-x) < ⊤ at h
  have h1 : (x : EReal) ≠ ⊤ := (lt_of_le_of_lt (le_max_left _ _) h).ne
  have h2 : (x : EReal) ≠ ⊥ := by
    rintro rfl
    simp at h
  exact ⟨EReal.toReal x, (EReal.coe_toReal h1 h2).symm⟩

/-- An array of real numbers, given that each of its elements is one. -/
theorem real_array {ι : Type} {x : ι → EReal} (h : ∀ i, ∃ r : ℝ, x i = (r : EReal)) :
    ∃ r : ι → ℝ, x = fun i => (r i : EReal) :=
  ⟨fun i => (h i).choose, funext fun i => (h i).choose_spec⟩

end Cert.Reals

end
-- ==== Proof.LnMath.lean ====
/- The layer norm's gradient on one row of 1024 numbers: the kernel's formula, the formula differentiation gives, and their
   equality on real numbers. -/
module
public import proofs.«01_k».proof.Proof.Reals

@[expose] public section
noncomputable section
open Idealize.ShloMosaic
open scoped BigOperators

namespace Cert.LnMath
open Cert.Reals

/-- A row less its mean. -/
def cent (z : Fin 1024 → EReal) (l : Fin 1024) : EReal := z l - Ideal.div (∑ k, z k) (Ideal.ofBits .f32 0x44800000#32)

/-- The variance of a row plus ε. -/
def vare (z : Fin 1024 → EReal) : EReal :=
  Ideal.div (∑ k, cent z k * cent z k) (Ideal.ofBits .f32 0x44800000#32) + Ideal.ofBits .f32 0x3727C5AC#32

/-- The kernel's gradient with respect to the row, at one lane: `rstd · (dy·g − mean(dy·g) − x̂ · mean(dy·g·x̂))`. -/
def rowDz (z dx g : Fin 1024 → EReal) (l : Fin 1024) : EReal :=
  Ideal.rsqrt (vare z) * (dx l * g l - Ideal.div (∑ k, dx k * g k) (Ideal.ofBits .f32 0x44800000#32)
    - cent z l * Ideal.rsqrt (vare z)
      * Ideal.div (∑ k, dx k * g k * (cent z k * Ideal.rsqrt (vare z))) (Ideal.ofBits .f32 0x44800000#32))

/-- What differentiation gives for the variance: its cotangent over 1024. -/
def dvar (z dx g : Fin 1024 → EReal) : EReal :=
  Ideal.div ((∑ k, cent z k * (dx k * g k))
    * (Ideal.ofBits .f32 0xBF000000#32 * Ideal.div (Ideal.rsqrt (vare z)) (vare z))) (Ideal.ofBits .f32 0x44800000#32)

/-- The reference's gradient with respect to the row, at one lane. -/
def refDz (z dx g : Fin 1024 → EReal) (l : Fin 1024) : EReal :=
  dx l * g l * Ideal.rsqrt (vare z) + dvar z dx g * (Ideal.ofBits .f32 0x40000000#32 * cent z l)
    + Ideal.div (∑ k, -(dx k * g k * Ideal.rsqrt (vare z))
        + ∑ k, -(dvar z dx g * (Ideal.ofBits .f32 0x40000000#32 * cent z k))) (Ideal.ofBits .f32 0x44800000#32)

/-- The identity behind it, on real numbers: `x` is centred and `ρ² v = 1`. -/
theorem real_identity (x h : Fin 1024 → ℝ) (ρ v : ℝ) (hv : v ≠ 0) (hx : ∑ k, x k = 0) (hρ : ρ * ρ = v⁻¹) (l : Fin 1024) :
    ρ * (h l - (∑ k, h k) / 1024 - x l * ρ * ((∑ k, h k * (x k * ρ)) / 1024))
      = h l * ρ + (∑ k, x k * h k) * (-(1 / 2) * (ρ / v)) / 1024 * (2 * x l)
        + (∑ k, -(h k * ρ) + ∑ k, -((∑ k, x k * h k) * (-(1 / 2) * (ρ / v)) / 1024 * (2 * x k))) / 1024 := by
  have e1 : ∑ k, h k * (x k * ρ) = (∑ k, x k * h k) * ρ := by
    rw [Finset.sum_mul]; exact Finset.sum_congr rfl fun k _ => by ring
  have e2 : ∑ k, -(h k * ρ) = -((∑ k, h k) * ρ) := by rw [Finset.sum_neg_distrib, Finset.sum_mul]
  have e3 : ∀ s : ℝ, ∑ k, -(s * (2 * x k)) = 0 := by
    intro s; rw [Finset.sum_neg_distrib, ← Finset.mul_sum, ← Finset.mul_sum, hx]; simp
  rw [e1, e2, e3, div_eq_mul_inv ρ v, ← hρ]
  ring

/-- A centred row of real numbers. -/
theorem cent_real (z : Fin 1024 → ℝ) (l : Fin 1024) :
    cent (fun k => (z k : EReal)) l = ((z l - (∑ k, z k) / 1024 : ℝ) : EReal) := by
  rw [cent, sum_coe, c1024, div_real (by norm_num), ← EReal.coe_sub]

/-- The centred row sums to zero. -/
theorem cent_sum (z : Fin 1024 → ℝ) : ∑ l, (z l - (∑ k, z k) / 1024) = 0 := by
  rw [Finset.sum_sub_distrib, Finset.sum_const, Finset.card_univ, Fintype.card_fin, nsmul_eq_mul]
  push_cast; ring

/-- The variance plus ε of a row of real numbers is a positive real number. -/
theorem vare_real (z : Fin 1024 → ℝ) : ∃ v : ℝ, 0 < v ∧ vare (fun k => (z k : EReal)) = (v : EReal) := by
  refine ⟨(∑ k, (z k - (∑ k, z k) / 1024) * (z k - (∑ k, z k) / 1024)) / 1024 + 10995116 / 1099511627776, ?_, ?_⟩
  · have : 0 ≤ ∑ k, (z k - (∑ k, z k) / 1024) * (z k - (∑ k, z k) / 1024) :=
      Finset.sum_nonneg fun k _ => mul_self_nonneg _
    positivity
  · simp only [vare, cent_real, c1024, ceps, ← EReal.coe_mul, sum_coe]
    rw [div_real (by norm_num), ← EReal.coe_add]

/-- On real numbers the two gradients are equal. -/
theorem rowDz_eq (z dx g : Fin 1024 → ℝ) (l : Fin 1024) :
    rowDz (fun k => (z k : EReal)) (fun k => (dx k : EReal)) (fun k => (g k : EReal)) l
      = refDz (fun k => (z k : EReal)) (fun k => (dx k : EReal)) (fun k => (g k : EReal)) l := by
  obtain ⟨v, hv, ev⟩ := vare_real z
  have hρ : (Real.sqrt v)⁻¹ * (Real.sqrt v)⁻¹ = v⁻¹ := by rw [← mul_inv, Real.mul_self_sqrt hv.le]
  have key := real_identity (fun k => z k - (∑ k, z k) / 1024) (fun k => dx k * g k) (Real.sqrt v)⁻¹ v hv.ne' (cent_sum z) hρ l
  have d1024 : ∀ x : ℝ, Ideal.div (x : EReal) ((1024 : ℝ) : EReal) = ((x / 1024 : ℝ) : EReal) := div_real (by norm_num)
  simp only [rowDz, refDz, dvar, ev, rsqrt_real hv, cent_real, c1024, c2, cnegHalf, ← EReal.coe_mul, sum_coe, d1024,
    div_real hv.ne', ← EReal.coe_sub, ← EReal.coe_neg, ← EReal.coe_add]
  exact congrArg _ key

end Cert.LnMath

end
-- ==== Proof.LnValue.lean ====
/- The value of the layer norm's backward call: what each of its four result arrays holds after the run is what the
   reference computes from the same arguments. -/
module
public import proofs.«01_k».proof.Defs
public import proofs.«01_k».proof.Proof.Gen.LnBwdIdeal
public import proofs.«01_k».proof.Proof.Gen.LnBwdIdeal.Skeleton
public import proofs.«01_k».proof.Proof.Gen.LnBwdIdeal.Frame
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.Pre_finite_ln
public import proofs.«01_k».proof.Proof.LnMath
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.LnBwdIdeal.Val
open Cert.LnBwdIdeal Cert.LnBwdIdeal.Gen Cert.LnMath Cert.Reals

/-- The gradient block's element: the row formula on the row of the blocks. -/
theorem pay_dz (v3 v4 : Vec Ideal S512x1024 .f32) (v34 : Vec Ideal S1x1024 .f32) (r : Fin 512) (l : Fin 1024) :
    k0_pay1 v4 (k0_pay6 v3) (k0_pay7 v3) v34 (ix2 r l)
      = rowDz (fun k => v3 (ix2 r k)) (fun k => v4 (ix2 r k)) (fun k => v34 (ix2 0 k)) l := by
  pointwise [k0_pay1, k0_pay5, k0_pay6, k0_pay7]
  rfl

/-- The same block in the narrower format. -/
theorem pay_dzb (v3 v4 : Vec Ideal S512x1024 .f32) (v34 : Vec Ideal S1x1024 .f32) (r : Fin 512) (l : Fin 1024) :
    k0_pay2 v4 (k0_pay6 v3) (k0_pay7 v3) v34 (ix2 r l)
      = rowDz (fun k => v3 (ix2 r k)) (fun k => v4 (ix2 r k)) (fun k => v34 (ix2 0 k)) l := by
  rw [← pay_dz]
  pointwise [k0_pay2]

/-- What a point adds to the scale's gradient: the column sums of `dy · x̂` over its rows. -/
theorem pay_dg (v3 v4 : Vec Ideal S512x1024 .f32) (v21 : Vec Ideal S1x1024 .f32) (j : S1x1024.Idx) :
    k0_pay8 v3 v4 v21 j = v21 j + ∑ r : Fin 512, v4 (ix2 r (j 1))
      * (cent (fun k => v3 (ix2 r k)) (j 1) * Ideal.rsqrt (vare fun k => v3 (ix2 r k))) := by
  idx_vars j
  pointwise [k0_pay8, k0_pay5, k0_pay6, k0_pay7]
  rfl

/-- What a point adds to the shift's gradient: the column sums of `dy` over its rows. -/
theorem pay_db (v4 : Vec Ideal S512x1024 .f32) (v28 : Vec Ideal S1x1024 .f32) (j : S1x1024.Idx) :
    k0_pay9 v4 v28 j = v28 j + ∑ r : Fin 512, v4 (ix2 r (j 1)) := by
  idx_vars j
  pointwise [k0_pay9]

/-- The scale's gradient starts at zero. -/
theorem zero_dg (j : S1x1024.Idx) : k0_pay3 (F := Ideal) j = 0 := by
  pointwise! [k0_pay3]

/-- The shift's gradient starts at zero. -/
theorem zero_db (j : S1x1024.Idx) : k0_pay4 (F := Ideal) j = 0 := by
  pointwise! [k0_pay4]

/-- Each window's block index at each of the sixteen points. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

variable (m : (ℓ : Loc nD τ sig) → Buf (Elt Ideal) ℓ)

/-- The rows, as the arguments hold them. -/
abbrev argZ (c : Dev nD) (r : Fin 8192) (k : Fin 1024) : EReal := m ((c : Thread nD τ).loc main_arg0) (ix2 r k)

/-- The scale, as the arguments hold it. -/
abbrev argG (c : Dev nD) (k : Fin 1024) : EReal := m ((c : Thread nD τ).loc main_arg1) (ix1 k)

/-- The incoming gradient, as the arguments hold it. -/
abbrev argD (c : Dev nD) (r : Fin 8192) (k : Fin 1024) : EReal := m ((c : Thread nD τ).loc main_arg3) (ix2 r k)

/-- The rows' gradients as an array of the arguments. -/
def dzArr (c : Dev nD) (i : S8192x1024.Idx) : EReal := rowDz (argZ m c (i 0)) (argD m c (i 0)) (argG m c) (i 1)

/-- The first result holds the rows' gradients. -/
theorem final_dz (c : Dev nD) : (dats m 0 c).arrAt 3 cfg0.N = dzArr m c := by
  refine (dats m 0 c).arrAt_eq_of_covers 3 _ (by decide +kernel) fun t _ y => ?_
  blk_simp
  rw [after0_3]
  by_cases h : t.val % 16 = 0
  · rw [outsAt0_A m c t h]; frame_out; idx_vars y; rw [pay_dz]; unfold dzArr argZ argD argG
    blk_point [iblk, V, idx t]
  · rw [outsAt0_B m c t h]; frame_out; idx_vars y; rw [pay_dz]; unfold dzArr argZ argD argG
    blk_point [iblk, V, idx t]

/-- The second result holds the same. -/
theorem final_dzb (c : Dev nD) : (dats m 0 c).arrAt 4 cfg0.N = dzArr m c := by
  refine (dats m 0 c).arrAt_eq_of_covers 4 _ (by decide +kernel) fun t _ y => ?_
  blk_simp
  rw [after0_4]
  by_cases h : t.val % 16 = 0
  · rw [outsAt0_A m c t h]; frame_out; idx_vars y; rw [pay_dzb]; unfold dzArr argZ argD argG
    blk_point [iblk, V, idx t]
  · rw [outsAt0_B m c t h]; frame_out; idx_vars y; rw [pay_dzb]; unfold dzArr argZ argD argG
    blk_point [iblk, V, idx t]

/-- The scale's gradient as an array of the arguments: the column sums over all rows. -/
def dgArr (c : Dev nD) (j : S1x1024.Idx) : EReal :=
  ∑ r : Fin 8192, argD m c r (j 1) * (cent (argZ m c r) (j 1) * Ideal.rsqrt (vare (argZ m c r)))

/-- The shift's gradient as an array of the arguments: the column sums over all rows. -/
def dbArr (c : Dev nD) (j : S1x1024.Idx) : EReal := ∑ r : Fin 8192, argD m c r (j 1)

/-- The third result holds the scale's gradient. -/
theorem final_dg (c : Dev nD) : (dats m 0 c).arrAt 5 cfg0.N = dgArr m c := by
  refine (dats m 0 c).arrAt_eq_of_after_last 5 t0_15 (by decide +kernel) _ fun j => ?_
  blk_simp
  rw [after0_5, Pipeline.eq_sum_fin_of_reset_step_apply_last (fun n h => (outsAt0 m c n h).2.2.1) 16 (fun _ => 0) _
    (fun t h j => by rw [outsAt0_A m c t h]; frame_out; rw [pay_dg, zero_dg])
    (fun t h j => by rw [outsAt0_B m c t h]; frame_out; rw [pay_dg])
    (le_of_eq N_0) t0_15 rfl j, zero_add]
  unfold dgArr argZ argD
  refine Fin.sum_mul_add_congr fun s k hl => ?_
  blk_point [iblk, V, idx s]

/-- The fourth result holds the shift's gradient. -/
theorem final_db (c : Dev nD) : (dats m 0 c).arrAt 6 cfg0.N = dbArr m c := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0) _
    (fun t h j => by rw [outsAt0_A m c t h]; frame_out; rw [pay_db, zero_db])
    (fun t h j => by rw [outsAt0_B m c t h]; frame_out; rw [pay_db])
    (le_of_eq N_0) t0_15 rfl j, zero_add]
  unfold dbArr argD
  refine Fin.sum_mul_add_congr fun s k hl => ?_
  blk_point [iblk, V, idx s]

/-- What the precondition says: the row, the scale and the incoming gradient are real numbers. -/
theorem finite (h : Cert.Pre_LnBwdIdeal_finite_ln (hPre_finite_ln := Cert.Pre_finite_ln.Gen.facts) m) (c : Dev nD) :
    (∃ z : S8192x1024.Idx → ℝ, m ((c : Thread nD τ).loc main_arg0) = fun i => (z i : EReal))
    ∧ (∃ g : S1024.Idx → ℝ, m ((c : Thread nD τ).loc main_arg1) = fun i => (g i : EReal))
    ∧ (∃ d : S8192x1024.Idx → ℝ, m ((c : Thread nD τ).loc main_arg3) = fun i => (d i : EReal)) := by
  have key : ∀ (r : Fin 8192) (l : Fin 1024), (∃ x : ℝ, m ((c : Thread nD τ).loc main_arg0) (ix2 r l) = (x : EReal))
      ∧ (∃ x : ℝ, m ((c : Thread nD τ).loc main_arg1) (ix1 l) = (x : EReal))
      ∧ (∃ x : ℝ, m ((c : Thread nD τ).loc main_arg3) (ix2 r l) = (x : EReal)) := by
    intro r l
    have e := congrFun (h c) (ix2 r l)
    unfold Cert.Pre_finite_ln.fn at e
    pointwise at e
    obtain ⟨e1, e3⟩ := and_one e
    obtain ⟨e1, e2⟩ := and_one e1
    exact ⟨real_of_abs (ofBool_one e1), real_of_abs (ofBool_one e2), real_of_abs (ofBool_one e3)⟩
  refine ⟨real_array fun i => ?_, real_array fun i => ?_, real_array fun i => ?_⟩
  · idx_vars i; exact (key _ _).1
  · idx_vars i; exact (key 0 _).2.1
  · idx_vars i; exact (key _ _).2.2

variable (m' : (ℓ : Loc Cert.LnBwdRefIdeal.nD Cert.LnBwdRefIdeal.τ Cert.LnBwdRefIdeal.sig) → Buf (Elt Ideal) ℓ)

/-- The reference's first result, element by element. -/
theorem ref_dz (c : Dev nD) (r : Fin 8192) (l : Fin 1024) :
    Cert.LnBwdRefIdeal.Value.res_out0 m' c (ix2 r l)
      = refDz (fun k => m' ((c.tc : Thread Cert.LnBwdRefIdeal.nD Cert.LnBwdRefIdeal.τ).loc Cert.LnBwdRefIdeal.main_arg0) (ix2 r k))
        (fun k => m' ((c.tc : Thread Cert.LnBwdRefIdeal.nD Cert.LnBwdRefIdeal.τ).loc Cert.LnBwdRefIdeal.main_arg3) (ix2 r k))
        (fun k => m' ((c.tc : Thread Cert.LnBwdRefIdeal.nD Cert.LnBwdRefIdeal.τ).loc Cert.LnBwdRefIdeal.main_arg1) (ix1 k)) l := by
  unfold Cert.LnBwdRefIdeal.Value.res_out0
  pointwise [Cert.LnBwdRefIdeal.Value.res_main_v62]
  simp only [Fin.sum_univ_one, Finset.univ_unique, Finset.sum_const, Finset.card_singleton, one_smul]
  rfl

/-- The reference's second result is its first. -/
theorem ref_dzb (c : Dev nD) (i : S8192x1024.Idx) :
    Cert.LnBwdRefIdeal.Value.res_out1 m' c i = Cert.LnBwdRefIdeal.Value.res_out0 m' c i := rfl

/-- The value claim of the layer norm's backward call: where the rows, the scale and the incoming gradient are finite, kernel
    and reference end with equal results. -/
theorem algebraic : Cert.algebraic_LnBwdIdeal_LnBwdRefIdeal_pre_finite_ln
    (hLnBwdIdeal := Cert.LnBwdIdeal.Gen.facts) (hLnBwdRefIdeal := Cert.LnBwdRefIdeal.Gen.facts)
    (hPre_finite_ln := Cert.Pre_finite_ln.Gen.facts) := by
  intro m g m' g' hpre hagree
  have hdz : ∀ c : Dev nD, Cert.LnBwdRefIdeal.Value.res_out0 m' c = dzArr m c := by
    intro c
    obtain ⟨⟨z, hz⟩, ⟨s, hs⟩, ⟨d, hd⟩⟩ := finite m hpre c
    refine funext fun i => ?_
    idx_vars i
    rw [ref_dz, (hagree c).1, (hagree c).2.1, (hagree c).2.2.2]
    unfold dzArr argZ argD argG
    rw [hz, hs, hd]
    exact (rowDz_eq _ _ _ _).symm
  refine ⟨_, _, _, _, Cert.LnBwdIdeal.Value.run_blocks m g,
    (θ_run _ _ _).mono (fun _ h c => ⟨(h c).1.trans ((hdz c).trans (final_dz m c).symm),
      (h c).2.1.trans ((funext fun i => (ref_dzb m' c i).trans (congrFun (hdz c) i)).trans (final_dzb m c).symm),
      (h c).2.2.1.trans (Eq.trans ?_ (final_dg m c).symm), (h c).2.2.2.1.trans (Eq.trans ?_ (final_db m c).symm),
      (h c).2.2.2.2⟩) (Cert.LnBwdRefIdeal.Value.run m' g')⟩
  · refine funext fun j => ?_
    rw [(hagree c).1, (hagree c).2.2.2]
    unfold dgArr argZ argD
    idx_vars j
    pointwise
    simp only [Fin.sum_univ_one, Finset.univ_unique, Finset.sum_const, Finset.card_singleton, one_smul]
    exact Finset.sum_congr rfl fun r _ => mul_comm _ _
  · refine funext fun j => ?_
    rw [(hagree c).2.2.2]
    unfold dbArr argD
    idx_vars j
    pointwise
    simp only [Fin.sum_univ_one, Finset.univ_unique, Finset.sum_const, Finset.card_singleton, one_smul]

end Cert.LnBwdIdeal.Val
end
-- ==== Proof.LossValue.lean ====
/- The value of the last layer's norm, where the call computes the loss and its gradient from the target: what each of its
   results holds after the run is what the reference computes from the same arguments. -/
module
public import proofs.«01_k».proof.Defs
public import proofs.«01_k».proof.Proof.Gen.LnLossIdeal
public import proofs.«01_k».proof.Proof.Gen.LnLossIdeal.Skeleton
public import proofs.«01_k».proof.Proof.Gen.LnLossIdeal.Frame
public import proofs.«01_k».proof.Proof.Gen.LnLossIdeal.Launch
public import proofs.«01_k».proof.Proof.Gen.LnLossRefIdeal
public import proofs.«01_k».proof.Proof.Gen.LnLossRefIdeal.Run
public import proofs.«01_k».proof.Proof.Gen.Pre_finite_loss
public import proofs.«01_k».proof.Proof.LnMath
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.LnLossIdeal.Val
open Cert.LnLossIdeal Cert.LnLossIdeal.Gen Cert.LnMath Cert.Reals

/-- The normalised row, scaled and shifted, at one lane. -/
def rowY (z g b : Fin 1024 → EReal) (l : Fin 1024) : EReal := cent z l * Ideal.rsqrt (vare z) * g l + b l

/-- The kernel's gradient of the loss with respect to the normalised row. -/
def lossD (y t : Fin 1024 → EReal) (l : Fin 1024) : EReal := (y l - t l) * Ideal.ofBits .f32 0x3A800000#32

/-- The reference's. -/
def refD (y t : Fin 1024 → EReal) (l : Fin 1024) : EReal :=
  Ideal.div (Ideal.ofBits .f32 0x3F000000#32) (Ideal.ofBits .f32 0x44800000#32)
    * (Ideal.ofBits .f32 0x40000000#32 * (y l - t l))

/-- The gradient block's element: the layer norm's row formula at the loss's gradient. -/
theorem pay_dz (v3 v4 v6 : Vec Ideal S512x1024 .f32) (v48 : Vec Ideal S1x1024 .f32) (r : Fin 512) (l : Fin 1024) :
    k0_pay3 (k0_pay9 v4 v6) (k0_pay12 v3) (k0_pay13 v3) v48 (ix2 r l)
      = rowDz (fun k => v3 (ix2 r k)) (lossD (fun k => v4 (ix2 r k)) (fun k => v6 (ix2 r k))) (fun k => v48 (ix2 0 k)) l := by
  pointwise [k0_pay3, k0_pay8, k0_pay9, k0_pay11, k0_pay12, k0_pay13]
  rfl

/-- The same block in the narrower format. -/
theorem pay_dzb (v3 v4 v6 : Vec Ideal S512x1024 .f32) (v48 : Vec Ideal S1x1024 .f32) (r : Fin 512) (l : Fin 1024) :
    k0_pay4 (k0_pay9 v4 v6) (k0_pay12 v3) (k0_pay13 v3) v48 (ix2 r l)
      = rowDz (fun k => v3 (ix2 r k)) (lossD (fun k => v4 (ix2 r k)) (fun k => v6 (ix2 r k))) (fun k => v48 (ix2 0 k)) l := by
  rw [← pay_dz]
  pointwise [k0_pay4]

/-- What a point adds to the scale's gradient. -/
theorem pay_dg (v3 v4 v6 : Vec Ideal S512x1024 .f32) (v : Vec Ideal S1x1024 .f32) (j : S1x1024.Idx) :
    k0_pay1 (k0_pay9 v4 v6) (k0_pay13 v3) v j = v j + ∑ r : Fin 512, lossD (fun k => v4 (ix2 r k)) (fun k => v6 (ix2 r k)) (j 1)
      * (cent (fun k => v3 (ix2 r k)) (j 1) * Ideal.rsqrt (vare fun k => v3 (ix2 r k))) := by
  idx_vars j
  pointwise [k0_pay1, k0_pay8, k0_pay9, k0_pay11, k0_pay12, k0_pay13]
  rfl

/-- What a point adds to the shift's gradient. -/
theorem pay_db (v4 v6 : Vec Ideal S512x1024 .f32) (v : Vec Ideal S1x1024 .f32) (j : S1x1024.Idx) :
    k0_pay2 (k0_pay9 v4 v6) v j = v j + ∑ r : Fin 512, lossD (fun k => v4 (ix2 r k)) (fun k => v6 (ix2 r k)) (j 1) := by
  idx_vars j
  pointwise [k0_pay2, k0_pay8, k0_pay9]
  rfl

/-- What a point adds to the loss: its rows' squared errors, scaled. -/
theorem pay_loss (v4 v6 : Vec Ideal S512x1024 .f32) (v : Vec Ideal S1x1024 .f32) (j : S1x1024.Idx) :
    k0_pay10 v4 v6 v j = v j + (∑ r : Fin 512, (v4 (ix2 r (j 1)) - v6 (ix2 r (j 1))) * (v4 (ix2 r (j 1)) - v6 (ix2 r (j 1))))
      * Ideal.ofBits .f32 0x3A000000#32 := by
  idx_vars j
  pointwise [k0_pay10, k0_pay8]

/-- The three sums start at zero. -/
theorem zero_dg (j : S1x1024.Idx) : k0_pay5 (F := Ideal) j = 0 := by
  pointwise! [k0_pay5]

/-- The three sums start at zero. -/
theorem zero_db (j : S1x1024.Idx) : k0_pay6 (F := Ideal) j = 0 := by
  pointwise! [k0_pay6]

/-- The three sums start at zero. -/
theorem zero_loss (j : S1x1024.Idx) : k0_pay7 (F := Ideal) j = 0 := by
  pointwise! [k0_pay7]

/-- Each window's block index at each of the sixteen points. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] :=
  (by decide +kernel : ∀ t : Fin grid0.N, _)

variable (m : (ℓ : Loc nD τ sig) → Buf (Elt Ideal) ℓ)

/-- The rows, as the arguments hold them. -/
abbrev argZ (c : Dev nD) (r : Fin 8192) (k : Fin 1024) : EReal := m ((c : Thread nD τ).loc main_arg0) (ix2 r k)

/-- The scale, as the arguments hold it. -/
abbrev argG (c : Dev nD) (k : Fin 1024) : EReal := m ((c : Thread nD τ).loc main_arg1) (ix1 k)

/-- The shift, as the arguments hold it. -/
abbrev argB (c : Dev nD) (k : Fin 1024) : EReal := m ((c : Thread nD τ).loc main_arg2) (ix1 k)

/-- The target, as the arguments hold it. -/
abbrev argT (c : Dev nD) (r : Fin 8192) (k : Fin 1024) : EReal := m ((c : Thread nD τ).loc main_arg3) (ix2 r k)

/-- The normalised rows the host lines hand the call. -/
def yArr (c : Dev nD) (r : Fin 8192) : Fin 1024 → EReal := rowY (argZ m c r) (argG m c) (argB m c)

/-- The first window's array is the normalised rows. -/
theorem entry_y (c : Dev nD) (r : Fin 8192) (l : Fin 1024) : V m c main_v23 (ix2 r l) = yArr m c r l := by
  have e : V m c main_v23 = StableHlo.after hostOps0 (fun b => m (c, b)) (Proc.devRef .tc main_v23) := by
    unfold V V0; rw [List.flatten_cons, List.flatten_nil, List.append_nil]
  rw [e]
  entry_read
  unfold yArr argZ argG argB
  pointwise
  rfl

/-- The third window's array is the scale. -/
theorem entry_g (c : Dev nD) (k : Fin 1024) : V m c main_v24 (ix2 0 k) = argG m c k := by
  have e : V m c main_v24 = StableHlo.after hostOps0 (fun b => m (c, b)) (Proc.devRef .tc main_v24) := by
    unfold V V0; rw [List.flatten_cons, List.flatten_nil, List.append_nil]
  rw [e]
  entry_read
  unfold argG
  pointwise

/-- The kernel's gradient with respect to the normalised rows, of the arguments. -/
def dArr (c : Dev nD) (r : Fin 8192) : Fin 1024 → EReal := lossD (yArr m c r) (argT m c r)

/-- The rows' gradients as an array of the arguments. -/
def dzArr (c : Dev nD) (i : S8192x1024.Idx) : EReal := rowDz (argZ m c (i 0)) (dArr m c (i 0)) (argG m c) (i 1)

/-- The row of the arrays that a row of point `t`'s blocks is. -/
def row (t : Fin cfg0.N) (r : Fin 512) : Fin 8192 := ⟨t.val * 512 + r.val, by have := t.isLt; have : cfg0.N = 16 := N_0; omega⟩

/-- Point `t`'s block of normalised rows. -/
theorem blk_y (c : Dev nD) (t : Fin cfg0.N) (r : Fin 512) (k : Fin 1024) : iblk m c 0 t (ix2 r k) = yArr m c (row t r) k := by
  rw [← entry_y]
  blk_point [iblk, idx t, row]

/-- Point `t`'s block of rows. -/
theorem blk_z (c : Dev nD) (t : Fin cfg0.N) (r : Fin 512) (k : Fin 1024) : iblk m c 1 t (ix2 r k) = argZ m c (row t r) k := by
  unfold argZ; blk_point [iblk, V, idx t, row]

/-- The scale's block. -/
theorem blk_g (c : Dev nD) (t : Fin cfg0.N) (k : Fin 1024) : iblk m c 2 t (ix2 0 k) = argG m c k := by
  rw [← entry_g]
  blk_point [iblk, idx t]

/-- Point `t`'s block of the target. -/
theorem blk_t (c : Dev nD) (t : Fin cfg0.N) (r : Fin 512) (k : Fin 1024) : iblk m c 3 t (ix2 r k) = argT m c (row t r) k := by
  unfold argT; blk_point [iblk, V, idx t, row]

/-- The first result holds the rows' gradients. -/
theorem final_dz (c : Dev nD) : (dats m 0 c).arrAt 4 cfg0.N = dzArr m c := by
  refine (dats m 0 c).arrAt_eq_of_covers 4 _ (by decide +kernel) fun t _ y => ?_
  blk_simp
  rw [after0_4]
  have e : (outsAt0 m c t.val t.isLt).1 y = rowDz (argZ m c (row t (y 0))) (dArr m c (row t (y 0))) (argG m c) (y 1) := by
    by_cases h : t.val % 16 = 0
    · rw [outsAt0_A m c t h]; frame_out; idx_vars y; rw [pay_dz]; simp only [blk_y, blk_z, blk_g, blk_t]; rfl
    · rw [outsAt0_B m c t h]; frame_out; idx_vars y; rw [pay_dz]; simp only [blk_y, blk_z, blk_g, blk_t]; rfl
  rw [e]
  idx_vars y
  show dzArr m c (ix2 (row t _) _) = _
  congr 1
  blk_ext [idx t, row]

/-- The second result holds the same. -/
theorem final_dzb (c : Dev nD) : (dats m 0 c).arrAt 5 cfg0.N = dzArr m c := by
  refine (dats m 0 c).arrAt_eq_of_covers 5 _ (by decide +kernel) fun t _ y => ?_
  blk_simp
  rw [after0_5]
  have e : (outsAt0 m c t.val t.isLt).2.1 y = rowDz (argZ m c (row t (y 0))) (dArr m c (row t (y 0))) (argG m c) (y 1) := by
    by_cases h : t.val % 16 = 0
    · rw [outsAt0_A m c t h]; frame_out; idx_vars y; rw [pay_dzb]; simp only [blk_y, blk_z, blk_g, blk_t]; rfl
    · rw [outsAt0_B m c t h]; frame_out; idx_vars y; rw [pay_dzb]; simp only [blk_y, blk_z, blk_g, blk_t]; rfl
  rw [e]
  idx_vars y
  show dzArr m c (ix2 (row t _) _) = _
  congr 1
  blk_ext [idx t, row]

/-- The scale's gradient as an array of the arguments: the column sums over all rows. -/
def dgArr (c : Dev nD) (j : S1x1024.Idx) : EReal :=
  ∑ r : Fin 8192, dArr m c r (j 1) * (cent (argZ m c r) (j 1) * Ideal.rsqrt (vare (argZ m c r)))

/-- The shift's gradient as an array of the arguments: the column sums over all rows. -/
def dbArr (c : Dev nD) (j : S1x1024.Idx) : EReal := ∑ r : Fin 8192, dArr m c r (j 1)

/-- What point `t` adds to a lane of the loss. -/
def partArr (c : Dev nD) (t : Fin cfg0.N) (l : Fin 1024) : EReal :=
  (∑ r : Fin 512, (yArr m c (row t r) l - argT m c (row t r) l) * (yArr m c (row t r) l - argT m c (row t r) l))
    * Ideal.ofBits .f32 0x3A000000#32

/-- The loss's parts as an array of the arguments: a lane's sum over the points. -/
def lossArr (c : Dev nD) (j : S1x1024.Idx) : EReal := ∑ t : Fin cfg0.N, partArr m c t (j 1)

/-- A point's step of the loss's parts. -/
theorem step_loss (c : Dev nD) (t : Fin cfg0.N) (v : Vec Ideal S1x1024 .f32) (j : S1x1024.Idx) :
    k0_pay10 (iblk m c 0 t) (iblk m c 3 t) v j = v j + partArr m c t (j 1) := by
  rw [pay_loss]
  idx_vars j
  simp only [blk_y, blk_t]
  rfl

/-- The third result holds the scale's gradient. -/
theorem final_dg (c : Dev nD) : (dats m 0 c).arrAt 6 cfg0.N = dgArr m c := by
  refine (dats m 0 c).arrAt_eq_of_after_last 6 t0_15 (by decide +kernel) _ fun j => ?_
  blk_simp
  rw [after0_6, Pipeline.eq_sum_fin_of_reset_step_apply_last (fun n h => (outsAt0 m c n h).2.2.1) 16 (fun _ => 0) _
    (fun t h j => by rw [outsAt0_A m c t h]; frame_out; rw [pay_dg, zero_dg])
    (fun t h j => by rw [outsAt0_B m c t h]; frame_out; rw [pay_dg])
    (le_of_eq N_0) t0_15 rfl j, zero_add]
  unfold dgArr
  refine Fin.sum_mul_add_congr fun s k hl => ?_
  simp only [blk_y, blk_z, blk_g, blk_t]
  rfl

/-- The fourth result holds the shift's gradient. -/
theorem final_db (c : Dev nD) : (dats m 0 c).arrAt 7 cfg0.N = dbArr m c := by
  refine (dats m 0 c).arrAt_eq_of_after_last 7 t0_15 (by decide +kernel) _ fun j => ?_
  blk_simp
  rw [after0_7, Pipeline.eq_sum_fin_of_reset_step_apply_last (fun n h => (outsAt0 m c n h).2.2.2.1) 16 (fun _ => 0) _
    (fun t h j => by rw [outsAt0_A m c t h]; frame_out; rw [pay_db, zero_db])
    (fun t h j => by rw [outsAt0_B m c t h]; frame_out; rw [pay_db])
    (le_of_eq N_0) t0_15 rfl j, zero_add]
  unfold dbArr
  refine Fin.sum_mul_add_congr fun s k hl => ?_
  simp only [blk_y, blk_t]
  rfl

/-- The last result's parts. -/
theorem final_loss (c : Dev nD) : (dats m 0 c).arrAt 8 cfg0.N = lossArr m c := by
  refine (dats m 0 c).arrAt_eq_of_after_last 8 t0_15 (by decide +kernel) _ fun j => ?_
  blk_simp
  rw [after0_8, Pipeline.eq_sum_fin_of_reset_step_apply_last (fun n h => (outsAt0 m c n h).2.2.2.2) 16 (fun _ => 0) _
    (fun t h j => by rw [outsAt0_A m c t h]; frame_out; rw [step_loss, zero_loss])
    (fun t h j => by rw [outsAt0_B m c t h]; frame_out; rw [step_loss])
    (le_of_eq N_0) t0_15 rfl j, zero_add]
  rfl

/-- The lines after the call sum the loss's parts. -/
theorem tail_loss (c : Dev nD) : Pipeline.afterTail₀ cfgs (dats m) 0 (V0 m) [hostOps1] c main_v26 ix0
    = ∑ k : Fin 1024, lossArr m c (ix2 0 k) := by
  unfold Pipeline.afterTail₀
  have e : ∀ σ, StableHlo.after [hostOps1 (F := Ideal)].flatten σ (Proc.devRef .tc main_v26) = StableHlo.after hostOps1 σ (Proc.devRef .tc main_v26) := by
    intro σ; rw [List.flatten_cons, List.flatten_nil, List.append_nil]
  rw [e]
  entry_read
  have e8 : Pipeline.withArrays (cfgs 0).spec c (V0 m c) (fun w => (dats m 0 c).arrAt w (cfgs 0).N) (Proc.devRef .tc main_v25_4)
      = lossArr m c :=
    (Pipeline.withArrays_arr spec0 (by decide) c (V0 m c) (fun w => (dats m 0 c).arrAt w cfg0.N) 8).trans (final_loss m c)
  rw [e8]
  pointwise
  simp only [Finset.univ_unique, Finset.sum_singleton]
  rfl

variable (m' : (ℓ : Loc Cert.LnLossRefIdeal.nD Cert.LnLossRefIdeal.τ Cert.LnLossRefIdeal.sig) → Buf (Elt Ideal) ℓ)

/-- The reference's arguments: rows. -/
abbrev refZ (c : Dev nD) (r : Fin 8192) (k : Fin 1024) : EReal := m' ((c.tc : Thread Cert.LnLossRefIdeal.nD Cert.LnLossRefIdeal.τ).loc Cert.LnLossRefIdeal.main_arg0) (ix2 r k)

/-- The reference's arguments: scale. -/
abbrev refG (c : Dev nD) (k : Fin 1024) : EReal := m' ((c.tc : Thread Cert.LnLossRefIdeal.nD Cert.LnLossRefIdeal.τ).loc Cert.LnLossRefIdeal.main_arg1) (ix1 k)

/-- The reference's arguments: shift. -/
abbrev refB (c : Dev nD) (k : Fin 1024) : EReal := m' ((c.tc : Thread Cert.LnLossRefIdeal.nD Cert.LnLossRefIdeal.τ).loc Cert.LnLossRefIdeal.main_arg2) (ix1 k)

/-- The reference's arguments: target. -/
abbrev refT (c : Dev nD) (r : Fin 8192) (k : Fin 1024) : EReal := m' ((c.tc : Thread Cert.LnLossRefIdeal.nD Cert.LnLossRefIdeal.τ).loc Cert.LnLossRefIdeal.main_arg3) (ix2 r k)

/-- The reference's gradient of the loss, on a row. -/
def refDy (c : Dev nD) (r : Fin 8192) : Fin 1024 → EReal := refD (rowY (refZ m' c r) (refG m' c) (refB m' c)) (refT m' c r)

/-- The reference's first result, element by element. -/
theorem ref_dz (c : Dev nD) (r : Fin 8192) (l : Fin 1024) :
    Cert.LnLossRefIdeal.Value.res_out0 m' c (ix2 r l) = refDz (refZ m' c r) (refDy m' c r) (refG m' c) l := by
  unfold Cert.LnLossRefIdeal.Value.res_out0
  pointwise [Cert.LnLossRefIdeal.Value.res_main_v76]
  simp only [Fin.sum_univ_one, Finset.univ_unique, Finset.sum_const, Finset.card_singleton, one_smul]
  rfl

/-- The reference's second result is its first. -/
theorem ref_dzb (c : Dev nD) (i : S8192x1024.Idx) :
    Cert.LnLossRefIdeal.Value.res_out1 m' c i = Cert.LnLossRefIdeal.Value.res_out0 m' c i := rfl

/-- The reference's third result, element by element. -/
theorem ref_dg (c : Dev nD) (l : Fin 1024) : Cert.LnLossRefIdeal.Value.res_out2 m' c (ix2 0 l)
    = ∑ r : Fin 8192, cent (refZ m' c r) l * Ideal.rsqrt (vare (refZ m' c r)) * refDy m' c r l := by
  unfold Cert.LnLossRefIdeal.Value.res_out2
  pointwise [Cert.LnLossRefIdeal.Value.res_main_v78]
  simp only [Fin.sum_univ_one, Finset.univ_unique, Finset.sum_const, Finset.card_singleton, one_smul]
  rfl

/-- The reference's last result. -/
theorem ref_loss (c : Dev nD) : Cert.LnLossRefIdeal.Value.res_out4 m' c ix0
    = Ideal.ofBits .f32 0x3F000000#32 * ∑ r : Fin 8192, Ideal.div
      (∑ l : Fin 1024, (rowY (refZ m' c r) (refG m' c) (refB m' c) l - refT m' c r l)
        * (rowY (refZ m' c r) (refG m' c) (refB m' c) l - refT m' c r l)) (Ideal.ofBits .f32 0x44800000#32) := by
  unfold Cert.LnLossRefIdeal.Value.res_out4
  pointwise [Cert.LnLossRefIdeal.Value.res_main_v37]
  rfl

/-- A row of real numbers is normalised, scaled and shifted to real numbers. -/
theorem rowY_real (z g b : Fin 1024 → ℝ) : ∃ y : Fin 1024 → ℝ,
    rowY (fun k => (z k : EReal)) (fun k => (g k : EReal)) (fun k => (b k : EReal)) = fun l => (y l : EReal) := by
  obtain ⟨v, hv, ev⟩ := vare_real z
  refine ⟨fun l => (z l - (∑ k, z k) / 1024) * (Real.sqrt v)⁻¹ * g l + b l, funext fun l => ?_⟩
  simp only [rowY, ev, rsqrt_real hv, cent_real, ← EReal.coe_mul, ← EReal.coe_add]

/-- On real numbers the loss's two gradients are the same real numbers. -/
theorem lossD_real (y t : Fin 1024 → ℝ) :
    lossD (fun k => (y k : EReal)) (fun k => (t k : EReal)) = (fun l => (((y l - t l) / 1024 : ℝ) : EReal))
    ∧ refD (fun k => (y k : EReal)) (fun k => (t k : EReal)) = (fun l => (((y l - t l) / 1024 : ℝ) : EReal)) := by
  constructor <;> funext l
  · simp only [lossD, cRecip1024, ← EReal.coe_sub, ← EReal.coe_mul]
    exact congrArg _ (by ring)
  · have d1024 : ∀ x : ℝ, Ideal.div (x : EReal) ((1024 : ℝ) : EReal) = ((x / 1024 : ℝ) : EReal) := div_real (by norm_num)
    simp only [refD, cHalf, c2, c1024, ← EReal.coe_sub, ← EReal.coe_mul, d1024]
    exact congrArg _ (by ring)

/-- What the precondition says: the arguments are real numbers. -/
theorem finite (h : Cert.Pre_LnLossIdeal_finite_loss (hPre_finite_loss := Cert.Pre_finite_loss.Gen.facts) m) (c : Dev nD) :
    ∃ (z t : Fin 8192 → Fin 1024 → ℝ) (g b : Fin 1024 → ℝ), (∀ r, argZ m c r = fun k => (z r k : EReal))
      ∧ (∀ r, argT m c r = fun k => (t r k : EReal)) ∧ (argG m c = fun k => (g k : EReal)) ∧ (argB m c = fun k => (b k : EReal)) := by
  have key : ∀ (r : Fin 8192) (l : Fin 1024), (∃ x : ℝ, argZ m c r l = (x : EReal)) ∧ (∃ x : ℝ, argT m c r l = (x : EReal))
      ∧ (∃ x : ℝ, argG m c l = (x : EReal)) ∧ (∃ x : ℝ, argB m c l = (x : EReal)) := by
    intro r l
    have e := congrFun (h c) (ix2 r l)
    unfold Cert.Pre_finite_loss.fn at e
    pointwise at e
    obtain ⟨e1, e4⟩ := and_one e
    obtain ⟨e1, e3⟩ := and_one e1
    obtain ⟨e1, e2⟩ := and_one e1
    exact ⟨real_of_abs (ofBool_one e1), real_of_abs (ofBool_one e4), real_of_abs (ofBool_one e2), real_of_abs (ofBool_one e3)⟩
  choose z hz using fun r l => (key r l).1
  choose t ht using fun r l => (key r l).2.1
  choose g hg using fun r l => (key r l).2.2.1
  choose b hb using fun r l => (key r l).2.2.2
  exact ⟨z, t, g 0, b 0, fun r => funext (hz r), fun r => funext (ht r), funext (hg 0), funext (hb 0)⟩

/-- The run of the call and the line after it, with every result named. -/
theorem run_named (ρ : Dev nD → PrngReg) : θ_run defs (onTc (τ := τ) (main (F := Ideal))) ⟨m, fun _ => 0, ρ⟩ fun r => ∀ c : Dev nD,
      r.2.mem ((c.tc : Thread nD τ).loc main_v25_0) = dzArr m c
      ∧ r.2.mem ((c.tc : Thread nD τ).loc main_v25_1) = dzArr m c
      ∧ r.2.mem ((c.tc : Thread nD τ).loc main_v25_2) = dgArr m c
      ∧ r.2.mem ((c.tc : Thread nD τ).loc main_v25_3) = dbArr m c
      ∧ r.2.mem ((c.tc : Thread nD τ).loc main_v26) = (fun _ => ∑ k : Fin 1024, lossArr m c (ix2 0 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final_dz m c), ((h.1 c).1 5).trans (final_dzb m c),
      ((h.1 c).1 6).trans (final_dg m c), ((h.1 c).1 7).trans (final_db m c),
      ((h.1 c).2 main_v26 (Pipeline.mem_restRefs_of main_v26 (by decide) (by decide))).trans
        (funext fun i => by rw [show i = ix0 from funext fun k => k.elim0]; exact tail_loss m c), h.2 c⟩)
    (θ_run_and (run_main m ρ) (unchanged m ρ))

/-- On real numbers the loss's parts sum to the reference's loss. -/
theorem loss_eq (e : Fin 8192 → Fin 1024 → ℝ) :
    ∑ l : Fin 1024, ∑ t : Fin cfg0.N, (∑ r : Fin 512, (e (row t r) l : EReal) * (e (row t r) l : EReal)) * Ideal.ofBits .f32 0x3A000000#32
      = Ideal.ofBits .f32 0x3F000000#32 * ∑ r : Fin 8192, Ideal.div (∑ l : Fin 1024, (e r l : EReal) * (e r l : EReal))
          (Ideal.ofBits .f32 0x44800000#32) := by
  have d1024 : ∀ x : ℝ, Ideal.div (x : EReal) ((1024 : ℝ) : EReal) = ((x / 1024 : ℝ) : EReal) := div_real (by norm_num)
  simp only [cHalf, cHalfRecip1024, c1024, ← EReal.coe_mul, sum_coe, d1024]
  refine congrArg _ ?_
  have h : ∀ l, ∑ t : Fin cfg0.N, (∑ r : Fin 512, e (row t r) l * e (row t r) l) * (1 / 2048)
      = ∑ r : Fin 8192, e r l * e r l * (1 / 2048) := by
    intro l
    simp only [Finset.sum_mul]
    exact Fin.sum_mul_add_congr fun s k hl => rfl
  rw [Finset.sum_congr rfl fun l _ => h l, Finset.sum_comm, Finset.mul_sum]
  refine Finset.sum_congr rfl fun r _ => ?_
  rw [← Finset.sum_mul]
  ring

/-- The value claim of the last layer's norm with the loss: where the arguments are finite, kernel and reference end with equal
    results. -/
theorem algebraic : Cert.algebraic_LnLossIdeal_LnLossRefIdeal_pre_finite_loss
    (hLnLossIdeal := Cert.LnLossIdeal.Gen.facts) (hLnLossRefIdeal := Cert.LnLossRefIdeal.Gen.facts)
    (hPre_finite_loss := Cert.Pre_finite_loss.Gen.facts) := by
  intro m g m' g' hpre hagree
  have key : ∀ c : Dev nD, Cert.LnLossRefIdeal.Value.res_out0 m' c = dzArr m c
      ∧ Cert.LnLossRefIdeal.Value.res_out2 m' c = dgArr m c
      ∧ (∀ l, ∑ r : Fin 8192, refDy m' c r l = ∑ r : Fin 8192, dArr m c r l)
      ∧ Cert.LnLossRefIdeal.Value.res_out4 m' c ix0 = ∑ k : Fin 1024, lossArr m c (ix2 0 k) := by
    intro c
    obtain ⟨z, t, s, b, hz, ht, hs, hb⟩ := finite m hpre c
    have ez : ∀ r, refZ m' c r = argZ m c r := fun r => funext fun k => congrFun (hagree c).1 (ix2 r k)
    have eg : refG m' c = argG m c := funext fun k => congrFun (hagree c).2.1 (ix1 k)
    have eb : refB m' c = argB m c := funext fun k => congrFun (hagree c).2.2.1 (ix1 k)
    have et : ∀ r, refT m' c r = argT m c r := fun r => funext fun k => congrFun (hagree c).2.2.2 (ix2 r k)
    choose y hy using fun r => rowY_real (z r) s b
    have hY : ∀ r, yArr m c r = fun l => (y r l : EReal) := fun r => by rw [yArr, hz, hs, hb, hy]
    have hd : ∀ r, dArr m c r = fun l => (((y r l - t r l) / 1024 : ℝ) : EReal) := fun r => by
      rw [dArr, hY, ht]; exact (lossD_real _ _).1
    have hr : ∀ r, refDy m' c r = fun l => (((y r l - t r l) / 1024 : ℝ) : EReal) := fun r => by
      rw [refDy, ez, eg, eb, et, hz, hs, hb, ht, hy]; exact (lossD_real _ _).2
    refine ⟨funext fun i => ?_, funext fun i => ?_, fun l => ?_, ?_⟩
    · idx_vars i
      rw [ref_dz, hr, ez, eg]
      show _ = rowDz (argZ m c i0) (dArr m c i0) (argG m c) i1
      rw [hd, hz, hs]
      exact (rowDz_eq _ _ _ _).symm
    · idx_vars i
      obtain rfl : i0 = 0 := Subsingleton.elim _ _
      rw [ref_dg]
      show _ = ∑ r : Fin 8192, dArr m c r i1 * (cent (argZ m c r) i1 * Ideal.rsqrt (vare (argZ m c r)))
      refine Finset.sum_congr rfl fun r _ => ?_
      rw [hr, hd, ez]
      exact mul_comm _ _
    · simp only [hr, hd]
    · rw [ref_loss]
      have e1 : ∀ r, rowY (refZ m' c r) (refG m' c) (refB m' c) = fun l => (y r l : EReal) := fun r => by
        rw [ez, eg, eb, hz, hs, hb, hy]
      have e3 : ∀ k, lossArr m c (ix2 0 k) = ∑ t : Fin cfg0.N, partArr m c t k := fun k => rfl
      have e4 : ∀ r k, refT m' c r k = (t r k : EReal) := fun r k => by rw [et, ht]
      have e5 : ∀ r k, argT m c r k = (t r k : EReal) := fun r k => by rw [ht]
      simp only [e3, partArr, e1, e4, e5, hY, ← EReal.coe_sub]
      exact (loss_eq fun r l => y r l - t r l).symm
  refine ⟨_, _, _, _, _, run_named m g,
    (θ_run _ _ _).mono (fun _ h c => ⟨(h c).1.trans (key c).1,
      (h c).2.1.trans (funext fun i => (ref_dzb m' c i).trans (congrFun (key c).1 i)),
      (h c).2.2.1.trans (key c).2.1, (h c).2.2.2.1.trans ?_,
      (h c).2.2.2.2.1.trans (funext fun i => by rw [show i = ix0 from funext fun k => k.elim0]; exact (key c).2.2.2),
      (h c).2.2.2.2.2⟩) (Cert.LnLossRefIdeal.Value.run m' g')⟩
  refine funext fun j => ?_
  unfold dbArr
  idx_vars j
  rw [← (key c).2.2.1]
  pointwise
  simp only [Fin.sum_univ_one, Finset.univ_unique, Finset.sum_const, Finset.card_singleton, one_smul]
  rfl

end Cert.LnLossIdeal.Val
end
-- ==== Proof.ScRun.lean ====
/- The run of the gated short convolution's backward call, at any float values: what its three outputs and the eight rows it carries
   from one grid point to the next hold after every point, and that the whole program ends with its arguments unchanged. -/
module

public import proofs.«01_k».proof.Proof.Gen.ScBwdIdeal.Frame.RunC
public import Idealize.ShloMosaic.Lib.Claim

@[expose] public section

set_option maxRecDepth 16384

noncomputable section

namespace Cert.ScBwdIdeal.Run

open Cert.ScBwdIdeal Cert.ScBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The contents of the three outputs' buffers and of the carried rows. -/
abbrev St (F : FTy → Type) [FloatOps F] : Type :=
  Vec F S3x256x1024 .bf16 × Vec F S3x1024 .f32 × Vec F S1x1024 .f32 × Vec F S8x1024 .f32

/-- The contents given by the pieces stored. -/
def read4 (L8 : List (View.Piece (Elt F) S3x256x1024 .bf16)) (L9 : List (View.Piece (Elt F) S3x1024 .f32))
    (L10 : List (View.Piece (Elt F) S1x1024 .f32)) (LS : List (View.Piece (Elt F) S8x1024 .f32)) : St F :=
  (VO0_8.read (Elt F) (VO0_8.writes (Elt F) VO0_8.junk L8), VO0_9.read (Elt F) (VO0_9.writes (Elt F) VO0_9.junk L9),
    VO0_10.read (Elt F) (VO0_10.writes (Elt F) VO0_10.junk L10), VS0_0.read (Elt F) (VS0_0.writes (Elt F) VS0_0.junk LS))

/-- The pieces stored cover each buffer. -/
def Covers (L8 : List (View.Piece (Elt F) S3x256x1024 .bf16)) (L9 : List (View.Piece (Elt F) S3x1024 .f32))
    (L10 : List (View.Piece (Elt F) S1x1024 .f32)) (LS : List (View.Piece (Elt F) S8x1024 .f32)) : Prop :=
  (∀ y, ∃ pc ∈ L8, y ∈ pc.1.set) ∧ (∀ y, ∃ pc ∈ L9, y ∈ pc.1.set) ∧ (∀ y, ∃ pc ∈ L10, y ∈ pc.1.set)
    ∧ ∀ y, ∃ pc ∈ LS, y ∈ pc.1.set

/-- What the body stores at the first point: the sums and the carried rows start anew. -/
def runA (c : Dev nD) (t : Fin cfg0.N) (h0 : t.val % 32 = 0) (h1 : t.val % 8 = 0) :=
  kernelRun0_A (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) scM0_0 (Memref.isWhole_whole _) ((hcond0_0 t).mpr h0) ((hcond0_1 t).mpr h1) (iblk m c 0 t)
    (iblk m c 1 t) (iblk m c 2 t) (iblk m c 3 t) (iblk m c 4 t) (iblk m c 5 t) (iblk m c 6 t) (iblk m c 7 t)

/-- Those stores cover the three outputs and the carried rows. -/
theorem runA_covers (c : Dev nD) (t : Fin cfg0.N) (h0 : t.val % 32 = 0) (h1 : t.val % 8 = 0) :
    Covers (runA m c t h0 h1).1 (runA m c t h0 h1).2.1 (runA m c t h0 h1).2.2.1
      (runA m c t h0 h1).2.2.2.1 :=
  ⟨View.cover_of_tiledL _ S1x256x1024.size (by sl_kernel_rfl), View.cover_of_tiledBy _ ![1, 1024] (by sl_kernel_rfl),
    View.cover_of_tiledL _ S1x1024.size (by sl_kernel_rfl), View.cover_of_tiledL _ S8x1024.size (by sl_kernel_rfl)⟩

/-- What they leave. -/
def leftA (c : Dev nD) (t : Fin cfg0.N) (h0 : t.val % 32 = 0) (h1 : t.val % 8 = 0) : St F :=
  read4 (runA m c t h0 h1).1 (runA m c t h0 h1).2.1 (runA m c t h0 h1).2.2.1
    (runA m c t h0 h1).2.2.2.1

/-- What the body stores at a point inside a sequence: the sums and the carried rows go on. -/
def runB (c : Dev nD) (t : Fin cfg0.N) (h0 : ¬t.val % 32 = 0) (h1 : ¬t.val % 8 = 0) (p9 : Vec F S3x1024 .f32) (p10 : Vec F S1x1024 .f32) (ps : Vec F S8x1024 .f32) :=
  kernelRun0_B (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) scM0_0 (Memref.isWhole_whole _) (fun h => h0 ((hcond0_0 t).mp h)) (fun h => h1 ((hcond0_1
    t).mp h)) (iblk m c 0 t) (iblk m c 1 t) (iblk m c 2 t) (iblk m c 3 t) (iblk m c 4 t) (iblk m c 5 t) (iblk m c 6
    t) (iblk m c 7 t) p9 p10 ps

/-- Those stores cover the three outputs and the carried rows. -/
theorem runB_covers (c : Dev nD) (t : Fin cfg0.N) (h0 : ¬t.val % 32 = 0) (h1 : ¬t.val % 8 = 0) (p9 : Vec F S3x1024 .f32) (p10 : Vec F S1x1024 .f32) (ps : Vec F S8x1024 .f32) :
    Covers (runB m c t h0 h1 p9 p10 ps).1 (runB m c t h0 h1 p9 p10 ps).2.1 (runB m c t h0 h1 p9 p10 ps).2.2.1
      (runB m c t h0 h1 p9 p10 ps).2.2.2.1 :=
  ⟨View.cover_of_tiledL _ S1x256x1024.size (by sl_kernel_rfl), View.cover_of_tiledL _ S1x1024.size (by sl_kernel_rfl),
    View.cover_of_tiledL _ S1x1024.size (by sl_kernel_rfl), View.cover_of_tiledL _ S8x1024.size (by sl_kernel_rfl)⟩

/-- What they leave. -/
def leftB (c : Dev nD) (t : Fin cfg0.N) (h0 : ¬t.val % 32 = 0) (h1 : ¬t.val % 8 = 0) (p9 : Vec F S3x1024 .f32) (p10 : Vec F S1x1024 .f32) (ps : Vec F S8x1024 .f32) : St F :=
  read4 (runB m c t h0 h1 p9 p10 ps).1 (runB m c t h0 h1 p9 p10 ps).2.1 (runB m c t h0 h1 p9 p10 ps).2.2.1
    (runB m c t h0 h1 p9 p10 ps).2.2.2.1

/-- What the body stores at the last block of a later sequence: the sums go on, the carried rows start anew. -/
def runC (c : Dev nD) (t : Fin cfg0.N) (h0 : ¬t.val % 32 = 0) (h1 : t.val % 8 = 0) (p9 : Vec F S3x1024 .f32) (p10 : Vec F S1x1024 .f32) :=
  kernelRun0_C (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) scM0_0 (Memref.isWhole_whole _) (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m
    c 7 t) p9 p10

/-- Those stores cover the three outputs and the carried rows. -/
theorem runC_covers (c : Dev nD) (t : Fin cfg0.N) (h0 : ¬t.val % 32 = 0) (h1 : t.val % 8 = 0) (p9 : Vec F S3x1024 .f32) (p10 : Vec F S1x1024 .f32) :
    Covers (runC m c t h0 h1 p9 p10).1 (runC m c t h0 h1 p9 p10).2.1 (runC m c t h0 h1 p9 p10).2.2.1
      (runC m c t h0 h1 p9 p10).2.2.2.1 :=
  ⟨View.cover_of_tiledL _ S1x256x1024.size (by sl_kernel_rfl), View.cover_of_tiledL _ S1x1024.size (by sl_kernel_rfl),
    View.cover_of_tiledL _ S1x1024.size (by sl_kernel_rfl), View.cover_of_tiledL _ S8x1024.size (by sl_kernel_rfl)⟩

/-- What they leave. -/
def leftC (c : Dev nD) (t : Fin cfg0.N) (h0 : ¬t.val % 32 = 0) (h1 : t.val % 8 = 0) (p9 : Vec F S3x1024 .f32) (p10 : Vec F S1x1024 .f32) : St F :=
  read4 (runC m c t h0 h1 p9 p10).1 (runC m c t h0 h1 p9 p10).2.1 (runC m c t h0 h1 p9 p10).2.2.1
    (runC m c t h0 h1 p9 p10).2.2.2.1

/-- What point `t` leaves, over what the point before left. -/
def step (c : Dev nD) (t : Fin cfg0.N) (p : St F) : St F :=
  if h1 : t.val % 8 = 0 then
    if h0 : t.val % 32 = 0 then leftA m c t h0 h1 else leftC m c t h0 h1 p.2.1 p.2.2.1
  else leftB m c t (by omega) h1 p.2.1 p.2.2.1 p.2.2.2

/-- What the buffers hold after point `n`. -/
def outs (c : Dev nD) : (n : ℕ) → n < cfg0.N → St F
  | 0, h => step m c ⟨0, h⟩ (read4 [] [] [] [])
  | n + 1, h => step m c ⟨n + 1, h⟩ (outs c n (by omega))

/-- The point before `t`'s. -/
abbrev before (c : Dev nD) (t : Fin cfg0.N) : St F := outs m c (t.val - 1) (Nat.lt_of_le_of_lt (Nat.sub_le _ _) t.isLt)

/-- After a point that is not the first. -/
theorem outs_pos (c : Dev nD) (t : Fin cfg0.N) (h : t.val ≠ 0) :
    outs m c t.val t.isLt = step m c t (before m c t) := by
  obtain ⟨n, hn⟩ := t
  cases n with
  | zero => exact absurd rfl h
  | succ n => rfl

/-- After the first point. -/
theorem outs_A (c : Dev nD) (t : Fin cfg0.N) (h0 : t.val % 32 = 0) (h1 : t.val % 8 = 0) :
    outs m c t.val t.isLt = leftA m c t h0 h1 := by
  have hs : ∀ p, step m c t p = leftA m c t h0 h1 := fun p => (dif_pos h1).trans (dif_pos h0)
  by_cases h : t.val = 0
  · obtain ⟨n, hn⟩ := t
    obtain rfl : n = 0 := h
    exact hs _
  · rw [outs_pos m c t h, hs]

/-- After a point inside a sequence. -/
theorem outs_B (c : Dev nD) (t : Fin cfg0.N) (h0 : ¬t.val % 32 = 0) (h1 : ¬t.val % 8 = 0) :
    outs m c t.val t.isLt = leftB m c t h0 h1 (before m c t).2.1 (before m c t).2.2.1 (before m c t).2.2.2 := by
  rw [outs_pos m c t (by omega)]
  exact dif_neg h1

/-- After the last block of a later sequence. -/
theorem outs_C (c : Dev nD) (t : Fin cfg0.N) (h0 : ¬t.val % 32 = 0) (h1 : t.val % 8 = 0) :
    outs m c t.val t.isLt = leftC m c t h0 h1 (before m c t).2.1 (before m c t).2.2.1 := by
  rw [outs_pos m c t (by omega)]
  exact (dif_pos h1).trans (dif_neg h0)

/-- What holds between the points: the carried rows at what the point before left, and the generator's register. -/
def Inv (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (outs m c n hn).2.2.2) ∗ (∃ r, prngReg c r))

/-- The same at a point that is not the first. -/
theorem Inv_pos (c : Dev nD) (n : ℕ) (h : n ≤ cfg0.N) (hz : n ≠ 0) :
    Inv m c n h = iprop(iprop(owns (c : Thread nD τ) scM0_0 fullShare (outs m c (n - 1) (by omega)).2.2.2)
      ∗ (∃ r, prngReg c r)) := by
  cases n with
  | zero => exact absurd rfl hz
  | succ n => rfl

/-- The data of the run: the arrays as the call finds them, the inputs' buffers at their blocks, the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_8 (c : Dev nD) (t : Fin cfg0.N) : (dats m 0 c).after 8 t = (outs m c t.val t.isLt).1 := by
  dsimp only [dats]

theorem after0_9 (c : Dev nD) (t : Fin cfg0.N) : (dats m 0 c).after 9 t = (outs m c t.val t.isLt).2.1 := by
  dsimp only [dats]

theorem after0_10 (c : Dev nD) (t : Fin cfg0.N) : (dats m 0 c).after 10 t = (outs m c t.val t.isLt).2.2.1 := by
  dsimp only [dats]

/-- The inputs' buffers hold their blocks after the body, -/
theorem after_in (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t ∧ (dats m 0 c).after 5 t = iblk m c 5 t ∧ (dats m 0 c).after 6 t = iblk m c 6 t ∧ (dats m 0 c).after 7 t = iblk m c 7 t := by
  dsimp only [dats]
  exact ⟨rfl, rfl, rfl, rfl, rfl, rfl, rfl, rfl⟩

/-- and before it. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) :=
  ⟨before0_0_of m _ (A_eq m c 0) (fun t => (after_in m c t).1) t, before0_1_of m _ (A_eq m c 1) (fun t => (after_in m c t).2.1) t, before0_2_of m _ (A_eq m c 2) (fun t => (after_in m c t).2.2.1) t, before0_3_of m _ (A_eq m c 3) (fun t => (after_in m c t).2.2.2.1) t, before0_4_of m _ (A_eq m c 4) (fun t => (after_in m c t).2.2.2.2.1) t, before0_5_of m _ (A_eq m c 5) (fun t => (after_in m c t).2.2.2.2.2.1) t, before0_6_of m _ (A_eq m c 6) (fun t => (after_in m c t).2.2.2.2.2.2.1) t, before0_7_of m _ (A_eq m c 7) (fun t => (after_in m c t).2.2.2.2.2.2.2) t⟩

/-- The sums' buffers hold, at a point that is not the first, what the point before left. -/
theorem before_out (c : Dev nD) (t : Fin cfg0.N) (h : ¬t.val % 32 = 0) :
    (∀ d, (dats m 0 c).before 9 t d = (before m c t).2.1) ∧ ∀ d, (dats m 0 c).before 10 t d = (before m c t).2.2.1 := by
  have hN : t.val < 32 := lt_of_lt_of_eq t.isLt (show cfg0.N = 32 from N_0)
  refine ⟨fun d => ?_, fun d => ?_⟩
  · rw [Dat.before_out_kept _ 9 rfl t (by omega)
      (Bool.eq_false_iff.mpr fun h => by have := (flush0_9 _).mp h; dsimp only at this; omega) (fun _ => rfl) (fun _ _ => rfl)]
    dsimp only [dats]
  · rw [Dat.before_out_kept _ 10 rfl t (by omega)
      (Bool.eq_false_iff.mpr fun h => by have := (flush0_10 _).mp h; dsimp only at this; omega) (fun _ => rfl) (fun _ _ => rfl)]
    dsimp only [dats]

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2000000 in
/-- The body at a point, from a run of it that stores the pieces `L8`, `L9`, `L10`, `LS`. -/
theorem body_of_run (c : Dev nD) (t : Fin cfg0.N) (P9 P10 PS0 PS : sProp (MT nD τ sig Unit (Elt F) ℕ (UR sig nD τ) ℕ))
    (L8 : List (View.Piece (Elt F) S3x256x1024 .bf16)) (L9 : List (View.Piece (Elt F) S3x1024 .f32))
    (L10 : List (View.Piece (Elt F) S1x1024 .f32)) (LS : List (View.Piece (Elt F) S8x1024 .f32)) (hc : Covers L8 L9 L10 LS)
    (hL : outs m c t.val t.isLt = read4 L8 L9 L10 LS)
    (h9 : ∀ d, owns (c : Thread nD τ) (ms0_9 t) fullShare ((dats m 0 c).before 9 t d) ⊢ P9)
    (h10 : ∀ d, owns (c : Thread nD τ) (ms0_10 t) fullShare ((dats m 0 c).before 10 t d) ⊢ P10)
    (hS : (dats m 0 c).Φ t.castSucc = iprop(PS0 ∗ (∃ r, prngReg c r))) (hS' : PS0 ⊢ PS)
    (run : ∀ (E : Set ℕ) (K : PUnit → sProp (MT nD τ sig Unit (Elt F) ℕ (UR sig nD τ) ℕ)),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ P9 ∗ P10 ∗ PS
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t)
          ∗ (∃ f, (ms0_8 t).view.loc (c : Thread nD τ) ↦[(ms0_8 t).view.set]{fullShare} (ms0_8 t).view.writes (Elt F) f L8)
          ∗ (∃ f, (ms0_9 t).view.loc (c : Thread nD τ) ↦[(ms0_9 t).view.set]{fullShare} (ms0_9 t).view.writes (Elt F) f L9)
          ∗ (∃ f, (ms0_10 t).view.loc (c : Thread nD τ) ↦[(ms0_10 t).view.set]{fullShare} (ms0_10 t).view.writes (Elt F) f L10)
          ∗ (∃ f, scM0_0.view.loc (c : Thread nD τ) ↦[scM0_0.view.set]{fullShare} scM0_0.view.writes (Elt F) f LS)) -∗ K ⟨⟩))
      ⊢ wp frame (wpE (defs₀ (F := F)) Variants.none c none) E (bodyAt0 t) K) :
    bodyPre m c t ⊢ wp frame (wpE (defs₀ (F := F)) Variants.none c none) Set.univ (bodyAt0 t) (fun _ => bodyPost m c t) := by
  obtain ⟨c8, c9, c10, cS⟩ := hc
  obtain ⟨a0, a1, a2, a3, a4, a5, a6, a7⟩ := after_in m c t
  obtain ⟨b0, b1, b2, b3, b4, b5, b6, b7⟩ := before_in m c t
  unfold bodyPre bodyPost
  simp only [b0, b1, b2, b3, b4, b5, b6, b7]
  rw [show (dats m 0 c).owesAt () t.succ = (dats m 0 c).owesAt () t.castSucc from rfl,
    a0, a1, a2, a3, a4, a5, a6, a7, after0_8, after0_9, after0_10, hS,
    show (dats m 0 c).Φ t.succ
      = iprop(iprop(owns (c : Thread nD τ) scM0_0 fullShare (outs m c t.val t.isLt).2.2.2) ∗ (∃ r, prngReg c r)) from rfl, hL]
  unfold read4
  dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iapply (h9 d9); iexact H9
  isplitl [H10]; · iapply (h10 d10); iexact H10
  isplitl [HS]; · iapply hS'; iexact HS
  iintro ⟨H0, H1, H2, H3, H4, H5, H6, H7, ⟨%e8, H8⟩, ⟨%e9, H9⟩, ⟨%e10, H10⟩, ⟨%eS, HS⟩⟩
  isplitl [HS Hg]
  · isplitl [HS]
    · unfold owns; iexists _; isplitr
      swap; · iexact HS
      ipureintro; exact View.read_writes_of_cover _ _ _ _ _ cS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ c8
  isplitl [H9]
  · unfold owns; iexists _; isplitr
    swap; · iexact H9
    ipureintro; exact View.read_writes_of_cover _ _ _ _ _ c9
  unfold owns; iexists _; isplitr
  swap; · iexact H10
  ipureintro; exact View.read_writes_of_cover _ _ _ _ _ c10

/-- A buffer at known contents is a buffer at some contents. -/
theorem some_contents {sh : Shape} {e : EltTy} (c : Dev nD) (M : Memref sig .tc .vmem sh e) (d : Vec F sh e) :
    (owns (c : Thread nD τ) M fullShare d : sProp (MT nD τ sig Unit (Elt F) ℕ (UR sig nD τ) ℕ))
      ⊢ iprop(∃ d, owns (c : Thread nD τ) M fullShare d) := by
  iintro H
  iexists _
  iexact H

set_option maxHeartbeats 800000 in
/-- The body at every point. -/
theorem body_at (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hΦ : (dats m 0 c).Φ t.castSucc = Inv m c t.val (Nat.le_of_lt t.isLt) := by
    dsimp only [dats]; exact Pipeline.Dat.Φ_castSucc (Inv m c) t
  by_cases h1 : t.val % 8 = 0
  · by_cases h0 : t.val % 32 = 0
    · refine body_of_run m c t _ _ _ _ (runA m c t h0 h1).1 (runA m c t h0 h1).2.1 (runA m c t h0 h1).2.2.1
        (runA m c t h0 h1).2.2.2.1 (runA_covers m c t h0 h1) (outs_A m c t h0 h1) (fun d => some_contents c _ _)
        (fun d => some_contents c _ _) ?_ .rfl (fun E K => by unfold bodyAt0; exact (runA m c t h0 h1).2.2.2.2 E K)
      have hz : t.val = 0 := by omega
      rw [hΦ, ← PhiA0_eq]
      simp only [hz]
      rfl
    · exact body_of_run m c t _ _ _ _ (runC m c t h0 h1 (before m c t).2.1 (before m c t).2.2.1).1 (runC m c t h0 h1 (before m c t).2.1 (before m c t).2.2.1).2.1 (runC m c t h0 h1 (before m c t).2.1 (before m c t).2.2.1).2.2.1
        (runC m c t h0 h1 (before m c t).2.1 (before m c t).2.2.1).2.2.2.1 (runC_covers m c t h0 h1 (before m c t).2.1 (before m c t).2.2.1) (outs_C m c t h0 h1)
        (fun d => by rw [(before_out m c t h0).1]) (fun d => by rw [(before_out m c t h0).2])
        (hΦ.trans (Inv_pos m c _ _ (by omega))) (some_contents c _ _)
        (fun E K => by unfold bodyAt0; exact (runC m c t h0 h1 (before m c t).2.1 (before m c t).2.2.1).2.2.2.2 E K)
  · have h0 : ¬t.val % 32 = 0 := by omega
    exact body_of_run m c t _ _ _ _ (runB m c t h0 h1 (before m c t).2.1 (before m c t).2.2.1 (before m c t).2.2.2).1 (runB m c t h0 h1 (before m c t).2.1 (before m c t).2.2.1 (before m c t).2.2.2).2.1 (runB m c t h0 h1 (before m c t).2.1 (before m c t).2.2.1 (before m c t).2.2.2).2.2.1
        (runB m c t h0 h1 (before m c t).2.1 (before m c t).2.2.1 (before m c t).2.2.2).2.2.2.1 (runB_covers m c t h0 h1 (before m c t).2.1 (before m c t).2.2.1 (before m c t).2.2.2) (outs_B m c t h0 h1)
      (fun d => by rw [(before_out m c t h0).1]) (fun d => by rw [(before_out m c t h0).2])
      (hΦ.trans (Inv_pos m c _ _ (by omega))) .rfl
      (fun E K => by unfold bodyAt0; exact (runB m c t h0 h1 (before m c t).2.1 (before m c t).2.2.1 (before m c t).2.2.2).2.2.2.2 E K)

/-- The obligation of the launch. -/
theorem body_obligation (c : Dev nD) : BodyObligation (dats (F := F) m 0 c) (defs₀ (F := F)) Variants.none () Set.univ :=
  fun t => by
    rw [bigSep_W0, bigSep_W0,
      show defs₀ (F := F) .tc cfg0.body (cfg0.bodyArgs t (cfg0.slots t)) = bodyAt0 t by unfold defs₀; rw [Defs.onTc_tc]]
    exact triple_restated (body_at m c t) rfl .rfl fun _ => .rfl

/-- What the launch hands over is what holds before the first point, -/
theorem hin (c : Dev nD) : Pipeline.ΦA spec0 c ⊢ (dats m 0 c).Φ 0 := Idealize.SL.BI.Entails.refl _

/-- and what holds after the last gives it back. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 32 := N_0; omega), PhiA0_eq]
  iintro ⟨HS, Hg⟩
  isplitl [HS]
  · iexists _; iexact HS
  iexact Hg

set_option backward.isDefEq.respectTransparency.types false in
/-- The run: every array ends at what the points wrote, every semaphore at zero. -/
theorem run_quiet : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run with the arrays alone. -/
theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.ScBwdIdeal.Run

end
-- ==== Proof.ConvMath.lean ====
/- The causal convolution over three rows of a sequence of 2048 rows, and its gradients, row by row and lane by lane. -/
module
public import proofs.«01_k».proof.Proof.Reals
public import Idealize.ShloMosaic.Lib.Pipeline.ValueKit

@[expose] public section
noncomputable section
open Idealize.ShloMosaic
open scoped BigOperators

namespace Cert.ScMath

variable {n : ℕ}

/-- Row `k` before row `r` of its sequence (zero before the sequence's first row). -/
def prev (p : ℕ → Fin n → EReal) (k r : ℕ) (l : Fin n) : EReal := if r % 2048 < k then 0 else p (r - k) l

/-- Row `k` after row `r` of its sequence (zero after the sequence's last row). -/
def next (d : ℕ → Fin n → EReal) (k r : ℕ) (l : Fin n) : EReal := if r % 2048 + k < 2048 then d (r + k) l else 0

/-- The convolution's output at row `r`. -/
def uRow (p : ℕ → Fin n → EReal) (w : Fin 3 → Fin n → EReal) (b : Fin n → EReal) (r : ℕ) (l : Fin n) : EReal :=
  b l + w 0 l * prev p 2 r l + w 1 l * prev p 1 r l + w 2 l * p r l

/-- The gradient of the convolution's input at row `r`. -/
def dpRow (d : ℕ → Fin n → EReal) (w : Fin 3 → Fin n → EReal) (r : ℕ) (l : Fin n) : EReal :=
  w 2 l * d r l + w 1 l * next d 1 r l + w 0 l * next d 2 r l

/-- A row's part of the gradient of tap `k`. -/
def dwRow (d p : ℕ → Fin n → EReal) (k : Fin 3) (r : ℕ) (l : Fin n) : EReal := d r l * prev p (2 - k.val) r l

/-- A sum over the first two of three axes, from an initial value. -/
theorem sum01 {a b c : ℕ} (h : (⟨3, ![a, b, c]⟩ : Shape).ReducesTo [0, 1] ⟨1, ![c]⟩) (v : (⟨3, ![a, b, c]⟩ : Shape).Idx → EReal)
    (z : EReal) (l : Fin c) : Ideal.hostReduceAdd h v z (ix1 l) = z + ∑ i : Fin a, ∑ k : Fin b, v (ix3 i k l) := by
  unfold Ideal.hostReduceAdd
  rw [← Fintype.sum_prod_type' (fun (i : Fin a) (k : Fin b) => v (ix3 i k l))]
  refine congrArg _ (Finset.sum_filter_eq_sum_of_fiber _ (fun p : Fin a × Fin b => ix3 p.1 p.2 l)
    (fun p q e => Prod.ext (congrFun e 0) (congrFun e 1)) (fun i => ⟨fun e => ⟨(i 0, i 1), ?_⟩, ?_⟩) v)
  · funext d
    match d with
    | ⟨0, _⟩ => rfl
    | ⟨1, _⟩ => rfl
    | ⟨2, _⟩ => exact Fin.ext (congrArg Fin.val (congrFun e 0)).symm
  · rintro ⟨p, rfl⟩
    funext d
    match d with
    | ⟨0, _⟩ => rfl

/-- No row back is the row itself. -/
theorem prev_zero (p : ℕ → Fin n → EReal) (r : ℕ) (l : Fin n) : prev p 0 r l = p r l := by
  unfold prev
  rw [if_neg (Nat.not_lt_zero _), Nat.sub_zero]

/-- A sum over sequences and their rows is a sum over rows. -/
theorem sum_seq (f : ℕ → EReal) : ∑ b : Fin 4, ∑ t : Fin 2048, f (b.val * 2048 + t.val) = ∑ r : Fin 8192, f r.val :=
  Fin.sum_mul_add_congr fun _ _ _ => rfl

end Cert.ScMath
end
-- ==== Proof.ScRef.lean ====
/- The reference's side of the gated short convolution's backward call, element by element. -/
module
public import proofs.«01_k».proof.Defs
public import proofs.«01_k».proof.Proof.Gen.ScBwdRefIdeal
public import proofs.«01_k».proof.Proof.Gen.ScBwdRefIdeal.Run
public import proofs.«01_k».proof.Proof.ConvMath
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open scoped BigOperators

namespace Cert.ScMath

/-- Part `s` of the first argument at row `r` (zero past the last row). -/
def gate (H : Fin 8192 → Fin 3072 → EReal) (s : Fin 3) (r : ℕ) (l : Fin 1024) : EReal :=
  if h : r < 8192 then H ⟨r, h⟩ ⟨s.val * 1024 + l.val, by have := s.isLt; have := l.isLt; omega⟩ else 0

/-- The output's gradient at row `r` (zero past the last row). -/
def rowQ (Q : Fin 8192 → Fin 1024 → EReal) (r : ℕ) (l : Fin 1024) : EReal := if h : r < 8192 then Q ⟨r, h⟩ l else 0

/-- The gated input at row `r`, -/
def pRow (H : Fin 8192 → Fin 3072 → EReal) (r : ℕ) (l : Fin 1024) : EReal := gate H 1 r l * gate H 2 r l

/-- and the gradient of the convolution's output. -/
def dRow (H : Fin 8192 → Fin 3072 → EReal) (Q : Fin 8192 → Fin 1024 → EReal) (r : ℕ) (l : Fin 1024) : EReal :=
  gate H 0 r l * rowQ Q r l

/-- The gradient of the first argument: part `s` of row `r`. -/
def dhAt (H : Fin 8192 → Fin 3072 → EReal) (Q : Fin 8192 → Fin 1024 → EReal) (w : Fin 3 → Fin 1024 → EReal)
    (b : Fin 1024 → EReal) (s : Fin 3) (r : ℕ) (l : Fin 1024) : EReal :=
  match s with
  | 0 => rowQ Q r l * uRow (pRow H) w b r l
  | 1 => dpRow (dRow H Q) w r l * gate H 2 r l
  | 2 => dpRow (dRow H Q) w r l * gate H 1 r l

end Cert.ScMath

namespace Cert.ScBwdRefIdeal.Val
open Cert.ScBwdRefIdeal Cert.ScBwdRefIdeal.Gen Cert.Reals Cert.ScMath

/-- The gated input with two rows of zeros before each sequence. -/
def padded (gc vv : FVec Ideal S4x2048x1024 .f32) : FVec Ideal S4x2050x1024 .f32 :=
  concatenate S4x2050x1024 1 [⟨S4x2x1024, (broadcastInDim S4x2x1024 ![] bcast_S_S4x2x1024 (constant S_ .f32 0x00000000#32))⟩,
    ⟨S4x2048x1024, (mulf gc vv)⟩] concatenates_S4x2x1024_S4x2048x1024_S4x2050x1024_d1

/-- The convolution's output. -/
def refU (gc vv : FVec Ideal S4x2048x1024 .f32) (cw : FVec Ideal S3x1024 .f32) (cb : FVec Ideal S1024 .f32) : FVec Ideal S4x2048x1024 .f32 :=
  addf (addf (addf (mulf (extractStridedSlice S4x2048x1024 ![0, 0, 0] (padded gc vv) slices_S4x2050x1024_S4x2048x1024_0_0_0)
    (broadcastInDim S4x2048x1024 ![0, 1, 2] bcast_S1x1x1024_S4x2048x1024_0_1_2 (broadcastInDim S1x1x1024 ![2]
    bcast_S1024_S1x1x1024_2 (shapeCast _ (extractStridedSlice S1x1024 ![0, 0] cw slices_S3x1024_S1x1024_0_0)
    shapeCasts_S1x1024_S1024)))) (broadcastInDim S4x2048x1024 ![0, 1, 2] bcast_S1x1x1024_S4x2048x1024_0_1_2 (broadcastInDim
    S1x1x1024 ![2] bcast_S1024_S1x1x1024_2 cb))) (mulf (extractStridedSlice S4x2048x1024 ![0, 1, 0] (padded gc vv)
    slices_S4x2050x1024_S4x2048x1024_0_1_0) (broadcastInDim S4x2048x1024 ![0, 1, 2] bcast_S1x1x1024_S4x2048x1024_0_1_2
    (broadcastInDim S1x1x1024 ![2] bcast_S1024_S1x1x1024_2 (shapeCast _ (extractStridedSlice S1x1024 ![1, 0] cw
    slices_S3x1024_S1x1024_1_0) shapeCasts_S1x1024_S1024))))) (mulf (extractStridedSlice S4x2048x1024 ![0, 2, 0] (padded gc
    vv) slices_S4x2050x1024_S4x2048x1024_0_2_0) (broadcastInDim S4x2048x1024 ![0, 1, 2] bcast_S1x1x1024_S4x2048x1024_0_1_2
    (broadcastInDim S1x1x1024 ![2] bcast_S1024_S1x1x1024_2 (shapeCast _ (extractStridedSlice S1x1024 ![2, 0] cw
    slices_S3x1024_S1x1024_2_0) shapeCasts_S1x1024_S1024))))

/-- The gradient of the convolution's input. -/
def refDp (gb dq : FVec Ideal S4x2048x1024 .f32) (cw : FVec Ideal S3x1024 .f32) : FVec Ideal S4x2048x1024 .f32 :=
  extractStridedSlice S4x2048x1024 ![0, 2, 0] (addf (addf (pad S4x2050x1024 ![0, 2, 0] ![0, 0, 0] ![0, 0, 0] (mulf (mulf gb
    dq) (broadcastInDim S4x2048x1024 ![0, 1, 2] bcast_S1x1x1024_S4x2048x1024_0_1_2 (broadcastInDim S1x1x1024 ![2]
    bcast_S1024_S1x1x1024_2 (shapeCast _ (extractStridedSlice S1x1024 ![2, 0] cw slices_S3x1024_S1x1024_2_0)
    shapeCasts_S1x1024_S1024)))) (constant S_ .f32 0x00000000#32) pads_S4x2048x1024_S4x2050x1024_000_200_000 h_S_) (pad
    S4x2050x1024 ![0, 1, 0] ![0, 1, 0] ![0, 0, 0] (mulf (mulf gb dq) (broadcastInDim S4x2048x1024 ![0, 1, 2]
    bcast_S1x1x1024_S4x2048x1024_0_1_2 (broadcastInDim S1x1x1024 ![2] bcast_S1024_S1x1x1024_2 (shapeCast _
    (extractStridedSlice S1x1024 ![1, 0] cw slices_S3x1024_S1x1024_1_0) shapeCasts_S1x1024_S1024)))) (constant S_ .f32
    0x00000000#32) pads_S4x2048x1024_S4x2050x1024_000_110_000 h_S_)) (pad S4x2050x1024 ![0, 0, 0] ![0, 2, 0] ![0, 0, 0] (mulf
    (mulf gb dq) (broadcastInDim S4x2048x1024 ![0, 1, 2] bcast_S1x1x1024_S4x2048x1024_0_1_2 (broadcastInDim S1x1x1024 ![2]
    bcast_S1024_S1x1x1024_2 (shapeCast _ (extractStridedSlice S1x1024 ![0, 0] cw slices_S3x1024_S1x1024_0_0)
    shapeCasts_S1x1024_S1024)))) (constant S_ .f32 0x00000000#32) pads_S4x2048x1024_S4x2050x1024_000_020_000 h_S_))
    slices_S4x2050x1024_S4x2048x1024_0_2_0

/-- The gradient of the call's first argument. -/
def refDh (gb gc vv dq : FVec Ideal S4x2048x1024 .f32) (cw : FVec Ideal S3x1024 .f32) (cb : FVec Ideal S1024 .f32) : FVec Ideal S3x8192x1024 .bf16 :=
  truncf .bf16 (transpose S3x8192x1024 [1, 0, 2] (shapeCast _ (shapeCast _ ((concatenate S4x2048x3072 2 [⟨S4x2048x1024,
    ((mulf dq (refU gc vv cw cb)) : (⟨S4x2048x1024, .f32⟩ : BufTy).Contents (Elt Ideal))⟩, ⟨S4x2048x1024, ((mulf (refDp gb dq cw)
    vv) : (⟨S4x2048x1024, .f32⟩ : BufTy).Contents (Elt Ideal))⟩, ⟨S4x2048x1024, ((mulf gc (refDp gb dq cw)) : (⟨S4x2048x1024,
    .f32⟩ : BufTy).Contents (Elt Ideal))⟩] concatenates_S4x2048x1024_S4x2048x1024_S4x2048x1024_S4x2048x3072_d2 : (⟨S4x2048x3072,
    .f32⟩ : BufTy).Contents (Elt Ideal))) shapeCasts_S4x2048x3072_S8192x3072) shapeCasts_S8192x3072_S8192x3x1024)
    transposes_S8192x3x1024_S3x8192x1024_1_0_2) bitsLt_bf16_f32

/-- The gradient of the taps. -/
def refDw (gb gc vv dq : FVec Ideal S4x2048x1024 .f32) : FVec Ideal S3x1024 .f32 :=
  addf (addf (pad S3x1024 ![2, 0] ![0, 0] ![0, 0] (broadcastInDim S1x1024 ![1] bcast_S1024_S1x1024_1 (Host.reduceAdd
    (shapeCast _ (Host.reduceAdd (mulf (extractStridedSlice S4x2048x1024 ![0, 2, 0] (padded gc vv)
    slices_S4x2050x1024_S4x2048x1024_0_2_0) (mulf gb dq)) (constant S_ .f32 0x00000000#32) reducesTo_S4x2048x1024_S1024_d0_1
    h_S_) shapeCasts_S1024_S1x1x1024) (constant S_ .f32 0x00000000#32) reducesTo_S1x1x1024_S1024_d0_1 h_S_)) (constant S_
    .f32 0x00000000#32) pads_S1x1024_S3x1024_200_000 h_S_) (pad S3x1024 ![1, 0] ![1, 0] ![0, 0] (broadcastInDim S1x1024 ![1]
    bcast_S1024_S1x1024_1 (Host.reduceAdd (shapeCast _ (Host.reduceAdd (mulf (extractStridedSlice S4x2048x1024 ![0, 1, 0]
    (padded gc vv) slices_S4x2050x1024_S4x2048x1024_0_1_0) (mulf gb dq)) (constant S_ .f32 0x00000000#32)
    reducesTo_S4x2048x1024_S1024_d0_1 h_S_) shapeCasts_S1024_S1x1x1024) (constant S_ .f32 0x00000000#32)
    reducesTo_S1x1x1024_S1024_d0_1 h_S_)) (constant S_ .f32 0x00000000#32) pads_S1x1024_S3x1024_110_000 h_S_)) (pad S3x1024
    ![0, 0] ![2, 0] ![0, 0] (broadcastInDim S1x1024 ![1] bcast_S1024_S1x1024_1 (Host.reduceAdd (shapeCast _ (Host.reduceAdd
    (mulf (extractStridedSlice S4x2048x1024 ![0, 0, 0] (padded gc vv) slices_S4x2050x1024_S4x2048x1024_0_0_0) (mulf gb dq))
    (constant S_ .f32 0x00000000#32) reducesTo_S4x2048x1024_S1024_d0_1 h_S_) shapeCasts_S1024_S1x1x1024) (constant S_ .f32
    0x00000000#32) reducesTo_S1x1x1024_S1024_d0_1 h_S_)) (constant S_ .f32 0x00000000#32) pads_S1x1024_S3x1024_020_000 h_S_)

variable {gb gc vv dq : FVec Ideal S4x2048x1024 .f32} {cw : FVec Ideal S3x1024 .f32} {cb : FVec Ideal S1024 .f32}
variable {p d : ℕ → Fin 1024 → EReal}

/-- A row of the padded array, read `k` rows back. -/
theorem padded_at (hp : ∀ (b : Fin 4) (t : Fin 2048) (l : Fin 1024), gc (ix3 b t l) * vv (ix3 b t l) = p (b.val * 2048 + t.val) l)
    (b : Fin 4) (t : Fin 2048) (l : Fin 1024) (k : ℕ) (n : Fin 2050) (hn : n.val + k = t.val + 2) :
    padded gc vv (ix3 b n l) = prev p k (b.val * 2048 + t.val) l := by
  have ht := t.isLt
  pointwise [padded]
  unfold prev
  rw [show (b.val * 2048 + t.val) % 2048 = t.val by omega]
  by_cases h : n.val < 2
  · rw [dif_pos h, if_pos (by omega)]
  · rw [dif_neg h, if_neg (show ¬ t.val < k by omega)]
    refine (hp b ⟨n.val - 2, by omega⟩ l).trans ?_
    exact congrArg (fun r => p r l) (show b.val * 2048 + (n.val - 2) = b.val * 2048 + t.val - k by omega)

/-- The convolution's output. -/
theorem refU_at (hp : ∀ (b : Fin 4) (t : Fin 2048) (l : Fin 1024), gc (ix3 b t l) * vv (ix3 b t l) = p (b.val * 2048 + t.val) l)
    (b : Fin 4) (t : Fin 2048) (l : Fin 1024) :
    refU gc vv cw cb (ix3 b t l) = uRow p (fun k l => cw (ix2 k l)) (fun l => cb (ix1 l)) (b.val * 2048 + t.val) l := by
  pointwise [refU]
  rw [padded_at hp b t l 2 _ rfl, padded_at hp b t l 1 _ (by show 1 + t.val + 1 = _; omega),
    padded_at hp b t l 0 _ (by show 2 + t.val + 0 = _; omega), prev_zero]
  unfold uRow
  rw [mul_comm (prev p 2 _ l), mul_comm (prev p 1 _ l), mul_comm (p _ l), add_comm (cw (ix2 0 l) * _)]

/-- The gradient of the convolution's input. -/
theorem refDp_at (hd : ∀ (b : Fin 4) (t : Fin 2048) (l : Fin 1024), gb (ix3 b t l) * dq (ix3 b t l) = d (b.val * 2048 + t.val) l)
    (b : Fin 4) (t : Fin 2048) (l : Fin 1024) :
    refDp gb dq cw (ix3 b t l) = dpRow d (fun k l => cw (ix2 k l)) (b.val * 2048 + t.val) l := by
  have ht := t.isLt
  pointwise [refDp]
  simp only [hd]
  unfold dpRow next
  rw [show (b.val * 2048 + t.val) % 2048 = t.val by omega, mul_comm (d _ l)]
  by_cases h1 : t.val + 1 < 2048
  · rw [dif_pos ⟨by omega, by omega⟩, if_pos h1, mul_comm (d _ l), show b.val * 2048 + (2 + t.val - 1) = b.val * 2048 + t.val + 1 by omega]
    by_cases h2 : t.val + 2 < 2048
    · rw [dif_pos (by omega), if_pos h2, mul_comm (d _ l), show b.val * 2048 + (2 + t.val) = b.val * 2048 + t.val + 2 by omega]
    · rw [dif_neg (by omega), if_neg h2, mul_zero]
  · rw [dif_neg (by omega), if_neg h1, dif_neg (by omega), if_neg (by omega), mul_zero, mul_zero]

/-- The sum of an array over its sequences and rows, laid out again as a row. -/
theorem sum_rows (x : FVec Ideal S4x2048x1024 .f32) (l : Fin 1024) :
    Ideal.hostReduceAdd reducesTo_S1x1x1024_S1024_d0_1 (shapeCast S1x1x1024 (Host.reduceAdd x (constant S_ .f32 0#32)
      reducesTo_S4x2048x1024_S1024_d0_1 h_S_) shapeCasts_S1024_S1x1x1024) 0 (ix1 l)
      = ∑ b : Fin 4, ∑ t : Fin 2048, x (ix3 b t l) := by
  rw [sum01]
  pointwise
  rw [sum01, zero_add]
  simp only [Finset.univ_unique, Finset.sum_singleton]

/-- The gradient of the taps. -/
theorem refDw_at (hp : ∀ (b : Fin 4) (t : Fin 2048) (l : Fin 1024), gc (ix3 b t l) * vv (ix3 b t l) = p (b.val * 2048 + t.val) l)
    (hd : ∀ (b : Fin 4) (t : Fin 2048) (l : Fin 1024), gb (ix3 b t l) * dq (ix3 b t l) = d (b.val * 2048 + t.val) l)
    (k : Fin 3) (l : Fin 1024) :
    refDw gb gc vv dq (ix2 k l) = ∑ b : Fin 4, ∑ t : Fin 2048, dwRow d p k (b.val * 2048 + t.val) l := by
  match k with
  | 0 =>
    pointwise [refDw]
    rw [sum_rows]
    refine Finset.sum_congr rfl fun b _ => Finset.sum_congr rfl fun t _ => ?_
    pointwise
    rw [padded_at hp b t l 2 _ rfl, hd, mul_comm]
    rfl
  | 1 =>
    pointwise [refDw]
    rw [sum_rows]
    refine Finset.sum_congr rfl fun b _ => Finset.sum_congr rfl fun t _ => ?_
    pointwise
    rw [padded_at hp b t l 1 _ (by show 1 + t.val + 1 = _; omega), hd, mul_comm]
    rfl
  | 2 =>
    pointwise [refDw]
    rw [sum_rows]
    refine Finset.sum_congr rfl fun b _ => Finset.sum_congr rfl fun t _ => ?_
    pointwise
    rw [padded_at hp b t l 0 _ (by show 2 + t.val + 0 = _; omega), hd, mul_comm]
    rfl

/-- The gradient of the bias. -/
def refDb (gb dq : FVec Ideal S4x2048x1024 .f32) : FVec Ideal S1x1024 .f32 :=
  broadcastInDim S1x1024 ![1] bcast_S1024_S1x1024_1 (Host.reduceAdd (shapeCast S1x1x1024 (Host.reduceAdd (mulf gb dq)
    (constant S_ .f32 0x00000000#32) reducesTo_S4x2048x1024_S1024_d0_1 h_S_) shapeCasts_S1024_S1x1x1024)
    (constant S_ .f32 0x00000000#32) reducesTo_S1x1x1024_S1024_d0_1 h_S_)

/-- It is the sum of the gradient of the convolution's output. -/
theorem refDb_at (hd : ∀ (b : Fin 4) (t : Fin 2048) (l : Fin 1024), gb (ix3 b t l) * dq (ix3 b t l) = d (b.val * 2048 + t.val) l)
    (k : Fin 1) (l : Fin 1024) : refDb gb dq (ix2 k l) = ∑ b : Fin 4, ∑ t : Fin 2048, d (b.val * 2048 + t.val) l := by
  pointwise [refDb]
  rw [sum_rows]
  refine Finset.sum_congr rfl fun b _ => Finset.sum_congr rfl fun t _ => ?_
  pointwise
  exact hd b t l

variable (m : (ℓ : Loc nD τ sig) → Buf (Elt Ideal) ℓ) (c : Dev nD)

/-- The call's arguments, by row and lane. -/
abbrev argH (r : Fin 8192) (k : Fin 3072) : EReal := m ((c.tc : Thread nD τ).loc main_arg0) (ix2 r k)
abbrev argQ (r : Fin 8192) (l : Fin 1024) : EReal := m ((c.tc : Thread nD τ).loc main_arg1) (ix2 r l)
abbrev argW (k : Fin 3) (l : Fin 1024) : EReal := m ((c.tc : Thread nD τ).loc main_arg2) (ix2 k l)
abbrev argB (l : Fin 1024) : EReal := m ((c.tc : Thread nD τ).loc main_arg3) (ix1 l)

/-- The output's gradient, as the reference lays it out, -/
def seq (x : FVec Ideal S8192x1024 .bf16) : FVec Ideal S4x2048x1024 .f32 :=
  shapeCast S4x2048x1024 (extf .f32 x bitsLt_bf16_f32) shapeCasts_S8192x1024_S4x2048x1024

/-- and the three parts of the first argument. -/
def wide (x : FVec Ideal S8192x3072 .bf16) : FVec Ideal S4x2048x3072 .f32 :=
  shapeCast S4x2048x3072 (extf .f32 x bitsLt_bf16_f32) shapeCasts_S8192x3072_S4x2048x3072

def part0 (x : FVec Ideal S8192x3072 .bf16) : FVec Ideal S4x2048x1024 .f32 :=
  extractStridedSlice S4x2048x1024 ![0, 0, 0] (wide x) slices_S4x2048x3072_S4x2048x1024_0_0_0
def part1 (x : FVec Ideal S8192x3072 .bf16) : FVec Ideal S4x2048x1024 .f32 :=
  extractStridedSlice S4x2048x1024 ![0, 0, 1024] (wide x) slices_S4x2048x3072_S4x2048x1024_0_0_1024
def part2 (x : FVec Ideal S8192x3072 .bf16) : FVec Ideal S4x2048x1024 .f32 :=
  extractStridedSlice S4x2048x1024 ![0, 0, 2048] (wide x) slices_S4x2048x3072_S4x2048x1024_0_0_2048

variable (x : FVec Ideal S8192x3072 .bf16) (q : FVec Ideal S8192x1024 .bf16)

theorem seq_at (b : Fin 4) (t : Fin 2048) (l : Fin 1024) :
    seq q (ix3 b t l) = rowQ (fun r l => q (ix2 r l)) (b.val * 2048 + t.val) l := by
  pointwise [seq]
  unfold rowQ
  rw [dif_pos (show b.val * 2048 + t.val < 8192 by omega)]

theorem part0_at (b : Fin 4) (t : Fin 2048) (l : Fin 1024) :
    part0 x (ix3 b t l) = gate (fun r l => x (ix2 r l)) 0 (b.val * 2048 + t.val) l := by
  pointwise [part0, wide]
  unfold gate
  rw [dif_pos (show b.val * 2048 + t.val < 8192 by omega)]
  exact congrArg (fun k => x (ix2 _ k)) (Fin.ext (by show l.val = 0 * 1024 + l.val; omega))

theorem part1_at (b : Fin 4) (t : Fin 2048) (l : Fin 1024) :
    part1 x (ix3 b t l) = gate (fun r l => x (ix2 r l)) 1 (b.val * 2048 + t.val) l := by
  pointwise [part1, wide]
  unfold gate
  rw [dif_pos (show b.val * 2048 + t.val < 8192 by omega)]
  rfl

theorem part2_at (b : Fin 4) (t : Fin 2048) (l : Fin 1024) :
    part2 x (ix3 b t l) = gate (fun r l => x (ix2 r l)) 2 (b.val * 2048 + t.val) l := by
  pointwise [part2, wide]
  unfold gate
  rw [dif_pos (show b.val * 2048 + t.val < 8192 by omega)]
  rfl

/-- The gated input of the arguments, -/
theorem hp_of (b : Fin 4) (t : Fin 2048) (l : Fin 1024) :
    part1 x (ix3 b t l) * part2 x (ix3 b t l) = pRow (fun r l => x (ix2 r l)) (b.val * 2048 + t.val) l := by
  rw [part1_at, part2_at]
  rfl

/-- and the gradient of the convolution's output. -/
theorem hd_of (b : Fin 4) (t : Fin 2048) (l : Fin 1024) :
    part0 x (ix3 b t l) * seq q (ix3 b t l) = dRow (fun r l => x (ix2 r l)) (fun r l => q (ix2 r l)) (b.val * 2048 + t.val) l := by
  rw [part0_at, seq_at]
  rfl

/-- The gradient of the first argument, element by element. -/
theorem refDh_at (s : Fin 3) (r : Fin 8192) (l : Fin 1024) :
    refDh (part0 x) (part1 x) (part2 x) (seq q) cw cb (ix3 s r l)
      = dhAt (fun r l => x (ix2 r l)) (fun r l => q (ix2 r l)) (fun k l => cw (ix2 k l)) (fun l => cb (ix1 l)) s r.val l := by
  have er : r.val / 2048 * 2048 + r.val % 2048 = r.val := Nat.div_add_mod' _ _
  match s with
  | 0 =>
    pointwise [refDh]
    rw [refU_at (hp_of x), seq_at]
    simp only [er]
    rfl
  | 1 =>
    pointwise [refDh]
    rw [refDp_at (hd_of x q), part2_at]
    simp only [er]
    rfl
  | 2 =>
    pointwise [refDh]
    rw [dif_neg (show ¬ 2048 + l.val < 1024 by omega), dif_neg (show ¬ 2048 + l.val - 1024 < 1024 by omega),
      refDp_at (hd_of x q), part1_at, mul_comm]
    simp only [er, show 2048 + l.val - 1024 - 1024 = l.val by omega, Fin.eta]
    rfl

/-- The reference's results. -/
theorem dh_eq (s : Fin 3) (r : Fin 8192) (l : Fin 1024) :
    Value.res_main_v80 m c (ix3 s r l) = dhAt (argH m c) (argQ m c) (argW m c) (argB m c) s r.val l := by
  have e : Value.res_main_v80 m c = refDh (part0 (m ((c.tc : Thread nD τ).loc main_arg0))) (part1 (m ((c.tc : Thread nD τ).loc main_arg0)))
      (part2 (m ((c.tc : Thread nD τ).loc main_arg0))) (seq (m ((c.tc : Thread nD τ).loc main_arg1)))
      (m ((c.tc : Thread nD τ).loc main_arg2)) (m ((c.tc : Thread nD τ).loc main_arg3)) := rfl
  exact (congrFun e _).trans (refDh_at _ _ s r l)

theorem dw_eq (k : Fin 3) (l : Fin 1024) :
    Value.res_main_v69 m c (ix2 k l) = ∑ r : Fin 8192, dwRow (dRow (argH m c) (argQ m c)) (pRow (argH m c)) k r.val l := by
  have e : Value.res_main_v69 m c = refDw (part0 (m ((c.tc : Thread nD τ).loc main_arg0))) (part1 (m ((c.tc : Thread nD τ).loc main_arg0)))
      (part2 (m ((c.tc : Thread nD τ).loc main_arg0))) (seq (m ((c.tc : Thread nD τ).loc main_arg1))) := rfl
  refine (congrFun e _).trans ((refDw_at (hp_of _) (hd_of _ _) k l).trans ?_)
  exact sum_seq fun r => dwRow (dRow (argH m c) (argQ m c)) (pRow (argH m c)) k r l

/-- The reference's run: its three results, element by element. -/
theorem run_val (ρ : Dev nD → PrngReg) :
    θ_run defs (onTc (τ := τ) (main (F := Ideal))) ⟨m, fun _ => 0, ρ⟩ fun r => ∀ c : Dev nD,
      (∀ s i l, (r.2.mem ((c.tc : Thread nD τ).loc main_v80) : FVec Ideal S3x8192x1024 .bf16) (ix3 s i l)
        = dhAt (argH m c) (argQ m c) (argW m c) (argB m c) s i.val l)
      ∧ (∀ k l, (r.2.mem ((c.tc : Thread nD τ).loc main_v69) : FVec Ideal S3x1024 .f32) (ix2 k l)
        = ∑ r : Fin 8192, dwRow (dRow (argH m c) (argQ m c)) (pRow (argH m c)) k r.val l)
      ∧ (∀ k l, (r.2.mem ((c.tc : Thread nD τ).loc main_v81) : FVec Ideal S1x1024 .f32) (ix2 k l)
        = ∑ r : Fin 8192, dRow (argH m c) (argQ m c) r.val l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun s i l => (congrFun (h c).1 _).trans (dh_eq m c s i l),
    fun k l => (congrFun (h c).2.1 _).trans (dw_eq m c k l), fun k l => ?_, (h c).2.2.2⟩) (Value.run m ρ)
  refine (congrFun (h c).2.2.1 _).trans ((refDb_at (hd_of (m ((c.tc : Thread nD τ).loc main_arg0))
    (m ((c.tc : Thread nD τ).loc main_arg1))) k l).trans ?_)
  exact sum_seq fun r => dRow (argH m c) (argQ m c) r l

end Cert.ScBwdRefIdeal.Val
end
-- ==== Proof.ScValue.lean ====
/- The value of the gated short convolution's backward call: what each of its three result arrays holds after the run is what the
   reference computes from the same arguments. No precondition: both are sums and products of the same numbers. -/
module
public import proofs.«01_k».proof.Defs
public import proofs.«01_k».proof.Proof.Gen.ScBwdIdeal
public import proofs.«01_k».proof.Proof.Gen.ScBwdIdeal.Skeleton
public import proofs.«01_k».proof.Proof.ScRun
public import proofs.«01_k».proof.Proof.Gen.ScBwdRefIdeal
public import proofs.«01_k».proof.Proof.Gen.ScBwdRefIdeal.Run
public import proofs.«01_k».proof.Proof.ScRef
public import Idealize.ShloMosaic.Lib.Pipeline.ReadBack
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.ScBwdIdeal.Val
open Cert.ScBwdIdeal Cert.ScBwdIdeal.Gen Cert.ScBwdIdeal.Run Cert.ScMath

/-- Each window's block index at each of the thirty-two points. -/
theorem idx : ∀ t : Fin cfg0.N, win0_0.index t = ![31 - t.val, 0] ∧ win0_1.index t = ![31 - t.val, 1] ∧ win0_2.index t = ![31 - t.val, 2]
    ∧ win0_3.index t = ![(31 - t.val) * 16 - 1, 1] ∧ win0_4.index t = ![(31 - t.val) * 16 - 1, 2] ∧ win0_5.index t = ![31 - t.val, 0]
    ∧ win0_6.index t = ![0, 0] ∧ win0_7.index t = ![0, 0] ∧ win0_8.index t = ![0, 31 - t.val, 0] ∧ win0_9.index t = ![0, 0]
    ∧ win0_10.index t = ![0, 0] :=
  (by decide +kernel : ∀ t : Fin grid0.N, _)

/-- The kernel's test for a sequence's first block of rows, at each point. -/
theorem first : ∀ t : Fin grid0.N, Scalar.cmpi .eq (Scalar.remsi (Scalar.muli (Scalar.subi 31#32 (BitVec.ofNat 32 (grid0.coords t 0).val)) 256#32)
    2048#32) 0#32 = if t.val % 8 = 7 then 1#1 else 0#1 := by
  decide +kernel

variable (m : (ℓ : Loc nD τ sig) → Buf (Elt Ideal) ℓ) (c : Dev nD)

/-- The call's arguments, by row and lane. -/
abbrev argH (r : Fin 8192) (k : Fin 3072) : EReal := m ((c.tc : Thread nD τ).loc main_arg0) (ix2 r k)
abbrev argQ (r : Fin 8192) (l : Fin 1024) : EReal := m ((c.tc : Thread nD τ).loc main_arg1) (ix2 r l)
abbrev argW (k : Fin 3) (l : Fin 1024) : EReal := m ((c.tc : Thread nD τ).loc main_arg2) (ix2 k l)
abbrev argB (l : Fin 1024) : EReal := m ((c.tc : Thread nD τ).loc main_arg3) (ix1 l)

/-- The first row of point `t`'s blocks. -/
def base (t : Fin cfg0.N) : ℕ := (31 - t.val) * 256

theorem base_lt (t : Fin cfg0.N) (r : Fin 256) : base t + r.val < 8192 := by
  unfold base; have := t.isLt; have : cfg0.N = 32 := N_0; omega

/-- Point `t`'s blocks of the first argument's parts, -/
theorem blk_b (t : Fin cfg0.N) (r : Fin 256) (l : Fin 1024) : iblk m c 0 t (ix2 r l) = gate (argH m c) 0 (base t + r.val) l := by
  unfold gate argH
  rw [dif_pos (base_lt t r)]
  unfold base
  blk_point [iblk, V, idx t]

theorem blk_c (t : Fin cfg0.N) (r : Fin 256) (l : Fin 1024) : iblk m c 1 t (ix2 r l) = gate (argH m c) 1 (base t + r.val) l := by
  unfold gate argH
  rw [dif_pos (base_lt t r)]
  unfold base
  blk_point [iblk, V, idx t]

theorem blk_v (t : Fin cfg0.N) (r : Fin 256) (l : Fin 1024) : iblk m c 2 t (ix2 r l) = gate (argH m c) 2 (base t + r.val) l := by
  unfold gate argH
  rw [dif_pos (base_lt t r)]
  unfold base
  blk_point [iblk, V, idx t]

/-- of the sixteen rows before them, -/
theorem blk_ch (t : Fin cfg0.N) (j : Fin 16) (l : Fin 1024) :
    iblk m c 3 t (ix2 j l) = gate (argH m c) 1 (((31 - t.val) * 16 - 1) * 16 + j.val) l := by
  unfold gate argH
  rw [dif_pos (by have := t.isLt; omega)]
  blk_point [iblk, V, idx t]

theorem blk_vh (t : Fin cfg0.N) (j : Fin 16) (l : Fin 1024) :
    iblk m c 4 t (ix2 j l) = gate (argH m c) 2 (((31 - t.val) * 16 - 1) * 16 + j.val) l := by
  unfold gate argH
  rw [dif_pos (by have := t.isLt; omega)]
  blk_point [iblk, V, idx t]

/-- of the output's gradient, -/
theorem blk_q (t : Fin cfg0.N) (r : Fin 256) (l : Fin 1024) : iblk m c 5 t (ix2 r l) = rowQ (argQ m c) (base t + r.val) l := by
  unfold rowQ argQ
  rw [dif_pos (base_lt t r)]
  unfold base
  blk_point [iblk, V, idx t]

/-- and the whole taps and bias. -/
theorem blk_w (t : Fin cfg0.N) (k : Fin 3) (l : Fin 1024) : iblk m c 6 t (ix2 k l) = argW m c k l := by
  unfold argW; blk_point [iblk, V, idx t]

theorem entry_bias (l : Fin 1024) : V m c main_v0 (ix2 0 l) = argB m c l := by
  unfold V
  entry_read
  unfold argB
  pointwise

theorem blk_bias (t : Fin cfg0.N) (l : Fin 1024) : iblk m c 7 t (ix2 0 l) = argB m c l := by
  rw [← entry_bias]
  blk_point [iblk, idx t]

/-- The gated input, the convolution's output and its gradient, of the arguments. -/
abbrev p : ℕ → Fin 1024 → EReal := pRow (argH m c)
abbrev d : ℕ → Fin 1024 → EReal := dRow (argH m c) (argQ m c)

/-- Point `t`'s rows of the gated input, -/
theorem pay_p (t : Fin cfg0.N) (r : Fin 256) (l : Fin 1024) :
    k0_pay10 (iblk m c 1 t) (iblk m c 2 t) (ix2 r l) = p m c (base t + r.val) l := by
  pointwise [k0_pay10, k0_pay8, k0_pay9]
  rw [blk_c, blk_v]
  rfl

/-- the rows two back, -/
theorem pay_p2 (t : Fin cfg0.N) (r : Fin 256) (l : Fin 1024) :
    k0_pay12 (grid0.coords t) (iblk m c 1 t) (iblk m c 2 t) (iblk m c 3 t) (iblk m c 4 t) (ix2 r l) = prev (p m c) 2 (base t + r.val) l := by
  pointwise [k0_pay12, k0_pay11, k0_pay10, k0_pay8, k0_pay9]
  rw [first t]
  simp only [blk_c, blk_v, blk_ch, blk_vh]
  have ht : t.val < 32 := lt_of_lt_of_eq t.isLt N_0
  unfold prev
  by_cases h : r.val < 2
  · rw [dif_pos (show (16 + r.val + 272 - 2) % 272 < 16 by omega)]
    by_cases h7 : t.val % 8 = 7
    · rw [if_pos h7, if_pos (show (base t + r.val) % 2048 < 2 by unfold base; omega)]
      rfl
    · rw [if_neg h7, if_neg (show ¬ (base t + r.val) % 2048 < 2 by unfold base; omega),
        show ((31 - t.val) * 16 - 1) * 16 + (16 + r.val + 272 - 2) % 272 = base t + r.val - 2 by unfold base; omega]
      rfl
  · rw [dif_neg (show ¬ (16 + r.val + 272 - 2) % 272 < 16 by omega), if_neg (show ¬ (base t + r.val) % 2048 < 2 by unfold base; omega),
      show base t + ((16 + r.val + 272 - 2) % 272 - 16) = base t + r.val - 2 by omega]
    rfl

/-- and one back. -/
theorem pay_p1 (t : Fin cfg0.N) (r : Fin 256) (l : Fin 1024) :
    k0_pay14 (k0_pay13 (grid0.coords t) (iblk m c 1 t) (iblk m c 2 t) (iblk m c 3 t) (iblk m c 4 t)) (ix2 r l)
      = prev (p m c) 1 (base t + r.val) l := by
  pointwise [k0_pay14, k0_pay13, k0_pay11, k0_pay10, k0_pay8, k0_pay9]
  rw [first t]
  simp only [blk_c, blk_v, blk_ch, blk_vh]
  have ht : t.val < 32 := lt_of_lt_of_eq t.isLt N_0
  unfold prev
  by_cases h : r.val < 1
  · rw [dif_pos (show (16 + r.val + 272 - 1) % 272 < 16 by omega)]
    by_cases h7 : t.val % 8 = 7
    · rw [if_pos h7, if_pos (show (base t + r.val) % 2048 < 1 by unfold base; omega)]
      rfl
    · rw [if_neg h7, if_neg (show ¬ (base t + r.val) % 2048 < 1 by unfold base; omega),
        show ((31 - t.val) * 16 - 1) * 16 + (16 + r.val + 272 - 1) % 272 = base t + r.val - 1 by unfold base; omega]
      rfl
  · rw [dif_neg (show ¬ (16 + r.val + 272 - 1) % 272 < 16 by omega), if_neg (show ¬ (base t + r.val) % 2048 < 1 by unfold base; omega),
      show base t + ((16 + r.val + 272 - 1) % 272 - 16) = base t + r.val - 1 by omega]
    rfl

/-- The convolution's output. -/
theorem pay_u (t : Fin cfg0.N) (r : Fin 256) (l : Fin 1024) :
    k0_pay15 (k0_pay10 (iblk m c 1 t) (iblk m c 2 t))
        (k0_pay12 (grid0.coords t) (iblk m c 1 t) (iblk m c 2 t) (iblk m c 3 t) (iblk m c 4 t))
        (k0_pay13 (grid0.coords t) (iblk m c 1 t) (iblk m c 2 t) (iblk m c 3 t) (iblk m c 4 t)) (iblk m c 7 t)
        (View.ld (iblk m c 6 t) (Rect.unit ![0, 0] ![1, 1024] inb_S3x1024_S1x1024_0_0))
        (View.ld (iblk m c 6 t) (Rect.unit ![1, 0] ![1, 1024] inb_S3x1024_S1x1024_1_0))
        (View.ld (iblk m c 6 t) (Rect.unit ![2, 0] ![1, 1024] inb_S3x1024_S1x1024_2_0)) (ix2 r l)
      = uRow (p m c) (argW m c) (argB m c) (base t + r.val) l := by
  pointwise [k0_pay15]
  rw [pay_p, pay_p2, pay_p1, blk_bias, blk_w, blk_w, blk_w]
  rfl

/-- The gradient of the convolution's output, -/
theorem pay_d (t : Fin cfg0.N) (r : Fin 256) (l : Fin 1024) :
    k0_pay17 (k0_pay7 (iblk m c 0 t)) (iblk m c 5 t) (ix2 r l) = d m c (base t + r.val) l := by
  pointwise [k0_pay17, k0_pay16, k0_pay7]
  rw [blk_b, blk_q, mul_comm]
  rfl

/-- whose first rows are carried to the next point, -/
theorem pay_carry (t : Fin cfg0.N) (r : Fin 8) (l : Fin 1024) :
    k0_pay25 (k0_pay17 (k0_pay7 (iblk m c 0 t)) (iblk m c 5 t)) (ix2 r l) = d m c (base t + r.val) l := by
  pointwise [k0_pay25]
  exact pay_d m c t ⟨r.val, _⟩ l

/-- and that of its input, from the carried rows. -/
theorem pay_dp (t : Fin cfg0.N) (s : Vec Ideal S8x1024 .f32) (hs : ∀ (j : Fin 2) (l : Fin 1024), s (ix2 ⟨j.val, by omega⟩ l)
      = if t.val % 8 = 0 then 0 else d m c (base t + 256 + j.val) l) (r : Fin 256) (l : Fin 1024) :
    k0_pay24 (k0_pay17 (k0_pay7 (iblk m c 0 t)) (iblk m c 5 t)) s
        (View.ld (iblk m c 6 t) (Rect.unit ![2, 0] ![1, 1024] inb_S3x1024_S1x1024_2_0))
        (View.ld (iblk m c 6 t) (Rect.unit ![1, 0] ![1, 1024] inb_S3x1024_S1x1024_1_0))
        (View.ld (iblk m c 6 t) (Rect.unit ![0, 0] ![1, 1024] inb_S3x1024_S1x1024_0_0)) (ix2 r l)
      = dpRow (d m c) (argW m c) (base t + r.val) l := by
  pointwise [k0_pay24]
  rw [blk_w, blk_w, blk_w]
  simp only [pay_d]
  have ht : t.val < 32 := lt_of_lt_of_eq t.isLt N_0
  have e : ∀ k : ℕ, (k = 1 ∨ k = 2) → (if h : (r.val + k) % 264 < 256 then d m c (base t + (r.val + k) % 264) l
      else s (ix2 ⟨(r.val + k) % 264 - 256, by omega⟩ l)) = next (d m c) k (base t + r.val) l := by
    intro k hk
    unfold next
    by_cases h : r.val + k < 256
    · rw [dif_pos (show (r.val + k) % 264 < 256 by omega), if_pos (show (base t + r.val) % 2048 + k < 2048 by unfold base; omega),
        show base t + (r.val + k) % 264 = base t + r.val + k by omega]
    · rw [dif_neg (show ¬ (r.val + k) % 264 < 256 by omega)]
      refine (hs ⟨(r.val + k) % 264 - 256, by omega⟩ l).trans ?_
      by_cases h8 : t.val % 8 = 0
      · rw [if_pos h8, if_neg (show ¬ (base t + r.val) % 2048 + k < 2048 by unfold base; omega)]
      · rw [if_neg h8, if_pos (show (base t + r.val) % 2048 + k < 2048 by unfold base; omega)]
        exact congrArg (fun i => d m c i l) (show base t + 256 + ((r.val + k) % 264 - 256) = base t + r.val + k by omega)
  exact congr_arg₂ (fun a b => argW m c 2 l * d m c (base t + r.val) l + argW m c 1 l * a + argW m c 0 l * b)
    (e 1 (.inl rfl)) (e 2 (.inr rfl))

/-- The rows carried on from a point are the first of its rows of that gradient. -/
theorem carried (t : Fin cfg0.N) (r : Fin 8) (l : Fin 1024) : (outs m c t.val t.isLt).2.2.2 (ix2 r l) = d m c (base t + r.val) l := by
  by_cases h1 : t.val % 8 = 0
  · by_cases h0 : t.val % 32 = 0
    · rw [outs_A m c t h0 h1]; unfold leftA runA read4; frame_out; exact pay_carry m c t r l
    · rw [outs_C m c t h0 h1]; unfold leftC runC read4; frame_out; exact pay_carry m c t r l
  · rw [outs_B m c t (fun h => h1 (by omega)) h1]; unfold leftB runB read4; frame_out; exact pay_carry m c t r l

/-- A point inside a sequence finds the next rows of that gradient in the carried rows. -/
theorem carry_before (t : Fin cfg0.N) (h1 : ¬ t.val % 8 = 0) (j : Fin 2) (l : Fin 1024) :
    (before m c t).2.2.2 (ix2 ⟨j.val, by omega⟩ l) = if t.val % 8 = 0 then 0 else d m c (base t + 256 + j.val) l := by
  have ht : t.val < 32 := lt_of_lt_of_eq t.isLt N_0
  rw [if_neg h1]
  refine (carried m c ⟨t.val - 1, Nat.lt_of_le_of_lt (Nat.sub_le _ _) t.isLt⟩ ⟨j.val, by omega⟩ l).trans ?_
  exact congrArg (fun i => d m c i l) (by unfold base; show (31 - (t.val - 1)) * 256 + j.val = _; omega)

/-- The same, as the body reads them. -/
theorem carry_read (t : Fin cfg0.N) (h1 : ¬ t.val % 8 = 0) (j : Fin 2) (l : Fin 1024) :
    View.read (Elt Ideal) (View.whole cc0_scratch0) ((Memref.isWhole_whole cc0_scratch0).unread (before m c t).2.2.2) (ix2 ⟨j.val, by omega⟩ l)
      = if t.val % 8 = 0 then 0 else d m c (base t + 256 + j.val) l :=
  (congrFun ((Memref.isWhole_whole cc0_scratch0).read_unread _) _).trans (carry_before m c t h1 j l)

/-- A sequence's last block of rows finds zeros there. -/
theorem carry_zero (t : Fin cfg0.N) (h1 : t.val % 8 = 0) (j : Fin 2) (l : Fin 1024) :
    k0_pay6 (F := Ideal) (ix2 ⟨j.val, by omega⟩ l) = if t.val % 8 = 0 then 0 else d m c (base t + 256 + j.val) l := by
  rw [if_pos h1]
  pointwise! [k0_pay6]

/-- The third part of the first argument's gradient, -/
theorem piece2 (t : Fin cfg0.N) (s : Vec Ideal S8x1024 .f32) (hs : ∀ (j : Fin 2) (l : Fin 1024), s (ix2 ⟨j.val, by omega⟩ l)
      = if t.val % 8 = 0 then 0 else d m c (base t + 256 + j.val) l)
    (x : S1x256x1024.Idx) (k : Fin 3) (r : Fin 256) (l : Fin 1024) (e0 : k.val = 2 + (x 0).val) (e1 : r.val = (x 1).val) (e2 : l.val = (x 2).val) :
    k0_pay3 (k0_pay8 (iblk m c 1 t))
        (k0_pay24 (k0_pay17 (k0_pay7 (iblk m c 0 t)) (iblk m c 5 t)) s
          (View.ld (iblk m c 6 t) (Rect.unit ![2, 0] ![1, 1024] inb_S3x1024_S1x1024_2_0))
          (View.ld (iblk m c 6 t) (Rect.unit ![1, 0] ![1, 1024] inb_S3x1024_S1x1024_1_0))
          (View.ld (iblk m c 6 t) (Rect.unit ![0, 0] ![1, 1024] inb_S3x1024_S1x1024_0_0))) x
      = dhAt (argH m c) (argQ m c) (argW m c) (argB m c) k (base t + r.val) l := by
  idx_vars x
  obtain rfl : x0 = 0 := Subsingleton.elim _ _
  obtain rfl : k = 2 := Fin.ext e0
  obtain rfl : r = x1 := Fin.ext e1
  obtain rfl : l = x2 := Fin.ext e2
  pointwise [k0_pay3, k0_pay8]
  rw [pay_dp m c t s hs, blk_c]
  rfl

/-- the second, -/
theorem piece1 (t : Fin cfg0.N) (s : Vec Ideal S8x1024 .f32) (hs : ∀ (j : Fin 2) (l : Fin 1024), s (ix2 ⟨j.val, by omega⟩ l)
      = if t.val % 8 = 0 then 0 else d m c (base t + 256 + j.val) l)
    (x : S1x256x1024.Idx) (k : Fin 3) (r : Fin 256) (l : Fin 1024) (e0 : k.val = 1 + (x 0).val) (e1 : r.val = (x 1).val) (e2 : l.val = (x 2).val) :
    k0_pay2 (k0_pay9 (iblk m c 2 t))
        (k0_pay24 (k0_pay17 (k0_pay7 (iblk m c 0 t)) (iblk m c 5 t)) s
          (View.ld (iblk m c 6 t) (Rect.unit ![2, 0] ![1, 1024] inb_S3x1024_S1x1024_2_0))
          (View.ld (iblk m c 6 t) (Rect.unit ![1, 0] ![1, 1024] inb_S3x1024_S1x1024_1_0))
          (View.ld (iblk m c 6 t) (Rect.unit ![0, 0] ![1, 1024] inb_S3x1024_S1x1024_0_0))) x
      = dhAt (argH m c) (argQ m c) (argW m c) (argB m c) k (base t + r.val) l := by
  idx_vars x
  obtain rfl : x0 = 0 := Subsingleton.elim _ _
  obtain rfl : k = 1 := Fin.ext e0
  obtain rfl : r = x1 := Fin.ext e1
  obtain rfl : l = x2 := Fin.ext e2
  pointwise [k0_pay2, k0_pay9]
  rw [pay_dp m c t s hs, blk_v]
  rfl

/-- and the first. -/
theorem piece0 (t : Fin cfg0.N) (x : S1x256x1024.Idx) (k : Fin 3) (r : Fin 256) (l : Fin 1024) (e0 : k.val = (x 0).val)
    (e1 : r.val = (x 1).val) (e2 : l.val = (x 2).val) :
    k0_pay1 (k0_pay26 (k0_pay15 (k0_pay10 (iblk m c 1 t) (iblk m c 2 t))
        (k0_pay12 (grid0.coords t) (iblk m c 1 t) (iblk m c 2 t) (iblk m c 3 t) (iblk m c 4 t))
        (k0_pay13 (grid0.coords t) (iblk m c 1 t) (iblk m c 2 t) (iblk m c 3 t) (iblk m c 4 t)) (iblk m c 7 t)
        (View.ld (iblk m c 6 t) (Rect.unit ![0, 0] ![1, 1024] inb_S3x1024_S1x1024_0_0))
        (View.ld (iblk m c 6 t) (Rect.unit ![1, 0] ![1, 1024] inb_S3x1024_S1x1024_1_0))
        (View.ld (iblk m c 6 t) (Rect.unit ![2, 0] ![1, 1024] inb_S3x1024_S1x1024_2_0))) (k0_pay16 (iblk m c 5 t))) x
      = dhAt (argH m c) (argQ m c) (argW m c) (argB m c) k (base t + r.val) l := by
  idx_vars x
  obtain rfl : x0 = 0 := Subsingleton.elim _ _
  obtain rfl : k = 0 := Fin.ext e0
  obtain rfl : r = x1 := Fin.ext e1
  obtain rfl : l = x2 := Fin.ext e2
  pointwise [k0_pay1, k0_pay26, k0_pay16]
  rw [pay_u, blk_q]
  rfl

/-- What a point leaves of the first argument's gradient. -/
theorem dh_at (t : Fin cfg0.N) (k : Fin 3) (r : Fin 256) (l : Fin 1024) :
    (outs m c t.val t.isLt).1 (ix3 k r l) = dhAt (argH m c) (argQ m c) (argW m c) (argB m c) k (base t + r.val) l := by
  by_cases n1 : t.val % 8 = 0
  · by_cases n0 : t.val % 32 = 0
    · rw [outs_A m c t n0 n1]; unfold leftA runA read4; frame_out; canon_tiles x h
      · exact piece2 m c t _ (carry_zero m c t n1) x k r l h0 h1 h2
      · exact piece1 m c t _ (carry_zero m c t n1) x k r l h0 h1 h2
      · exact piece0 m c t x k r l h0 h1 h2
    · rw [outs_C m c t n0 n1]; unfold leftC runC read4; frame_out; canon_tiles x h
      · exact piece2 m c t _ (carry_zero m c t n1) x k r l h0 h1 h2
      · exact piece1 m c t _ (carry_zero m c t n1) x k r l h0 h1 h2
      · exact piece0 m c t x k r l h0 h1 h2
  · rw [outs_B m c t (fun n => n1 (by omega)) n1]; unfold leftB runB read4; frame_out; canon_tiles x h
    · exact piece2 m c t _ (carry_read m c t n1) x k r l h0 h1 h2
    · exact piece1 m c t _ (carry_read m c t n1) x k r l h0 h1 h2
    · exact piece0 m c t x k r l h0 h1 h2

/-- A point's part of the taps' gradient, -/
def partW (t : Fin cfg0.N) (j : S3x1024.Idx) : EReal := ∑ r : Fin 256, dwRow (d m c) (p m c) (j 0) (base t + r.val) (j 1)

/-- and of the bias's. -/
def partB (t : Fin cfg0.N) (j : S1x1024.Idx) : EReal := ∑ r : Fin 256, d m c (base t + r.val) (j 1)

/-- A point's step of the first tap's gradient, -/
theorem tap0 (t : Fin cfg0.N) (X : Vec Ideal S3x1024 .f32) (x : S1x1024.Idx) (k : Fin 3) (l : Fin 1024) (e0 : k.val = (x 0).val) (e1 : l.val = (x 1).val) :
    k0_pay19 (k0_pay7 (iblk m c 0 t)) (k0_pay12 (grid0.coords t) (iblk m c 1 t) (iblk m c 2 t) (iblk m c 3 t) (iblk m c 4 t)) (iblk m c 5 t)
        (View.ld X (Rect.unit ![0, 0] ![1, 1024] inb_S3x1024_S1x1024_0_0)) x
      = X (ix2 k l) + partW m c t (ix2 k l) := by
  idx_vars x
  obtain rfl : x0 = 0 := Subsingleton.elim _ _
  obtain rfl : k = 0 := Fin.ext e0
  obtain rfl : l = x1 := Fin.ext e1
  pointwise [k0_pay19]
  simp only [pay_d, pay_p2]
  rfl

/-- of the second's, -/
theorem tap1 (t : Fin cfg0.N) (X : Vec Ideal S3x1024 .f32) (x : S1x1024.Idx) (k : Fin 3) (l : Fin 1024) (e0 : k.val = 1 + (x 0).val) (e1 : l.val = (x 1).val) :
    k0_pay22 (k0_pay20 (View.ld X (Rect.unit ![1, 0] ![1, 1024] inb_S3x1024_S1x1024_1_0))) (k0_pay21 (k0_pay7 (iblk m c 0 t))
        (k0_pay13 (grid0.coords t) (iblk m c 1 t) (iblk m c 2 t) (iblk m c 3 t) (iblk m c 4 t)) (iblk m c 5 t)) x
      = X (ix2 k l) + partW m c t (ix2 k l) := by
  idx_vars x
  obtain rfl : x0 = 0 := Subsingleton.elim _ _
  obtain rfl : k = 1 := Fin.ext e0
  obtain rfl : l = x1 := Fin.ext e1
  pointwise [k0_pay22, k0_pay20, k0_pay21]
  simp only [pay_d, pay_p1]
  rfl

/-- and of the third's. -/
theorem tap2 (t : Fin cfg0.N) (X : Vec Ideal S3x1024 .f32) (x : S1x1024.Idx) (k : Fin 3) (l : Fin 1024) (e0 : k.val = 2 + (x 0).val) (e1 : l.val = (x 1).val) :
    k0_pay23 (k0_pay10 (iblk m c 1 t) (iblk m c 2 t)) (k0_pay17 (k0_pay7 (iblk m c 0 t)) (iblk m c 5 t))
        (View.ld X (Rect.unit ![2, 0] ![1, 1024] inb_S3x1024_S1x1024_2_0)) x
      = X (ix2 k l) + partW m c t (ix2 k l) := by
  idx_vars x
  obtain rfl : x0 = 0 := Subsingleton.elim _ _
  obtain rfl : k = 2 := Fin.ext e0
  obtain rfl : l = x1 := Fin.ext e1
  pointwise [k0_pay23]
  simp only [pay_d, pay_p]
  refine congrArg (X (ix2 2 l) + ·) (Fin.sum_fin_congr fun r => ?_)
  exact congrArg (d m c (base t + r.val) l * ·) (prev_zero (p m c) (base t + r.val) l).symm

/-- A point's step of the bias's gradient. -/
theorem bias_step (t : Fin cfg0.N) (v : Vec Ideal S1x1024 .f32) (j : S1x1024.Idx) :
    k0_pay18 (k0_pay7 (iblk m c 0 t)) (iblk m c 5 t) v j = v j + partB m c t j := by
  idx_vars j
  pointwise [k0_pay18]
  simp only [pay_d]
  rfl

/-- The sums start at zero. -/
theorem zero_w (j : S3x1024.Idx) : k0_pay4 (F := Ideal) j = 0 := by
  pointwise! [k0_pay4]

theorem zero_b (j : S1x1024.Idx) : k0_pay5 (F := Ideal) j = 0 := by
  pointwise! [k0_pay5]

/-- The taps' gradient after the first point, -/
theorem dw_first (t : Fin cfg0.N) (n0 : t.val % 32 = 0) (j : S3x1024.Idx) : (outs m c t.val t.isLt).2.1 j = 0 + partW m c t j := by
  idx_vars j
  rw [outs_A m c t n0 (by omega)]; unfold leftA runA read4; frame_out
  simp (disch := decide) only [↓ View.readCov_skip, ↓ View.readCov_cons_toLoadRect, ↓ View.readCov_fill]
  refine View.canon_append_of_piecesOf (Val := Elt Ideal) (e := .f32) (s := S3x1024) (fun j => 0 + partW m c t j) [_] [_, _, _] ⟨fun x => ?_, fun x => ?_, fun x => ?_, trivial⟩ _
    (View.cover_of_tiledBy _ ![1, 1024] (by sl_kernel_rfl) _)
  · exact (tap2 m c t _ x _ _ (by show 2 + 1 * (x 0).val = _; omega) (by show 0 + 1 * (x 1).val = _; omega)).trans (congrArg (· + _) (zero_w _))
  · exact (tap1 m c t _ x _ _ (by show 1 + 1 * (x 0).val = _; omega) (by show 0 + 1 * (x 1).val = _; omega)).trans (congrArg (· + _) (zero_w _))
  · exact (tap0 m c t _ x _ _ (by show 0 + 1 * (x 0).val = _; omega) (by show 0 + 1 * (x 1).val = _; omega)).trans (congrArg (· + _) (zero_w _))

/-- and after each later one. -/
theorem dw_step (t : Fin cfg0.N) (n0 : ¬ t.val % 32 = 0) (j : S3x1024.Idx) :
    (outs m c t.val t.isLt).2.1 j = (before m c t).2.1 j + partW m c t j := by
  idx_vars j
  by_cases n1 : t.val % 8 = 0
  · rw [outs_C m c t n0 n1]; unfold leftC runC read4; frame_out; canon_tiles x h
    · exact tap2 m c t _ x j0 j1 h0 h1
    · exact tap1 m c t _ x j0 j1 h0 h1
    · exact tap0 m c t _ x j0 j1 h0 h1
  · rw [outs_B m c t n0 n1]; unfold leftB runB read4; frame_out; canon_tiles x h
    · exact tap2 m c t _ x j0 j1 h0 h1
    · exact tap1 m c t _ x j0 j1 h0 h1
    · exact tap0 m c t _ x j0 j1 h0 h1

/-- A sum over the points and their rows is a sum over all rows. -/
theorem sum_points (f : ℕ → EReal) : ∑ t : Fin cfg0.N, ∑ r : Fin 256, f (base t + r.val) = ∑ r : Fin 8192, f r.val := by
  rw [← Equiv.sum_comp Fin.revPerm]
  refine Fin.sum_mul_add_congr fun s k hl => ?_
  have hs := s.isLt
  have e : cfg0.N = 32 := N_0
  exact congrArg f (by unfold base; show (31 - (cfg0.N - (s.val + 1))) * 256 + k.val = s.val * 256 + k.val; omega)

/-- The last point. -/
def t31 : Fin cfg0.N := ⟨31, by rw [show cfg0.N = 32 from N_0]; omega⟩

/-- The call's results as arrays of the arguments. -/
def dhArr (j : S3x8192x1024.Idx) : EReal := dhAt (argH m c) (argQ m c) (argW m c) (argB m c) (j 0) (j 1).val (j 2)
def dwArr (j : S3x1024.Idx) : EReal := ∑ r : Fin 8192, dwRow (d m c) (p m c) (j 0) r.val (j 1)
def dbArr (j : S1x1024.Idx) : EReal := ∑ r : Fin 8192, d m c r.val (j 1)

/-- The first result holds the first argument's gradient, -/
theorem final_dh : (dats m 0 c).arrAt 8 cfg0.N = dhArr m c := by
  refine (dats m 0 c).arrAt_eq_of_covers 8 _ (by decide +kernel) fun t _ y => ?_
  blk_simp
  rw [after0_8]
  idx_vars y
  rw [dh_at]
  show dhArr m c (ix3 y0 ⟨base t + y1.val, base_lt t y1⟩ y2) = _
  congr 1
  blk_ext [idx t, base]

/-- the second the taps', -/
theorem final_dw : (dats m 0 c).arrAt 9 cfg0.N = dwArr m c := by
  refine (dats m 0 c).arrAt_eq_of_after_last 9 t31 (by decide +kernel) _ fun j => ?_
  blk_simp
  rw [after0_9, Pipeline.eq_sum_fin_of_reset_step_apply_last (fun n h => (outs m c n h).2.1) 32 (fun _ => 0) _
    (fun t h j => dw_first m c t h j) (fun t h j => dw_step m c t h j) (le_of_eq N_0) t31 (by show 31 + 1 = _; exact N_0.symm) j, zero_add]
  exact sum_points fun r => dwRow (d m c) (p m c) (j 0) r (j 1)

/-- and the third the bias's. -/
theorem final_db : (dats m 0 c).arrAt 10 cfg0.N = dbArr m c := by
  refine (dats m 0 c).arrAt_eq_of_after_last 10 t31 (by decide +kernel) _ fun j => ?_
  blk_simp
  rw [after0_10, Pipeline.eq_sum_fin_of_reset_step_apply_last (fun n h => (outs m c n h).2.2.1) 32 (fun _ => 0) _
    (fun t h j => by
      rw [outs_A m c t h (by omega)]; unfold leftA runA read4; frame_out; rw [bias_step, zero_b])
    (fun t h j => by
      by_cases h1 : t.val % 8 = 0
      · rw [outs_C m c t h h1]; unfold leftC runC read4; frame_out; rw [bias_step]
      · rw [outs_B m c t h h1]; unfold leftB runB read4; frame_out; rw [bias_step])
    (le_of_eq N_0) t31 (by show 31 + 1 = _; exact N_0.symm) j, zero_add]
  exact sum_points fun r => d m c r (j 1)

/-- The call's run, with every result named. -/
theorem run_named (ρ : Dev nD → PrngReg) : θ_run defs (onTc (τ := τ) (main (F := Ideal))) ⟨m, fun _ => 0, ρ⟩ fun r => ∀ c : Dev nD,
      r.2.mem ((c.tc : Thread nD τ).loc main_v1_0) = dhArr m c
      ∧ r.2.mem ((c.tc : Thread nD τ).loc main_v1_1) = dwArr m c
      ∧ r.2.mem ((c.tc : Thread nD τ).loc main_v1_2) = dbArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 8).trans (final_dh m c), ((h.1 c).1 9).trans (final_dw m c),
      ((h.1 c).1 10).trans (final_db m c), h.2.1 c⟩)
    (θ_run_and (run_main m ρ) (Run.frame m ρ))

/-- The call's three results are the reference's. -/
theorem algebraic : Cert.algebraic_ScBwdIdeal_ScBwdRefIdeal
    (hScBwdIdeal := Cert.ScBwdIdeal.Gen.facts) (hScBwdRefIdeal := Cert.ScBwdRefIdeal.Gen.facts) := by
  intro m g m' g' _ hagree
  have eH : ∀ c : Dev nD, Cert.ScBwdRefIdeal.Val.argH m' c = argH m c := fun c => funext fun r => funext fun k => congrFun (hagree c).1 (ix2 r k)
  have eQ : ∀ c : Dev nD, Cert.ScBwdRefIdeal.Val.argQ m' c = argQ m c := fun c => funext fun r => funext fun k => congrFun (hagree c).2.1 (ix2 r k)
  have eW : ∀ c : Dev nD, Cert.ScBwdRefIdeal.Val.argW m' c = argW m c := fun c => funext fun r => funext fun k => congrFun (hagree c).2.2.1 (ix2 r k)
  have eB : ∀ c : Dev nD, Cert.ScBwdRefIdeal.Val.argB m' c = argB m c := fun c => funext fun k => congrFun (hagree c).2.2.2 (ix1 k)
  refine ⟨_, _, _, run_named m g, (θ_run _ _ _).mono (fun _ h c => ⟨funext fun i => ?_, funext fun i => ?_, funext fun i => ?_, (h c).2.2.2⟩)
    (Cert.ScBwdRefIdeal.Val.run_val m' g')⟩
  · idx_vars i
    refine ((h c).1 _ _ _).trans ?_
    rw [eH, eQ, eW, eB]
    rfl
  · idx_vars i
    refine ((h c).2.1 _ _).trans ?_
    rw [eH, eQ]
    rfl
  · idx_vars i
    refine ((h c).2.2.1 _ _).trans ?_
    rw [eH, eQ]
    rfl

end Cert.ScBwdIdeal.Val
end
-- ==== Proof.FfnMath.lean ====
/- The gate of the feed-forward block and its gradient as functions of extended reals: as the reference writes it, as the
   kernel writes it, and their equality at real numbers. -/
module
public import proofs.«01_k».proof.Proof.ConvMath
public import Mathlib.Analysis.SpecialFunctions.Trigonometric.DerivHyp

@[expose] public section
noncomputable section
open Idealize.ShloMosaic
open scoped BigOperators

namespace Cert.FfnMath
open Cert.Reals Cert.ScMath

/-- The logistic function, as a quotient. -/
def sig (x : EReal) : EReal := Ideal.div 1 (1 + Ideal.exp (-x))

/-- The gradient of the gate half: from the gradient `a` of the product, the gate `g` and the value `v`. -/
def gGate (a g v : EReal) : EReal := a * v * sig g + g * (a * v) * (sig g * (1 - sig g))

/-- The gradient of the value half. -/
def gVal (a g : EReal) : EReal := g * sig g * a

/-- The logistic function by the hyperbolic tangent, -/
def sigT (x : EReal) : EReal := ((1 / 2 : ℝ) : EReal) + ((1 / 2 : ℝ) : EReal) * Ideal.tanh (((1 / 2 : ℝ) : EReal) * x)

/-- the gate half's gradient with it, in one product, -/
def kGate (a g v : EReal) : EReal := a * v * (sigT g * (1 + g * (1 - sigT g)))

/-- and the value half's. -/
def kVal (a g : EReal) : EReal := a * (g * sigT g)

/-- The logistic function by the hyperbolic tangent, of real numbers. -/
theorem logistic_tanh (x : ℝ) : 1 / 2 + 1 / 2 * Real.tanh (1 / 2 * x) = 1 / (1 + Real.exp (-x)) := by
  have h : Real.exp (-x) = Real.exp (-(1 / 2 * x)) * Real.exp (-(1 / 2 * x)) := by
    rw [← Real.exp_add]; congr 1; ring
  have h1 : Real.exp (1 / 2 * x) * Real.exp (-(1 / 2 * x)) = 1 := by
    rw [← Real.exp_add, add_neg_cancel, Real.exp_zero]
  rw [Real.tanh_eq_sinh_div_cosh, Real.sinh_eq, Real.cosh_eq, h]
  have p := Real.exp_pos (1 / 2 * x)
  have q := Real.exp_pos (-(1 / 2 * x))
  generalize Real.exp (1 / 2 * x) = y at *
  generalize Real.exp (-(1 / 2 * x)) = z at *
  have hz : z = 1 / y := by field_simp; linarith
  subst hz
  field_simp
  ring

/-- Both are real at a real number, -/
theorem sig_real (x : ℝ) : sig (x : EReal) = ((1 / (1 + Real.exp (-x)) : ℝ) : EReal) := by
  unfold sig
  have e : Ideal.exp (-(x : EReal)) = ((Real.exp (-x) : ℝ) : EReal) := rfl
  have p : (1 : ℝ) + Real.exp (-x) ≠ 0 := by have := Real.exp_pos (-x); positivity
  rw [e, ← EReal.coe_one, ← EReal.coe_add, div_real p]

/-- and equal there. -/
theorem sigT_eq (x : ℝ) : sigT (x : EReal) = sig (x : EReal) := by
  rw [sig_real, ← logistic_tanh]
  unfold sigT
  rw [← EReal.coe_mul]
  show ((1 / 2 : ℝ) : EReal) + ((1 / 2 : ℝ) : EReal) * ((Real.tanh (1 / 2 * x) : ℝ) : EReal) = _
  rw [← EReal.coe_mul, ← EReal.coe_add]

/-- The gate half's gradients agree at real numbers, -/
theorem kGate_eq (a g v : ℝ) : kGate a g v = gGate a g v := by
  unfold kGate gGate
  rw [sigT_eq, sig_real]
  generalize 1 / (1 + Real.exp (-g)) = s
  rw [← EReal.coe_one]
  simp only [← EReal.coe_mul, ← EReal.coe_add, ← EReal.coe_sub]
  congr 1
  ring

/-- and the value half's. -/
theorem kVal_eq (a g : ℝ) : kVal a g = gVal a g := by
  unfold kVal gVal
  rw [sigT_eq, mul_comm]

/-- The gate channel of a pair, -/
def gl (f : Fin 2816) : Fin 5632 := ⟨f.val, by have := f.isLt; omega⟩

/-- and its value channel. -/
def vl (f : Fin 2816) : Fin 5632 := ⟨2816 + f.val, by have := f.isLt; omega⟩

/-- The convolution's input at row `r` (zero past the last row). -/
def hRow (H : Fin 8192 → Fin 5632 → EReal) (r : ℕ) (l : Fin 5632) : EReal := if h : r < 8192 then H ⟨r, h⟩ l else 0

/-- The gradient of the gated product at row `r` (zero past the last row). -/
def aRow (D : Fin 2816 → Fin 1024 → EReal) (Q : Fin 8192 → Fin 1024 → EReal) (r : ℕ) (f : Fin 2816) : EReal :=
  if h : r < 8192 then ∑ k : Fin 1024, Q ⟨r, h⟩ k * D f k else 0

/-- The gradient of the convolution's output: a function of the gate and value halves, by channel. -/
def dRow (G : EReal → EReal → EReal → EReal) (V : EReal → EReal → EReal) (u : ℕ → Fin 5632 → EReal) (a : ℕ → Fin 2816 → EReal)
    (r : ℕ) (l : Fin 5632) : EReal :=
  if h : l.val < 2816 then G (a r ⟨l.val, h⟩) (u r (gl ⟨l.val, h⟩)) (u r (vl ⟨l.val, h⟩))
  else V (a r ⟨l.val - 2816, by have := l.isLt; omega⟩) (u r (gl ⟨l.val - 2816, by have := l.isLt; omega⟩))

/-- The two forms of the gradient agree where everything is real. -/
theorem dRow_eq {u : ℕ → Fin 5632 → EReal} {a : ℕ → Fin 2816 → EReal} (hu : ∀ r l, ∃ x : ℝ, u r l = (x : EReal))
    (ha : ∀ r f, ∃ x : ℝ, a r f = (x : EReal)) : dRow kGate kVal u a = dRow gGate gVal u a := by
  funext r l
  unfold dRow
  split
  · rename_i h
    obtain ⟨x, ex⟩ := ha r ⟨l.val, h⟩
    obtain ⟨y, ey⟩ := hu r (gl ⟨l.val, h⟩)
    obtain ⟨z, ez⟩ := hu r (vl ⟨l.val, h⟩)
    rw [ex, ey, ez]
    exact kGate_eq x y z
  · rename_i h
    obtain ⟨x, ex⟩ := ha r ⟨l.val - 2816, by have := l.isLt; omega⟩
    obtain ⟨y, ey⟩ := hu r (gl ⟨l.val - 2816, by have := l.isLt; omega⟩)
    rw [ex, ey]
    exact kVal_eq x y

/-- The convolution's output is real where its arguments are. -/
theorem uRow_real {H : Fin 8192 → Fin 5632 → EReal} {w : Fin 3 → Fin 5632 → EReal} {b : Fin 5632 → EReal}
    (hH : ∀ r l, ∃ x : ℝ, H r l = (x : EReal)) (hw : ∀ k l, ∃ x : ℝ, w k l = (x : EReal)) (hb : ∀ l, ∃ x : ℝ, b l = (x : EReal))
    (r : ℕ) (l : Fin 5632) : ∃ x : ℝ, uRow (hRow H) w b r l = (x : EReal) := by
  have hh : ∀ q, ∃ x : ℝ, hRow H q l = (x : EReal) := fun q => by
    unfold hRow
    split
    · exact hH _ _
    · exact ⟨0, EReal.coe_zero.symm⟩
  have hp : ∀ k, ∃ x : ℝ, prev (hRow H) k r l = (x : EReal) := fun k => by
    unfold prev
    split
    · exact ⟨0, EReal.coe_zero.symm⟩
    · exact hh _
  obtain ⟨y, ey⟩ := hb l
  obtain ⟨w0, e0⟩ := hw 0 l
  obtain ⟨w1, e1⟩ := hw 1 l
  obtain ⟨w2, e2⟩ := hw 2 l
  obtain ⟨p2, f2⟩ := hp 2
  obtain ⟨p1, f1⟩ := hp 1
  obtain ⟨p0, f0⟩ := hh r
  refine ⟨y + w0 * p2 + w1 * p1 + w2 * p0, ?_⟩
  unfold uRow
  rw [ey, e0, e1, e2, f2, f1, f0]
  simp only [← EReal.coe_mul, ← EReal.coe_add]

/-- The gated product's gradient is real where its arguments are. -/
theorem aRow_real {D : Fin 2816 → Fin 1024 → EReal} {Q : Fin 8192 → Fin 1024 → EReal} (hD : ∀ f k, ∃ x : ℝ, D f k = (x : EReal))
    (hQ : ∀ r k, ∃ x : ℝ, Q r k = (x : EReal)) (r : ℕ) (f : Fin 2816) : ∃ x : ℝ, aRow D Q r f = (x : EReal) := by
  unfold aRow
  split
  · rename_i h
    refine ⟨∑ k : Fin 1024, (hQ ⟨r, h⟩ k).choose * (hD f k).choose, ?_⟩
    rw [← sum_coe]
    refine Finset.sum_congr rfl fun k _ => ?_
    rw [EReal.coe_mul, ← (hQ ⟨r, h⟩ k).choose_spec, ← (hD f k).choose_spec]
  · exact ⟨0, EReal.coe_zero.symm⟩

/-- The sum over a sequence of products with the rows before is the sum of products with the rows after. -/
theorem sum_shift {n : ℕ} (d p : ℕ → Fin n → EReal) (k : ℕ) (l : Fin n) :
    ∑ r : Fin 8192, d r.val l * prev p k r.val l = ∑ r : Fin 8192, p r.val l * next d k r.val l := by
  rw [← sum_seq fun r => d r l * prev p k r l, ← sum_seq fun r => p r l * next d k r l]
  refine Finset.sum_congr rfl fun b _ => ?_
  unfold prev next
  rw [Fin.sum_univ_eq_sum_range (fun t => d (b.val * 2048 + t) l * if (b.val * 2048 + t) % 2048 < k then 0 else p (b.val * 2048 + t - k) l),
    Fin.sum_univ_eq_sum_range (fun t => p (b.val * 2048 + t) l * if (b.val * 2048 + t) % 2048 + k < 2048 then d (b.val * 2048 + t + k) l else 0)]
  symm
  refine Finset.sum_bij_ne_zero (fun t _ _ => t + k) ?_ ?_ ?_ ?_
  · intro t ht hn
    rw [Finset.mem_range] at ht ⊢
    by_contra hc
    rw [if_neg (by omega), mul_zero] at hn
    exact hn rfl
  · intro a _ _ b _ _ e
    omega
  · intro t ht hn
    rw [Finset.mem_range] at ht
    have hk : ¬ (b.val * 2048 + t) % 2048 < k := fun hc => by
      rw [if_pos hc, mul_zero] at hn
      exact hn rfl
    refine ⟨t - k, Finset.mem_range.mpr (by omega), ?_, by omega⟩
    rw [if_pos (by omega), show b.val * 2048 + (t - k) + k = b.val * 2048 + t by omega,
      show b.val * 2048 + (t - k) = b.val * 2048 + t - k by omega, mul_comm]
    rwa [if_neg hk] at hn
  · intro t ht hn
    rw [Finset.mem_range] at ht
    have hk : (b.val * 2048 + t) % 2048 + k < 2048 := by
      by_contra hc
      rw [if_neg hc, mul_zero] at hn
      exact hn rfl
    rw [if_pos hk, if_neg (by omega), show b.val * 2048 + (t + k) - k = b.val * 2048 + t by omega,
      show b.val * 2048 + (t + k) = b.val * 2048 + t + k by omega, mul_comm]

end Cert.FfnMath
end
-- ==== Proof.FfnRef.lean ====
/- The reference's side of the feed-forward block's backward call, element by element. -/
module
public import proofs.«01_k».proof.Defs
public import proofs.«01_k».proof.Proof.Gen.FfnBwdRefIdeal
public import proofs.«01_k».proof.Proof.Gen.FfnBwdRefIdeal.Run
public import proofs.«01_k».proof.Proof.FfnMath
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open scoped BigOperators

namespace Cert.FfnBwdRefIdeal.Val
open Cert.FfnBwdRefIdeal Cert.FfnBwdRefIdeal.Gen Cert.Reals Cert.ScMath Cert.FfnMath

/-- The input with two rows of zeros before each sequence. -/
def padded (x : FVec Ideal S4x2048x5632 .f32) : FVec Ideal S4x2050x5632 .f32 :=
  concatenate S4x2050x5632 1 [⟨S4x2x5632, (broadcastInDim S4x2x5632 ![] bcast_S_S4x2x5632 (constant S_ .f32 0x00000000#32))⟩,
    ⟨S4x2048x5632, x⟩] concatenates_S4x2x5632_S4x2048x5632_S4x2050x5632_d1

/-- The convolution's output. -/
def refU (x : FVec Ideal S4x2048x5632 .f32) (cw : FVec Ideal S3x5632 .f32) (cb : FVec Ideal S5632 .f32) : FVec Ideal S4x2048x5632 .f32 :=
  addf (addf (addf (mulf (extractStridedSlice S4x2048x5632 ![0, 0, 0] (padded x) slices_S4x2050x5632_S4x2048x5632_0_0_0)
    (broadcastInDim S4x2048x5632 ![0, 1, 2] bcast_S1x1x5632_S4x2048x5632_0_1_2 (broadcastInDim S1x1x5632 ![2]
    bcast_S5632_S1x1x5632_2 (shapeCast _ (extractStridedSlice S1x5632 ![0, 0] cw slices_S3x5632_S1x5632_0_0)
    shapeCasts_S1x5632_S5632)))) (broadcastInDim S4x2048x5632 ![0, 1, 2] bcast_S1x1x5632_S4x2048x5632_0_1_2 (broadcastInDim
    S1x1x5632 ![2] bcast_S5632_S1x1x5632_2 cb))) (mulf (extractStridedSlice S4x2048x5632 ![0, 1, 0] (padded x)
    slices_S4x2050x5632_S4x2048x5632_0_1_0) (broadcastInDim S4x2048x5632 ![0, 1, 2] bcast_S1x1x5632_S4x2048x5632_0_1_2
    (broadcastInDim S1x1x5632 ![2] bcast_S5632_S1x1x5632_2 (shapeCast _ (extractStridedSlice S1x5632 ![1, 0] cw
    slices_S3x5632_S1x5632_1_0) shapeCasts_S1x5632_S5632))))) (mulf (extractStridedSlice S4x2048x5632 ![0, 2, 0] (padded x) slices_S4x2050x5632_S4x2048x5632_0_2_0) (broadcastInDim S4x2048x5632 ![0, 1, 2] bcast_S1x1x5632_S4x2048x5632_0_1_2
    (broadcastInDim S1x1x5632 ![2] bcast_S5632_S1x1x5632_2 (shapeCast _ (extractStridedSlice S1x5632 ![2, 0] cw
    slices_S3x5632_S1x5632_2_0) shapeCasts_S1x5632_S5632))))

/-- The gradient of the convolution's input. -/
def refDp (y : FVec Ideal S4x2048x5632 .f32) (cw : FVec Ideal S3x5632 .f32) : FVec Ideal S4x2048x5632 .f32 :=
  extractStridedSlice S4x2048x5632 ![0, 2, 0] (addf (addf (pad S4x2050x5632 ![0, 2, 0] ![0, 0, 0] ![0, 0, 0] (mulf y (broadcastInDim S4x2048x5632 ![0, 1, 2] bcast_S1x1x5632_S4x2048x5632_0_1_2 (broadcastInDim S1x1x5632 ![2]
    bcast_S5632_S1x1x5632_2 (shapeCast _ (extractStridedSlice S1x5632 ![2, 0] cw slices_S3x5632_S1x5632_2_0)
    shapeCasts_S1x5632_S5632)))) (constant S_ .f32 0x00000000#32) pads_S4x2048x5632_S4x2050x5632_000_200_000 h_S_) (pad
    S4x2050x5632 ![0, 1, 0] ![0, 1, 0] ![0, 0, 0] (mulf y (broadcastInDim S4x2048x5632 ![0, 1, 2]
    bcast_S1x1x5632_S4x2048x5632_0_1_2 (broadcastInDim S1x1x5632 ![2] bcast_S5632_S1x1x5632_2 (shapeCast _
    (extractStridedSlice S1x5632 ![1, 0] cw slices_S3x5632_S1x5632_1_0) shapeCasts_S1x5632_S5632)))) (constant S_ .f32
    0x00000000#32) pads_S4x2048x5632_S4x2050x5632_000_110_000 h_S_)) (pad S4x2050x5632 ![0, 0, 0] ![0, 2, 0] ![0, 0, 0] (mulf
    y (broadcastInDim S4x2048x5632 ![0, 1, 2] bcast_S1x1x5632_S4x2048x5632_0_1_2 (broadcastInDim S1x1x5632 ![2]
    bcast_S5632_S1x1x5632_2 (shapeCast _ (extractStridedSlice S1x5632 ![0, 0] cw slices_S3x5632_S1x5632_0_0)
    shapeCasts_S1x5632_S5632)))) (constant S_ .f32 0x00000000#32) pads_S4x2048x5632_S4x2050x5632_000_020_000 h_S_))
    slices_S4x2050x5632_S4x2048x5632_0_2_0

/-- The gradient of the taps. -/
def refDw (x y : FVec Ideal S4x2048x5632 .f32) : FVec Ideal S3x5632 .f32 :=
  addf (addf (pad S3x5632 ![2, 0] ![0, 0] ![0, 0] (broadcastInDim S1x5632 ![1] bcast_S5632_S1x5632_1 (Host.reduceAdd
    (shapeCast _ (Host.reduceAdd (mulf (extractStridedSlice S4x2048x5632 ![0, 2, 0] (padded x)
    slices_S4x2050x5632_S4x2048x5632_0_2_0) y) (constant S_ .f32 0x00000000#32) reducesTo_S4x2048x5632_S5632_d0_1
    h_S_) shapeCasts_S5632_S1x1x5632) (constant S_ .f32 0x00000000#32) reducesTo_S1x1x5632_S5632_d0_1 h_S_)) (constant S_
    .f32 0x00000000#32) pads_S1x5632_S3x5632_200_000 h_S_) (pad S3x5632 ![1, 0] ![1, 0] ![0, 0] (broadcastInDim S1x5632 ![1]
    bcast_S5632_S1x5632_1 (Host.reduceAdd (shapeCast _ (Host.reduceAdd (mulf (extractStridedSlice S4x2048x5632 ![0, 1, 0]
    (padded x) slices_S4x2050x5632_S4x2048x5632_0_1_0) y) (constant S_ .f32 0x00000000#32)
    reducesTo_S4x2048x5632_S5632_d0_1 h_S_) shapeCasts_S5632_S1x1x5632) (constant S_ .f32 0x00000000#32)
    reducesTo_S1x1x5632_S5632_d0_1 h_S_)) (constant S_ .f32 0x00000000#32) pads_S1x5632_S3x5632_110_000 h_S_)) (pad S3x5632
    ![0, 0] ![2, 0] ![0, 0] (broadcastInDim S1x5632 ![1] bcast_S5632_S1x5632_1 (Host.reduceAdd (shapeCast _ (Host.reduceAdd
    (mulf (extractStridedSlice S4x2048x5632 ![0, 0, 0] (padded x) slices_S4x2050x5632_S4x2048x5632_0_0_0) y)
    (constant S_ .f32 0x00000000#32) reducesTo_S4x2048x5632_S5632_d0_1 h_S_) shapeCasts_S5632_S1x1x5632) (constant S_ .f32
    0x00000000#32) reducesTo_S1x1x5632_S5632_d0_1 h_S_)) (constant S_ .f32 0x00000000#32) pads_S1x5632_S3x5632_020_000 h_S_)

/-- The gradient of the bias. -/
def refDb (y : FVec Ideal S4x2048x5632 .f32) : FVec Ideal S5632 .f32 :=
  Host.reduceAdd (shapeCast S1x1x5632 (Host.reduceAdd y
    (constant S_ .f32 0x00000000#32) reducesTo_S4x2048x5632_S5632_d0_1 h_S_) shapeCasts_S5632_S1x1x5632)
    (constant S_ .f32 0x00000000#32) reducesTo_S1x1x5632_S5632_d0_1 h_S_

variable {x y : FVec Ideal S4x2048x5632 .f32} {cw : FVec Ideal S3x5632 .f32} {cb : FVec Ideal S5632 .f32}
variable {p d : ℕ → Fin 5632 → EReal}

/-- A row of the padded array, read `k` rows back. -/
theorem padded_at (hp : ∀ (b : Fin 4) (t : Fin 2048) (l : Fin 5632), x (ix3 b t l) = p (b.val * 2048 + t.val) l)
    (b : Fin 4) (t : Fin 2048) (l : Fin 5632) (k : ℕ) (n : Fin 2050) (hn : n.val + k = t.val + 2) :
    padded x (ix3 b n l) = prev p k (b.val * 2048 + t.val) l := by
  have ht := t.isLt
  pointwise [padded]
  unfold prev
  rw [show (b.val * 2048 + t.val) % 2048 = t.val by omega]
  by_cases h : n.val < 2
  · rw [dif_pos h, if_pos (by omega)]
  · rw [dif_neg h, if_neg (show ¬ t.val < k by omega)]
    refine (hp b ⟨n.val - 2, by omega⟩ l).trans ?_
    exact congrArg (fun r => p r l) (show b.val * 2048 + (n.val - 2) = b.val * 2048 + t.val - k by omega)

/-- The convolution's output. -/
theorem refU_at (hp : ∀ (b : Fin 4) (t : Fin 2048) (l : Fin 5632), x (ix3 b t l) = p (b.val * 2048 + t.val) l)
    (b : Fin 4) (t : Fin 2048) (l : Fin 5632) :
    refU x cw cb (ix3 b t l) = uRow p (fun k l => cw (ix2 k l)) (fun l => cb (ix1 l)) (b.val * 2048 + t.val) l := by
  pointwise [refU]
  rw [padded_at hp b t l 2 _ rfl, padded_at hp b t l 1 _ (by show 1 + t.val + 1 = _; omega),
    padded_at hp b t l 0 _ (by show 2 + t.val + 0 = _; omega), prev_zero]
  unfold uRow
  rw [mul_comm (prev p 2 _ l), mul_comm (prev p 1 _ l), mul_comm (p _ l), add_comm (cw (ix2 0 l) * _)]

/-- The gradient of the convolution's input. -/
theorem refDp_at (hd : ∀ (b : Fin 4) (t : Fin 2048) (l : Fin 5632), y (ix3 b t l) = d (b.val * 2048 + t.val) l)
    (b : Fin 4) (t : Fin 2048) (l : Fin 5632) :
    refDp y cw (ix3 b t l) = dpRow d (fun k l => cw (ix2 k l)) (b.val * 2048 + t.val) l := by
  have ht := t.isLt
  pointwise [refDp]
  simp only [hd]
  unfold dpRow next
  rw [show (b.val * 2048 + t.val) % 2048 = t.val by omega, mul_comm (d _ l)]
  by_cases h1 : t.val + 1 < 2048
  · rw [dif_pos ⟨by omega, by omega⟩, if_pos h1, mul_comm (d _ l), show b.val * 2048 + (2 + t.val - 1) = b.val * 2048 + t.val + 1 by omega]
    by_cases h2 : t.val + 2 < 2048
    · rw [dif_pos (by omega), if_pos h2, mul_comm (d _ l), show b.val * 2048 + (2 + t.val) = b.val * 2048 + t.val + 2 by omega]
    · rw [dif_neg (by omega), if_neg h2, mul_zero]
  · rw [dif_neg (by omega), if_neg h1, dif_neg (by omega), if_neg (by omega), mul_zero, mul_zero]

/-- The sum of an array over its sequences and rows, laid out again as a row. -/
theorem sum_rows (z : FVec Ideal S4x2048x5632 .f32) (l : Fin 5632) :
    Ideal.hostReduceAdd reducesTo_S1x1x5632_S5632_d0_1 (shapeCast S1x1x5632 (Host.reduceAdd z (constant S_ .f32 0#32)
      reducesTo_S4x2048x5632_S5632_d0_1 h_S_) shapeCasts_S5632_S1x1x5632) 0 (ix1 l)
      = ∑ b : Fin 4, ∑ t : Fin 2048, z (ix3 b t l) := by
  rw [sum01]
  pointwise
  rw [sum01, zero_add]
  simp only [Finset.univ_unique, Finset.sum_singleton]

/-- The gradient of the taps. -/
theorem refDw_at (hp : ∀ (b : Fin 4) (t : Fin 2048) (l : Fin 5632), x (ix3 b t l) = p (b.val * 2048 + t.val) l)
    (hd : ∀ (b : Fin 4) (t : Fin 2048) (l : Fin 5632), y (ix3 b t l) = d (b.val * 2048 + t.val) l)
    (k : Fin 3) (l : Fin 5632) :
    refDw x y (ix2 k l) = ∑ b : Fin 4, ∑ t : Fin 2048, dwRow d p k (b.val * 2048 + t.val) l := by
  match k with
  | 0 =>
    pointwise [refDw]
    rw [sum_rows]
    refine Finset.sum_congr rfl fun b _ => Finset.sum_congr rfl fun t _ => ?_
    pointwise
    rw [padded_at hp b t l 2 _ rfl, hd, mul_comm]
    rfl
  | 1 =>
    pointwise [refDw]
    rw [sum_rows]
    refine Finset.sum_congr rfl fun b _ => Finset.sum_congr rfl fun t _ => ?_
    pointwise
    rw [padded_at hp b t l 1 _ (by show 1 + t.val + 1 = _; omega), hd, mul_comm]
    rfl
  | 2 =>
    pointwise [refDw]
    rw [sum_rows]
    refine Finset.sum_congr rfl fun b _ => Finset.sum_congr rfl fun t _ => ?_
    pointwise
    rw [padded_at hp b t l 0 _ (by show 2 + t.val + 0 = _; omega), hd, mul_comm]
    rfl

/-- It is the sum of the gradient of the convolution's output. -/
theorem refDb_at (hd : ∀ (b : Fin 4) (t : Fin 2048) (l : Fin 5632), y (ix3 b t l) = d (b.val * 2048 + t.val) l)
    (l : Fin 5632) : refDb y (ix1 l) = ∑ b : Fin 4, ∑ t : Fin 2048, d (b.val * 2048 + t.val) l := by
  pointwise [refDb]
  rw [sum_rows]
  exact Finset.sum_congr rfl fun b _ => Finset.sum_congr rfl fun t _ => hd b t l

/-- The gate half of the convolution's output, -/
def gatePart (u : FVec Ideal S4x2048x5632 .f32) : FVec Ideal S4x2048x2816 .f32 :=
  extractStridedSlice S4x2048x2816 ![0, 0, 0] u slices_S4x2048x5632_S4x2048x2816_0_0_0

/-- its value half, -/
def valPart (u : FVec Ideal S4x2048x5632 .f32) : FVec Ideal S4x2048x2816 .f32 :=
  extractStridedSlice S4x2048x2816 ![0, 0, 2816] u slices_S4x2048x5632_S4x2048x2816_0_0_2816

/-- an array of ones, -/
def ones : FVec Ideal S4x2048x2816 .f32 := broadcastInDim S4x2048x2816 ![] bcast_S_S4x2048x2816 (constant S_ .f32 0x3F800000#32)

/-- the logistic function of the gate, -/
def sigm (g : FVec Ideal S4x2048x2816 .f32) : FVec Ideal S4x2048x2816 .f32 := Host.divf ones (addf ones (Host.exp (Host.negf g)))

/-- the gradient of the gated product -/
def dAct (q : FVec Ideal S8192x1024 .bf16) (w : FVec Ideal S2816x1024 .bf16) : FVec Ideal S4x2048x2816 .f32 :=
  Host.dotGeneral dot_S4x2048x1024_S2816x1024_S4x2048x2816_2_1_01_0_n_n none (shapeCast S4x2048x1024 (extf .f32 q bitsLt_bf16_f32)
    shapeCasts_S8192x1024_S4x2048x1024) (extf .f32 w bitsLt_bf16_f32)

/-- and the gradient of the convolution's output. -/
def refD (g v a : FVec Ideal S4x2048x2816 .f32) : FVec Ideal S4x2048x5632 .f32 :=
  concatenate S4x2048x5632 2 [⟨S4x2048x2816, (addf (mulf (mulf a v) (sigm g)) (mulf (mulf g (mulf a v)) (mulf (sigm g)
    (subf ones (sigm g)))) : FVec Ideal S4x2048x2816 .f32)⟩, ⟨S4x2048x2816, (mulf (mulf g (sigm g)) a : FVec Ideal S4x2048x2816 .f32)⟩]
    concatenates_S4x2048x2816_S4x2048x2816_S4x2048x5632_d2

/-- The input as the reference lays it out. -/
def seqs (h : FVec Ideal S8192x5632 .bf16) : FVec Ideal S4x2048x5632 .f32 :=
  shapeCast S4x2048x5632 (extf .f32 h bitsLt_bf16_f32) shapeCasts_S8192x5632_S4x2048x5632

/-- The gradient of the input as the call returns it. -/
def refDh (y : FVec Ideal S4x2048x5632 .f32) (cw : FVec Ideal S3x5632 .f32) : FVec Ideal S2x8192x2816 .bf16 :=
  truncf .bf16 (transpose S2x8192x2816 [1, 0, 2] (shapeCast S8192x2x2816 (shapeCast S8192x5632 (refDp y cw)
    shapeCasts_S4x2048x5632_S8192x5632) shapeCasts_S8192x5632_S8192x2x2816) transposes_S8192x2x2816_S2x8192x2816_1_0_2) bitsLt_bf16_f32

theorem seqs_at (h : FVec Ideal S8192x5632 .bf16) (b : Fin 4) (t : Fin 2048) (l : Fin 5632) :
    seqs h (ix3 b t l) = hRow (fun r l => h (ix2 r l)) (b.val * 2048 + t.val) l := by
  pointwise [seqs]
  unfold hRow
  rw [dif_pos (show b.val * 2048 + t.val < 8192 by omega)]

theorem dAct_at (q : FVec Ideal S8192x1024 .bf16) (w : FVec Ideal S2816x1024 .bf16) (b : Fin 4) (t : Fin 2048) (f : Fin 2816) :
    dAct q w (ix3 b t f) = aRow (fun f k => w (ix2 f k)) (fun r k => q (ix2 r k)) (b.val * 2048 + t.val) f := by
  pointwise [dAct]
  unfold aRow
  rw [dif_pos (show b.val * 2048 + t.val < 8192 by omega)]

theorem ones_at (b : Fin 4) (t : Fin 2048) (f : Fin 2816) : ones (ix3 b t f) = 1 := by
  pointwise [ones]

theorem gate_at {x : FVec Ideal S4x2048x5632 .f32} (b : Fin 4) (t : Fin 2048) (f : Fin 2816) :
    gatePart x (ix3 b t f) = x (ix3 b t (gl f)) := by
  pointwise [gatePart]
  rfl

theorem val_at {x : FVec Ideal S4x2048x5632 .f32} (b : Fin 4) (t : Fin 2048) (f : Fin 2816) :
    valPart x (ix3 b t f) = x (ix3 b t (vl f)) := by
  pointwise [valPart]
  rfl

theorem refD_at {g v a : FVec Ideal S4x2048x2816 .f32} {u : ℕ → Fin 5632 → EReal} {A : ℕ → Fin 2816 → EReal}
    (hg : ∀ (b : Fin 4) (t : Fin 2048) (f : Fin 2816), g (ix3 b t f) = u (b.val * 2048 + t.val) (gl f))
    (hv : ∀ (b : Fin 4) (t : Fin 2048) (f : Fin 2816), v (ix3 b t f) = u (b.val * 2048 + t.val) (vl f))
    (ha : ∀ (b : Fin 4) (t : Fin 2048) (f : Fin 2816), a (ix3 b t f) = A (b.val * 2048 + t.val) f)
    (b : Fin 4) (t : Fin 2048) (l : Fin 5632) :
    refD g v a (ix3 b t l) = dRow gGate gVal u A (b.val * 2048 + t.val) l := by
  have hs : ∀ (b : Fin 4) (t : Fin 2048) (f : Fin 2816), sigm g (ix3 b t f) = Cert.FfnMath.sig (u (b.val * 2048 + t.val) (gl f)) := fun b t f => by
    pointwise [sigm]
    rw [hg, ones_at]
    rfl
  pointwise [refD]
  unfold dRow gGate gVal
  by_cases h : l.val < 2816
  · rw [dif_pos h, dif_pos h, hs, hg, hv, ha, ones_at]
  · rw [dif_neg h, dif_neg h, hs, hg, ha]

variable (m : (ℓ : Loc nD τ sig) → Buf (Elt Ideal) ℓ) (c : Dev nD)

/-- The call's arguments, by row and lane. -/
abbrev argH (r : Fin 8192) (k : Fin 5632) : EReal := m ((c.tc : Thread nD τ).loc main_arg0) (ix2 r k)
abbrev argW (k : Fin 3) (l : Fin 5632) : EReal := m ((c.tc : Thread nD τ).loc main_arg1) (ix2 k l)
abbrev argB (l : Fin 5632) : EReal := m ((c.tc : Thread nD τ).loc main_arg2) (ix1 l)
abbrev argD (f : Fin 2816) (k : Fin 1024) : EReal := m ((c.tc : Thread nD τ).loc main_arg3) (ix2 f k)
abbrev argQ (r : Fin 8192) (k : Fin 1024) : EReal := m ((c.tc : Thread nD τ).loc main_arg4) (ix2 r k)

variable (h : FVec Ideal S8192x5632 .bf16) (w : FVec Ideal S2816x1024 .bf16) (q : FVec Ideal S8192x1024 .bf16)
variable (cw : FVec Ideal S3x5632 .f32) (cb : FVec Ideal S5632 .f32)

/-- The gradient of the convolution's output, of the arguments. -/
def refY : FVec Ideal S4x2048x5632 .f32 := refD (gatePart (refU (seqs h) cw cb)) (valPart (refU (seqs h) cw cb)) (dAct q w)

/-- It, row by row, of the arguments. -/
def yRow (H : Fin 8192 → Fin 5632 → EReal) (W : Fin 3 → Fin 5632 → EReal) (B : Fin 5632 → EReal) (D : Fin 2816 → Fin 1024 → EReal)
    (Q : Fin 8192 → Fin 1024 → EReal) : ℕ → Fin 5632 → EReal := dRow gGate gVal (uRow (hRow H) W B) (aRow D Q)

theorem refY_at (b : Fin 4) (t : Fin 2048) (l : Fin 5632) :
    refY h w q cw cb (ix3 b t l) = yRow (fun r l => h (ix2 r l)) (fun k l => cw (ix2 k l)) (fun l => cb (ix1 l))
      (fun f k => w (ix2 f k)) (fun r k => q (ix2 r k)) (b.val * 2048 + t.val) l := by
  refine refD_at (fun b t f => ?_) (fun b t f => ?_) (dAct_at q w) b t l
  · exact (gate_at b t f).trans (refU_at (seqs_at h) b t (gl f))
  · exact (val_at b t f).trans (refU_at (seqs_at h) b t (vl f))

/-- The gradient of the input, element by element. -/
theorem refDh_at (hd : ∀ (b : Fin 4) (t : Fin 2048) (l : Fin 5632), y (ix3 b t l) = d (b.val * 2048 + t.val) l) (r : Fin 8192)
    (f : Fin 2816) : refDh y cw (ix3 0 r f) = dpRow d (fun k l => cw (ix2 k l)) r.val (gl f)
      ∧ refDh y cw (ix3 1 r f) = dpRow d (fun k l => cw (ix2 k l)) r.val (vl f) := by
  have er : r.val / 2048 * 2048 + r.val % 2048 = r.val := Nat.div_add_mod' _ _
  constructor
  · pointwise [refDh]
    rw [refDp_at hd]
    simp only [er]
    rfl
  · pointwise [refDh]
    rw [refDp_at hd]
    simp only [er]
    rfl

end Cert.FfnBwdRefIdeal.Val
end
-- ==== Proof.FfnBlocks.lean ====
/- The blocks the feed-forward block's backward call reads at a point, by row and channel of the arguments. -/
module
public import proofs.«01_k».proof.Defs
public import proofs.«01_k».proof.Proof.Gen.FfnBwdIdeal
public import proofs.«01_k».proof.Proof.Gen.FfnBwdIdeal.Skeleton
public import proofs.«01_k».proof.Proof.Gen.FfnBwdIdeal.Frame.Runs
public import proofs.«01_k».proof.Proof.FfnRef
public import Idealize.ShloMosaic.Lib.Pipeline.ReadBack
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.FfnBwdIdeal.Val
open Cert.FfnBwdIdeal Cert.FfnBwdIdeal.Gen Cert.ScMath Cert.FfnMath

/-- Each window's block index at each of the thirty-two points. -/
theorem idx : ∀ t : Fin cfg0.N, win0_0.index t = ![15 - t.val % 16, 0] ∧ win0_1.index t = ![0, t.val / 16, 0]
    ∧ win0_2.index t = ![0, 15 - t.val % 16, t.val / 16] ∧ win0_3.index t = ![0, 15 - t.val % 16, t.val / 16]
    ∧ win0_4.index t = ![0, t.val / 16] ∧ win0_5.index t = ![0, t.val / 16 + 2]
    ∧ win0_6.index t = ![0, 15 - t.val % 16, t.val / 16] ∧ win0_7.index t = ![0, t.val / 16] ∧ win0_8.index t = ![0, t.val / 16]
    ∧ win0_9.index t = ![0, t.val / 16] ∧ win0_10.index t = ![0, t.val / 16] :=
  (by decide +kernel : ∀ t : Fin grid0.N, _)

variable (m : (ℓ : Loc nD τ sig) → Buf (Elt Ideal) ℓ) (c : Dev nD)

/-- The call's arguments, by row and channel. -/
abbrev argH (r : Fin 8192) (l : Fin 5632) : EReal := m ((c.tc : Thread nD τ).loc main_arg0) (ix2 r l)
abbrev argW (k : Fin 3) (l : Fin 5632) : EReal := m ((c.tc : Thread nD τ).loc main_arg1) (ix2 k l)
abbrev argB (l : Fin 5632) : EReal := m ((c.tc : Thread nD τ).loc main_arg2) (ix1 l)
abbrev argD (f : Fin 2816) (k : Fin 1024) : EReal := m ((c.tc : Thread nD τ).loc main_arg3) (ix2 f k)
abbrev argQ (r : Fin 8192) (k : Fin 1024) : EReal := m ((c.tc : Thread nD τ).loc main_arg4) (ix2 r k)

/-- The convolution's output, the gated product's gradient and the gradient of the convolution's output. -/
abbrev u : ℕ → Fin 5632 → EReal := uRow (hRow (argH m c)) (argW m c) (argB m c)
abbrev a : ℕ → Fin 2816 → EReal := aRow (argD m c) (argQ m c)
abbrev d : ℕ → Fin 5632 → EReal := Cert.FfnMath.dRow kGate kVal (u m c) (a m c)

/-- The first row of point `t`'s blocks. -/
def base (t : Fin cfg0.N) : ℕ := (15 - t.val % 16) * 512

theorem base_lt (t : Fin cfg0.N) (r : Fin 512) : base t + r.val < 8192 := by
  unfold base; have := r.isLt; omega

/-- A lane of point `t`'s blocks as a lane of the whole half. -/
def col (t : Fin cfg0.N) (l : Fin 1408) : Fin 2816 :=
  ⟨t.val / 16 * 1408 + l.val, by have := t.isLt; have := l.isLt; have : cfg0.N = 32 := N_0; omega⟩

/-- A lane of half `s` of point `t`'s blocks as a channel. -/
def ch (t : Fin cfg0.N) (s : Fin 2) (l : Fin 1408) : Fin 5632 := if s = 0 then gl (col t l) else vl (col t l)

/-- Splitting an array of sequences into its two halves, element by element. -/
theorem halves_at (x : FVec Ideal S4x2048x5632 .f32) (r : Fin 8192) (f : Fin 2816) :
    transpose S2x8192x2816 [1, 0, 2] (shapeCast S8192x2x2816 (truncf .bf16 x bitsLt_bf16_f32) shapeCasts_S4x2048x5632_S8192x2x2816)
        transposes_S8192x2x2816_S2x8192x2816_1_0_2 (ix3 0 r f) = x (ix3 ⟨r.val / 2048, by omega⟩ ⟨r.val % 2048, by omega⟩ (gl f))
    ∧ transpose S2x8192x2816 [1, 0, 2] (shapeCast S8192x2x2816 (truncf .bf16 x bitsLt_bf16_f32) shapeCasts_S4x2048x5632_S8192x2x2816)
        transposes_S8192x2x2816_S2x8192x2816_1_0_2 (ix3 1 r f) = x (ix3 ⟨r.val / 2048, by omega⟩ ⟨r.val % 2048, by omega⟩ (vl f)) := by
  constructor
  · pointwise
    rfl
  · pointwise
    rfl

theorem entry_pre : V m c main_v29 = transpose S2x8192x2816 [1, 0, 2] (shapeCast S8192x2x2816 (truncf .bf16
    (Cert.FfnBwdRefIdeal.Val.refU (Cert.FfnBwdRefIdeal.Val.seqs (m ((c.tc : Thread nD τ).loc main_arg0))) (m ((c.tc : Thread nD τ).loc main_arg1))
      (m ((c.tc : Thread nD τ).loc main_arg2))) bitsLt_bf16_f32) shapeCasts_S4x2048x5632_S8192x2x2816)
        transposes_S8192x2x2816_S2x8192x2816_1_0_2 := by
  unfold V
  entry_read
  rfl

theorem entry_h (s : Fin 2) (r : Fin 8192) (f : Fin 2816) : V m c main_v31 (ix3 s r f) = argH m c r ⟨s.val * 2816 + f.val, by omega⟩ := by
  unfold V
  entry_read
  unfold argH
  pointwise

theorem entry_wd (f : Fin 2816) (k : Fin 1024) : V m c main_v32 (ix3 0 f k) = argD m c f k := by
  unfold V
  entry_read
  unfold argD
  pointwise

/-- The saved rows before the gate are the convolution's output. -/
theorem pre_at (r : Fin 8192) (f : Fin 2816) : V m c main_v29 (ix3 0 r f) = u m c r.val (gl f) ∧ V m c main_v29 (ix3 1 r f) = u m c r.val (vl f) := by
  have er : r.val / 2048 * 2048 + r.val % 2048 = r.val := Nat.div_add_mod' _ _
  rw [entry_pre]
  constructor
  · refine (halves_at _ r f).1.trans ((Cert.FfnBwdRefIdeal.Val.refU_at (Cert.FfnBwdRefIdeal.Val.seqs_at _) _ _ _).trans ?_)
    exact congrArg (fun n => u m c n (gl f)) er
  · refine (halves_at _ r f).2.trans ((Cert.FfnBwdRefIdeal.Val.refU_at (Cert.FfnBwdRefIdeal.Val.seqs_at _) _ _ _).trans ?_)
    exact congrArg (fun n => u m c n (vl f)) er

/-- Point `t`'s blocks of the output's gradient, -/
theorem blk_q (t : Fin cfg0.N) (r : Fin 512) (k : Fin 1024) : iblk m c 0 t (ix2 r k) = argQ m c ⟨base t + r.val, base_lt t r⟩ k := by
  unfold argQ base
  blk_point [iblk, V, idx t]

/-- of the weights, -/
theorem blk_d (t : Fin cfg0.N) (l : Fin 1408) (k : Fin 1024) : iblk m c 1 t (ix3 0 l k) = argD m c (col t l) k := by
  rw [← entry_wd]
  unfold col
  blk_point [iblk, idx t]

/-- of the input, -/
theorem blk_h (t : Fin cfg0.N) (s : Fin 2) (r : Fin 512) (l : Fin 1408) : iblk m c 2 t (ix3 s r l) = hRow (argH m c) (base t + r.val) (ch t s l) := by
  unfold hRow
  rw [dif_pos (base_lt t r)]
  have e : ch t s l = ⟨s.val * 2816 + (col t l).val, by have := (col t l).isLt; omega⟩ := by
    unfold ch
    obtain rfl | rfl : s = 0 ∨ s = 1 := by omega
    · rw [if_pos rfl]; exact Fin.ext (by show (col t l).val = 0 * 2816 + (col t l).val; omega)
    · rw [if_neg (by decide)]; exact Fin.ext (by show 2816 + (col t l).val = 1 * 2816 + (col t l).val; omega)
  rw [e, ← entry_h]
  unfold col base
  blk_point [iblk, idx t]

/-- of the saved rows, -/
theorem blk_pg (t : Fin cfg0.N) (r : Fin 512) (l : Fin 1408) : iblk m c 3 t (ix3 0 r l) = u m c (base t + r.val) (gl (col t l)) := by
  refine Eq.trans ?_ (pre_at m c ⟨base t + r.val, base_lt t r⟩ (col t l)).1
  unfold col base
  blk_point [iblk, idx t]

theorem blk_pv (t : Fin cfg0.N) (r : Fin 512) (l : Fin 1408) : iblk m c 3 t (ix3 1 r l) = u m c (base t + r.val) (vl (col t l)) := by
  refine Eq.trans ?_ (pre_at m c ⟨base t + r.val, base_lt t r⟩ (col t l)).2
  unfold col base
  blk_point [iblk, idx t]

/-- and of the taps. -/
theorem blk_wg (t : Fin cfg0.N) (k : Fin 3) (l : Fin 1408) : iblk m c 4 t (ix2 k l) = argW m c k (gl (col t l)) := by
  unfold argW col gl
  blk_point [iblk, V, idx t]

theorem blk_wv (t : Fin cfg0.N) (k : Fin 3) (l : Fin 1408) : iblk m c 5 t (ix2 k l) = argW m c k (vl (col t l)) := by
  unfold argW col vl
  blk_point [iblk, V, idx t]

end Cert.FfnBwdIdeal.Val
end
-- ==== Proof.FfnChunk.lean ====
/- One chunk of 128 rows and 128 channels of the feed-forward block's backward call, element by element: what the kernel's expressions over it are
   in the arguments. The lemmas speak of the first chunk's expressions; every other chunk's are the same ones at other offsets. -/
module
public import proofs.«01_k».proof.Proof.FfnBlocks

@[expose] public section
set_option maxRecDepth 16384
noncomputable section
open Idealize.ShloMosaic Idealize.ShloMosaic.TcCoe Idealize.SL.Sem
open Idealize.ShloMosaic.Pipeline (Dat)
open scoped BigOperators

namespace Cert.FfnBwdIdeal.Val
open Cert.FfnBwdIdeal Cert.FfnBwdIdeal.Gen Cert.Reals Cert.ScMath Cert.FfnMath

variable (m : (ℓ : Loc nD τ sig) → Buf (Elt Ideal) ℓ) (c : Dev nD)

/-- Row `i` of a point's gradient of the convolution's output, the rows past the block's end included (zero past the sequence's end). -/
def ext (t : Fin cfg0.N) (s : Fin 2) (i : ℕ) (l : Fin 1408) : EReal :=
  if 512 ≤ i ∧ t.val % 4 = 0 then 0 else d m c (base t + i) (ch t s l)

/-- Inside the block the rows after a row are the sequence's. -/
theorem next_ext (t : Fin cfg0.N) (s : Fin 2) (i : ℕ) (hi : i < 512) (k : ℕ) (hk : k ≤ 2) (l : Fin 1408) :
    next (d m c) k (base t + i) (ch t s l) = ext m c t s (i + k) l := by
  unfold next ext
  have ht := t.isLt
  have : cfg0.N = 32 := N_0
  by_cases h : 512 ≤ i + k ∧ t.val % 4 = 0
  · rw [if_pos h, if_neg (by unfold base; omega)]
  · rw [if_neg h, if_pos (by unfold base; omega), Nat.add_assoc]

theorem ext_in (t : Fin cfg0.N) (s : Fin 2) (i : ℕ) (hi : i < 512) (l : Fin 1408) : ext m c t s i l = d m c (base t + i) (ch t s l) := by
  unfold ext
  rw [if_neg (by omega)]

/-- Both halves' gradient at a channel. -/
theorem d_gate (t : Fin cfg0.N) (r : ℕ) (l : Fin 1408) : d m c r (ch t 0 l) = kGate (a m c r (col t l)) (u m c r (gl (col t l))) (u m c r (vl (col t l))) := by
  have hl := (col t l).isLt
  show (if h : (gl (col t l)).val < 2816 then _ else _) = _
  rw [dif_pos (show (gl (col t l)).val < 2816 from hl)]
  rfl

theorem d_val (t : Fin cfg0.N) (r : ℕ) (l : Fin 1408) : d m c r (ch t 1 l) = kVal (a m c r (col t l)) (u m c r (gl (col t l))) := by
  show (if h : (vl (col t l)).val < 2816 then _ else _) = _
  rw [dif_neg (show ¬ (vl (col t l)).val < 2816 from Nat.not_lt.mpr (Nat.le_add_right _ _))]
  have e : ∀ hh, (⟨(vl (col t l)).val - 2816, hh⟩ : Fin 2816) = col t l := fun _ => Fin.ext (Nat.add_sub_cancel_left _ _)
  exact congrArg₂ (fun f g => kVal (a m c r f) (u m c r (gl g))) (e _) (e _)

/-- The product's block, read at a chunk: the gated product's gradient. -/
def IsA (t : Fin cfg0.N) (r0 c0 : ℕ) (v : Vec Ideal S128x128 .f32) : Prop :=
  ∀ (r y : Fin 128) (l : Fin 1408), l.val = c0 + y.val → v (ix2 r y) = a m c (base t + (r0 + r.val)) (col t l)

/-- A chunk of the gradient of the convolution's output, -/
def IsD (t : Fin cfg0.N) (s : Fin 2) (r0 c0 : ℕ) (v : FVec Ideal S128x128 .f32) : Prop :=
  ∀ (r y : Fin 128) (l : Fin 1408), l.val = c0 + y.val → v (ix2 r y) = ext m c t s (r0 + r.val) l

/-- its eight rows from row `r0`, -/
def IsC (t : Fin cfg0.N) (s : Fin 2) (r0 c0 : ℕ) (v : Vec Ideal S1x8x128 .f32) : Prop :=
  ∀ (r : Fin 8) (y : Fin 128) (l : Fin 1408), l.val = c0 + y.val → v (ix3 0 r y) = ext m c t s (r0 + r.val) l

/-- and a tap's row. -/
def IsW (t : Fin cfg0.N) (s : Fin 2) (k : Fin 3) (c0 : ℕ) (v : Vec Ideal S1x128 .f32) : Prop :=
  ∀ (y : Fin 128) (l : Fin 1408), l.val = c0 + y.val → v (ix2 0 y) = argW m c k (ch t s l)

/-- A chunk of the input. -/
def IsH (t : Fin cfg0.N) (s : Fin 2) (r0 c0 : ℕ) (v : Vec Ideal S1x128x128 .bf16) : Prop :=
  ∀ (r y : Fin 128) (l : Fin 1408), l.val = c0 + y.val → v (ix3 0 r y) = hRow (argH m c) (base t + (r0 + r.val)) (ch t s l)

variable {m c} {t : Fin cfg0.N}

/-- The products' blocks, element by element, -/
theorem prod256 (q : Vec Ideal S512x1024 .bf16) (w : Vec Ideal S1x256x1024 .bf16) (r : Fin 512) (y : Fin 256) :
    k0_pay9 q w (ix2 r y) = ∑ k : Fin 1024, q (ix2 r k) * w (ix3 0 y k) := by
  pointwise [k0_pay9]

theorem prod128 (q : Vec Ideal S512x1024 .bf16) (w : Vec Ideal S1x128x1024 .bf16) (r : Fin 512) (y : Fin 128) :
    k0_pay942 q w (ix2 r y) = ∑ k : Fin 1024, q (ix2 r k) * w (ix3 0 y k) := by
  pointwise [k0_pay942]

variable (m c t) in
abbrev bQ (r : Fin 512) (k : Fin 1024) : EReal := iblk m c 0 t (ix2 r k)
variable (m c t) in
abbrev bD (l : Fin 1408) (k : Fin 1024) : EReal := iblk m c 1 t (ix3 0 l k)

theorem row_a (r : Fin 512) (l : Fin 1408) : ∑ k : Fin 1024, bQ m c t r k * bD m c t l k = a m c (base t + r.val) (col t l) := by
  show _ = aRow _ _ _ _
  unfold aRow
  rw [dif_pos (base_lt t r)]
  exact Finset.sum_congr rfl fun k _ => congrArg₂ (· * ·) (blk_q m c t r k) (blk_d m c t l k)

/-- and read back at a chunk. -/
theorem da256 (w : View sig .tc .vmem S512x1408 .f32) (L : List (View.Piece (Elt Ideal) S512x1408 .f32)) {o r0 c0 : ℕ} (i0 : ∀ a, (![0, o] : Fin 2 → ℕ) a + S512x256.size a ≤ S512x1408.size a)
    (i1 : ∀ a, (![0, o, 0] : Fin 3 → ℕ) a + S1x256x1024.size a ≤ S1x1408x1024.size a)
    (i2 : ∀ a, (![r0, c0] : Fin 2 → ℕ) a + S128x128.size a ≤ S512x1408.size a) (h : o ≤ c0 ∧ c0 + 128 ≤ o + 256 ∧ r0 + 128 ≤ 512) :
    IsA m c t r0 c0 (w.readCov (⟨Rect.unit (s := S512x1408) ![0, o] S512x256.size i0, k0_pay9 (iblk m c 0 t) (View.ld (iblk m c 1 t) (Rect.unit (s := S1x1408x1024) ![0, o, 0] S1x256x1024.size i1))⟩ :: L)
      (Rect.unit (s := S512x1408) ![r0, c0] S128x128.size i2).toLoadRect) := by
  intro r y l hl
  have hr := r.isLt
  have hy := y.isLt
  have ho : o + 256 ≤ 1408 := i0 1
  rw [View.readCov_eq_canon']
  have e : (Rect.unit (s := S512x1408) ![r0, c0] S128x128.size i2).toLoadRect.idx (ix2 r y) = (Rect.unit (s := S512x1408) ![0, o] S512x256.size i0).emb (ix2 ⟨r0 + r.val, by omega⟩ ⟨c0 - o + y.val, by omega⟩) := by
    funext b
    refine Fin.ext ?_
    fin_cases b
    · show r0 + 1 * r.val = 0 + 1 * (r0 + r.val); omega
    · show c0 + 1 * y.val = o + 1 * (c0 - o + y.val); omega
  beta_reduce
  rw [e, View.canon_cons_emb, prod256, ← row_a ⟨r0 + r.val, by omega⟩ l]
  refine Finset.sum_congr rfl fun k _ => congrArg (bQ m c t _ k * iblk m c 1 t ·) ?_
  funext b
  refine Fin.ext ?_
  fin_cases b
  · show 0 + 1 * 0 = 0; rfl
  · show o + 1 * (c0 - o + y.val) = l.val; omega
  · show 0 + 1 * k.val = k.val; omega

theorem da128 (w : View sig .tc .vmem S512x1408 .f32) (L : List (View.Piece (Elt Ideal) S512x1408 .f32)) {o r0 : ℕ} (i0 : ∀ a, (![0, o] : Fin 2 → ℕ) a + S512x128.size a ≤ S512x1408.size a)
    (i1 : ∀ a, (![0, o, 0] : Fin 3 → ℕ) a + S1x128x1024.size a ≤ S1x1408x1024.size a)
    (i2 : ∀ a, (![r0, o] : Fin 2 → ℕ) a + S128x128.size a ≤ S512x1408.size a) (h : r0 + 128 ≤ 512) :
    IsA m c t r0 o (w.readCov (⟨Rect.unit (s := S512x1408) ![0, o] S512x128.size i0, k0_pay942 (iblk m c 0 t) (View.ld (iblk m c 1 t) (Rect.unit (s := S1x1408x1024) ![0, o, 0] S1x128x1024.size i1))⟩ :: L)
      (Rect.unit (s := S512x1408) ![r0, o] S128x128.size i2).toLoadRect) := by
  intro r y l hl
  have hr := r.isLt
  have hy := y.isLt
  rw [View.readCov_eq_canon']
  have e : (Rect.unit (s := S512x1408) ![r0, o] S128x128.size i2).toLoadRect.idx (ix2 r y) = (Rect.unit (s := S512x1408) ![0, o] S512x128.size i0).emb (ix2 ⟨r0 + r.val, by omega⟩ y) := by
    funext b
    refine Fin.ext ?_
    fin_cases b
    · show r0 + 1 * r.val = 0 + 1 * (r0 + r.val); omega
    · show o + 1 * y.val = o + 1 * y.val; rfl
  beta_reduce
  rw [e, View.canon_cons_emb, prod128, ← row_a ⟨r0 + r.val, by omega⟩ l]
  refine Finset.sum_congr rfl fun k _ => congrArg (bQ m c t _ k * iblk m c 1 t ·) ?_
  funext b
  refine Fin.ext ?_
  fin_cases b
  · show 0 + 1 * 0 = 0; rfl
  · show o + 1 * y.val = l.val; omega
  · show 0 + 1 * k.val = k.val; omega

/-- A load of a chunk of a block with two halves, of a tap's row, and of the eight rows carried. -/
theorem ld3 {e : EltTy} (X : Vec Ideal S2x512x1408 e) {s r0 c0 : ℕ} (i : ∀ a, (![s, r0, c0] : Fin 3 → ℕ) a + S1x128x128.size a ≤ S2x512x1408.size a)
    (r y : Fin 128) (p : Fin 2) (q : Fin 512) (l : Fin 1408) (hp : p.val = s) (hq : q.val = r0 + r.val) (hl : l.val = c0 + y.val) :
    View.ld X (Rect.unit ![s, r0, c0] S1x128x128.size i) (ix3 0 r y) = X (ix3 p q l) := by
  refine congrArg X ?_
  funext b
  refine Fin.ext ?_
  fin_cases b
  · show s + 1 * 0 = p.val; omega
  · show r0 + 1 * r.val = q.val; omega
  · show c0 + 1 * y.val = l.val; omega

theorem ldC (X : Vec Ideal S2x8x1408 .f32) {s c0 : ℕ} (i : ∀ a, (![s, 0, c0] : Fin 3 → ℕ) a + S1x8x128.size a ≤ S2x8x1408.size a)
    (r : Fin 8) (y : Fin 128) (p : Fin 2) (l : Fin 1408) (hp : p.val = s) (hl : l.val = c0 + y.val) :
    View.ld X (Rect.unit ![s, 0, c0] S1x8x128.size i) (ix3 0 r y) = X (ix3 p r l) := by
  refine congrArg X ?_
  funext b
  refine Fin.ext ?_
  fin_cases b
  · show s + 1 * 0 = p.val; omega
  · show 0 + 1 * r.val = r.val; omega
  · show c0 + 1 * y.val = l.val; omega

theorem ldW {b : ℕ} (X : Vec Ideal ⟨2, ![b, 1408]⟩ .f32) {k c0 : ℕ} (i : ∀ a, (![k, c0] : Fin 2 → ℕ) a + S1x128.size a ≤ (⟨2, ![b, 1408]⟩ : Shape).size a)
    (y : Fin 128) (p : Fin b) (l : Fin 1408) (hp : p.val = k) (hl : l.val = c0 + y.val) :
    View.ld X (Rect.unit ![k, c0] S1x128.size i) (ix2 0 y) = X (ix2 p l) := by
  refine congrArg X ?_
  funext b
  refine Fin.ext ?_
  fin_cases b
  · show k + 1 * 0 = p.val; omega
  · show c0 + 1 * y.val = l.val; omega

/-- The kernel's two forms of the gradient, element by element. -/
theorem gate_at (v : Vec Ideal S128x128 .f32) (g w : Vec Ideal S1x128x128 .bf16) (r y : Fin 128) :
    k0_pay14 v g w (ix2 r y) = kGate (v (ix2 r y)) (g (ix3 0 r y)) (w (ix3 0 r y)) := by
  pointwise [k0_pay14, k0_pay13, k0_pay12]
  unfold kGate sigT
  rw [cHalf]

theorem val_at (v : Vec Ideal S128x128 .f32) (g : Vec Ideal S1x128x128 .bf16) (r y : Fin 128) :
    k0_pay15 v g (ix2 r y) = kVal (v (ix2 r y)) (g (ix3 0 r y)) := by
  pointwise [k0_pay15, k0_pay13, k0_pay12]
  unfold kVal sigT
  rw [cHalf]

/-- The gradient's chunk in the gate's half, -/
theorem gate_d {r0 c0 : ℕ} {v : Vec Ideal S128x128 .f32} (hv : IsA m c t r0 c0 v)
    (i0 : ∀ a, (![0, r0, c0] : Fin 3 → ℕ) a + S1x128x128.size a ≤ S2x512x1408.size a)
    (i1 : ∀ a, (![1, r0, c0] : Fin 3 → ℕ) a + S1x128x128.size a ≤ S2x512x1408.size a) :
    IsD m c t 0 r0 c0 (k0_pay14 v (View.ld (iblk m c 3 t) (Rect.unit ![0, r0, c0] S1x128x128.size i0))
      (View.ld (iblk m c 3 t) (Rect.unit ![1, r0, c0] S1x128x128.size i1))) := by
  intro r y l hl
  have hr := r.isLt
  have hb : r0 + 128 ≤ 512 := i0 1
  rw [ext_in _ _ _ _ _ (by omega), d_gate]
  rw [gate_at, hv r y l hl, ld3 (iblk m c 3 t) i0 r y 0 ⟨r0 + r.val, by omega⟩ l rfl rfl hl, ld3 (iblk m c 3 t) i1 r y 1 ⟨r0 + r.val, by omega⟩ l rfl rfl hl,
    blk_pg, blk_pv]

/-- and in the value's. -/
theorem val_d {r0 c0 : ℕ} {v : Vec Ideal S128x128 .f32} (hv : IsA m c t r0 c0 v)
    (i0 : ∀ a, (![0, r0, c0] : Fin 3 → ℕ) a + S1x128x128.size a ≤ S2x512x1408.size a) :
    IsD m c t 1 r0 c0 (k0_pay15 v (View.ld (iblk m c 3 t) (Rect.unit ![0, r0, c0] S1x128x128.size i0))) := by
  intro r y l hl
  have hr := r.isLt
  have hb : r0 + 128 ≤ 512 := i0 1
  rw [ext_in _ _ _ _ _ (by omega), d_val]
  rw [val_at, hv r y l hl, ld3 (iblk m c 3 t) i0 r y 0 ⟨r0 + r.val, by omega⟩ l rfl rfl hl, blk_pg]

/-- Both, at a chunk inside one of the products' blocks. -/
theorem gate256 {w : View sig .tc .vmem S512x1408 .f32} {L : List (View.Piece (Elt Ideal) S512x1408 .f32)} {o r0 c0 : ℕ}
    {i0 : ∀ a, (![0, o] : Fin 2 → ℕ) a + S512x256.size a ≤ S512x1408.size a} {i1 : ∀ a, (![0, o, 0] : Fin 3 → ℕ) a + S1x256x1024.size a ≤ S1x1408x1024.size a}
    {i2 : ∀ a, (![r0, c0] : Fin 2 → ℕ) a + S128x128.size a ≤ S512x1408.size a}
    {i3 : ∀ a, (![0, r0, c0] : Fin 3 → ℕ) a + S1x128x128.size a ≤ S2x512x1408.size a}
    {i4 : ∀ a, (![1, r0, c0] : Fin 3 → ℕ) a + S1x128x128.size a ≤ S2x512x1408.size a}
    (h : o ≤ c0 ∧ c0 + 128 ≤ o + 256 ∧ r0 + 128 ≤ 512 := by decide) : IsD m c t 0 r0 c0 (k0_pay14 (w.readCov (⟨Rect.unit (s := S512x1408) ![0, o] S512x256.size i0, k0_pay9 (iblk m c 0 t) (View.ld (iblk m c 1 t) (Rect.unit (s := S1x1408x1024) ![0, o, 0] S1x256x1024.size i1))⟩ :: L)
      (Rect.unit (s := S512x1408) ![r0, c0] S128x128.size i2).toLoadRect)
      (View.ld (iblk m c 3 t) (Rect.unit (s := S2x512x1408) ![0, r0, c0] S1x128x128.size i3))
      (View.ld (iblk m c 3 t) (Rect.unit (s := S2x512x1408) ![1, r0, c0] S1x128x128.size i4))) :=
  gate_d (da256 w L i0 i1 i2 h) i3 i4

theorem gate128 {w : View sig .tc .vmem S512x1408 .f32} {L : List (View.Piece (Elt Ideal) S512x1408 .f32)} {o r0 : ℕ}
    {i0 : ∀ a, (![0, o] : Fin 2 → ℕ) a + S512x128.size a ≤ S512x1408.size a} {i1 : ∀ a, (![0, o, 0] : Fin 3 → ℕ) a + S1x128x1024.size a ≤ S1x1408x1024.size a}
    {i2 : ∀ a, (![r0, o] : Fin 2 → ℕ) a + S128x128.size a ≤ S512x1408.size a}
    {i3 : ∀ a, (![0, r0, o] : Fin 3 → ℕ) a + S1x128x128.size a ≤ S2x512x1408.size a}
    {i4 : ∀ a, (![1, r0, o] : Fin 3 → ℕ) a + S1x128x128.size a ≤ S2x512x1408.size a}
    (h : r0 + 128 ≤ 512 := by decide) : IsD m c t 0 r0 o (k0_pay14 (w.readCov (⟨Rect.unit (s := S512x1408) ![0, o] S512x128.size i0, k0_pay942 (iblk m c 0 t) (View.ld (iblk m c 1 t) (Rect.unit (s := S1x1408x1024) ![0, o, 0] S1x128x1024.size i1))⟩ :: L)
      (Rect.unit (s := S512x1408) ![r0, o] S128x128.size i2).toLoadRect)
      (View.ld (iblk m c 3 t) (Rect.unit (s := S2x512x1408) ![0, r0, o] S1x128x128.size i3))
      (View.ld (iblk m c 3 t) (Rect.unit (s := S2x512x1408) ![1, r0, o] S1x128x128.size i4))) :=
  gate_d (da128 w L i0 i1 i2 h) i3 i4

theorem val256 {w : View sig .tc .vmem S512x1408 .f32} {L : List (View.Piece (Elt Ideal) S512x1408 .f32)} {o r0 c0 : ℕ}
    {i0 : ∀ a, (![0, o] : Fin 2 → ℕ) a + S512x256.size a ≤ S512x1408.size a} {i1 : ∀ a, (![0, o, 0] : Fin 3 → ℕ) a + S1x256x1024.size a ≤ S1x1408x1024.size a}
    {i2 : ∀ a, (![r0, c0] : Fin 2 → ℕ) a + S128x128.size a ≤ S512x1408.size a}
    {i3 : ∀ a, (![0, r0, c0] : Fin 3 → ℕ) a + S1x128x128.size a ≤ S2x512x1408.size a}
    (h : o ≤ c0 ∧ c0 + 128 ≤ o + 256 ∧ r0 + 128 ≤ 512 := by decide) : IsD m c t 1 r0 c0 (k0_pay15 (w.readCov (⟨Rect.unit (s := S512x1408) ![0, o] S512x256.size i0, k0_pay9 (iblk m c 0 t) (View.ld (iblk m c 1 t) (Rect.unit (s := S1x1408x1024) ![0, o, 0] S1x256x1024.size i1))⟩ :: L)
      (Rect.unit (s := S512x1408) ![r0, c0] S128x128.size i2).toLoadRect)
      (View.ld (iblk m c 3 t) (Rect.unit (s := S2x512x1408) ![0, r0, c0] S1x128x128.size i3))) :=
  val_d (da256 w L i0 i1 i2 h) i3

theorem val128 {w : View sig .tc .vmem S512x1408 .f32} {L : List (View.Piece (Elt Ideal) S512x1408 .f32)} {o r0 : ℕ}
    {i0 : ∀ a, (![0, o] : Fin 2 → ℕ) a + S512x128.size a ≤ S512x1408.size a} {i1 : ∀ a, (![0, o, 0] : Fin 3 → ℕ) a + S1x128x1024.size a ≤ S1x1408x1024.size a}
    {i2 : ∀ a, (![r0, o] : Fin 2 → ℕ) a + S128x128.size a ≤ S512x1408.size a}
    {i3 : ∀ a, (![0, r0, o] : Fin 3 → ℕ) a + S1x128x128.size a ≤ S2x512x1408.size a}
    (h : r0 + 128 ≤ 512 := by decide) : IsD m c t 1 r0 o (k0_pay15 (w.readCov (⟨Rect.unit (s := S512x1408) ![0, o] S512x128.size i0, k0_pay942 (iblk m c 0 t) (View.ld (iblk m c 1 t) (Rect.unit (s := S1x1408x1024) ![0, o, 0] S1x128x1024.size i1))⟩ :: L)
      (Rect.unit (s := S512x1408) ![r0, o] S128x128.size i2).toLoadRect)
      (View.ld (iblk m c 3 t) (Rect.unit (s := S2x512x1408) ![0, r0, o] S1x128x128.size i3))) :=
  val_d (da128 w L i0 i1 i2 h) i3

variable {s : Fin 2}

/-- The eight rows a chunk leaves to the one above, -/
theorem carry_d {r0 c0 : ℕ} {X : FVec Ideal S128x128 .f32} (hX : IsD m c t s r0 c0 X) : IsC m c t s r0 c0 (k0_pay19 X) := by
  intro r y l hl
  pointwise [k0_pay19]
  exact hX ⟨r.val, by omega⟩ y l hl

theorem carry_x {c0 : ℕ} {X : FVec Ideal S128x128 .f32} (hX : IsD m c t s 0 c0 X) (x : S1x8x128.Idx) (r : Fin 8) (l : Fin 1408)
    (er : r.val = (x 1).val) (el : l.val = c0 + (x 2).val) : k0_pay19 X x = ext m c t s r.val l := by
  idx_vars x
  obtain rfl : x0 = 0 := Subsingleton.elim _ _
  obtain rfl : r = x1 := Fin.ext er
  rw [carry_d hX r x2 l el, Nat.zero_add]

/-- and those the block below left. -/
theorem carry_in {c0 : ℕ} {Z : Vec Ideal S2x8x1408 .f32} {k : ℕ} (hZ : ∀ (r : Fin 8) (l : Fin 1408), Z (ix3 s r l) = ext m c t s (512 + r.val) l)
    (i : ∀ a, (![k, 0, c0] : Fin 3 → ℕ) a + S1x8x128.size a ≤ S2x8x1408.size a) (hk : s.val = k) :
    IsC m c t s 512 c0 (View.ld Z (Rect.unit ![k, 0, c0] S1x8x128.size i)) := by
  intro r y l hl
  rw [ldC Z i r y s l hk hl, hZ]

/-- A chunk with the rows after it, one and two rows on. -/
def under (X : FVec Ideal S128x128 .f32) (v : Vec Ideal S1x8x128 .f32) : FVec Ideal S136x128 .f32 :=
  concatenate S136x128 0 [⟨S128x128, X⟩, ⟨S8x128, shapeCast S8x128 v shapeCasts_S1x8x128_S8x128⟩] concatenates_S128x128_S8x128_S136x128_d0

def up1 (X : FVec Ideal S128x128 .f32) (v : Vec Ideal S1x8x128 .f32) : FVec Ideal S128x128 .f32 :=
  extractStridedSlice S128x128 ![0, 0] (dynamicRotate 0 135#32 none (under X v) rotates_S136x128_d0) slices_S136x128_o0_0_S128x128

def up2 (X : FVec Ideal S128x128 .f32) (v : Vec Ideal S1x8x128 .f32) : FVec Ideal S128x128 .f32 :=
  extractStridedSlice S128x128 ![0, 0] (dynamicRotate 0 134#32 none (under X v) rotates_S136x128_d0) slices_S136x128_o0_0_S128x128

variable {r0 c0 : ℕ} {X : FVec Ideal S128x128 .f32} {v : Vec Ideal S1x8x128 .f32}

theorem under_at (hX : IsD m c t s r0 c0 X) (hC : IsC m c t s (r0 + 128) c0 v) (n : Fin 136) (y : Fin 128) (l : Fin 1408) (hl : l.val = c0 + y.val) :
    under X v (ix2 n y) = ext m c t s (r0 + n.val) l := by
  pointwise [under]
  by_cases h : n.val < 128
  · rw [dif_pos h]
    exact hX ⟨n.val, h⟩ y l hl
  · rw [dif_neg h, hC ⟨n.val - 128, by omega⟩ y l hl]
    exact congrArg (ext m c t s · l) (by show r0 + 128 + (n.val - 128) = r0 + n.val; omega)

theorem up1_at (hX : IsD m c t s r0 c0 X) (hC : IsC m c t s (r0 + 128) c0 v) (r y : Fin 128) (l : Fin 1408) (hl : l.val = c0 + y.val) :
    up1 X v (ix2 r y) = ext m c t s (r0 + r.val + 1) l := by
  pointwise [up1]
  rw [under_at hX hC _ y l hl]
  exact congrArg (ext m c t s · l) (by show r0 + (r.val + 136 - 135) % 136 = r0 + r.val + 1; omega)

theorem up2_at (hX : IsD m c t s r0 c0 X) (hC : IsC m c t s (r0 + 128) c0 v) (r y : Fin 128) (l : Fin 1408) (hl : l.val = c0 + y.val) :
    up2 X v (ix2 r y) = ext m c t s (r0 + r.val + 2) l := by
  pointwise [up2]
  rw [under_at hX hC _ y l hl]
  exact congrArg (ext m c t s · l) (by show r0 + (r.val + 136 - 134) % 136 = r0 + r.val + 2; omega)

/-- A tap's row as the kernel loads it. -/
theorem w_gate {k : ℕ} {p : Fin 3} (hp : p.val = k) (i : ∀ a, (![k, c0] : Fin 2 → ℕ) a + S1x128.size a ≤ S3x1408.size a) :
    IsW m c t 0 p c0 (View.ld (iblk m c 4 t) (Rect.unit ![k, c0] S1x128.size i)) := fun y l hl => (ldW _ i y p l hp hl).trans (blk_wg m c t p l)

theorem w_val {k : ℕ} {p : Fin 3} (hp : p.val = k) (i : ∀ a, (![k, c0] : Fin 2 → ℕ) a + S1x128.size a ≤ S3x1408.size a) :
    IsW m c t 1 p c0 (View.ld (iblk m c 5 t) (Rect.unit ![k, c0] S1x128.size i)) := fun y l hl => (ldW _ i y p l hp hl).trans (blk_wv m c t p l)

/-- The gradient of the input at a chunk. -/
theorem dh_chunk {w0 w1 w2 : Vec Ideal S1x128 .f32} (h0 : IsW m c t s 0 c0 w0) (h1 : IsW m c t s 1 c0 w1) (h2 : IsW m c t s 2 c0 w2)
    (hX : IsD m c t s r0 c0 X) (hC : IsC m c t s (r0 + 128) c0 v) (x : S1x128x128.Idx) (r : Fin 512) (l : Fin 1408)
    (er : r.val = r0 + (x 1).val) (el : l.val = c0 + (x 2).val) :
    k0_pay20 w0 w1 w2 X (up1 X v) (up2 X v) x = dpRow (d m c) (argW m c) (base t + r.val) (ch t s l) := by
  idx_vars x
  obtain rfl : x0 = 0 := Subsingleton.elim _ _
  pointwise [k0_pay20]
  have er' : r.val = r0 + x1.val := er
  rw [up1_at hX hC x1 x2 l el, up2_at hX hC x1 x2 l el, hX x1 x2 l el, h0 x2 l el, h1 x2 l el, h2 x2 l el]
  unfold dpRow
  rw [next_ext m c t s r.val r.isLt 1 (by omega), next_ext m c t s r.val r.isLt 2 (by omega), ← ext_in m c t s r.val r.isLt, er']

/-- A chunk of the input as the kernel loads it. -/
theorem h_chunk {k : ℕ} (hk : s.val = k) (i : ∀ a, (![k, r0, c0] : Fin 3 → ℕ) a + S1x128x128.size a ≤ S2x512x1408.size a) :
    IsH m c t s r0 c0 (View.ld (iblk m c 2 t) (Rect.unit ![k, r0, c0] S1x128x128.size i)) := by
  intro r y l hl
  have hr := r.isLt
  have hb : r0 + 128 ≤ 512 := i 1
  rw [ld3 _ i r y s ⟨r0 + r.val, by omega⟩ l hk rfl hl, blk_h]

/-- The sums over a chunk's rows in eight strands, -/
theorem fold_at (A : FVec Ideal S8x128 .f32) (U : FVec Ideal S128x128 .f32) (h : Vec Ideal S1x128x128 .bf16) (j : Fin 8) (y : Fin 128) :
    k0_pay22 A U h (ix2 j y) = A (ix2 j y) + ∑ i : Fin 16, h (ix3 0 ⟨i.val * 8 + j.val, by omega⟩ y) * U (ix2 ⟨i.val * 8 + j.val, by omega⟩ y) := by
  pointwise [k0_pay22, k0_pay21]

theorem fold_b (A : FVec Ideal S8x128 .f32) (U : FVec Ideal S128x128 .f32) (j : Fin 8) (y : Fin 128) :
    k0_pay25 A U (ix2 j y) = A (ix2 j y) + ∑ i : Fin 16, U (ix2 ⟨i.val * 8 + j.val, by omega⟩ y) := by
  pointwise [k0_pay25]

theorem zero_s (j : Fin 8) (y : Fin 128) : k0_pay11 (F := Ideal) (ix2 j y) = 0 := by
  pointwise! [k0_pay11]

/-- and over the strands. -/
theorem strands_at (A : FVec Ideal S8x128 .f32) (Y : Vec Ideal S1x128 .f32) (y : Fin 128) :
    k0_pay1 A Y (ix2 0 y) = Y (ix2 0 y) + ∑ j : Fin 8, A (ix2 j y) := by
  pointwise [k0_pay1]

/-- A chunk's strands together are its rows, -/
theorem sum128 (f : ℕ → EReal) (q : ℕ) : ∑ j : Fin 8, ∑ i : Fin 16, f (q + (i.val * 8 + j.val)) = ∑ r ∈ Finset.range 128, f (q + r) := by
  rw [Finset.sum_comm, Finset.sum_range (n := 128)]
  exact Fin.sum_mul_add_congr (f := fun r : Fin 128 => f (q + r.val)) fun _ _ _ => rfl

/-- and four chunks' the block's. -/
theorem sum512 (f : ℕ → EReal) : ∑ j : Fin 8, ((((0 + ∑ i : Fin 16, f (384 + (i.val * 8 + j.val))) + ∑ i : Fin 16, f (256 + (i.val * 8 + j.val)))
    + ∑ i : Fin 16, f (128 + (i.val * 8 + j.val))) + ∑ i : Fin 16, f (0 + (i.val * 8 + j.val))) = ∑ r : Fin 512, f r.val := by
  simp only [zero_add, Finset.sum_add_distrib, sum128]
  rw [Fin.sum_univ_eq_sum_range f 512, show (512 : ℕ) = 128 + 128 + 128 + 128 from rfl, Finset.sum_range_add, Finset.sum_range_add, Finset.sum_range_add]
  have e := sum128 f 0
  simp only [Nat.zero_add] at e
  rw [e]
  show _ = ∑ r ∈ Finset.range 128, f r + ∑ r ∈ Finset.range 128, f (128 + r) + ∑ r ∈ Finset.range 128, f (256 + r) + ∑ r ∈ Finset.range 128, f (384 + r)
  ac_rfl

variable (m c t s) in
/-- The term of row `i` of the block in the gradient of the tap `k` rows back. -/
def term (k i : ℕ) (l : Fin 1408) : EReal := hRow (argH m c) (base t + i) (ch t s l) * ext m c t s (i + k) l

variable (m c t s) in
/-- A chunk of such terms. -/
def IsT (k r0 c0 : ℕ) (h : Vec Ideal S1x128x128 .bf16) (U : FVec Ideal S128x128 .f32) : Prop :=
  ∀ (r y : Fin 128) (l : Fin 1408), l.val = c0 + y.val → h (ix3 0 r y) * U (ix2 r y) = term m c t s k (r0 + r.val) l

theorem term0 {h : Vec Ideal S1x128x128 .bf16} (hh : IsH m c t s r0 c0 h) (hX : IsD m c t s r0 c0 X) : IsT m c t s 0 r0 c0 h X :=
  fun r y l hl => by rw [hh r y l hl, hX r y l hl]; rfl

theorem term1 {h : Vec Ideal S1x128x128 .bf16} (hh : IsH m c t s r0 c0 h) (hX : IsD m c t s r0 c0 X) (hC : IsC m c t s (r0 + 128) c0 v) :
    IsT m c t s 1 r0 c0 h (up1 X v) :=
  fun r y l hl => by rw [hh r y l hl, up1_at hX hC r y l hl]; rfl

theorem term2 {h : Vec Ideal S1x128x128 .bf16} (hh : IsH m c t s r0 c0 h) (hX : IsD m c t s r0 c0 X) (hC : IsC m c t s (r0 + 128) c0 v) :
    IsT m c t s 2 r0 c0 h (up2 X v) :=
  fun r y l hl => by rw [hh r y l hl, up2_at hX hC r y l hl]; rfl

/-- What a point adds to a tap's gradient at a lane, -/
theorem tap {k : ℕ} {g3 g2 g1 g0 : Vec Ideal S1x128x128 .bf16} {U3 U2 U1 U0 : FVec Ideal S128x128 .f32} (h3 : IsT m c t s k 384 c0 g3 U3)
    (h2 : IsT m c t s k 256 c0 g2 U2) (h1 : IsT m c t s k 128 c0 g1 U1) (h0 : IsT m c t s k 0 c0 g0 U0) {n : ℕ} (Z : Vec Ideal S3x1408 .f32)
    (i : ∀ a, (![n, c0] : Fin 2 → ℕ) a + S1x128.size a ≤ S3x1408.size a) (x : S1x128.Idx) (p : Fin 3) (l : Fin 1408)
    (hk : n + k = 2) (ep : p.val = n + (x 0).val) (el : l.val = c0 + (x 1).val) :
    k0_pay1 (k0_pay22 (k0_pay22 (k0_pay22 (k0_pay22 k0_pay11 U3 g3) U2 g2) U1 g1) U0 g0) (View.ld Z (Rect.unit ![n, c0] S1x128.size i)) x
      = Z (ix2 p l) + ∑ r : Fin 512, term m c t s (2 - p.val) r.val l := by
  idx_vars x
  obtain rfl : x0 = 0 := Subsingleton.elim _ _
  have ep' : p.val = n := ep
  rw [strands_at, ldW Z i x1 p l ep' el]
  simp only [fold_at, zero_s]
  rw [show 2 - p.val = k by omega, ← sum512 fun r => term m c t s k r l]
  refine congrArg (Z (ix2 p l) + ·) (Finset.sum_congr rfl fun j _ => ?_)
  simp only [h3 _ x1 l el, h2 _ x1 l el, h1 _ x1 l el, h0 _ x1 l el]

/-- and to the bias's. -/
theorem bias {U3 U2 U1 U0 : FVec Ideal S128x128 .f32} (h3 : IsD m c t s 384 c0 U3)
    (h2 : IsD m c t s 256 c0 U2) (h1 : IsD m c t s 128 c0 U1) (h0 : IsD m c t s 0 c0 U0) (Z : Vec Ideal S1x1408 .f32)
    (i : ∀ a, (![0, c0] : Fin 2 → ℕ) a + S1x128.size a ≤ S1x1408.size a) (x : S1x128.Idx) (p : Fin 1) (l : Fin 1408)
    (el : l.val = c0 + (x 1).val) :
    k0_pay1 (k0_pay25 (k0_pay25 (k0_pay25 (k0_pay25 k0_pay11 U3) U2) U1) U0) (View.ld Z (Rect.unit ![0, c0] S1x128.size i)) x
      = Z (ix2 p l) + ∑ r : Fin 512, ext m c t s r.val l := by
  idx_vars x
  obtain rfl : x0 = 0 := Subsingleton.elim _ _
  rw [strands_at, ldW Z i x1 p l (by omega) el]
  simp only [fold_b, zero_s]
  rw [← sum512 fun r => ext m c t s r l]
  refine congrArg (Z (ix2 p l) + ·) (Finset.sum_congr rfl fun j _ => ?_)
  simp only [h3 _ x1 l el, h2 _ x1 l el, h1 _ x1 l el, h0 _ x1 l el]

end Cert.FfnBwdIdeal.Val
end
-- ==== Proof.FfnDh.lean ====
/- The gradient of the input a point of the feed-forward block's backward call leaves in its block, and the rows it carries. -/
module
public import proofs.«01_k».proof.Proof.FfnChunk
public import proofs.«01_k».proof.Proof.Gen.FfnBwdIdeal.Value

@[expose] public section
set_option maxRecDepth 16384
noncomputable section
open Idealize.ShloMosaic Idealize.ShloMosaic.TcCoe Idealize.SL.Sem
open Idealize.ShloMosaic.Pipeline (Dat)
open scoped BigOperators

namespace Cert.FfnBwdIdeal.Val
open Cert.FfnBwdIdeal Cert.FfnBwdIdeal.Gen Cert.ScMath Cert.FfnMath

variable (m : (ℓ : Loc nD τ sig) → Buf (Elt Ideal) ℓ) (c : Dev nD)

/-- The rows carried are zero before a sequence's last block. -/
theorem zero_c (t : Fin cfg0.N) (n : t.val % 4 = 0) (s : Fin 2) (r : Fin 8) (l : Fin 1408) :
    k0_pay8 (F := Ideal) (ix3 s r l) = ext m c t s (512 + r.val) l := by
  unfold ext
  rw [if_pos ⟨Nat.le_add_right _ _, n⟩]
  pointwise! [k0_pay8]

/-- Of two writes at each of two rectangles in turn the later ones stay. -/
theorem overlay_drop {sh : Shape} {α : Type} (r q : Rect sh) (X : sh.Idx → α) (a a' : r.shape.Idx → α) (b b' : q.shape.Idx → α) :
    r.overlay (q.overlay (r.overlay (q.overlay X b') a') b) a = r.overlay (q.overlay X b) a := by
  funext y
  by_cases hr : y ∈ r.set
  · rw [← Rect.map_emb_univ] at hr
    obtain ⟨x, -, rfl⟩ := Finset.mem_map.mp hr
    exact (r.overlay_emb _ _ x).trans (r.overlay_emb _ _ x).symm
  · rw [r.overlay_of_not_mem _ _ hr, r.overlay_of_not_mem _ _ hr]
    by_cases hq : y ∈ q.set
    · rw [← Rect.map_emb_univ] at hq
      obtain ⟨x, -, rfl⟩ := Finset.mem_map.mp hq
      exact (q.overlay_emb _ _ x).trans (q.overlay_emb _ _ x).symm
    · rw [q.overlay_of_not_mem _ _ hq, r.overlay_of_not_mem _ _ hr, q.overlay_of_not_mem _ _ hq, q.overlay_of_not_mem _ _ hq]

/-- Of four writes at each of two rectangles in turn the last ones stay. -/
theorem canon_keep {sh : Shape} {e : EltTy} {r q : Rect sh} {a a1 a2 a3 : r.shape.Idx → Elt Ideal e} {b b1 b2 b3 : q.shape.Idx → Elt Ideal e}
    {L L' : List (View.Piece (Elt Ideal) sh e)} (h : View.canon L = View.canon L') :
    View.canon (⟨r, a⟩ :: ⟨q, b⟩ :: ⟨r, a1⟩ :: ⟨q, b1⟩ :: ⟨r, a2⟩ :: ⟨q, b2⟩ :: ⟨r, a3⟩ :: ⟨q, b3⟩ :: L) = View.canon (⟨r, a⟩ :: ⟨q, b⟩ :: L') := by
  simp only [View.canon_cons, h, overlay_drop]

/-- Where later writes cover, earlier ones are not seen. -/
theorem canon_over {sh : Shape} {e : EltTy} (M : List (View.Piece (Elt Ideal) sh e)) {y : sh.Idx} : (L : List (View.Piece (Elt Ideal) sh e)) →
    (∃ p ∈ L, y ∈ p.1.set) → View.canon (L ++ M) y = View.canon L y
  | [], h => by obtain ⟨_, n, _⟩ := h; exact absurd n List.not_mem_nil
  | p :: L, h => by
    by_cases hy : y ∈ p.1.set
    · rw [← Rect.map_emb_univ] at hy
      obtain ⟨x, -, rfl⟩ := Finset.mem_map.mp hy
      exact (p.1.overlay_emb _ _ x).trans (p.1.overlay_emb _ _ x).symm
    · refine (p.1.overlay_of_not_mem _ _ hy).trans ((canon_over M L ?_).trans (p.1.overlay_of_not_mem _ _ hy).symm)
      obtain ⟨q, hq, hm⟩ := h
      rcases List.mem_cons.mp hq with rfl | hq
      · exact absurd hm hy
      · exact ⟨q, hq, hm⟩

set_option maxHeartbeats 2000000 in
/-- A point leaves its block's first eight rows of the gradient to the next point. -/
theorem carry_at (t : Fin cfg0.N) (s : Fin 2) (r : Fin 8) (l : Fin 1408) :
    (outsAt0 m c t.val t.isLt).2.2.2.2.2 (ix3 s r l) = ext m c t s r.val l := by
  by_cases n : t.val % 4 = 0
  on_goal 1 => by_cases n' : t.val % 16 = 0
  on_goal 1 => rw [outsAt0_A m c t n' n]
  on_goal 2 => rw [outsAt0_C m c t n' n]
  on_goal 3 => rw [outsAt0_B m c t (by omega) n]
  all_goals frame_out
  all_goals refine (congrFun (canon_keep <| canon_keep <| canon_keep <| canon_keep <| canon_keep <| canon_keep <| canon_keep <| canon_keep <| canon_keep
    <| canon_keep <| canon_keep rfl) _).trans ?_
  on_goal 1 => refine (canon_over [_] [_, _, _, _, _, _, _, _, _, _, _, _, _, _, _, _, _, _, _, _, _, _] (View.cover_of_tiledBy _ ![1, 8, 128] (by sl_kernel_rfl) _)).trans ?_
  on_goal 2 => refine (canon_over [_] [_, _, _, _, _, _, _, _, _, _, _, _, _, _, _, _, _, _, _, _, _, _] (View.cover_of_tiledBy _ ![1, 8, 128] (by sl_kernel_rfl) _)).trans ?_
  all_goals simp (disch := decide) only [↓ View.readCov_skip]
  all_goals canon_tiles x e
  all_goals change s.val = _ at e0
  all_goals change r.val = _ at e1
  all_goals change l.val = _ at e2
  iterate 3
    next =>
      obtain rfl : s = 1 := by omega
      exact carry_x val128 _ r l (by omega) (by omega)
    next =>
      obtain rfl : s = 0 := by omega
      exact carry_x gate128 _ r l (by omega) (by omega)
    iterate 10
      next =>
        obtain rfl : s = 1 := by omega
        exact carry_x val256 _ r l (by omega) (by omega)
      next =>
        obtain rfl : s = 0 := by omega
        exact carry_x gate256 _ r l (by omega) (by omega)

/-- The rows carried into a point, as it reads them. -/
theorem carried (t : Fin cfg0.N) (n : ¬ t.val % 4 = 0) (s : Fin 2) (r : Fin 8) (l : Fin 1408) (i : t.val - 1 < cfg0.N) :
    View.read (Elt Ideal) (View.whole cc0_scratch1) ((Memref.isWhole_whole cc0_scratch1).unread (outsAt0 m c (t.val - 1) i).2.2.2.2.2)
      (ix3 s r l) = ext m c t s (512 + r.val) l := by
  refine (congrFun ((Memref.isWhole_whole cc0_scratch1).read_unread _) _).trans ?_
  rw [carry_at m c ⟨t.val - 1, i⟩]
  have ht := t.isLt
  have : cfg0.N = 32 := N_0
  have hr := r.isLt
  unfold ext
  rw [if_neg (by omega), if_neg (fun h => n h.2)]
  have e : base ⟨t.val - 1, i⟩ + r.val = base t + (512 + r.val) := by
    unfold base
    show (15 - (t.val - 1) % 16) * 512 + r.val = _
    omega
  have e' : ch ⟨t.val - 1, i⟩ s l = ch t s l := by
    unfold ch col
    have q : (t.val - 1) / 16 = t.val / 16 := by omega
    simp only [q]
  rw [e, e']

set_option maxHeartbeats 4000000 in
/-- A point's block of the input's gradient. -/
theorem dh_at (t : Fin cfg0.N) (s : Fin 2) (r : Fin 512) (l : Fin 1408) :
    (outsAt0 m c t.val t.isLt).1 (ix3 s r l) = dpRow (d m c) (argW m c) (base t + r.val) (ch t s l) := by
  by_cases n : t.val % 4 = 0
  on_goal 1 => have below := fun s r l => zero_c m c t n s r l
  on_goal 2 => have below := fun s r l => carried m c t n s r l (lt_of_le_of_lt (Nat.sub_le _ _) t.isLt)
  on_goal 1 => by_cases n' : t.val % 16 = 0
  on_goal 1 => rw [outsAt0_A m c t n' n]
  on_goal 2 => rw [outsAt0_C m c t n' n]
  on_goal 3 => rw [outsAt0_B m c t (by omega) n]
  all_goals frame_out
  all_goals simp (disch := decide) only [↓ View.readCov_skip, ↓ View.readCov_cons_toLoadRect, ↓ View.readCov_fill]
  all_goals canon_tiles x e
  all_goals change s.val = _ at e0
  all_goals change r.val = _ at e1
  all_goals change l.val = _ at e2
  iterate 3
    iterate 3
      next =>
        obtain rfl : s = 1 := by omega
        exact dh_chunk (w_val rfl _) (w_val rfl _) (w_val rfl _) val128 (carry_d val128) _ r l
          (by omega) (by omega)
      next =>
        obtain rfl : s = 0 := by omega
        exact dh_chunk (w_gate rfl _) (w_gate rfl _) (w_gate rfl _) gate128
          (carry_d gate128) _ r l (by omega) (by omega)
    next =>
      obtain rfl : s = 1 := by omega
      exact dh_chunk (w_val rfl _) (w_val rfl _) (w_val rfl _) val128 (carry_in (below 1) _ rfl) _ r l (by omega) (by omega)
    next =>
      obtain rfl : s = 0 := by omega
      exact dh_chunk (w_gate rfl _) (w_gate rfl _) (w_gate rfl _) gate128 (carry_in (below 0) _ rfl) _ r l (by omega) (by omega)
    iterate 10
      iterate 3
        next =>
          obtain rfl : s = 1 := by omega
          exact dh_chunk (w_val rfl _) (w_val rfl _) (w_val rfl _) val256 (carry_d val256) _ r l
            (by omega) (by omega)
        next =>
          obtain rfl : s = 0 := by omega
          exact dh_chunk (w_gate rfl _) (w_gate rfl _) (w_gate rfl _) gate256
            (carry_d gate256) _ r l (by omega) (by omega)
      next =>
        obtain rfl : s = 1 := by omega
        exact dh_chunk (w_val rfl _) (w_val rfl _) (w_val rfl _) val256 (carry_in (below 1) _ rfl) _ r l (by omega) (by omega)
      next =>
        obtain rfl : s = 0 := by omega
        exact dh_chunk (w_gate rfl _) (w_gate rfl _) (w_gate rfl _) gate256 (carry_in (below 0) _ rfl) _ r l (by omega) (by omega)

end Cert.FfnBwdIdeal.Val
end
-- ==== Proof.FfnAcc.lean ====
/- What a point of the feed-forward block's backward call adds to the gradients of the taps and the bias, which it sums over the points of a half. -/
module
public import proofs.«01_k».proof.Proof.FfnDh

@[expose] public section
set_option maxRecDepth 16384
noncomputable section
open Idealize.ShloMosaic Idealize.ShloMosaic.TcCoe Idealize.SL.Sem
open Idealize.ShloMosaic.Pipeline (Dat)
open scoped BigOperators

namespace Cert.FfnBwdIdeal.Val
open Cert.FfnBwdIdeal Cert.FfnBwdIdeal.Gen Cert.ScMath Cert.FfnMath

variable (m : (ℓ : Loc nD τ sig) → Buf (Elt Ideal) ℓ) (c : Dev nD)

/-- A point's part of a tap's gradient and of the bias's. -/
def partW (t : Fin cfg0.N) (s : Fin 2) (p : Fin 3) (l : Fin 1408) : EReal := ∑ r : Fin 512, term m c t s (2 - p.val) r.val l
def partB (t : Fin cfg0.N) (s : Fin 2) (l : Fin 1408) : EReal := ∑ r : Fin 512, ext m c t s r.val l

/-- The sums start at zero. -/
theorem zero_w (j : S3x1408.Idx) : k0_pay4 (F := Ideal) j = 0 := by
  pointwise! [k0_pay4]

theorem zero_b (j : S1x1408.Idx) : k0_pay6 (F := Ideal) j = 0 := by
  pointwise! [k0_pay6]

set_option maxHeartbeats 4000000 in
/-- The taps' gradient, in the gate's half, after the first point of a half, -/
theorem dwg_A (t : Fin cfg0.N) (n : t.val % 16 = 0) (p : Fin 3) (l : Fin 1408) :
    (outsAt0 m c t.val t.isLt).2.1 (ix2 p l) = k0_pay4 (F := Ideal) (ix2 p l) + partW m c t 0 p l := by
  unfold partW
  have below := fun s r l => zero_c m c t (by omega) s r l
  rw [outsAt0_A m c t n (by omega)]
  frame_out
  simp (disch := decide) only [↓ View.readCov_skip, ↓ View.readCov_cons_toLoadRect, ↓ View.readCov_fill]
  refine (canon_over [_] [_, _, _, _, _, _, _, _, _, _, _, _, _, _, _, _, _, _, _, _, _, _, _, _, _, _, _, _, _, _, _, _, _]
    (View.cover_of_tiledBy _ ![1, 128] (by sl_kernel_rfl) _)).trans ?_
  canon_tiles x e
  all_goals change p.val = _ at e0
  all_goals change l.val = _ at e1
  next => exact tap (term0 (h_chunk rfl _) gate128) (term0 (h_chunk rfl _) gate128)
            (term0 (h_chunk rfl _) gate128) (term0 (h_chunk rfl _) gate128) _ _ _ p l rfl (by omega) (by omega)
  next => exact tap (term1 (h_chunk rfl _) gate128 (carry_in (below 0) _ rfl)) (term1 (h_chunk rfl _) gate128 (carry_d gate128))
            (term1 (h_chunk rfl _) gate128 (carry_d gate128)) (term1 (h_chunk rfl _) gate128 (carry_d gate128)) _ _ _ p l rfl (by omega) (by omega)
  next => exact tap (term2 (h_chunk rfl _) gate128 (carry_in (below 0) _ rfl)) (term2 (h_chunk rfl _) gate128 (carry_d gate128))
            (term2 (h_chunk rfl _) gate128 (carry_d gate128)) (term2 (h_chunk rfl _) gate128 (carry_d gate128)) _ _ _ p l rfl (by omega) (by omega)
  iterate 10
    next => exact tap (term0 (h_chunk rfl _) gate256) (term0 (h_chunk rfl _) gate256)
              (term0 (h_chunk rfl _) gate256) (term0 (h_chunk rfl _) gate256) _ _ _ p l rfl (by omega) (by omega)
    next => exact tap (term1 (h_chunk rfl _) gate256 (carry_in (below 0) _ rfl)) (term1 (h_chunk rfl _) gate256 (carry_d gate256))
              (term1 (h_chunk rfl _) gate256 (carry_d gate256)) (term1 (h_chunk rfl _) gate256 (carry_d gate256)) _ _ _ p l rfl (by omega) (by omega)
    next => exact tap (term2 (h_chunk rfl _) gate256 (carry_in (below 0) _ rfl)) (term2 (h_chunk rfl _) gate256 (carry_d gate256))
              (term2 (h_chunk rfl _) gate256 (carry_d gate256)) (term2 (h_chunk rfl _) gate256 (carry_d gate256)) _ _ _ p l rfl (by omega) (by omega)

set_option maxHeartbeats 4000000 in
/-- after the first of a sequence, -/
theorem dwg_C (t : Fin cfg0.N) (n : ¬ t.val % 16 = 0) (n' : t.val % 4 = 0) (p : Fin 3) (l : Fin 1408) :
    (outsAt0 m c t.val t.isLt).2.1 (ix2 p l) = (outsAt0 m c (t.val - 1) (lt_of_le_of_lt (Nat.sub_le _ _) t.isLt)).2.1 (ix2 p l) + partW m c t 0 p l := by
  unfold partW
  have below := fun s r l => zero_c m c t n' s r l
  rw [outsAt0_C m c t n n']
  frame_out
  simp (disch := decide) only [↓ View.readCov_skip, ↓ View.readCov_cons_toLoadRect, ↓ View.readCov_fill]
  canon_tiles x e
  all_goals change p.val = _ at e0
  all_goals change l.val = _ at e1
  next => exact tap (term0 (h_chunk rfl _) gate128) (term0 (h_chunk rfl _) gate128)
            (term0 (h_chunk rfl _) gate128) (term0 (h_chunk rfl _) gate128) _ _ _ p l rfl (by omega) (by omega)
  next => exact tap (term1 (h_chunk rfl _) gate128 (carry_in (below 0) _ rfl)) (term1 (h_chunk rfl _) gate128 (carry_d gate128))
            (term1 (h_chunk rfl _) gate128 (carry_d gate128)) (term1 (h_chunk rfl _) gate128 (carry_d gate128)) _ _ _ p l rfl (by omega) (by omega)
  next => exact tap (term2 (h_chunk rfl _) gate128 (carry_in (below 0) _ rfl)) (term2 (h_chunk rfl _) gate128 (carry_d gate128))
            (term2 (h_chunk rfl _) gate128 (carry_d gate128)) (term2 (h_chunk rfl _) gate128 (carry_d gate128)) _ _ _ p l rfl (by omega) (by omega)
  iterate 10
    next => exact tap (term0 (h_chunk rfl _) gate256) (term0 (h_chunk rfl _) gate256)
              (term0 (h_chunk rfl _) gate256) (term0 (h_chunk rfl _) gate256) _ _ _ p l rfl (by omega) (by omega)
    next => exact tap (term1 (h_chunk rfl _) gate256 (carry_in (below 0) _ rfl)) (term1 (h_chunk rfl _) gate256 (carry_d gate256))
              (term1 (h_chunk rfl _) gate256 (carry_d gate256)) (term1 (h_chunk rfl _) gate256 (carry_d gate256)) _ _ _ p l rfl (by omega) (by omega)
    next => exact tap (term2 (h_chunk rfl _) gate256 (carry_in (below 0) _ rfl)) (term2 (h_chunk rfl _) gate256 (carry_d gate256))
              (term2 (h_chunk rfl _) gate256 (carry_d gate256)) (term2 (h_chunk rfl _) gate256 (carry_d gate256)) _ _ _ p l rfl (by omega) (by omega)

set_option maxHeartbeats 4000000 in
/-- and after any other. -/
theorem dwg_B (t : Fin cfg0.N) (n' : ¬ t.val % 4 = 0) (p : Fin 3) (l : Fin 1408) :
    (outsAt0 m c t.val t.isLt).2.1 (ix2 p l) = (outsAt0 m c (t.val - 1) (lt_of_le_of_lt (Nat.sub_le _ _) t.isLt)).2.1 (ix2 p l) + partW m c t 0 p l := by
  unfold partW
  have below := fun s r l => carried m c t n' s r l (lt_of_le_of_lt (Nat.sub_le _ _) t.isLt)
  rw [outsAt0_B m c t (by omega) n']
  frame_out
  simp (disch := decide) only [↓ View.readCov_skip, ↓ View.readCov_cons_toLoadRect, ↓ View.readCov_fill]
  canon_tiles x e
  all_goals change p.val = _ at e0
  all_goals change l.val = _ at e1
  next => exact tap (term0 (h_chunk rfl _) gate128) (term0 (h_chunk rfl _) gate128)
            (term0 (h_chunk rfl _) gate128) (term0 (h_chunk rfl _) gate128) _ _ _ p l rfl (by omega) (by omega)
  next => exact tap (term1 (h_chunk rfl _) gate128 (carry_in (below 0) _ rfl)) (term1 (h_chunk rfl _) gate128 (carry_d gate128))
            (term1 (h_chunk rfl _) gate128 (carry_d gate128)) (term1 (h_chunk rfl _) gate128 (carry_d gate128)) _ _ _ p l rfl (by omega) (by omega)
  next => exact tap (term2 (h_chunk rfl _) gate128 (carry_in (below 0) _ rfl)) (term2 (h_chunk rfl _) gate128 (carry_d gate128))
            (term2 (h_chunk rfl _) gate128 (carry_d gate128)) (term2 (h_chunk rfl _) gate128 (carry_d gate128)) _ _ _ p l rfl (by omega) (by omega)
  iterate 10
    next => exact tap (term0 (h_chunk rfl _) gate256) (term0 (h_chunk rfl _) gate256)
              (term0 (h_chunk rfl _) gate256) (term0 (h_chunk rfl _) gate256) _ _ _ p l rfl (by omega) (by omega)
    next => exact tap (term1 (h_chunk rfl _) gate256 (carry_in (below 0) _ rfl)) (term1 (h_chunk rfl _) gate256 (carry_d gate256))
              (term1 (h_chunk rfl _) gate256 (carry_d gate256)) (term1 (h_chunk rfl _) gate256 (carry_d gate256)) _ _ _ p l rfl (by omega) (by omega)
    next => exact tap (term2 (h_chunk rfl _) gate256 (carry_in (below 0) _ rfl)) (term2 (h_chunk rfl _) gate256 (carry_d gate256))
              (term2 (h_chunk rfl _) gate256 (carry_d gate256)) (term2 (h_chunk rfl _) gate256 (carry_d gate256)) _ _ _ p l rfl (by omega) (by omega)

/-- So a point adds its part. -/
theorem dwg_at (t : Fin cfg0.N) (p : Fin 3) (l : Fin 1408) :
    (t.val % 16 = 0 → (outsAt0 m c t.val t.isLt).2.1 (ix2 p l) = k0_pay4 (F := Ideal) (ix2 p l) + partW m c t 0 p l)
    ∧ (¬ t.val % 16 = 0 → (outsAt0 m c t.val t.isLt).2.1 (ix2 p l)
      = (outsAt0 m c (t.val - 1) (lt_of_le_of_lt (Nat.sub_le _ _) t.isLt)).2.1 (ix2 p l) + partW m c t 0 p l) :=
  ⟨fun n => dwg_A m c t n p l, fun n => if n' : t.val % 4 = 0 then dwg_C m c t n n' p l else dwg_B m c t n' p l⟩

set_option maxHeartbeats 4000000 in
/-- The taps' gradient, in the value's half, after the first point of a half, -/
theorem dwv_A (t : Fin cfg0.N) (n : t.val % 16 = 0) (p : Fin 3) (l : Fin 1408) :
    (outsAt0 m c t.val t.isLt).2.2.1 (ix2 p l) = k0_pay5 (F := Ideal) (ix2 p l) + partW m c t 1 p l := by
  unfold partW
  have below := fun s r l => zero_c m c t (by omega) s r l
  rw [outsAt0_A m c t n (by omega)]
  frame_out
  simp (disch := decide) only [↓ View.readCov_skip, ↓ View.readCov_cons_toLoadRect, ↓ View.readCov_fill]
  refine (canon_over [_] [_, _, _, _, _, _, _, _, _, _, _, _, _, _, _, _, _, _, _, _, _, _, _, _, _, _, _, _, _, _, _, _, _]
    (View.cover_of_tiledBy _ ![1, 128] (by sl_kernel_rfl) _)).trans ?_
  canon_tiles x e
  all_goals change p.val = _ at e0
  all_goals change l.val = _ at e1
  next => exact tap (term0 (h_chunk rfl _) val128) (term0 (h_chunk rfl _) val128)
            (term0 (h_chunk rfl _) val128) (term0 (h_chunk rfl _) val128) _ _ _ p l rfl (by omega) (by omega)
  next => exact tap (term1 (h_chunk rfl _) val128 (carry_in (below 1) _ rfl)) (term1 (h_chunk rfl _) val128 (carry_d val128))
            (term1 (h_chunk rfl _) val128 (carry_d val128)) (term1 (h_chunk rfl _) val128 (carry_d val128)) _ _ _ p l rfl (by omega) (by omega)
  next => exact tap (term2 (h_chunk rfl _) val128 (carry_in (below 1) _ rfl)) (term2 (h_chunk rfl _) val128 (carry_d val128))
            (term2 (h_chunk rfl _) val128 (carry_d val128)) (term2 (h_chunk rfl _) val128 (carry_d val128)) _ _ _ p l rfl (by omega) (by omega)
  iterate 10
    next => exact tap (term0 (h_chunk rfl _) val256) (term0 (h_chunk rfl _) val256)
              (term0 (h_chunk rfl _) val256) (term0 (h_chunk rfl _) val256) _ _ _ p l rfl (by omega) (by omega)
    next => exact tap (term1 (h_chunk rfl _) val256 (carry_in (below 1) _ rfl)) (term1 (h_chunk rfl _) val256 (carry_d val256))
              (term1 (h_chunk rfl _) val256 (carry_d val256)) (term1 (h_chunk rfl _) val256 (carry_d val256)) _ _ _ p l rfl (by omega) (by omega)
    next => exact tap (term2 (h_chunk rfl _) val256 (carry_in (below 1) _ rfl)) (term2 (h_chunk rfl _) val256 (carry_d val256))
              (term2 (h_chunk rfl _) val256 (carry_d val256)) (term2 (h_chunk rfl _) val256 (carry_d val256)) _ _ _ p l rfl (by omega) (by omega)

set_option maxHeartbeats 4000000 in
/-- after the first of a sequence, -/
theorem dwv_C (t : Fin cfg0.N) (n : ¬ t.val % 16 = 0) (n' : t.val % 4 = 0) (p : Fin 3) (l : Fin 1408) :
    (outsAt0 m c t.val t.isLt).2.2.1 (ix2 p l) = (outsAt0 m c (t.val - 1) (lt_of_le_of_lt (Nat.sub_le _ _) t.isLt)).2.2.1 (ix2 p l) + partW m c t 1 p l := by
  unfold partW
  have below := fun s r l => zero_c m c t n' s r l
  rw [outsAt0_C m c t n n']
  frame_out
  simp (disch := decide) only [↓ View.readCov_skip, ↓ View.readCov_cons_toLoadRect, ↓ View.readCov_fill]
  canon_tiles x e
  all_goals change p.val = _ at e0
  all_goals change l.val = _ at e1
  next => exact tap (term0 (h_chunk rfl _) val128) (term0 (h_chunk rfl _) val128)
            (term0 (h_chunk rfl _) val128) (term0 (h_chunk rfl _) val128) _ _ _ p l rfl (by omega) (by omega)
  next => exact tap (term1 (h_chunk rfl _) val128 (carry_in (below 1) _ rfl)) (term1 (h_chunk rfl _) val128 (carry_d val128))
            (term1 (h_chunk rfl _) val128 (carry_d val128)) (term1 (h_chunk rfl _) val128 (carry_d val128)) _ _ _ p l rfl (by omega) (by omega)
  next => exact tap (term2 (h_chunk rfl _) val128 (carry_in (below 1) _ rfl)) (term2 (h_chunk rfl _) val128 (carry_d val128))
            (term2 (h_chunk rfl _) val128 (carry_d val128)) (term2 (h_chunk rfl _) val128 (carry_d val128)) _ _ _ p l rfl (by omega) (by omega)
  iterate 10
    next => exact tap (term0 (h_chunk rfl _) val256) (term0 (h_chunk rfl _) val256)
              (term0 (h_chunk rfl _) val256) (term0 (h_chunk rfl _) val256) _ _ _ p l rfl (by omega) (by omega)
    next => exact tap (term1 (h_chunk rfl _) val256 (carry_in (below 1) _ rfl)) (term1 (h_chunk rfl _) val256 (carry_d val256))
              (term1 (h_chunk rfl _) val256 (carry_d val256)) (term1 (h_chunk rfl _) val256 (carry_d val256)) _ _ _ p l rfl (by omega) (by omega)
    next => exact tap (term2 (h_chunk rfl _) val256 (carry_in (below 1) _ rfl)) (term2 (h_chunk rfl _) val256 (carry_d val256))
              (term2 (h_chunk rfl _) val256 (carry_d val256)) (term2 (h_chunk rfl _) val256 (carry_d val256)) _ _ _ p l rfl (by omega) (by omega)

set_option maxHeartbeats 4000000 in
/-- and after any other. -/
theorem dwv_B (t : Fin cfg0.N) (n' : ¬ t.val % 4 = 0) (p : Fin 3) (l : Fin 1408) :
    (outsAt0 m c t.val t.isLt).2.2.1 (ix2 p l) = (outsAt0 m c (t.val - 1) (lt_of_le_of_lt (Nat.sub_le _ _) t.isLt)).2.2.1 (ix2 p l) + partW m c t 1 p l := by
  unfold partW
  have below := fun s r l => carried m c t n' s r l (lt_of_le_of_lt (Nat.sub_le _ _) t.isLt)
  rw [outsAt0_B m c t (by omega) n']
  frame_out
  simp (disch := decide) only [↓ View.readCov_skip, ↓ View.readCov_cons_toLoadRect, ↓ View.readCov_fill]
  canon_tiles x e
  all_goals change p.val = _ at e0
  all_goals change l.val = _ at e1
  next => exact tap (term0 (h_chunk rfl _) val128) (term0 (h_chunk rfl _) val128)
            (term0 (h_chunk rfl _) val128) (term0 (h_chunk rfl _) val128) _ _ _ p l rfl (by omega) (by omega)
  next => exact tap (term1 (h_chunk rfl _) val128 (carry_in (below 1) _ rfl)) (term1 (h_chunk rfl _) val128 (carry_d val128))
            (term1 (h_chunk rfl _) val128 (carry_d val128)) (term1 (h_chunk rfl _) val128 (carry_d val128)) _ _ _ p l rfl (by omega) (by omega)
  next => exact tap (term2 (h_chunk rfl _) val128 (carry_in (below 1) _ rfl)) (term2 (h_chunk rfl _) val128 (carry_d val128))
            (term2 (h_chunk rfl _) val128 (carry_d val128)) (term2 (h_chunk rfl _) val128 (carry_d val128)) _ _ _ p l rfl (by omega) (by omega)
  iterate 10
    next => exact tap (term0 (h_chunk rfl _) val256) (term0 (h_chunk rfl _) val256)
              (term0 (h_chunk rfl _) val256) (term0 (h_chunk rfl _) val256) _ _ _ p l rfl (by omega) (by omega)
    next => exact tap (term1 (h_chunk rfl _) val256 (carry_in (below 1) _ rfl)) (term1 (h_chunk rfl _) val256 (carry_d val256))
              (term1 (h_chunk rfl _) val256 (carry_d val256)) (term1 (h_chunk rfl _) val256 (carry_d val256)) _ _ _ p l rfl (by omega) (by omega)
    next => exact tap (term2 (h_chunk rfl _) val256 (carry_in (below 1) _ rfl)) (term2 (h_chunk rfl _) val256 (carry_d val256))
              (term2 (h_chunk rfl _) val256 (carry_d val256)) (term2 (h_chunk rfl _) val256 (carry_d val256)) _ _ _ p l rfl (by omega) (by omega)

/-- So a point adds its part. -/
theorem dwv_at (t : Fin cfg0.N) (p : Fin 3) (l : Fin 1408) :
    (t.val % 16 = 0 → (outsAt0 m c t.val t.isLt).2.2.1 (ix2 p l) = k0_pay5 (F := Ideal) (ix2 p l) + partW m c t 1 p l)
    ∧ (¬ t.val % 16 = 0 → (outsAt0 m c t.val t.isLt).2.2.1 (ix2 p l)
      = (outsAt0 m c (t.val - 1) (lt_of_le_of_lt (Nat.sub_le _ _) t.isLt)).2.2.1 (ix2 p l) + partW m c t 1 p l) :=
  ⟨fun n => dwv_A m c t n p l, fun n => if n' : t.val % 4 = 0 then dwv_C m c t n n' p l else dwv_B m c t n' p l⟩

set_option maxHeartbeats 4000000 in
/-- the bias's in the gate's half, -/
theorem dbg_at (t : Fin cfg0.N) (p : Fin 1) (l : Fin 1408) :
    (t.val % 16 = 0 → (outsAt0 m c t.val t.isLt).2.2.2.1 (ix2 p l) = k0_pay6 (F := Ideal) (ix2 p l) + partB m c t 0 l)
    ∧ (¬ t.val % 16 = 0 → (outsAt0 m c t.val t.isLt).2.2.2.1 (ix2 p l)
      = (outsAt0 m c (t.val - 1) (lt_of_le_of_lt (Nat.sub_le _ _) t.isLt)).2.2.2.1 (ix2 p l) + partB m c t 0 l) := by
  unfold partB
  refine ⟨fun n => ?_, fun n => ?_⟩
  on_goal 2 => by_cases n' : t.val % 4 = 0
  on_goal 1 => rw [outsAt0_A m c t n (by omega)]
  on_goal 2 => rw [outsAt0_C m c t n n']
  on_goal 3 => rw [outsAt0_B m c t n n']
  all_goals frame_out
  all_goals simp (disch := decide) only [↓ View.readCov_skip, ↓ View.readCov_cons_toLoadRect, ↓ View.readCov_fill]
  on_goal 1 => refine (canon_over [_] [_, _, _, _, _, _, _, _, _, _, _] (View.cover_of_tiledBy _ ![1, 128] (by sl_kernel_rfl) _)).trans ?_
  all_goals canon_tiles x e
  all_goals change l.val = _ at e1
  iterate 3
    next => exact bias gate128 gate128 gate128 gate128 _ _ _ p l (by omega)
    iterate 10
      next => exact bias gate256 gate256 gate256 gate256 _ _ _ p l (by omega)

set_option maxHeartbeats 4000000 in
/-- and in the value's. -/
theorem dbv_at (t : Fin cfg0.N) (p : Fin 1) (l : Fin 1408) :
    (t.val % 16 = 0 → (outsAt0 m c t.val t.isLt).2.2.2.2.1 (ix2 p l) = k0_pay7 (F := Ideal) (ix2 p l) + partB m c t 1 l)
    ∧ (¬ t.val % 16 = 0 → (outsAt0 m c t.val t.isLt).2.2.2.2.1 (ix2 p l)
      = (outsAt0 m c (t.val - 1) (lt_of_le_of_lt (Nat.sub_le _ _) t.isLt)).2.2.2.2.1 (ix2 p l) + partB m c t 1 l) := by
  unfold partB
  refine ⟨fun n => ?_, fun n => ?_⟩
  on_goal 2 => by_cases n' : t.val % 4 = 0
  on_goal 1 => rw [outsAt0_A m c t n (by omega)]
  on_goal 2 => rw [outsAt0_C m c t n n']
  on_goal 3 => rw [outsAt0_B m c t n n']
  all_goals frame_out
  all_goals simp (disch := decide) only [↓ View.readCov_skip, ↓ View.readCov_cons_toLoadRect, ↓ View.readCov_fill]
  on_goal 1 => refine (canon_over [_] [_, _, _, _, _, _, _, _, _, _, _] (View.cover_of_tiledBy _ ![1, 128] (by sl_kernel_rfl) _)).trans ?_
  all_goals canon_tiles x e
  all_goals change l.val = _ at e1
  iterate 3
    next => exact bias val128 val128 val128 val128 _ _ _ p l (by omega)
    iterate 10
      next => exact bias val256 val256 val256 val256 _ _ _ p l (by omega)

end Cert.FfnBwdIdeal.Val
end
-- ==== Proof.FfnRefRun.lean ====
/- What the reference of the feed-forward block's backward call leaves in its results. -/
module
public import proofs.«01_k».proof.Proof.FfnRef

@[expose] public section
set_option maxRecDepth 16384
noncomputable section
open Idealize.ShloMosaic Idealize.ShloMosaic.TcCoe Idealize.SL.Sem
open Idealize.ShloMosaic.Pipeline (Dat)
open scoped BigOperators

namespace Cert.FfnBwdRefIdeal.Val
open Cert.FfnBwdRefIdeal Cert.FfnBwdRefIdeal.Gen Cert.ScMath Cert.FfnMath

/-- A lane of a half as a channel. -/
def half (s : Fin 2) (f : Fin 2816) : Fin 5632 := if s = 0 then gl f else vl f

variable (m : (ℓ : Loc nD τ sig) → Buf (Elt Ideal) ℓ) (c : Dev nD)

/-- The gradient of the convolution's output, row by row. -/
abbrev yArr : ℕ → Fin 5632 → EReal := yRow (argH m c) (argW m c) (argB m c) (argD m c) (argQ m c)

/-- The same as an array. -/
abbrev yOf : FVec Ideal S4x2048x5632 .f32 := refY (m ((c.tc : Thread nD τ).loc main_arg0)) (m ((c.tc : Thread nD τ).loc main_arg3))
  (m ((c.tc : Thread nD τ).loc main_arg4)) (m ((c.tc : Thread nD τ).loc main_arg1)) (m ((c.tc : Thread nD τ).loc main_arg2))

theorem y_at (b : Fin 4) (t : Fin 2048) (l : Fin 5632) : yOf m c (ix3 b t l) = yArr m c (b.val * 2048 + t.val) l :=
  refY_at _ _ _ _ _ b t l

/-- The first result is the gradient of the input, -/
theorem e81 : Value.res_main_v81 m c = refDh (yOf m c) (m ((c.tc : Thread nD τ).loc main_arg1)) := rfl

/-- the next two the halves of the taps' gradient, -/
theorem e82 : Value.res_main_v82 m c = extractStridedSlice S3x2816 ![0, 0] (refDw (seqs (m ((c.tc : Thread nD τ).loc main_arg0))) (yOf m c))
  slices_S3x5632_S3x2816_0_0 := rfl

theorem e83 : Value.res_main_v83 m c = extractStridedSlice S3x2816 ![0, 2816] (refDw (seqs (m ((c.tc : Thread nD τ).loc main_arg0))) (yOf m c))
  slices_S3x5632_S3x2816_0_2816 := rfl

/-- and the last two the halves of the bias's. -/
theorem e85 : Value.res_main_v85 m c = broadcastInDim S1x2816 ![1] bcast_S2816_S1x2816_1 (extractStridedSlice S2816 ![0] (refDb (yOf m c))
  slices_S5632_S2816_0) := rfl

theorem e87 : Value.res_main_v87 m c = broadcastInDim S1x2816 ![1] bcast_S2816_S1x2816_1 (extractStridedSlice S2816 ![2816] (refDb (yOf m c))
  slices_S5632_S2816_2816) := rfl

/-- The gradient of the taps at a channel, -/
theorem dw_at (k : Fin 3) (l : Fin 5632) : refDw (seqs (m ((c.tc : Thread nD τ).loc main_arg0))) (yOf m c) (ix2 k l)
    = ∑ r : Fin 8192, dwRow (yArr m c) (hRow (argH m c)) k r.val l :=
  (refDw_at (seqs_at _) (y_at m c) k l).trans (sum_seq fun r => dwRow (yArr m c) (hRow (argH m c)) k r l)

/-- and of the bias. -/
theorem db_at (l : Fin 5632) : refDb (yOf m c) (ix1 l) = ∑ r : Fin 8192, yArr m c r.val l :=
  (refDb_at (y_at m c) l).trans (sum_seq fun r => yArr m c r l)

/-- A half of the taps' gradient, cut out of the whole. -/
theorem cut_w (z : FVec Ideal S3x5632 .f32) (k : Fin 3) (f : Fin 2816) :
    extractStridedSlice S3x2816 ![0, 0] z slices_S3x5632_S3x2816_0_0 (ix2 k f) = z (ix2 k (gl f))
    ∧ extractStridedSlice S3x2816 ![0, 2816] z slices_S3x5632_S3x2816_0_2816 (ix2 k f) = z (ix2 k (vl f)) := by
  constructor
  · pointwise
    rfl
  · pointwise
    rfl

/-- A half of the bias's. -/
theorem cut_b (z : FVec Ideal S5632 .f32) (k : Fin 1) (f : Fin 2816) :
    broadcastInDim S1x2816 ![1] bcast_S2816_S1x2816_1 (extractStridedSlice S2816 ![0] z slices_S5632_S2816_0) (ix2 k f) = z (ix1 (gl f))
    ∧ broadcastInDim S1x2816 ![1] bcast_S2816_S1x2816_1 (extractStridedSlice S2816 ![2816] z slices_S5632_S2816_2816) (ix2 k f) = z (ix1 (vl f)) := by
  constructor
  · pointwise
    rfl
  · pointwise
    rfl

/-- The reference's run, with every result named element by element. -/
theorem run_val (ρ : Dev nD → PrngReg) :
    θ_run defs (onTc (τ := τ) (main (F := Ideal))) ⟨m, fun _ => 0, ρ⟩ fun r => ∀ c : Dev nD,
      (∀ s i f, (r.2.mem ((c.tc : Thread nD τ).loc main_v81) : FVec Ideal S2x8192x2816 .bf16) (ix3 s i f)
        = dpRow (yArr m c) (argW m c) i.val (half s f))
      ∧ (∀ k f, (r.2.mem ((c.tc : Thread nD τ).loc main_v82) : FVec Ideal S3x2816 .f32) (ix2 k f)
        = ∑ r : Fin 8192, dwRow (yArr m c) (hRow (argH m c)) k r.val (half 0 f))
      ∧ (∀ k f, (r.2.mem ((c.tc : Thread nD τ).loc main_v83) : FVec Ideal S3x2816 .f32) (ix2 k f)
        = ∑ r : Fin 8192, dwRow (yArr m c) (hRow (argH m c)) k r.val (half 1 f))
      ∧ (∀ k f, (r.2.mem ((c.tc : Thread nD τ).loc main_v85) : FVec Ideal S1x2816 .f32) (ix2 k f)
        = ∑ r : Fin 8192, yArr m c r.val (half 0 f))
      ∧ (∀ k f, (r.2.mem ((c.tc : Thread nD τ).loc main_v87) : FVec Ideal S1x2816 .f32) (ix2 k f)
        = ∑ r : Fin 8192, yArr m c r.val (half 1 f))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨fun s i f => ?_, fun k f => ?_, fun k f => ?_, fun k f => ?_, fun k f => ?_,
    (h c).2.2.2.2.2⟩) (Value.run m ρ)
  · refine (congrFun ((h c).1.trans (e81 m c)) _).trans ?_
    obtain rfl | rfl : s = 0 ∨ s = 1 := by omega
    · exact (refDh_at _ (y_at m c) i f).1
    · exact (refDh_at _ (y_at m c) i f).2
  · exact (congrFun ((h c).2.1.trans (e82 m c)) _).trans ((cut_w _ k f).1.trans (dw_at m c k (gl f)))
  · exact (congrFun ((h c).2.2.1.trans (e83 m c)) _).trans ((cut_w _ k f).2.trans (dw_at m c k (vl f)))
  · exact (congrFun ((h c).2.2.2.1.trans (e85 m c)) _).trans ((cut_b _ k f).1.trans (db_at m c (gl f)))
  · exact (congrFun ((h c).2.2.2.2.1.trans (e87 m c)) _).trans ((cut_b _ k f).2.trans (db_at m c (vl f)))

end Cert.FfnBwdRefIdeal.Val
end
-- ==== Proof.FfnValue.lean ====
/- The value of the feed-forward block's backward call: what each of its five result arrays holds after the run is what the
   reference computes from the same finite arguments. -/
module
public import proofs.«01_k».proof.Proof.FfnAcc
public import proofs.«01_k».proof.Proof.FfnRefRun
public import proofs.«01_k».proof.Proof.Gen.FfnBwdIdeal.Value
public import proofs.«01_k».proof.Proof.Gen.Pre_finite_ffn

@[expose] public section
set_option maxRecDepth 16384
noncomputable section
open Idealize.ShloMosaic Idealize.ShloMosaic.TcCoe Idealize.SL.Sem
open Idealize.ShloMosaic.Pipeline (Dat)
open scoped BigOperators

namespace Cert.FfnBwdIdeal.Val
open Cert.FfnBwdIdeal Cert.FfnBwdIdeal.Gen Cert.ScMath Cert.FfnMath Cert.Reals
open Cert.FfnBwdRefIdeal.Val (half yArr)

/-- A sum that starts at a half's first point and takes each point's rows is, at its last point, the sum over all rows. -/
theorem acc_sum (f : (n : ℕ) → n < cfg0.N → EReal) (G : ℕ → EReal) (t₀ : Fin cfg0.N) (ht : t₀.val % 16 = 15)
    (h0 : ∀ t : Fin cfg0.N, t.val / 16 = t₀.val / 16 → t.val % 16 = 0 → f t.val t.isLt = 0 + ∑ r : Fin 512, G (base t + r.val))
    (hs : ∀ t : Fin cfg0.N, t.val / 16 = t₀.val / 16 → ¬ t.val % 16 = 0 →
      f t.val t.isLt = f (t.val - 1) (lt_of_le_of_lt (Nat.sub_le _ _) t.isLt) + ∑ r : Fin 512, G (base t + r.val)) :
    f t₀.val t₀.isLt = ∑ r : Fin 8192, G r.val := by
  have key : ∀ (j : ℕ) (hj : j < 16) (h : t₀.val / 16 * 16 + j < cfg0.N),
      f (t₀.val / 16 * 16 + j) h = ∑ s : Fin (j + 1), ∑ r : Fin 512, G ((15 - s.val) * 512 + r.val) := by
    intro j
    induction j with
    | zero =>
      intro _ h
      refine (h0 ⟨_, h⟩ (by show (t₀.val / 16 * 16 + 0) / 16 = _; omega) (by show (t₀.val / 16 * 16 + 0) % 16 = _; omega)).trans ?_
      rw [zero_add, Fin.sum_univ_one]
      unfold base
      rw [show (t₀.val / 16 * 16 + 0) % 16 = 0 by omega]
      rfl
    | succ j ih =>
      intro hj h
      refine (hs ⟨_, h⟩ (by show (t₀.val / 16 * 16 + (j + 1)) / 16 = _; omega) (by show ¬ (t₀.val / 16 * 16 + (j + 1)) % 16 = _; omega)).trans
        (Eq.trans ?_ (Fin.sum_univ_castSucc _).symm)
      refine congrArg₂ (· + ·) (ih (by omega) (by omega)) ?_
      unfold base
      rw [show (t₀.val / 16 * 16 + (j + 1)) % 16 = j + 1 by omega]
      rfl
  have e : t₀.val / 16 * 16 + 15 = t₀.val := by omega
  have k15 := key 15 (by omega) (by rw [e]; exact t₀.isLt)
  have same : ∀ (u : ℕ) (hu : u < cfg0.N), u = t₀.val → f u hu = f t₀.val t₀.isLt := fun u hu e => by subst e; rfl
  rw [same _ _ e] at k15
  rw [k15, ← Equiv.sum_comp Fin.revPerm]
  refine Fin.sum_mul_add_congr fun s k hl => ?_
  have hs := s.isLt
  exact congrArg G (by show (15 - (15 + 1 - (s.val + 1))) * 512 + k.val = s.val * 512 + k.val; omega)

variable (m : (ℓ : Loc nD τ sig) → Buf (Elt Ideal) ℓ) (c : Dev nD)

/-- A point's part of a tap's gradient, by the rows after. -/
theorem partW_eq (t : Fin cfg0.N) (s : Fin 2) (p : Fin 3) (l : Fin 1408) : partW m c t s p l
    = ∑ r : Fin 512, hRow (argH m c) (base t + r.val) (ch t s l) * next (d m c) (2 - p.val) (base t + r.val) (ch t s l) := by
  unfold partW term
  refine Finset.sum_congr rfl fun r _ => ?_
  rw [next_ext m c t s r.val r.isLt (2 - p.val) (by omega) l]

/-- And of the bias's. -/
theorem partB_eq (t : Fin cfg0.N) (s : Fin 2) (l : Fin 1408) : partB m c t s l = ∑ r : Fin 512, d m c (base t + r.val) (ch t s l) := by
  unfold partB
  exact Finset.sum_congr rfl fun r _ => ext_in m c t s r.val r.isLt l

/-- Points of the same half have the same channels. -/
theorem ch_eq {t t₀ : Fin cfg0.N} (h : t.val / 16 = t₀.val / 16) (s : Fin 2) (l : Fin 1408) : ch t s l = ch t₀ s l := by
  unfold ch col
  simp only [h]

/-- The call's results as arrays of the arguments. -/
def dhArr (j : S2x8192x2816.Idx) : EReal := dpRow (d m c) (argW m c) (j 1).val (half (j 0) (j 2))
def dwArr (s : Fin 2) (j : S3x2816.Idx) : EReal := ∑ r : Fin 8192, dwRow (d m c) (hRow (argH m c)) (j 0) r.val (half s (j 1))
def dbArr (s : Fin 2) (j : S1x2816.Idx) : EReal := ∑ r : Fin 8192, d m c r.val (half s (j 1))

/-- What a tap's gradient is at the last point of a half, from what each point adds. -/
theorem last_w (f : (n : ℕ) → n < cfg0.N → EReal) (z : EReal) (hz : z = 0) (s : Fin 2) (p : Fin 3) (l : Fin 1408)
    (h : ∀ t : Fin cfg0.N, (t.val % 16 = 0 → f t.val t.isLt = z + partW m c t s p l)
      ∧ (¬ t.val % 16 = 0 → f t.val t.isLt = f (t.val - 1) (lt_of_le_of_lt (Nat.sub_le _ _) t.isLt) + partW m c t s p l))
    (t : Fin cfg0.N) (ht : t.val % 16 = 15) :
    f t.val t.isLt = ∑ r : Fin 8192, dwRow (d m c) (hRow (argH m c)) p r.val (ch t s l) := by
  unfold dwRow
  rw [sum_shift]
  refine acc_sum f (fun r => hRow (argH m c) r (ch t s l) * next (d m c) (2 - p.val) r (ch t s l)) t ht (fun q hq n => ?_) (fun q hq n => ?_)
  · rw [(h q).1 n, partW_eq, ch_eq hq, hz]
  · rw [(h q).2 n, partW_eq, ch_eq hq]

/-- And the bias's. -/
theorem last_b (f : (n : ℕ) → n < cfg0.N → EReal) (z : EReal) (hz : z = 0) (s : Fin 2) (l : Fin 1408)
    (h : ∀ t : Fin cfg0.N, (t.val % 16 = 0 → f t.val t.isLt = z + partB m c t s l)
      ∧ (¬ t.val % 16 = 0 → f t.val t.isLt = f (t.val - 1) (lt_of_le_of_lt (Nat.sub_le _ _) t.isLt) + partB m c t s l))
    (t : Fin cfg0.N) (ht : t.val % 16 = 15) : f t.val t.isLt = ∑ r : Fin 8192, d m c r.val (ch t s l) := by
  refine acc_sum f (fun r => d m c r (ch t s l)) t ht (fun q hq n => ?_) (fun q hq n => ?_)
  · rw [(h q).1 n, partB_eq, ch_eq hq, hz]
  · rw [(h q).2 n, partB_eq, ch_eq hq]

/-- The first result holds the input's gradient, -/
theorem final_dh : (dats m 0 c).arrAt 6 cfg0.N = dhArr m c := by
  refine (dats m 0 c).arrAt_eq_of_covers 6 _ (by decide +kernel) fun t _ y => ?_
  blk_simp
  rw [after0_6]
  idx_vars y
  rw [dh_at]
  show dhArr m c (ix3 y0 ⟨base t + y1.val, base_lt t y1⟩ (col t y2)) = _
  congr 1
  blk_ext [idx t, base, col]

/-- the second the taps' of the gate's half, -/
theorem final_dwg : (dats m 0 c).arrAt 7 cfg0.N = dwArr m c 0 := by
  refine (dats m 0 c).arrAt_eq_of_covers 7 _ (by decide +kernel) fun t hf y => ?_
  have ht := (flush0_7 t).mp hf
  blk_simp
  rw [after0_7]
  idx_vars y
  refine (last_w m c (fun n h => (outsAt0 m c n h).2.1 (ix2 y0 y1)) _ (zero_w _) 0 y0 y1 (fun t => dwg_at m c t y0 y1) t ht).trans ?_
  show dwArr m c 0 (ix2 y0 (col t y1)) = _
  congr 1
  blk_ext [idx t, col]

/-- the third of the value's half, -/
theorem final_dwv : (dats m 0 c).arrAt 8 cfg0.N = dwArr m c 1 := by
  refine (dats m 0 c).arrAt_eq_of_covers 8 _ (by decide +kernel) fun t hf y => ?_
  have ht := (flush0_8 t).mp hf
  blk_simp
  rw [after0_8]
  idx_vars y
  refine (last_w m c (fun n h => (outsAt0 m c n h).2.2.1 (ix2 y0 y1)) _ (zero_w _) 1 y0 y1 (fun t => dwv_at m c t y0 y1) t ht).trans ?_
  show dwArr m c 1 (ix2 y0 (col t y1)) = _
  congr 1
  blk_ext [idx t, col]

/-- the fourth the bias's of the gate's half, -/
theorem final_dbg : (dats m 0 c).arrAt 9 cfg0.N = dbArr m c 0 := by
  refine (dats m 0 c).arrAt_eq_of_covers 9 _ (by decide +kernel) fun t hf y => ?_
  have ht := (flush0_9 t).mp hf
  blk_simp
  rw [after0_9]
  idx_vars y
  refine (last_b m c (fun n h => (outsAt0 m c n h).2.2.2.1 (ix2 y0 y1)) _ (zero_b _) 0 y1 (fun t => dbg_at m c t y0 y1) t ht).trans ?_
  show dbArr m c 0 (ix2 y0 (col t y1)) = _
  congr 1
  blk_ext [idx t, col]

/-- and the fifth of the value's half. -/
theorem final_dbv : (dats m 0 c).arrAt 10 cfg0.N = dbArr m c 1 := by
  refine (dats m 0 c).arrAt_eq_of_covers 10 _ (by decide +kernel) fun t hf y => ?_
  have ht := (flush0_10 t).mp hf
  blk_simp
  rw [after0_10]
  idx_vars y
  refine (last_b m c (fun n h => (outsAt0 m c n h).2.2.2.2.1 (ix2 y0 y1)) _ (zero_b _) 1 y1 (fun t => dbv_at m c t y0 y1) t ht).trans ?_
  show dbArr m c 1 (ix2 y0 (col t y1)) = _
  congr 1
  blk_ext [idx t, col]

/-- The call's run, with every result named. -/
theorem run_named (ρ : Dev nD → PrngReg) : θ_run defs (onTc (τ := τ) (main (F := Ideal))) ⟨m, fun _ => 0, ρ⟩ fun r => ∀ c : Dev nD,
      r.2.mem ((c.tc : Thread nD τ).loc main_v33_0) = dhArr m c
      ∧ r.2.mem ((c.tc : Thread nD τ).loc main_v33_1) = dwArr m c 0
      ∧ r.2.mem ((c.tc : Thread nD τ).loc main_v33_2) = dwArr m c 1
      ∧ r.2.mem ((c.tc : Thread nD τ).loc main_v33_3) = dbArr m c 0
      ∧ r.2.mem ((c.tc : Thread nD τ).loc main_v33_4) = dbArr m c 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final_dh m c), (h c).2.1.trans (final_dwg m c), (h c).2.2.1.trans (final_dwv m c),
      (h c).2.2.2.1.trans (final_dbg m c), (h c).2.2.2.2.1.trans (final_dbv m c), (h c).2.2.2.2.2⟩)
    (Value.run_blocks m ρ)

/-- What the precondition says: every argument is real. -/
theorem finite (h : Cert.Pre_FfnBwdIdeal_finite_ffn (hPre_finite_ffn := Cert.Pre_finite_ffn.Gen.facts) m) (c : Dev nD) :
    (∀ r l, ∃ x : ℝ, argH m c r l = (x : EReal)) ∧ (∀ k l, ∃ x : ℝ, argW m c k l = (x : EReal))
    ∧ (∀ l, ∃ x : ℝ, argB m c l = (x : EReal)) ∧ (∀ f k, ∃ x : ℝ, argD m c f k = (x : EReal))
    ∧ (∀ r k, ∃ x : ℝ, argQ m c r k = (x : EReal)) := by
  obtain ⟨e0, e1, e2, e3, e4⟩ := h c
  refine ⟨fun r l => ?_, fun k l => ?_, fun l => ?_, fun f k => ?_, fun r k => ?_⟩
  · have e := congrFun e0 (ix2 r l)
    unfold Cert.Pre_finite_ffn.fn at e
    pointwise at e
    exact real_of_abs (ofBool_one e)
  · have e := congrFun e1 (ix2 k l)
    unfold Cert.Pre_finite_ffn.fn at e
    pointwise at e
    exact real_of_abs (ofBool_one e)
  · have e := congrFun e2 (ix1 l)
    unfold Cert.Pre_finite_ffn.fn at e
    pointwise at e
    exact real_of_abs (ofBool_one e)
  · have e := congrFun e3 (ix2 f k)
    unfold Cert.Pre_finite_ffn.fn at e
    pointwise at e
    exact real_of_abs (ofBool_one e)
  · have e := congrFun e4 (ix2 r k)
    unfold Cert.Pre_finite_ffn.fn at e
    pointwise at e
    exact real_of_abs (ofBool_one e)

/-- With finite arguments the call's five results are the reference's. -/
theorem algebraic : Cert.algebraic_FfnBwdIdeal_FfnBwdRefIdeal_pre_finite_ffn
    (hFfnBwdIdeal := Cert.FfnBwdIdeal.Gen.facts) (hFfnBwdRefIdeal := Cert.FfnBwdRefIdeal.Gen.facts)
    (hPre_finite_ffn := Cert.Pre_finite_ffn.Gen.facts) := by
  intro m g m' g' hpre hagree
  have eH : ∀ c : Dev nD, Cert.FfnBwdRefIdeal.Val.argH m' c = argH m c := fun c => funext fun r => funext fun k => congrFun (hagree c).1 (ix2 r k)
  have eW : ∀ c : Dev nD, Cert.FfnBwdRefIdeal.Val.argW m' c = argW m c := fun c => funext fun r => funext fun k => congrFun (hagree c).2.1 (ix2 r k)
  have eB : ∀ c : Dev nD, Cert.FfnBwdRefIdeal.Val.argB m' c = argB m c := fun c => funext fun k => congrFun (hagree c).2.2.1 (ix1 k)
  have eD : ∀ c : Dev nD, Cert.FfnBwdRefIdeal.Val.argD m' c = argD m c := fun c => funext fun r => funext fun k => congrFun (hagree c).2.2.2.1 (ix2 r k)
  have eQ : ∀ c : Dev nD, Cert.FfnBwdRefIdeal.Val.argQ m' c = argQ m c := fun c => funext fun r => funext fun k => congrFun (hagree c).2.2.2.2 (ix2 r k)
  have eY : ∀ c : Dev nD, yArr m' c = d m c := fun c => by
    obtain ⟨h0, h1, h2, h3, h4⟩ := finite m hpre c
    unfold yArr
    rw [eH, eW, eB, eD, eQ]
    exact (dRow_eq (fun r l => uRow_real h0 h1 h2 r l) (fun r f => aRow_real h3 h4 r f)).symm
  refine ⟨_, _, _, _, _, run_named m g, (θ_run _ _ _).mono (fun _ h c => ⟨funext fun i => ?_, funext fun i => ?_, funext fun i => ?_,
    funext fun i => ?_, funext fun i => ?_, (h c).2.2.2.2.2⟩) (Cert.FfnBwdRefIdeal.Val.run_val m' g')⟩
  · idx_vars i
    refine ((h c).1 _ _ _).trans ?_
    rw [eY, eW]
    rfl
  · idx_vars i
    refine ((h c).2.1 _ _).trans ?_
    rw [eY, eH]
    rfl
  · idx_vars i
    refine ((h c).2.2.1 _ _).trans ?_
    rw [eY, eH]
    rfl
  · idx_vars i
    refine ((h c).2.2.2.1 _ _).trans ?_
    rw [eY]
    rfl
  · idx_vars i
    refine ((h c).2.2.2.2.1 _ _).trans ?_
    rw [eY]
    rfl

end Cert.FfnBwdIdeal.Val
end
-- ==== Proof.FfnUpRef.lean ====
/- The reference's side of the feed-forward block's forward call, element by element. -/
module
public import proofs.«01_k».proof.Defs
public import proofs.«01_k».proof.Proof.Gen.FfnUpRefIdeal
public import proofs.«01_k».proof.Proof.Gen.FfnUpRefIdeal.Run
public import proofs.«01_k».proof.Proof.FfnRef
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open scoped BigOperators

namespace Cert.FfnMath
open Cert.Reals Cert.ScMath

/-- The two forms of the logistic function agree at every extended real. -/
theorem sigT_all (x : EReal) : sigT x = sig x := by
  induction x with
  | coe x => exact sigT_eq x
  | bot =>
    unfold sigT sig
    rw [EReal.coe_mul_bot_of_pos (by norm_num), EReal.neg_bot]
    show ((1 / 2 : ℝ) : EReal) + ((1 / 2 : ℝ) : EReal) * ((-1 : ℝ) : EReal) = Ideal.div 1 (1 + (⊤ : EReal))
    rw [← EReal.coe_mul, ← EReal.coe_add, ← EReal.coe_one, EReal.coe_add_top]
    norm_num [Ideal.div]
  | top =>
    unfold sigT sig
    rw [EReal.coe_mul_top_of_pos (by norm_num), EReal.neg_top]
    show ((1 / 2 : ℝ) : EReal) + ((1 / 2 : ℝ) : EReal) * ((1 : ℝ) : EReal) = Ideal.div 1 (1 + ((0 : ℝ) : EReal))
    rw [← EReal.coe_mul, ← EReal.coe_add, ← EReal.coe_one, ← EReal.coe_add, div_real (by norm_num)]
    norm_num

/-- The channel of half `s` at a lane. -/
def chn (s : Fin 2) (f : Fin 2816) : Fin 5632 := if s = 0 then gl f else vl f

/-- The projection, -/
def mm (X : Fin 8192 → Fin 1024 → EReal) (W : Fin 1024 → Fin 5632 → EReal) (r : Fin 8192) (l : Fin 5632) : EReal := ∑ k : Fin 1024, X r k * W k l

/-- and the gated product at a row and a lane, of the convolution's output. -/
def act (u : ℕ → Fin 5632 → EReal) (r : ℕ) (f : Fin 2816) : EReal := u r (gl f) * sig (u r (gl f)) * u r (vl f)

end Cert.FfnMath

namespace Cert.FfnUpRefIdeal.Val
open Cert.FfnUpRefIdeal Cert.FfnUpRefIdeal.Gen Cert.Reals Cert.ScMath Cert.FfnMath

/-- The projection as the reference writes it. -/
def hOf (x : FVec Ideal S8192x1024 .bf16) (w : FVec Ideal S1024x5632 .bf16) : FVec Ideal S8192x5632 .f32 :=
  Host.dotGeneral dot_S8192x1024_S1024x5632_S8192x5632_1_0_0_1_n_n none (extf .f32 x bitsLt_bf16_f32) (extf .f32 w bitsLt_bf16_f32)

/-- The same by sequences. -/
def seqOf (x : FVec Ideal S8192x1024 .bf16) (w : FVec Ideal S1024x5632 .bf16) : FVec Ideal S4x2048x5632 .f32 :=
  shapeCast S4x2048x5632 (hOf x w) shapeCasts_S8192x5632_S4x2048x5632

variable (x : FVec Ideal S8192x1024 .bf16) (w : FVec Ideal S1024x5632 .bf16) (cw : FVec Ideal S3x5632 .f32) (cb : FVec Ideal S5632 .f32)

theorem hOf_at (r : Fin 8192) (l : Fin 5632) : hOf x w (ix2 r l) = hRow (mm (fun r k => x (ix2 r k)) (fun k l => w (ix2 k l))) r.val l := by
  pointwise [hOf]
  unfold hRow
  rw [dif_pos r.isLt]
  rfl

theorem seq_at (b : Fin 4) (t : Fin 2048) (l : Fin 5632) :
    seqOf x w (ix3 b t l) = hRow (mm (fun r k => x (ix2 r k)) (fun k l => w (ix2 k l))) (b.val * 2048 + t.val) l := by
  pointwise [seqOf]
  exact hOf_at x w _ l

/-- Splitting the projection into its two halves, element by element. -/
theorem cut_h (z : FVec Ideal S8192x5632 .f32) (s : Fin 2) (r : Fin 8192) (f : Fin 2816) :
    truncf .bf16 (transpose S2x8192x2816 [1, 0, 2] (shapeCast S8192x2x2816 z shapeCasts_S8192x5632_S8192x2x2816)
      transposes_S8192x2x2816_S2x8192x2816_1_0_2) bitsLt_bf16_f32 (ix3 s r f) = z (ix2 r (chn s f)) := by
  obtain rfl | rfl : s = 0 ∨ s = 1 := by omega
  · pointwise
    rfl
  · pointwise
    rfl

/-- Splitting an array of sequences into its two halves. -/
theorem cut_u (z : FVec Ideal S4x2048x5632 .f32) (s : Fin 2) (r : Fin 8192) (f : Fin 2816) :
    truncf .bf16 (transpose S2x8192x2816 [1, 0, 2] (shapeCast S8192x2x2816 z shapeCasts_S4x2048x5632_S8192x2x2816)
      transposes_S8192x2x2816_S2x8192x2816_1_0_2) bitsLt_bf16_f32 (ix3 s r f)
      = z (ix3 ⟨r.val / 2048, by omega⟩ ⟨r.val % 2048, by omega⟩ (chn s f)) := by
  obtain rfl | rfl : s = 0 ∨ s = 1 := by omega
  · pointwise
    rfl
  · pointwise
    rfl

/-- The convolution's output. -/
abbrev uOf : FVec Ideal S4x2048x5632 .f32 := Cert.FfnBwdRefIdeal.Val.refU (seqOf x w) cw cb

/-- The gated product. -/
def actOf (u : FVec Ideal S4x2048x5632 .f32) : FVec Ideal S8192x2816 .bf16 :=
  truncf .bf16 (shapeCast S8192x2816 (mulf (mulf (Cert.FfnBwdRefIdeal.Val.gatePart u) (Cert.FfnBwdRefIdeal.Val.sigm (Cert.FfnBwdRefIdeal.Val.gatePart u)))
    (Cert.FfnBwdRefIdeal.Val.valPart u)) shapeCasts_S4x2048x2816_S8192x2816) bitsLt_bf16_f32

/-- The convolution's output, row by row, of the arguments. -/
abbrev uArr (X : Fin 8192 → Fin 1024 → EReal) (W : Fin 1024 → Fin 5632 → EReal) (C : Fin 3 → Fin 5632 → EReal) (B : Fin 5632 → EReal) :
    ℕ → Fin 5632 → EReal := uRow (hRow (mm X W)) C B

theorem u_at (b : Fin 4) (t : Fin 2048) (l : Fin 5632) : uOf x w cw cb (ix3 b t l)
    = uArr (fun r k => x (ix2 r k)) (fun k l => w (ix2 k l)) (fun k l => cw (ix2 k l)) (fun l => cb (ix1 l)) (b.val * 2048 + t.val) l :=
  Cert.FfnBwdRefIdeal.Val.refU_at (seq_at x w) b t l

theorem sig_at (g : FVec Ideal S4x2048x2816 .f32) (b : Fin 4) (t : Fin 2048) (f : Fin 2816) :
    Cert.FfnBwdRefIdeal.Val.sigm g (ix3 b t f) = Cert.FfnMath.sig (g (ix3 b t f)) := by
  pointwise [Cert.FfnBwdRefIdeal.Val.sigm]
  rw [Cert.FfnBwdRefIdeal.Val.ones_at]
  rfl

theorem act_at {u : FVec Ideal S4x2048x5632 .f32} {U : ℕ → Fin 5632 → EReal}
    (hu : ∀ (b : Fin 4) (t : Fin 2048) (l : Fin 5632), u (ix3 b t l) = U (b.val * 2048 + t.val) l) (r : Fin 8192) (f : Fin 2816) :
    actOf u (ix2 r f) = act U r.val f := by
  have er : r.val / 2048 * 2048 + r.val % 2048 = r.val := Nat.div_add_mod' _ _
  pointwise [actOf]
  rw [sig_at, Cert.FfnBwdRefIdeal.Val.gate_at, Cert.FfnBwdRefIdeal.Val.val_at, hu, hu]
  simp only [er]
  rfl

variable (m : (ℓ : Loc nD τ sig) → Buf (Elt Ideal) ℓ) (c : Dev nD)

/-- The call's arguments, by row and channel. -/
abbrev argX (r : Fin 8192) (k : Fin 1024) : EReal := m ((c.tc : Thread nD τ).loc main_arg0) (ix2 r k)
abbrev argU (k : Fin 1024) (l : Fin 5632) : EReal := m ((c.tc : Thread nD τ).loc main_arg1) (ix2 k l)
abbrev argW (k : Fin 3) (l : Fin 5632) : EReal := m ((c.tc : Thread nD τ).loc main_arg2) (ix2 k l)
abbrev argB (l : Fin 5632) : EReal := m ((c.tc : Thread nD τ).loc main_arg3) (ix1 l)

theorem e40 : Value.res_main_v40 m c = actOf (uOf (m ((c.tc : Thread nD τ).loc main_arg0)) (m ((c.tc : Thread nD τ).loc main_arg1))
  (m ((c.tc : Thread nD τ).loc main_arg2)) (m ((c.tc : Thread nD τ).loc main_arg3))) := rfl

/-- The reference's run, with every result named element by element. -/
theorem run_val (ρ : Dev nD → PrngReg) :
    θ_run defs (onTc (τ := τ) (main (F := Ideal))) ⟨m, fun _ => 0, ρ⟩ fun r => ∀ c : Dev nD,
      (∀ s i f, (r.2.mem ((c.tc : Thread nD τ).loc main_v33) : FVec Ideal S2x8192x2816 .bf16) (ix3 s i f)
        = hRow (mm (argX m c) (argU m c)) i.val (chn s f))
      ∧ (∀ s i f, (r.2.mem ((c.tc : Thread nD τ).loc main_v36) : FVec Ideal S2x8192x2816 .bf16) (ix3 s i f)
        = uArr (argX m c) (argU m c) (argW m c) (argB m c) i.val (chn s f))
      ∧ (∀ i f, (r.2.mem ((c.tc : Thread nD τ).loc main_v40) : FVec Ideal S8192x2816 .bf16) (ix2 i f)
        = act (uArr (argX m c) (argU m c) (argW m c) (argB m c)) i.val f)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun s i f => ?_, fun s i f => ?_, fun i f => ?_, (h c).2.2.2⟩) (Value.run m ρ)
  · refine (congrFun (h c).1 _).trans ?_
    exact (cut_h (hOf _ _) s i f).trans (hOf_at _ _ i _)
  · refine (congrFun (h c).2.1 _).trans ?_
    refine (cut_u (uOf (m ((c.tc : Thread nD τ).loc main_arg0)) (m ((c.tc : Thread nD τ).loc main_arg1)) (m ((c.tc : Thread nD τ).loc main_arg2))
      (m ((c.tc : Thread nD τ).loc main_arg3))) s i f).trans ((u_at _ _ _ _ _ _ _).trans ?_)
    exact congrArg (fun n => uArr (argX m c) (argU m c) (argW m c) (argB m c) n (chn s f)) (Nat.div_add_mod' _ _)
  · refine (congrFun ((h c).2.2.1.trans (e40 m c)) _).trans ?_
    exact act_at (u_at _ _ _ _) i f

end Cert.FfnUpRefIdeal.Val
end
-- ==== Proof.FfnUpBlocks.lean ====
/- The blocks the feed-forward block's forward call reads at a point, by row and channel of the arguments. -/
module
public import proofs.«01_k».proof.Defs
public import proofs.«01_k».proof.Proof.Gen.FfnUpIdeal
public import proofs.«01_k».proof.Proof.Gen.FfnUpIdeal.Skeleton
public import proofs.«01_k».proof.Proof.Gen.FfnUpIdeal.Frame.Runs
public import proofs.«01_k».proof.Proof.FfnUpRef
public import Idealize.ShloMosaic.Lib.Pipeline.ReadBack
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.FfnUpIdeal.Val
open Cert.FfnUpIdeal Cert.FfnUpIdeal.Gen Cert.Reals Cert.ScMath Cert.FfnMath

/-- Each window's block index at each of the thirty-two points. -/
theorem idx : ∀ t : Fin cfg0.N, win0_0.index t = ![t.val % 16, 0] ∧ win0_1.index t = ![0, 0, t.val / 16]
    ∧ win0_2.index t = ![0, 0, t.val / 16 + 2] ∧ win0_3.index t = ![0, t.val / 16] ∧ win0_4.index t = ![0, t.val / 16 + 2]
    ∧ win0_5.index t = ![0, t.val / 16] ∧ win0_6.index t = ![0, t.val / 16 + 2]
    ∧ win0_7.index t = ![0, t.val % 16, t.val / 16] ∧ win0_8.index t = ![0, t.val % 16, t.val / 16]
    ∧ win0_9.index t = ![t.val % 16, t.val / 16] :=
  (by decide +kernel : ∀ t : Fin grid0.N, _)

variable (m : (ℓ : Loc nD τ sig) → Buf (Elt Ideal) ℓ) (c : Dev nD)

/-- The call's arguments, by row and channel. -/
abbrev argX (r : Fin 8192) (k : Fin 1024) : EReal := m ((c.tc : Thread nD τ).loc main_arg0) (ix2 r k)
abbrev argU (k : Fin 1024) (l : Fin 5632) : EReal := m ((c.tc : Thread nD τ).loc main_arg1) (ix2 k l)
abbrev argW (k : Fin 3) (l : Fin 5632) : EReal := m ((c.tc : Thread nD τ).loc main_arg2) (ix2 k l)
abbrev argB (l : Fin 5632) : EReal := m ((c.tc : Thread nD τ).loc main_arg3) (ix1 l)

/-- The projection and the convolution's output. -/
abbrev p : ℕ → Fin 5632 → EReal := hRow (mm (argX m c) (argU m c))
abbrev u : ℕ → Fin 5632 → EReal := uRow (p m c) (argW m c) (argB m c)

/-- The first row of point `t`'s blocks. -/
def base (t : Fin cfg0.N) : ℕ := t.val % 16 * 512

theorem base_lt (t : Fin cfg0.N) (r : Fin 512) : base t + r.val < 8192 := by
  unfold base; have := r.isLt; omega

/-- A lane of point `t`'s blocks as a lane of the whole half. -/
def col (t : Fin cfg0.N) (l : Fin 1408) : Fin 2816 :=
  ⟨t.val / 16 * 1408 + l.val, by have := t.isLt; have := l.isLt; have : cfg0.N = 32 := N_0; omega⟩

theorem entry_w (k : Fin 1024) (l : Fin 5632) : V m c main_v0 (ix3 0 k l) = argU m c k l := by
  unfold V
  entry_read
  unfold argU
  pointwise

theorem entry_b (l : Fin 5632) : V m c main_v1 (ix2 0 l) = argB m c l := by
  unfold V
  entry_read
  unfold argB
  pointwise

/-- Point `t`'s blocks of the input, -/
theorem blk_x (t : Fin cfg0.N) (r : Fin 512) (k : Fin 1024) : iblk m c 0 t (ix2 r k) = argX m c ⟨base t + r.val, base_lt t r⟩ k := by
  unfold argX base
  blk_point [iblk, V, idx t]

/-- of the weights of both halves, -/
theorem blk_wg (t : Fin cfg0.N) (k : Fin 1024) (l : Fin 1408) : iblk m c 1 t (ix3 0 k l) = argU m c k (chn 0 (col t l)) := by
  rw [← entry_w]
  show _ = V m c main_v0 (ix3 0 k (gl (col t l)))
  unfold col gl
  blk_point [iblk, idx t]

theorem blk_wv (t : Fin cfg0.N) (k : Fin 1024) (l : Fin 1408) : iblk m c 2 t (ix3 0 k l) = argU m c k (chn 1 (col t l)) := by
  rw [← entry_w]
  show _ = V m c main_v0 (ix3 0 k (vl (col t l)))
  unfold col vl
  blk_point [iblk, idx t]

/-- of their taps, -/
theorem blk_tg (t : Fin cfg0.N) (k : Fin 3) (l : Fin 1408) : iblk m c 3 t (ix2 k l) = argW m c k (chn 0 (col t l)) := by
  show _ = argW m c k (gl (col t l))
  unfold argW col gl
  blk_point [iblk, V, idx t]

theorem blk_tv (t : Fin cfg0.N) (k : Fin 3) (l : Fin 1408) : iblk m c 4 t (ix2 k l) = argW m c k (chn 1 (col t l)) := by
  show _ = argW m c k (vl (col t l))
  unfold argW col vl
  blk_point [iblk, V, idx t]

/-- and of their bias. -/
theorem blk_bg (t : Fin cfg0.N) (l : Fin 1408) : iblk m c 5 t (ix2 0 l) = argB m c (chn 0 (col t l)) := by
  rw [← entry_b]
  show _ = V m c main_v1 (ix2 0 (gl (col t l)))
  unfold col gl
  blk_point [iblk, idx t]

theorem blk_bv (t : Fin cfg0.N) (l : Fin 1408) : iblk m c 6 t (ix2 0 l) = argB m c (chn 1 (col t l)) := by
  rw [← entry_b]
  show _ = V m c main_v1 (ix2 0 (vl (col t l)))
  unfold col vl
  blk_point [iblk, idx t]

end Cert.FfnUpIdeal.Val
end
-- ==== Proof.FfnUpChunk.lean ====
/- One chunk of 128 rows and 128 channels of the feed-forward block's forward call, element by element: what the kernel's expressions over it are
   in the arguments. The lemmas speak of the first chunk's expressions; every other chunk's are the same ones at other offsets. -/
module
public import proofs.«01_k».proof.Proof.FfnUpBlocks

@[expose] public section
set_option maxRecDepth 16384
noncomputable section
open Idealize.ShloMosaic Idealize.ShloMosaic.TcCoe Idealize.SL.Sem
open Idealize.ShloMosaic.Pipeline (Dat)
open scoped BigOperators

namespace Cert.FfnUpIdeal.Val
open Cert.FfnUpIdeal Cert.FfnUpIdeal.Gen Cert.Reals Cert.ScMath Cert.FfnMath

variable (m : (ℓ : Loc nD τ sig) → Buf (Elt Ideal) ℓ) (c : Dev nD)

/-- Row `i` of a point's scratch: eight rows of the block above (zero before a sequence's first row), then the point's block of the projection. -/
def E (t : Fin cfg0.N) (s : Fin 2) (i : ℕ) (l : Fin 1408) : EReal :=
  if i < 8 ∧ t.val % 4 = 0 then 0 else p m c (base t + i - 8) (chn s (col t l))

theorem E_in (t : Fin cfg0.N) (s : Fin 2) (i : ℕ) (l : Fin 1408) : E m c t s (8 + i) l = p m c (base t + i) (chn s (col t l)) := by
  unfold E
  rw [if_neg (by omega)]
  exact congrArg (p m c · _) (by omega)

/-- The rows before a row of the block are the scratch's. -/
theorem prev_E (t : Fin cfg0.N) (s : Fin 2) (i : ℕ) (hi : i < 512) (k : ℕ) (hk : k ≤ 2) (l : Fin 1408) :
    prev (p m c) k (base t + i) (chn s (col t l)) = E m c t s (8 + i - k) l := by
  unfold prev E
  by_cases h : 8 + i - k < 8 ∧ t.val % 4 = 0
  · rw [if_pos h, if_pos (by unfold base; omega)]
  · rw [if_neg h, if_neg (by unfold base; omega)]
    exact congrArg (p m c · _) (by omega)

/-- The scratch's contents as a function of its index. -/
def G (t : Fin cfg0.N) (s : Fin 2) (y : S520x1408.Idx) : EReal := E m c t s (y 0).val (y 1)

/-- A chunk of 136 rows of the scratch, -/
def IsE (t : Fin cfg0.N) (s : Fin 2) (r0 c0 : ℕ) (v : Vec Ideal S136x128 .f32) : Prop :=
  ∀ (n : Fin 136) (y : Fin 128) (l : Fin 1408), l.val = c0 + y.val → v (ix2 n y) = E m c t s (r0 + n.val) l

/-- a tap's row, -/
def IsW (t : Fin cfg0.N) (s : Fin 2) (k : Fin 3) (c0 : ℕ) (v : Vec Ideal S1x128 .f32) : Prop :=
  ∀ (y : Fin 128) (l : Fin 1408), l.val = c0 + y.val → v (ix2 0 y) = argW m c k (chn s (col t l))

/-- and the bias's. -/
def IsB (t : Fin cfg0.N) (s : Fin 2) (c0 : ℕ) (v : Vec Ideal S1x128 .f32) : Prop :=
  ∀ (y : Fin 128) (l : Fin 1408), l.val = c0 + y.val → v (ix2 0 y) = argB m c (chn s (col t l))

/-- A block of the weights of half `s`. -/
def IsU (t : Fin cfg0.N) (s : Fin 2) (B : Vec Ideal S1x1024x1408 .bf16) : Prop :=
  ∀ (k : Fin 1024) (l : Fin 1408), B (ix3 0 k l) = argU m c k (chn s (col t l))

variable {m c} {t : Fin cfg0.N} {s : Fin 2}

theorem u_gate : IsU m c t 0 (iblk m c 1 t) := fun k l => blk_wg m c t k l
theorem u_val : IsU m c t 1 (iblk m c 2 t) := fun k l => blk_wv m c t k l

/-- The products' blocks, element by element, -/
theorem prod256 (q : Vec Ideal S512x1024 .bf16) (w : Vec Ideal S1x1024x256 .bf16) (r : Fin 512) (y : Fin 256) :
    k0_pay5 q w (ix2 r y) = ∑ k : Fin 1024, q (ix2 r k) * w (ix3 0 k y) := by
  pointwise! [k0_pay5]

theorem prod128 (q : Vec Ideal S512x1024 .bf16) (w : Vec Ideal S1x1024x128 .bf16) (r : Fin 512) (y : Fin 128) :
    k0_pay360 q w (ix2 r y) = ∑ k : Fin 1024, q (ix2 r k) * w (ix3 0 k y) := by
  pointwise! [k0_pay360]

/-- and as stored in the scratch. -/
abbrev pc256 (Q : Vec Ideal S512x1024 .bf16) (B : Vec Ideal S1x1024x1408 .bf16) (o : ℕ) (i0 : ∀ a, (![8, o] : Fin 2 → ℕ) a + S512x256.size a ≤ S520x1408.size a)
    (i1 : ∀ a, (![0, 0, o] : Fin 3 → ℕ) a + S1x1024x256.size a ≤ S1x1024x1408.size a) : View.Piece (Elt Ideal) S520x1408 .f32 :=
  ⟨Rect.unit (s := S520x1408) ![8, o] S512x256.size i0, k0_pay5 Q (View.ld B (Rect.unit (s := S1x1024x1408) ![0, 0, o] S1x1024x256.size i1))⟩

abbrev pc128 (Q : Vec Ideal S512x1024 .bf16) (B : Vec Ideal S1x1024x1408 .bf16) (o : ℕ) (i0 : ∀ a, (![8, o] : Fin 2 → ℕ) a + S512x128.size a ≤ S520x1408.size a)
    (i1 : ∀ a, (![0, 0, o] : Fin 3 → ℕ) a + S1x1024x128.size a ≤ S1x1024x1408.size a) : View.Piece (Elt Ideal) S520x1408 .f32 :=
  ⟨Rect.unit (s := S520x1408) ![8, o] S512x128.size i0, k0_pay360 Q (View.ld B (Rect.unit (s := S1x1024x1408) ![0, 0, o] S1x1024x128.size i1))⟩

theorem ldU {W : ℕ} (B : Vec Ideal S1x1024x1408 .bf16) {o : ℕ} (i : ∀ a, (![0, 0, o] : Fin 3 → ℕ) a + (⟨3, ![1, 1024, W]⟩ : Shape).size a ≤ S1x1024x1408.size a)
    (k : Fin 1024) (y : Fin W) (l : Fin 1408) (hl : l.val = o + y.val) :
    View.ld B (Rect.unit ![0, 0, o] (⟨3, ![1, 1024, W]⟩ : Shape).size i) (ix3 0 k y) = B (ix3 0 k l) := by
  refine congrArg B ?_
  funext b
  refine Fin.ext ?_
  fin_cases b
  · show 0 + 1 * 0 = 0; rfl
  · show 0 + 1 * k.val = k.val; omega
  · show o + 1 * y.val = l.val; omega

variable (m c t) in
abbrev bX (r : Fin 512) (k : Fin 1024) : EReal := iblk m c 0 t (ix2 r k)

theorem row_p {B : Vec Ideal S1x1024x1408 .bf16} (hB : IsU m c t s B) (r : Fin 512) (l : Fin 1408) (b : Fin 1024 → EReal) (hb : ∀ k, b k = B (ix3 0 k l)) :
    ∑ k : Fin 1024, bX m c t r k * b k = E m c t s (8 + r.val) l := by
  rw [E_in]
  show _ = hRow _ _ _
  unfold hRow
  rw [dif_pos (base_lt t r)]
  exact Finset.sum_congr rfl fun k _ => congrArg₂ (· * ·) (blk_x m c t r k) ((hb k).trans (hB k l))

theorem pc256_at {B : Vec Ideal S1x1024x1408 .bf16} (hB : IsU m c t s B) {o : ℕ} (i0 : ∀ a, (![8, o] : Fin 2 → ℕ) a + S512x256.size a ≤ S520x1408.size a)
    (i1 : ∀ a, (![0, 0, o] : Fin 3 → ℕ) a + S1x1024x256.size a ≤ S1x1024x1408.size a) (x : S512x256.Idx) :
    (pc256 (iblk m c 0 t) B o i0 i1).2 x = G m c t s ((pc256 (iblk m c 0 t) B o i0 i1).1.emb x) := by
  idx_vars x
  have ho : o + 256 ≤ 1408 := i0 1
  have := x1.isLt
  have e : (pc256 (iblk m c 0 t) B o i0 i1).1.emb (ix2 x0 x1) = ix2 ⟨8 + x0.val, by omega⟩ (⟨o + x1.val, by omega⟩ : Fin 1408) := by
    funext b
    refine Fin.ext ?_
    fin_cases b
    · show 8 + 1 * x0.val = 8 + x0.val; omega
    · show o + 1 * x1.val = o + x1.val; omega
  rw [e]
  refine (prod256 _ _ x0 x1).trans ?_
  exact row_p hB x0 ⟨o + x1.val, by omega⟩ _ fun k => ldU B i1 k x1 _ rfl

theorem pc128_at {B : Vec Ideal S1x1024x1408 .bf16} (hB : IsU m c t s B) {o : ℕ} (i0 : ∀ a, (![8, o] : Fin 2 → ℕ) a + S512x128.size a ≤ S520x1408.size a)
    (i1 : ∀ a, (![0, 0, o] : Fin 3 → ℕ) a + S1x1024x128.size a ≤ S1x1024x1408.size a) (x : S512x128.Idx) :
    (pc128 (iblk m c 0 t) B o i0 i1).2 x = G m c t s ((pc128 (iblk m c 0 t) B o i0 i1).1.emb x) := by
  idx_vars x
  have ho : o + 128 ≤ 1408 := i0 1
  have := x1.isLt
  have e : (pc128 (iblk m c 0 t) B o i0 i1).1.emb (ix2 x0 x1) = ix2 ⟨8 + x0.val, by omega⟩ (⟨o + x1.val, by omega⟩ : Fin 1408) := by
    funext b
    refine Fin.ext ?_
    fin_cases b
    · show 8 + 1 * x0.val = 8 + x0.val; omega
    · show o + 1 * x1.val = o + x1.val; omega
  rw [e]
  refine (prod128 _ _ x0 x1).trans ?_
  exact row_p hB x0 ⟨o + x1.val, by omega⟩ _ fun k => ldU B i1 k x1 _ rfl

variable (m c t s) in
/-- Pieces of the scratch that agree with its contents, -/
def Pcs (L : List (View.Piece (Elt Ideal) S520x1408 .f32)) : Prop := ∀ q ∈ L, ∀ x : q.1.shape.Idx, q.2 x = G m c t s (q.1.emb x)

/-- that hold its first eight rows, -/
def Low (L : List (View.Piece (Elt Ideal) S520x1408 .f32)) : Prop := ∀ y : S520x1408.Idx, (y 0).val < 8 → ∃ q ∈ L, y ∈ q.1.set

/-- that hold none of them, -/
def Off (L : List (View.Piece (Elt Ideal) S520x1408 .f32)) : Prop := ∀ q ∈ L, ∀ y ∈ q.1.set, 8 ≤ (y 0).val

/-- and that hold `n` lanes of the rows after them. -/
def Has (o n : ℕ) (L : List (View.Piece (Elt Ideal) S520x1408 .f32)) : Prop :=
  ∀ y : S520x1408.Idx, 8 ≤ (y 0).val → o ≤ (y 1).val → (y 1).val < o + n → ∃ q ∈ L, y ∈ q.1.set

variable {L : List (View.Piece (Elt Ideal) S520x1408 .f32)}

theorem Has.tail {o n : ℕ} {q : View.Piece (Elt Ideal) S520x1408 .f32} (h : Has o n L) : Has o n (q :: L) := fun y a b d =>
  let ⟨q', hq, hy⟩ := h y a b d; ⟨q', List.mem_cons_of_mem _ hq, hy⟩

theorem mem_rows {W o : ℕ} (i0 : ∀ a, (![8, o] : Fin 2 → ℕ) a + (⟨2, ![512, W]⟩ : Shape).size a ≤ S520x1408.size a) (y : S520x1408.Idx) :
    y ∈ (Rect.unit (s := S520x1408) ![8, o] (⟨2, ![512, W]⟩ : Shape).size i0).set ↔ 8 ≤ (y 0).val ∧ o ≤ (y 1).val ∧ (y 1).val < o + W := by
  have h0 : (y 0).val < 520 := (y 0).isLt
  rw [Rect.mem_set_unit]
  constructor
  · intro h
    have h1 : 8 ≤ (y 0).val ∧ _ := h 0
    have h2 : o ≤ (y 1).val ∧ (y 1).val < o + W := h 1
    exact ⟨h1.1, h2⟩
  · rintro ⟨h1, h2⟩ b
    fin_cases b
    · exact ⟨h1, h0⟩
    · exact h2

theorem has256 {Q : Vec Ideal S512x1024 .bf16} {B : Vec Ideal S1x1024x1408 .bf16} {o : ℕ} {i0 : ∀ a, (![8, o] : Fin 2 → ℕ) a + S512x256.size a ≤ S520x1408.size a}
    {i1 : ∀ a, (![0, 0, o] : Fin 3 → ℕ) a + S1x1024x256.size a ≤ S1x1024x1408.size a} : Has o 256 (pc256 Q B o i0 i1 :: L) :=
  fun y a b d => ⟨_, List.mem_cons_self, (mem_rows i0 y).mpr ⟨a, b, d⟩⟩

theorem has128 {Q : Vec Ideal S512x1024 .bf16} {B : Vec Ideal S1x1024x1408 .bf16} {o : ℕ} {i0 : ∀ a, (![8, o] : Fin 2 → ℕ) a + S512x128.size a ≤ S520x1408.size a}
    {i1 : ∀ a, (![0, 0, o] : Fin 3 → ℕ) a + S1x1024x128.size a ≤ S1x1024x1408.size a} : Has o 128 (pc128 Q B o i0 i1 :: L) :=
  fun y a b d => ⟨_, List.mem_cons_self, (mem_rows i0 y).mpr ⟨a, b, d⟩⟩

theorem pcs_nil : Pcs m c t s [] ∧ Off [] := ⟨fun _ h => absurd h List.not_mem_nil, fun _ h => absurd h List.not_mem_nil⟩

theorem pcs_zero (n : t.val % 4 = 0) {i : ∀ a, (![0, 0] : Fin 2 → ℕ) a + S8x1408.size a ≤ S520x1408.size a} :
    Pcs m c t s [⟨Rect.unit (s := S520x1408) ![0, 0] S8x1408.size i, k0_pay3 (F := Ideal)⟩] ∧ Low [⟨Rect.unit (s := S520x1408) ![0, 0] S8x1408.size i, k0_pay3 (F := Ideal)⟩] := by
  refine ⟨fun q hq x => ?_, fun y hy => ⟨_, List.mem_cons_self, ?_⟩⟩
  · obtain rfl := List.mem_singleton.mp hq
    have hx : (x 0).val < 8 := (x 0).isLt
    unfold G E
    rw [if_pos ⟨by show 0 + 1 * (x 0).val < 8; omega, n⟩]
    obtain ⟨a, b, rfl⟩ : ∃ (a : Fin 8) (b : Fin 1408), x = ix2 a b := ⟨x 0, x 1, by funext d; fin_cases d <;> rfl⟩
    show k0_pay3 (F := Ideal) (ix2 a b) = 0
    pointwise! [k0_pay3]
  · show y ∈ (Rect.unit (s := S520x1408) ![0, 0] S8x1408.size i).set
    rw [Rect.mem_set_unit]
    intro b
    fin_cases b
    · exact ⟨Nat.zero_le _, by show (y 0).val < 0 + 8; omega⟩
    · exact ⟨Nat.zero_le _, by show _ < 0 + 1408; have h : (y 1).val < 1408 := (y 1).isLt; show (y 1).val < _; omega⟩

theorem low256 {B : Vec Ideal S1x1024x1408 .bf16} (hB : IsU m c t s B) (h : Pcs m c t s L ∧ Low L) {o : ℕ}
    {i0 : ∀ a, (![8, o] : Fin 2 → ℕ) a + S512x256.size a ≤ S520x1408.size a} {i1 : ∀ a, (![0, 0, o] : Fin 3 → ℕ) a + S1x1024x256.size a ≤ S1x1024x1408.size a} :
    Pcs m c t s (pc256 (iblk m c 0 t) B o i0 i1 :: L) ∧ Low (pc256 (iblk m c 0 t) B o i0 i1 :: L) := by
  refine ⟨fun q hq => ?_, fun y hy => ?_⟩
  · rcases List.mem_cons.mp hq with rfl | hq
    · exact pc256_at hB i0 i1
    · exact h.1 q hq
  · obtain ⟨q, hq, e⟩ := h.2 y hy
    exact ⟨q, List.mem_cons_of_mem _ hq, e⟩

theorem low128 {B : Vec Ideal S1x1024x1408 .bf16} (hB : IsU m c t s B) (h : Pcs m c t s L ∧ Low L) {o : ℕ}
    {i0 : ∀ a, (![8, o] : Fin 2 → ℕ) a + S512x128.size a ≤ S520x1408.size a} {i1 : ∀ a, (![0, 0, o] : Fin 3 → ℕ) a + S1x1024x128.size a ≤ S1x1024x1408.size a} :
    Pcs m c t s (pc128 (iblk m c 0 t) B o i0 i1 :: L) ∧ Low (pc128 (iblk m c 0 t) B o i0 i1 :: L) := by
  refine ⟨fun q hq => ?_, fun y hy => ?_⟩
  · rcases List.mem_cons.mp hq with rfl | hq
    · exact pc128_at hB i0 i1
    · exact h.1 q hq
  · obtain ⟨q, hq, e⟩ := h.2 y hy
    exact ⟨q, List.mem_cons_of_mem _ hq, e⟩

theorem off256 {B : Vec Ideal S1x1024x1408 .bf16} (hB : IsU m c t s B) (h : Pcs m c t s L ∧ Off L) {o : ℕ}
    {i0 : ∀ a, (![8, o] : Fin 2 → ℕ) a + S512x256.size a ≤ S520x1408.size a} {i1 : ∀ a, (![0, 0, o] : Fin 3 → ℕ) a + S1x1024x256.size a ≤ S1x1024x1408.size a} :
    Pcs m c t s (pc256 (iblk m c 0 t) B o i0 i1 :: L) ∧ Off (pc256 (iblk m c 0 t) B o i0 i1 :: L) := by
  refine ⟨fun q hq => ?_, fun q hq => ?_⟩
  · rcases List.mem_cons.mp hq with rfl | hq
    · exact pc256_at hB i0 i1
    · exact h.1 q hq
  · rcases List.mem_cons.mp hq with rfl | hq
    · exact fun y hy => ((mem_rows i0 y).mp hy).1
    · exact h.2 q hq

theorem off128 {B : Vec Ideal S1x1024x1408 .bf16} (hB : IsU m c t s B) (h : Pcs m c t s L ∧ Off L) {o : ℕ}
    {i0 : ∀ a, (![8, o] : Fin 2 → ℕ) a + S512x128.size a ≤ S520x1408.size a} {i1 : ∀ a, (![0, 0, o] : Fin 3 → ℕ) a + S1x1024x128.size a ≤ S1x1024x1408.size a} :
    Pcs m c t s (pc128 (iblk m c 0 t) B o i0 i1 :: L) ∧ Off (pc128 (iblk m c 0 t) B o i0 i1 :: L) := by
  refine ⟨fun q hq => ?_, fun q hq => ?_⟩
  · rcases List.mem_cons.mp hq with rfl | hq
    · exact pc128_at hB i0 i1
    · exact h.1 q hq
  · rcases List.mem_cons.mp hq with rfl | hq
    · exact fun y hy => ((mem_rows i0 y).mp hy).1
    · exact h.2 q hq

/-- A place of the scratch that a chunk's row and lane name. -/
theorem idx_at {r0 c0 : ℕ} (i : ∀ a, (![r0, c0] : Fin 2 → ℕ) a + S136x128.size a ≤ S520x1408.size a) (n : Fin 136) (y : Fin 128) (l : Fin 1408) (hl : l.val = c0 + y.val) :
    (Rect.unit (s := S520x1408) ![r0, c0] S136x128.size i).toLoadRect.idx (ix2 n y)
      = ix2 (⟨r0 + n.val, by have h : r0 + 136 ≤ 520 := i 0; have := n.isLt; omega⟩ : Fin 520) l := by
  funext b
  refine Fin.ext ?_
  fin_cases b
  · show r0 + 1 * n.val = r0 + n.val; omega
  · show c0 + 1 * y.val = l.val; omega

/-- A chunk below the first eight rows is the newest product's, -/
theorem rd256 {B : Vec Ideal S1x1024x1408 .bf16} (hB : IsU m c t s B) {w : View sig .tc .vmem S520x1408 .f32} {o r0 c0 : ℕ}
    {i0 : ∀ a, (![8, o] : Fin 2 → ℕ) a + S512x256.size a ≤ S520x1408.size a} {i1 : ∀ a, (![0, 0, o] : Fin 3 → ℕ) a + S1x1024x256.size a ≤ S1x1024x1408.size a}
    {i2 : ∀ a, (![r0, c0] : Fin 2 → ℕ) a + S136x128.size a ≤ S520x1408.size a} (h : o ≤ c0 ∧ c0 + 128 ≤ o + 256 ∧ 8 ≤ r0 := by decide) :
    IsE m c t s r0 c0 (w.readCov (pc256 (iblk m c 0 t) B o i0 i1 :: L) (Rect.unit (s := S520x1408) ![r0, c0] S136x128.size i2).toLoadRect) := by
  intro n y l hl
  have hy := y.isLt
  have hn := n.isLt
  have hr : r0 + 136 ≤ 520 := i2 0
  rw [View.readCov_eq_canon']
  beta_reduce
  rw [idx_at i2 n y l hl]
  obtain ⟨x, e⟩ := (pc256 (iblk m c 0 t) B o i0 i1).1.exists_idx_of_mem ((mem_rows i0 (ix2 (⟨r0 + n.val, by omega⟩ : Fin 520) l)).mpr
    ⟨by show 8 ≤ r0 + n.val; omega, by show o ≤ l.val; omega, by show l.val < o + 256; omega⟩)
  have e' : (pc256 (iblk m c 0 t) B o i0 i1).1.emb x = ix2 (⟨r0 + n.val, by omega⟩ : Fin 520) l := e
  rw [← e', View.canon_cons_emb]
  refine (pc256_at hB i0 i1 x).trans ?_
  rw [e']
  rfl

theorem rd128 {B : Vec Ideal S1x1024x1408 .bf16} (hB : IsU m c t s B) {w : View sig .tc .vmem S520x1408 .f32} {o r0 : ℕ}
    {i0 : ∀ a, (![8, o] : Fin 2 → ℕ) a + S512x128.size a ≤ S520x1408.size a} {i1 : ∀ a, (![0, 0, o] : Fin 3 → ℕ) a + S1x1024x128.size a ≤ S1x1024x1408.size a}
    {i2 : ∀ a, (![r0, o] : Fin 2 → ℕ) a + S136x128.size a ≤ S520x1408.size a} (h : 8 ≤ r0 := by decide) :
    IsE m c t s r0 o (w.readCov (pc128 (iblk m c 0 t) B o i0 i1 :: L) (Rect.unit (s := S520x1408) ![r0, o] S136x128.size i2).toLoadRect) := by
  intro n y l hl
  have hy := y.isLt
  have hn := n.isLt
  have hr : r0 + 136 ≤ 520 := i2 0
  rw [View.readCov_eq_canon']
  beta_reduce
  rw [idx_at i2 n y l hl]
  obtain ⟨x, e⟩ := (pc128 (iblk m c 0 t) B o i0 i1).1.exists_idx_of_mem ((mem_rows i0 (ix2 (⟨r0 + n.val, by omega⟩ : Fin 520) l)).mpr
    ⟨by show 8 ≤ r0 + n.val; omega, by show o ≤ l.val; omega, by show l.val < o + 128; omega⟩)
  have e' : (pc128 (iblk m c 0 t) B o i0 i1).1.emb x = ix2 (⟨r0 + n.val, by omega⟩ : Fin 520) l := e
  rw [← e', View.canon_cons_emb]
  refine (pc128_at hB i0 i1 x).trans ?_
  rw [e']
  rfl

/-- the first one of a sequence's first block is the zeros' and the newest product's, -/
theorem rdA (h : Pcs m c t s L ∧ Low L) {o n c0 : ℕ} (hh : Has o n L) {w : View sig .tc .vmem S520x1408 .f32}
    {i2 : ∀ a, (![0, c0] : Fin 2 → ℕ) a + S136x128.size a ≤ S520x1408.size a} (hc : o ≤ c0 ∧ c0 + 128 ≤ o + n := by decide) :
    IsE m c t s 0 c0 (w.readCov L (Rect.unit (s := S520x1408) ![0, c0] S136x128.size i2).toLoadRect) := by
  intro r y l hl
  have hy := y.isLt
  rw [View.readCov_eq_canon']
  beta_reduce
  rw [idx_at i2 r y l hl]
  refine (View.canon_apply_of_pieces (Val := Elt Ideal) (e := .f32) (G m c t s) L h.1 _ ?_).trans rfl
  by_cases e : 0 + r.val < 8
  · exact h.2 _ e
  · exact hh _ (by show 8 ≤ 0 + r.val; omega) (by show o ≤ l.val; omega) (by show l.val < o + n; omega)

/-- and of a later one what the block above left and the newest product's. -/
theorem rdB (h : Pcs m c t s L ∧ Off L) {o n c0 : ℕ} (hh : Has o n L) {w : View sig .tc .vmem S520x1408 .f32} {f : w.ty.Contents (Elt Ideal)}
    (hf : ∀ (i : Fin 8) (l : Fin 1408), w.read (Elt Ideal) f (ix2 (⟨i.val, by omega⟩ : Fin 520) l) = E m c t s i.val l)
    {i2 : ∀ a, (![0, c0] : Fin 2 → ℕ) a + S136x128.size a ≤ S520x1408.size a} (hc : o ≤ c0 ∧ c0 + 128 ≤ o + n := by decide) :
    IsE m c t s 0 c0 (View.ld (w.read (Elt Ideal) (w.writes (Elt Ideal) f L)) (Rect.unit (s := S520x1408) ![0, c0] S136x128.size i2)) := by
  intro r y l hl
  have hy := y.isLt
  show w.read (Elt Ideal) (w.writes (Elt Ideal) f L) ((Rect.unit (s := S520x1408) ![0, c0] S136x128.size i2).toLoadRect.idx (ix2 r y)) = _
  rw [idx_at i2 r y l hl]
  by_cases e : 0 + r.val < 8
  · rw [View.read_writes_apply_of_forall_not_mem w f _ L fun q hq hm => absurd (h.2 q hq _ hm) (by show ¬ 8 ≤ 0 + r.val; omega)]
    have := hf ⟨0 + r.val, e⟩ l
    exact this
  · exact View.read_writes_apply_of_pieces w f (G m c t s) L h.1 _
      (hh _ (by show 8 ≤ 0 + r.val; omega) (by show o ≤ l.val; omega) (by show l.val < o + n; omega))

/-- A load of a row of 128 lanes. -/
theorem ldW {b : ℕ} (X : Vec Ideal ⟨2, ![b, 1408]⟩ .f32) {k c0 : ℕ} (i : ∀ a, (![k, c0] : Fin 2 → ℕ) a + S1x128.size a ≤ (⟨2, ![b, 1408]⟩ : Shape).size a)
    (y : Fin 128) (p : Fin b) (l : Fin 1408) (hp : p.val = k) (hl : l.val = c0 + y.val) :
    View.ld X (Rect.unit ![k, c0] S1x128.size i) (ix2 0 y) = X (ix2 p l) := by
  refine congrArg X ?_
  funext b
  refine Fin.ext ?_
  fin_cases b
  · show k + 1 * 0 = p.val; omega
  · show c0 + 1 * y.val = l.val; omega

variable {r0 c0 : ℕ}

theorem w_gate {k : ℕ} {p : Fin 3} (hp : p.val = k) {i : ∀ a, (![k, c0] : Fin 2 → ℕ) a + S1x128.size a ≤ S3x1408.size a} :
    IsW m c t 0 p c0 (View.ld (iblk m c 3 t) (Rect.unit ![k, c0] S1x128.size i)) := fun y l hl => (ldW _ i y p l hp hl).trans (blk_tg m c t p l)

theorem w_val {k : ℕ} {p : Fin 3} (hp : p.val = k) {i : ∀ a, (![k, c0] : Fin 2 → ℕ) a + S1x128.size a ≤ S3x1408.size a} :
    IsW m c t 1 p c0 (View.ld (iblk m c 4 t) (Rect.unit ![k, c0] S1x128.size i)) := fun y l hl => (ldW _ i y p l hp hl).trans (blk_tv m c t p l)

theorem b_gate {i : ∀ a, (![0, c0] : Fin 2 → ℕ) a + S1x128.size a ≤ S1x1408.size a} :
    IsB m c t 0 c0 (View.ld (iblk m c 5 t) (Rect.unit ![0, c0] S1x128.size i)) := fun y l hl => (ldW _ i y 0 l rfl hl).trans (blk_bg m c t l)

theorem b_val {i : ∀ a, (![0, c0] : Fin 2 → ℕ) a + S1x128.size a ≤ S1x1408.size a} :
    IsB m c t 1 c0 (View.ld (iblk m c 6 t) (Rect.unit ![0, c0] S1x128.size i)) := fun y l hl => (ldW _ i y 0 l rfl hl).trans (blk_bv m c t l)

variable {v : Vec Ideal S136x128 .f32}

/-- The projection at a chunk, -/
theorem h_chunk (hv : IsE m c t s r0 c0 v) (x : S1x128x128.Idx) (r : Fin 512) (l : Fin 1408) (er : r.val = r0 + (x 1).val) (el : l.val = c0 + (x 2).val) :
    k0_pay14 v x = p m c (base t + r.val) (chn s (col t l)) := by
  idx_vars x
  obtain rfl : x0 = 0 := Subsingleton.elim _ _
  have er' : r.val = r0 + x1.val := er
  pointwise [k0_pay14, k0_pay12]
  rw [← E_in, hv _ x2 l el]
  exact congrArg (E m c t s · l) (by show r0 + (8 + x1.val) = _; omega)

/-- the convolution's output, -/
theorem u_at {w0 w1 w2 b : Vec Ideal S1x128 .f32} (h0 : IsW m c t s 0 c0 w0) (h1 : IsW m c t s 1 c0 w1) (h2 : IsW m c t s 2 c0 w2)
    (hb : IsB m c t s c0 b) (hv : IsE m c t s r0 c0 v) (x y : Fin 128) (r : Fin 512) (l : Fin 1408) (er : r.val = r0 + x.val) (el : l.val = c0 + y.val) :
    k0_pay13 w0 w1 w2 b v (ix2 x y) = u m c (base t + r.val) (chn s (col t l)) := by
  pointwise [k0_pay13, k0_pay12, k0_pay10]
  rw [h0 y l el, h1 y l el, h2 y l el, hb y l el, hv _ y l el, hv _ y l el, hv _ y l el]
  show _ = uRow _ _ _ _ _
  unfold uRow
  have hx := x.isLt
  rw [prev_E m c t s r.val r.isLt 1 (by omega), prev_E m c t s r.val r.isLt 2 (by omega), ← E_in]
  have e0 : r0 + (8 + x.val) = 8 + r.val := by omega
  have e1 : r0 + (8 + x.val + 136 - 1) % 136 = 8 + r.val - 1 := by omega
  have e2 : r0 + (8 + x.val + 136 - 2) % 136 = 8 + r.val - 2 := by omega
  rw [← e2, ← e1, ← e0]

theorem u_chunk {w0 w1 w2 b : Vec Ideal S1x128 .f32} (h0 : IsW m c t s 0 c0 w0) (h1 : IsW m c t s 1 c0 w1) (h2 : IsW m c t s 2 c0 w2)
    (hb : IsB m c t s c0 b) (hv : IsE m c t s r0 c0 v) (x : S1x128x128.Idx) (r : Fin 512) (l : Fin 1408) (er : r.val = r0 + (x 1).val) (el : l.val = c0 + (x 2).val) :
    k0_pay15 (k0_pay13 w0 w1 w2 b v) x = u m c (base t + r.val) (chn s (col t l)) := by
  idx_vars x
  obtain rfl : x0 = 0 := Subsingleton.elim _ _
  pointwise [k0_pay15]
  exact u_at h0 h1 h2 hb hv x1 x2 r l er el

/-- and the gated product. -/
theorem a_chunk {w0 w1 w2 b w0' w1' w2' b' : Vec Ideal S1x128 .f32} {v' : Vec Ideal S136x128 .f32}
    (h0 : IsW m c t 0 0 c0 w0) (h1 : IsW m c t 0 1 c0 w1) (h2 : IsW m c t 0 2 c0 w2) (hb : IsB m c t 0 c0 b) (hv : IsE m c t 0 r0 c0 v)
    (h0' : IsW m c t 1 0 c0 w0') (h1' : IsW m c t 1 1 c0 w1') (h2' : IsW m c t 1 2 c0 w2') (hb' : IsB m c t 1 c0 b') (hv' : IsE m c t 1 r0 c0 v')
    (x : S128x128.Idx) (r : Fin 512) (l : Fin 1408) (er : r.val = r0 + (x 0).val) (el : l.val = c0 + (x 1).val) :
    k0_pay20 w0' w1' w2' (k0_pay11 b') (k0_pay13 w0 w1 w2 b v) v' x = act (u m c) (base t + r.val) (col t l) := by
  idx_vars x
  have e : k0_pay17 w0' w1' w2' (k0_pay11 b') v' = k0_pay13 w0' w1' w2' b' v' := rfl
  unfold k0_pay20
  rw [e]
  pointwise
  rw [u_at h0 h1 h2 hb hv x0 x1 r l er el, u_at h0' h1' h2' hb' hv' x0 x1 r l er el, cHalf]
  unfold act
  rw [← sigT_all]
  rfl

end Cert.FfnUpIdeal.Val
end
-- ==== Proof.FfnUpPoint.lean ====
/- The value of the feed-forward block's forward call: what each point leaves, the whole results, and their equality to the reference's. -/
module
public import proofs.«01_k».proof.Proof.FfnUpChunk
public import proofs.«01_k».proof.Proof.Gen.FfnUpIdeal.Value

@[expose] public section
set_option maxRecDepth 16384
noncomputable section
open Idealize.ShloMosaic Idealize.ShloMosaic.TcCoe Idealize.SL.Sem
open Idealize.ShloMosaic.Pipeline (Dat)
open scoped BigOperators

namespace Cert.FfnUpIdeal.Val
open Cert.FfnUpIdeal Cert.FfnUpIdeal.Gen Cert.Reals Cert.ScMath Cert.FfnMath

variable (m : (ℓ : Loc nD τ sig) → Buf (Elt Ideal) ℓ) (c : Dev nD)

/-- Every lane of the rows after the eighth is in one of the six products' blocks. -/
theorem has_any {L : List (View.Piece (Elt Ideal) S520x1408 .f32)} (h0 : Has 0 256 L) (h1 : Has 256 256 L) (h2 : Has 512 256 L) (h3 : Has 768 256 L)
    (h4 : Has 1024 256 L) (h5 : Has 1280 128 L) (y : S520x1408.Idx) (hy : 8 ≤ (y 0).val) : ∃ q ∈ L, y ∈ q.1.set := by
  have hl : (y 1).val < 1408 := (y 1).isLt
  by_cases a0 : (y 1).val < 256
  · exact h0 y hy (Nat.zero_le _) (by omega)
  by_cases a1 : (y 1).val < 512
  · exact h1 y hy (by omega) (by omega)
  by_cases a2 : (y 1).val < 768
  · exact h2 y hy (by omega) (by omega)
  by_cases a3 : (y 1).val < 1024
  · exact h3 y hy (by omega) (by omega)
  by_cases a4 : (y 1).val < 1280
  · exact h4 y hy (by omega) (by omega)
  · exact h5 y hy (by omega) (by omega)

theorem pay1_at (v : Vec Ideal S8x1408 .f32) (r : Fin 8) (l : Fin 1408) : k0_pay1 v (ix2 r l) = v (ix2 r l) := by
  pointwise [k0_pay1]

/-- The block's last eight rows, as the point leaves them in the first eight of the scratch. -/
theorem last_rows {t : Fin cfg0.N} {s : Fin 2} {L : List (View.Piece (Elt Ideal) S520x1408 .f32)} (h : Pcs m c t s L)
    (ha : ∀ y : S520x1408.Idx, 8 ≤ (y 0).val → ∃ q ∈ L, y ∈ q.1.set) {w : View sig .tc .vmem S520x1408 .f32}
    {i0 : ∀ a, (![0, 0] : Fin 2 → ℕ) a + S8x1408.size a ≤ S520x1408.size a} {i : ∀ a, (![512, 0] : Fin 2 → ℕ) a + S8x1408.size a ≤ S520x1408.size a} (r : Fin 8) (l : Fin 1408) :
    View.canon (⟨Rect.unit (s := S520x1408) ![0, 0] S8x1408.size i0, k0_pay1 (w.readCov L (Rect.unit (s := S520x1408) ![512, 0] S8x1408.size i).toLoadRect)⟩ :: L)
      (ix2 (⟨r.val, by omega⟩ : Fin 520) l) = E m c t s (512 + r.val) l := by
  have hr := r.isLt
  have e : (Rect.unit (s := S520x1408) ![0, 0] S8x1408.size i0).emb (ix2 r l) = ix2 (⟨r.val, by omega⟩ : Fin 520) l := by
    funext b
    refine Fin.ext ?_
    fin_cases b
    · show 0 + 1 * r.val = r.val; omega
    · show 0 + 1 * l.val = l.val; omega
  have e' : (Rect.unit (s := S520x1408) ![512, 0] S8x1408.size i).toLoadRect.idx (ix2 r l) = ix2 (⟨512 + r.val, by omega⟩ : Fin 520) l := by
    funext b
    refine Fin.ext ?_
    fin_cases b
    · show 512 + 1 * r.val = 512 + r.val; omega
    · show 0 + 1 * l.val = l.val; omega
  rw [← e, View.canon_cons_emb, pay1_at, View.readCov_eq_canon']
  beta_reduce
  rw [e']
  exact (View.canon_apply_of_pieces (Val := Elt Ideal) (e := .f32) (G m c t s) L h _ (ha _ (by show 8 ≤ 512 + r.val; omega))).trans rfl

/-- A point leaves its block's last eight rows of the projection to the next point, in the gate's half -/
theorem left_gate (t : Fin cfg0.N) (r : Fin 8) (l : Fin 1408) :
    (outsAt0 m c t.val t.isLt).2.2.2.1 (ix2 (⟨r.val, by omega⟩ : Fin 520) l) = E m c t 0 (512 + r.val) l := by
  by_cases n : t.val % 4 = 0
  · rw [outsAt0_A m c t n]
    frame_out
    exact last_rows m c (low128 u_gate (low256 u_gate (low256 u_gate (low256 u_gate (low256 u_gate (low256 u_gate (pcs_zero n))))))).1 (has_any has256.tail.tail.tail.tail.tail has256.tail.tail.tail.tail has256.tail.tail.tail has256.tail.tail has256.tail has128) r l
  · rw [outsAt0_B m c t n]
    frame_out
    exact last_rows m c (off128 u_gate (off256 u_gate (off256 u_gate (off256 u_gate (off256 u_gate (off256 u_gate pcs_nil)))))).1 (has_any has256.tail.tail.tail.tail.tail has256.tail.tail.tail.tail has256.tail.tail.tail has256.tail.tail has256.tail has128) r l

/-- and in the value's. -/
theorem left_val (t : Fin cfg0.N) (r : Fin 8) (l : Fin 1408) :
    (outsAt0 m c t.val t.isLt).2.2.2.2 (ix2 (⟨r.val, by omega⟩ : Fin 520) l) = E m c t 1 (512 + r.val) l := by
  by_cases n : t.val % 4 = 0
  · rw [outsAt0_A m c t n]
    frame_out
    exact last_rows m c (low128 u_val (low256 u_val (low256 u_val (low256 u_val (low256 u_val (low256 u_val (pcs_zero n))))))).1 (has_any has256.tail.tail.tail.tail.tail has256.tail.tail.tail.tail has256.tail.tail.tail has256.tail.tail has256.tail has128) r l
  · rw [outsAt0_B m c t n]
    frame_out
    exact last_rows m c (off128 u_val (off256 u_val (off256 u_val (off256 u_val (off256 u_val (off256 u_val pcs_nil)))))).1 (has_any has256.tail.tail.tail.tail.tail has256.tail.tail.tail.tail has256.tail.tail.tail has256.tail.tail has256.tail has128) r l

/-- What the point before left is what this point's scratch holds in its first eight rows. -/
theorem left_E (t : Fin cfg0.N) (n : ¬ t.val % 4 = 0) (s : Fin 2) (i : t.val - 1 < cfg0.N) (r : Fin 8) (l : Fin 1408) :
    E m c ⟨t.val - 1, i⟩ s (512 + r.val) l = E m c t s r.val l := by
  have ht := t.isLt
  have : cfg0.N = 32 := N_0
  have hr := r.isLt
  unfold E
  rw [if_neg (by omega), if_neg (fun h => n h.2)]
  have e : base ⟨t.val - 1, i⟩ + (512 + r.val) - 8 = base t + r.val - 8 := by
    unfold base
    show (t.val - 1) % 16 * 512 + (512 + r.val) - 8 = _
    omega
  have e' : col ⟨t.val - 1, i⟩ l = col t l := by
    unfold col
    have q : (t.val - 1) / 16 = t.val / 16 := by omega
    simp only [q]
  rw [e, e']

/-- The rows carried into a point, as it reads them. -/
theorem carried_gate (t : Fin cfg0.N) (n : ¬ t.val % 4 = 0) (i : t.val - 1 < cfg0.N) (r : Fin 8) (l : Fin 1408) :
    View.read (Elt Ideal) (View.whole cc0_scratch0) ((Memref.isWhole_whole cc0_scratch0).unread (outsAt0 m c (t.val - 1) i).2.2.2.1)
      (ix2 (⟨r.val, by omega⟩ : Fin 520) l) = E m c t 0 r.val l :=
  (congrFun ((Memref.isWhole_whole cc0_scratch0).read_unread _) _).trans ((left_gate m c ⟨t.val - 1, i⟩ r l).trans (left_E m c t n 0 i r l))

theorem carried_val (t : Fin cfg0.N) (n : ¬ t.val % 4 = 0) (i : t.val - 1 < cfg0.N) (r : Fin 8) (l : Fin 1408) :
    View.read (Elt Ideal) (View.whole cc0_scratch1) ((Memref.isWhole_whole cc0_scratch1).unread (outsAt0 m c (t.val - 1) i).2.2.2.2)
      (ix2 (⟨r.val, by omega⟩ : Fin 520) l) = E m c t 1 r.val l :=
  (congrFun ((Memref.isWhole_whole cc0_scratch1).read_unread _) _).trans ((left_val m c ⟨t.val - 1, i⟩ r l).trans (left_E m c t n 1 i r l))

set_option maxHeartbeats 2000000 in
/-- A point's block of the projection, at a sequence's first block. -/
theorem h_A (t : Fin cfg0.N) (n : t.val % 4 = 0) (s : Fin 2) (r : Fin 512) (l : Fin 1408) :
    (outsAt0 m c t.val t.isLt).1 (ix3 s r l) = p m c (base t + r.val) (chn s (col t l)) := by
  rw [outsAt0_A m c t n]
  frame_out
  simp (disch := decide) only [↓ View.readCov_skip, ↓ View.readCov_cons_toLoadRect, ↓ View.readCov_fill]
  canon_tiles x e
  all_goals change s.val = _ at e0
  all_goals change r.val = _ at e1
  all_goals change l.val = _ at e2
  iterate 3
    next =>
      obtain rfl : s = 1 := by omega
      exact h_chunk (rd128 u_val) _ r l (by omega) (by omega)
    next =>
      obtain rfl : s = 0 := by omega
      exact h_chunk (rd128 u_gate) _ r l (by omega) (by omega)
  next =>
    obtain rfl : s = 1 := by omega
    exact h_chunk (rdA (low128 u_val (low256 u_val (low256 u_val (low256 u_val (low256 u_val (low256 u_val (pcs_zero n))))))) has128) _ r l (by omega) (by omega)
  next =>
    obtain rfl : s = 0 := by omega
    exact h_chunk (rdA (low128 u_gate (low256 u_gate (low256 u_gate (low256 u_gate (low256 u_gate (low256 u_gate (pcs_zero n))))))) has128) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdA (low256 u_val (low256 u_val (low256 u_val (low256 u_val (low256 u_val (pcs_zero n)))))) has256) _ r l (by omega) (by omega)
    next =>
      obtain rfl : s = 0 := by omega
      exact h_chunk (rdA (low256 u_gate (low256 u_gate (low256 u_gate (low256 u_gate (low256 u_gate (pcs_zero n)))))) has256) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdA (low256 u_val (low256 u_val (low256 u_val (low256 u_val (pcs_zero n))))) has256) _ r l (by omega) (by omega)
    next =>
      obtain rfl : s = 0 := by omega
      exact h_chunk (rdA (low256 u_gate (low256 u_gate (low256 u_gate (low256 u_gate (pcs_zero n))))) has256) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdA (low256 u_val (low256 u_val (low256 u_val (pcs_zero n)))) has256) _ r l (by omega) (by omega)
    next =>
      obtain rfl : s = 0 := by omega
      exact h_chunk (rdA (low256 u_gate (low256 u_gate (low256 u_gate (pcs_zero n)))) has256) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdA (low256 u_val (low256 u_val (pcs_zero n))) has256) _ r l (by omega) (by omega)
    next =>
      obtain rfl : s = 0 := by omega
      exact h_chunk (rdA (low256 u_gate (low256 u_gate (pcs_zero n))) has256) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdA (low256 u_val (pcs_zero n)) has256) _ r l (by omega) (by omega)
    next =>
      obtain rfl : s = 0 := by omega
      exact h_chunk (rdA (low256 u_gate (pcs_zero n)) has256) _ r l (by omega) (by omega)

set_option maxHeartbeats 2000000 in
/-- A point's block of the projection, and at a later one. -/
theorem h_B (t : Fin cfg0.N) (n : ¬ t.val % 4 = 0) (s : Fin 2) (r : Fin 512) (l : Fin 1408) :
    (outsAt0 m c t.val t.isLt).1 (ix3 s r l) = p m c (base t + r.val) (chn s (col t l)) := by
  rw [outsAt0_B m c t n]
  frame_out
  simp (disch := decide) only [↓ View.readCov_skip, ↓ View.readCov_cons_toLoadRect, ↓ View.readCov_fill]
  canon_tiles x e
  all_goals change s.val = _ at e0
  all_goals change r.val = _ at e1
  all_goals change l.val = _ at e2
  iterate 3
    next =>
      obtain rfl : s = 1 := by omega
      exact h_chunk (rd128 u_val) _ r l (by omega) (by omega)
    next =>
      obtain rfl : s = 0 := by omega
      exact h_chunk (rd128 u_gate) _ r l (by omega) (by omega)
  next =>
    obtain rfl : s = 1 := by omega
    exact h_chunk (rdB (off128 u_val (off256 u_val (off256 u_val (off256 u_val (off256 u_val (off256 u_val pcs_nil)))))) has128 (carried_val m c t n _)) _ r l (by omega) (by omega)
  next =>
    obtain rfl : s = 0 := by omega
    exact h_chunk (rdB (off128 u_gate (off256 u_gate (off256 u_gate (off256 u_gate (off256 u_gate (off256 u_gate pcs_nil)))))) has128 (carried_gate m c t n _)) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdB (off128 u_val (off256 u_val (off256 u_val (off256 u_val (off256 u_val (off256 u_val pcs_nil)))))) has256.tail (carried_val m c t n _)) _ r l (by omega) (by omega)
    next =>
      obtain rfl : s = 0 := by omega
      exact h_chunk (rdB (off128 u_gate (off256 u_gate (off256 u_gate (off256 u_gate (off256 u_gate (off256 u_gate pcs_nil)))))) has256.tail (carried_gate m c t n _)) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdB (off256 u_val (off256 u_val (off256 u_val (off256 u_val (off256 u_val pcs_nil))))) has256.tail (carried_val m c t n _)) _ r l (by omega) (by omega)
    next =>
      obtain rfl : s = 0 := by omega
      exact h_chunk (rdB (off256 u_gate (off256 u_gate (off256 u_gate (off256 u_gate (off256 u_gate pcs_nil))))) has256.tail (carried_gate m c t n _)) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdB (off256 u_val (off256 u_val (off256 u_val (off256 u_val pcs_nil)))) has256.tail (carried_val m c t n _)) _ r l (by omega) (by omega)
    next =>
      obtain rfl : s = 0 := by omega
      exact h_chunk (rdB (off256 u_gate (off256 u_gate (off256 u_gate (off256 u_gate pcs_nil)))) has256.tail (carried_gate m c t n _)) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdB (off256 u_val (off256 u_val (off256 u_val pcs_nil))) has256.tail (carried_val m c t n _)) _ r l (by omega) (by omega)
    next =>
      obtain rfl : s = 0 := by omega
      exact h_chunk (rdB (off256 u_gate (off256 u_gate (off256 u_gate pcs_nil))) has256.tail (carried_gate m c t n _)) _ r l (by omega) (by omega)
  iterate 2
    iterate 3
      next =>
        obtain rfl : s = 1 := by omega
        exact h_chunk (rd256 u_val) _ r l (by omega) (by omega)
      next =>
        obtain rfl : s = 0 := by omega
        exact h_chunk (rd256 u_gate) _ r l (by omega) (by omega)
    next =>
      obtain rfl : s = 1 := by omega
      exact h_chunk (rdB (off256 u_val (off256 u_val pcs_nil)) has256.tail (carried_val m c t n _)) _ r l (by omega) (by omega)
    next =>
      obtain rfl : s = 0 := by omega
      exact h_chunk (rdB (off256 u_gate (off256 u_gate pcs_nil)) has256.tail (carried_gate m c t n _)) _ r l (by omega) (by omega)

set_option maxHeartbeats 2000000 in
/-- A point's block of the convolution's output, at a sequence's first block. -/
theorem u_A (t : Fin cfg0.N) (n : t.val % 4 = 0) (s : Fin 2) (r : Fin 512) (l : Fin 1408) :
    (outsAt0 m c t.val t.isLt).2.1 (ix3 s r l) = u m c (base t + r.val) (chn s (col t l)) := by
  rw [outsAt0_A m c t n]
  frame_out
  simp (disch := decide) only [↓ View.readCov_skip, ↓ View.readCov_cons_toLoadRect, ↓ View.readCov_fill]
  canon_tiles x e
  all_goals change s.val = _ at e0
  all_goals change r.val = _ at e1
  all_goals change l.val = _ at e2
  iterate 3
    next =>
      obtain rfl : s = 1 := by omega
      exact u_chunk (w_val rfl) (w_val rfl) (w_val rfl) b_val (rd128 u_val) _ r l (by omega) (by omega)
    next =>
      obtain rfl : s = 0 := by omega
      exact u_chunk (w_gate rfl) (w_gate rfl) (w_gate rfl) b_gate (rd128 u_gate) _ r l (by omega) (by omega)
  next =>
    obtain rfl : s = 1 := by omega
    exact u_chunk (w_val rfl) (w_val rfl) (w_val rfl) b_val (rdA (low128 u_val (low256 u_val (low256 u_val (low256 u_val (low256 u_val (low256 u_val (pcs_zero n))))))) has128) _ r l (by omega) (by omega)
  next =>
    obtain rfl : s = 0 := by omega
    exact u_chunk (w_gate rfl) (w_gate rfl) (w_gate rfl) b_gate (rdA (low128 u_gate (low256 u_gate (low256 u_gate (low256 u_gate (low256 u_gate (low256 u_gate (pcs_zero n))))))) has128) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdA (low256 u_val (low256 u_val (low256 u_val (low256 u_val (low256 u_val (pcs_zero n)))))) has256) _ r l (by omega) (by omega)
    next =>
      obtain rfl : s = 0 := by omega
      exact u_chunk (w_gate rfl) (w_gate rfl) (w_gate rfl) b_gate (rdA (low256 u_gate (low256 u_gate (low256 u_gate (low256 u_gate (low256 u_gate (pcs_zero n)))))) has256) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdA (low256 u_val (low256 u_val (low256 u_val (low256 u_val (pcs_zero n))))) has256) _ r l (by omega) (by omega)
    next =>
      obtain rfl : s = 0 := by omega
      exact u_chunk (w_gate rfl) (w_gate rfl) (w_gate rfl) b_gate (rdA (low256 u_gate (low256 u_gate (low256 u_gate (low256 u_gate (pcs_zero n))))) has256) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdA (low256 u_val (low256 u_val (low256 u_val (pcs_zero n)))) has256) _ r l (by omega) (by omega)
    next =>
      obtain rfl : s = 0 := by omega
      exact u_chunk (w_gate rfl) (w_gate rfl) (w_gate rfl) b_gate (rdA (low256 u_gate (low256 u_gate (low256 u_gate (pcs_zero n)))) has256) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdA (low256 u_val (low256 u_val (pcs_zero n))) has256) _ r l (by omega) (by omega)
    next =>
      obtain rfl : s = 0 := by omega
      exact u_chunk (w_gate rfl) (w_gate rfl) (w_gate rfl) b_gate (rdA (low256 u_gate (low256 u_gate (pcs_zero n))) has256) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdA (low256 u_val (pcs_zero n)) has256) _ r l (by omega) (by omega)
    next =>
      obtain rfl : s = 0 := by omega
      exact u_chunk (w_gate rfl) (w_gate rfl) (w_gate rfl) b_gate (rdA (low256 u_gate (pcs_zero n)) has256) _ r l (by omega) (by omega)

set_option maxHeartbeats 2000000 in
/-- A point's block of the convolution's output, and at a later one. -/
theorem u_B (t : Fin cfg0.N) (n : ¬ t.val % 4 = 0) (s : Fin 2) (r : Fin 512) (l : Fin 1408) :
    (outsAt0 m c t.val t.isLt).2.1 (ix3 s r l) = u m c (base t + r.val) (chn s (col t l)) := by
  rw [outsAt0_B m c t n]
  frame_out
  simp (disch := decide) only [↓ View.readCov_skip, ↓ View.readCov_cons_toLoadRect, ↓ View.readCov_fill]
  canon_tiles x e
  all_goals change s.val = _ at e0
  all_goals change r.val = _ at e1
  all_goals change l.val = _ at e2
  iterate 3
    next =>
      obtain rfl : s = 1 := by omega
      exact u_chunk (w_val rfl) (w_val rfl) (w_val rfl) b_val (rd128 u_val) _ r l (by omega) (by omega)
    next =>
      obtain rfl : s = 0 := by omega
      exact u_chunk (w_gate rfl) (w_gate rfl) (w_gate rfl) b_gate (rd128 u_gate) _ r l (by omega) (by omega)
  next =>
    obtain rfl : s = 1 := by omega
    exact u_chunk (w_val rfl) (w_val rfl) (w_val rfl) b_val (rdB (off128 u_val (off256 u_val (off256 u_val (off256 u_val (off256 u_val (off256 u_val pcs_nil)))))) has128 (carried_val m c t n _)) _ r l (by omega) (by omega)
  next =>
    obtain rfl : s = 0 := by omega
    exact u_chunk (w_gate rfl) (w_gate rfl) (w_gate rfl) b_gate (rdB (off128 u_gate (off256 u_gate (off256 u_gate (off256 u_gate (off256 u_gate (off256 u_gate pcs_nil)))))) has128 (carried_gate m c t n _)) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdB (off128 u_val (off256 u_val (off256 u_val (off256 u_val (off256 u_val (off256 u_val pcs_nil)))))) has256.tail (carried_val m c t n _)) _ r l (by omega) (by omega)
    next =>
      obtain rfl : s = 0 := by omega
      exact u_chunk (w_gate rfl) (w_gate rfl) (w_gate rfl) b_gate (rdB (off128 u_gate (off256 u_gate (off256 u_gate (off256 u_gate (off256 u_gate (off256 u_gate pcs_nil)))))) has256.tail (carried_gate m c t n _)) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdB (off256 u_val (off256 u_val (off256 u_val (off256 u_val (off256 u_val pcs_nil))))) has256.tail (carried_val m c t n _)) _ r l (by omega) (by omega)
    next =>
      obtain rfl : s = 0 := by omega
      exact u_chunk (w_gate rfl) (w_gate rfl) (w_gate rfl) b_gate (rdB (off256 u_gate (off256 u_gate (off256 u_gate (off256 u_gate (off256 u_gate pcs_nil))))) has256.tail (carried_gate m c t n _)) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdB (off256 u_val (off256 u_val (off256 u_val (off256 u_val pcs_nil)))) has256.tail (carried_val m c t n _)) _ r l (by omega) (by omega)
    next =>
      obtain rfl : s = 0 := by omega
      exact u_chunk (w_gate rfl) (w_gate rfl) (w_gate rfl) b_gate (rdB (off256 u_gate (off256 u_gate (off256 u_gate (off256 u_gate pcs_nil)))) has256.tail (carried_gate m c t n _)) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdB (off256 u_val (off256 u_val (off256 u_val pcs_nil))) has256.tail (carried_val m c t n _)) _ r l (by omega) (by omega)
    next =>
      obtain rfl : s = 0 := by omega
      exact u_chunk (w_gate rfl) (w_gate rfl) (w_gate rfl) b_gate (rdB (off256 u_gate (off256 u_gate (off256 u_gate pcs_nil))) has256.tail (carried_gate m c t n _)) _ r l (by omega) (by omega)
  iterate 2
    iterate 3
      next =>
        obtain rfl : s = 1 := by omega
        exact u_chunk (w_val rfl) (w_val rfl) (w_val rfl) b_val (rd256 u_val) _ r l (by omega) (by omega)
      next =>
        obtain rfl : s = 0 := by omega
        exact u_chunk (w_gate rfl) (w_gate rfl) (w_gate rfl) b_gate (rd256 u_gate) _ r l (by omega) (by omega)
    next =>
      obtain rfl : s = 1 := by omega
      exact u_chunk (w_val rfl) (w_val rfl) (w_val rfl) b_val (rdB (off256 u_val (off256 u_val pcs_nil)) has256.tail (carried_val m c t n _)) _ r l (by omega) (by omega)
    next =>
      obtain rfl : s = 0 := by omega
      exact u_chunk (w_gate rfl) (w_gate rfl) (w_gate rfl) b_gate (rdB (off256 u_gate (off256 u_gate pcs_nil)) has256.tail (carried_gate m c t n _)) _ r l (by omega) (by omega)

set_option maxHeartbeats 2000000 in
/-- A point's block of the gated product, at a sequence's first block. -/
theorem a_A (t : Fin cfg0.N) (n : t.val % 4 = 0) (r : Fin 512) (l : Fin 1408) :
    (outsAt0 m c t.val t.isLt).2.2.1 (ix2 r l) = act (u m c) (base t + r.val) (col t l) := by
  rw [outsAt0_A m c t n]
  frame_out
  simp (disch := decide) only [↓ View.readCov_skip, ↓ View.readCov_cons_toLoadRect, ↓ View.readCov_fill]
  canon_tiles x e
  all_goals change r.val = _ at e0
  all_goals change l.val = _ at e1
  iterate 3
    next =>
      exact a_chunk (w_gate rfl) (w_gate rfl) (w_gate rfl) b_gate (rd128 u_gate) (w_val rfl) (w_val rfl) (w_val rfl) b_val (rd128 u_val) _ r l (by omega) (by omega)
  next =>
    exact a_chunk (w_gate rfl) (w_gate rfl) (w_gate rfl) b_gate (rdA (low128 u_gate (low256 u_gate (low256 u_gate (low256 u_gate (low256 u_gate (low256 u_gate (pcs_zero n))))))) has128) (w_val rfl) (w_val rfl) (w_val rfl) b_val (rdA (low128 u_val (low256 u_val (low256 u_val (low256 u_val (low256 u_val (low256 u_val (pcs_zero n))))))) has128) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdA (low256 u_gate (low256 u_gate (low256 u_gate (low256 u_gate (low256 u_gate (pcs_zero n)))))) has256) (w_val rfl) (w_val rfl) (w_val rfl) b_val (rdA (low256 u_val (low256 u_val (low256 u_val (low256 u_val (low256 u_val (pcs_zero n)))))) has256) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdA (low256 u_gate (low256 u_gate (low256 u_gate (low256 u_gate (pcs_zero n))))) has256) (w_val rfl) (w_val rfl) (w_val rfl) b_val (rdA (low256 u_val (low256 u_val (low256 u_val (low256 u_val (pcs_zero n))))) has256) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdA (low256 u_gate (low256 u_gate (low256 u_gate (pcs_zero n)))) has256) (w_val rfl) (w_val rfl) (w_val rfl) b_val (rdA (low256 u_val (low256 u_val (low256 u_val (pcs_zero n)))) has256) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdA (low256 u_gate (low256 u_gate (pcs_zero n))) has256) (w_val rfl) (w_val rfl) (w_val rfl) b_val (rdA (low256 u_val (low256 u_val (pcs_zero n))) has256) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdA (low256 u_gate (pcs_zero n)) has256) (w_val rfl) (w_val rfl) (w_val rfl) b_val (rdA (low256 u_val (pcs_zero n)) has256) _ r l (by omega) (by omega)

set_option maxHeartbeats 2000000 in
/-- A point's block of the gated product, and at a later one. -/
theorem a_B (t : Fin cfg0.N) (n : ¬ t.val % 4 = 0) (r : Fin 512) (l : Fin 1408) :
    (outsAt0 m c t.val t.isLt).2.2.1 (ix2 r l) = act (u m c) (base t + r.val) (col t l) := by
  rw [outsAt0_B m c t n]
  frame_out
  simp (disch := decide) only [↓ View.readCov_skip, ↓ View.readCov_cons_toLoadRect, ↓ View.readCov_fill]
  canon_tiles x e
  all_goals change r.val = _ at e0
  all_goals change l.val = _ at e1
  iterate 3
    next =>
      exact a_chunk (w_gate rfl) (w_gate rfl) (w_gate rfl) b_gate (rd128 u_gate) (w_val rfl) (w_val rfl) (w_val rfl) b_val (rd128 u_val) _ r l (by omega) (by omega)
  next =>
    exact a_chunk (w_gate rfl) (w_gate rfl) (w_gate rfl) b_gate (rdB (off128 u_gate (off256 u_gate (off256 u_gate (off256 u_gate (off256 u_gate (off256 u_gate pcs_nil)))))) has128 (carried_gate m c t n _)) (w_val rfl) (w_val rfl) (w_val rfl) b_val (rdB (off128 u_val (off256 u_val (off256 u_val (off256 u_val (off256 u_val (off256 u_val pcs_nil)))))) has128 (carried_val m c t n _)) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdB (off128 u_gate (off256 u_gate (off256 u_gate (off256 u_gate (off256 u_gate (off256 u_gate pcs_nil)))))) has256.tail (carried_gate m c t n _)) (w_val rfl) (w_val rfl) (w_val rfl) b_val (rdB (off128 u_val (off256 u_val (off256 u_val (off256 u_val (off256 u_val (off256 u_val pcs_nil)))))) has256.tail (carried_val m c t n _)) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdB (off256 u_gate (off256 u_gate (off256 u_gate (off256 u_gate (off256 u_gate pcs_nil))))) has256.tail (carried_gate m c t n _)) (w_val rfl) (w_val rfl) (w_val rfl) b_val (rdB (off256 u_val (off256 u_val (off256 u_val (off256 u_val (off256 u_val pcs_nil))))) has256.tail (carried_val m c t n _)) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdB (off256 u_gate (off256 u_gate (off256 u_gate (off256 u_gate pcs_nil)))) has256.tail (carried_gate m c t n _)) (w_val rfl) (w_val rfl) (w_val rfl) b_val (rdB (off256 u_val (off256 u_val (off256 u_val (off256 u_val pcs_nil)))) has256.tail (carried_val m c t n _)) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdB (off256 u_gate (off256 u_gate (off256 u_gate pcs_nil))) has256.tail (carried_gate m c t n _)) (w_val rfl) (w_val rfl) (w_val rfl) b_val (rdB (off256 u_val (off256 u_val (off256 u_val pcs_nil))) has256.tail (carried_val m c t n _)) _ r l (by omega) (by omega)
  iterate 2
    iterate 3
      next =>
        exact a_chunk (w_gate rfl) (w_gate rfl) (w_gate rfl) b_gate (rd256 u_gate) (w_val rfl) (w_val rfl) (w_val rfl) b_val (rd256 u_val) _ r l (by omega) (by omega)
    next =>
      exact a_chunk (w_gate rfl) (w_gate rfl) (w_gate rfl) b_gate (rdB (off256 u_gate (off256 u_gate pcs_nil)) has256.tail (carried_gate m c t n _)) (w_val rfl) (w_val rfl) (w_val rfl) b_val (rdB (off256 u_val (off256 u_val pcs_nil)) has256.tail (carried_val m c t n _)) _ r l (by omega) (by omega)

end Cert.FfnUpIdeal.Val
end
-- ==== Proof.FfnUpValue.lean ====
/- The value of the feed-forward block's forward call: the whole results, and their equality to the reference's. -/
module
public import proofs.«01_k».proof.Proof.FfnUpPoint

@[expose] public section
set_option maxRecDepth 16384
noncomputable section
open Idealize.ShloMosaic Idealize.ShloMosaic.TcCoe Idealize.SL.Sem
open Idealize.ShloMosaic.Pipeline (Dat)
open scoped BigOperators

namespace Cert.FfnUpIdeal.Val
open Cert.FfnUpIdeal Cert.FfnUpIdeal.Gen Cert.Reals Cert.ScMath Cert.FfnMath

variable (m : (ℓ : Loc nD τ sig) → Buf (Elt Ideal) ℓ) (c : Dev nD)

/-- The three results. -/
def hArr (j : S2x8192x2816.Idx) : EReal := p m c (j 1).val (chn (j 0) (j 2))
def uArr (j : S2x8192x2816.Idx) : EReal := u m c (j 1).val (chn (j 0) (j 2))
def aArr (j : S8192x2816.Idx) : EReal := act (u m c) (j 0).val (j 1)

theorem h_at (t : Fin cfg0.N) (s : Fin 2) (r : Fin 512) (l : Fin 1408) :
    (outsAt0 m c t.val t.isLt).1 (ix3 s r l) = p m c (base t + r.val) (chn s (col t l)) := by
  by_cases n : t.val % 4 = 0
  · exact h_A m c t n s r l
  · exact h_B m c t n s r l

theorem u_all (t : Fin cfg0.N) (s : Fin 2) (r : Fin 512) (l : Fin 1408) :
    (outsAt0 m c t.val t.isLt).2.1 (ix3 s r l) = u m c (base t + r.val) (chn s (col t l)) := by
  by_cases n : t.val % 4 = 0
  · exact u_A m c t n s r l
  · exact u_B m c t n s r l

theorem a_all (t : Fin cfg0.N) (r : Fin 512) (l : Fin 1408) :
    (outsAt0 m c t.val t.isLt).2.2.1 (ix2 r l) = act (u m c) (base t + r.val) (col t l) := by
  by_cases n : t.val % 4 = 0
  · exact a_A m c t n r l
  · exact a_B m c t n r l

/-- The first result holds the projection, -/
theorem final_h : (dats m 0 c).arrAt 7 cfg0.N = hArr m c := by
  refine (dats m 0 c).arrAt_eq_of_covers 7 _ (by decide +kernel) fun t _ y => ?_
  blk_simp
  rw [after0_7]
  idx_vars y
  rw [h_at]
  show hArr m c (ix3 y0 ⟨base t + y1.val, base_lt t y1⟩ (col t y2)) = _
  congr 1
  blk_ext [idx t, base, col]

/-- the second the convolution's output, -/
theorem final_u : (dats m 0 c).arrAt 8 cfg0.N = uArr m c := by
  refine (dats m 0 c).arrAt_eq_of_covers 8 _ (by decide +kernel) fun t _ y => ?_
  blk_simp
  rw [after0_8]
  idx_vars y
  rw [u_all]
  show uArr m c (ix3 y0 ⟨base t + y1.val, base_lt t y1⟩ (col t y2)) = _
  congr 1
  blk_ext [idx t, base, col]

/-- and the third the gated product. -/
theorem final_a : (dats m 0 c).arrAt 9 cfg0.N = aArr m c := by
  refine (dats m 0 c).arrAt_eq_of_covers 9 _ (by decide +kernel) fun t _ y => ?_
  blk_simp
  rw [after0_9]
  idx_vars y
  rw [a_all]
  show aArr m c (ix2 ⟨base t + y0.val, base_lt t y0⟩ (col t y1)) = _
  congr 1
  blk_ext [idx t, base, col]

/-- The call's run, with every result named. -/
theorem run_named (ρ : Dev nD → PrngReg) : θ_run defs (onTc (τ := τ) (main (F := Ideal))) ⟨m, fun _ => 0, ρ⟩ fun r => ∀ c : Dev nD,
      r.2.mem ((c.tc : Thread nD τ).loc main_v2_0) = hArr m c
      ∧ r.2.mem ((c.tc : Thread nD τ).loc main_v2_1) = uArr m c
      ∧ r.2.mem ((c.tc : Thread nD τ).loc main_v2_2) = aArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final_h m c), (h c).2.1.trans (final_u m c), (h c).2.2.1.trans (final_a m c), (h c).2.2.2⟩)
    (Value.run_blocks m ρ)

/-- The call's three results are the reference's, whatever the arguments. -/
theorem algebraic : Cert.algebraic_FfnUpIdeal_FfnUpRefIdeal
    (hFfnUpIdeal := Cert.FfnUpIdeal.Gen.facts) (hFfnUpRefIdeal := Cert.FfnUpRefIdeal.Gen.facts) := by
  intro m g m' g' _ hagree
  have eX : ∀ c : Dev nD, Cert.FfnUpRefIdeal.Val.argX m' c = argX m c := fun c => funext fun r => funext fun k => congrFun (hagree c).1 (ix2 r k)
  have eU : ∀ c : Dev nD, Cert.FfnUpRefIdeal.Val.argU m' c = argU m c := fun c => funext fun r => funext fun k => congrFun (hagree c).2.1 (ix2 r k)
  have eW : ∀ c : Dev nD, Cert.FfnUpRefIdeal.Val.argW m' c = argW m c := fun c => funext fun r => funext fun k => congrFun (hagree c).2.2.1 (ix2 r k)
  have eB : ∀ c : Dev nD, Cert.FfnUpRefIdeal.Val.argB m' c = argB m c := fun c => funext fun k => congrFun (hagree c).2.2.2 (ix1 k)
  refine ⟨_, _, _, run_named m g, (θ_run _ _ _).mono (fun _ h c => ⟨funext fun i => ?_, funext fun i => ?_, funext fun i => ?_, (h c).2.2.2⟩)
    (Cert.FfnUpRefIdeal.Val.run_val m' g')⟩
  · idx_vars i
    refine ((h c).1 _ _ _).trans ?_
    rw [eX, eU]
    rfl
  · idx_vars i
    refine ((h c).2.1 _ _ _).trans ?_
    rw [eX, eU, eW, eB]
    rfl
  · idx_vars i
    refine ((h c).2.2.1 _ _).trans ?_
    rw [eX, eU, eW, eB]
    rfl

end Cert.FfnUpIdeal.Val
end
-- ==== Proof.DownLnValue.lean ====
/- The value of the forward call of a projection, a residual and a layer norm: what each of its three result arrays holds after the
   run is what the reference computes from the same arguments. No precondition: both take the same sums, differences and products. -/
module
public import proofs.«01_k».proof.Defs
public import proofs.«01_k».proof.Proof.Gen.DownLnIdeal
public import proofs.«01_k».proof.Proof.Gen.DownLnIdeal.Skeleton
public import proofs.«01_k».proof.Proof.Gen.DownLnIdeal.Frame
public import proofs.«01_k».proof.Proof.Gen.DownLnIdeal.Value
public import proofs.«01_k».proof.Proof.Gen.DownLnRefIdeal
public import proofs.«01_k».proof.Proof.Gen.DownLnRefIdeal.Run
public import proofs.«01_k».proof.Proof.LnMath
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.LnMath

/-- A row of the residual stream before the norm: the row that came in, scaled, plus the projection of a row of 2816 numbers, -/
def preRow (a : Fin 2816 → EReal) (w : Fin 2816 → Fin 1024 → EReal) (x : Fin 1024 → EReal) (l : Fin 1024) : EReal :=
  Ideal.ofBits .f32 0x3FD744FD#32 * x l + ∑ k, a k * w k l

/-- and a row after it. -/
def lnRow (z g b : Fin 1024 → EReal) (l : Fin 1024) : EReal := cent z l * Ideal.rsqrt (vare z) * g l + b l

end Cert.LnMath

namespace Cert.DownLnIdeal.Val
open Cert.DownLnIdeal Cert.DownLnIdeal.Gen Cert.LnMath Cert.Reals

variable (v0 : Vec Ideal S512x2816 .bf16) (v1 : Vec Ideal S1x2816x1024 .bf16) (v4 : Vec Ideal S512x1024 .f32) (v24 v28 : Vec Ideal S1x1024 .f32)

/-- The block before the norm, element by element, -/
theorem pay_z (r : Fin 512) (l : Fin 1024) : k0_pay1 v0 v1 v4 (ix2 r l)
    = preRow (fun k => v0 (ix2 r k)) (fun k l => v1 (ix3 0 k l)) (fun l => v4 (ix2 r l)) l := by
  pointwise [k0_pay1]
  rfl

/-- the block after it, -/
theorem pay_n (r : Fin 512) (l : Fin 1024) : k0_pay2 v0 v1 v4 v24 v28 (ix2 r l)
    = lnRow (preRow (fun k => v0 (ix2 r k)) (fun k l => v1 (ix3 0 k l)) (fun l => v4 (ix2 r l)))
      (fun l => v24 (ix2 0 l)) (fun l => v28 (ix2 0 l)) l := by
  have e : ∀ l, k0_pay1 v0 v1 v4 (ix2 r l) = preRow (fun k => v0 (ix2 r k)) (fun k l => v1 (ix3 0 k l)) (fun l => v4 (ix2 r l)) l :=
    pay_z v0 v1 v4 r
  pointwise [k0_pay2]
  simp only [e]
  rfl

/-- and the same in the narrower format. -/
theorem pay_b (r : Fin 512) (l : Fin 1024) : k0_pay3 v0 v1 v4 v24 v28 (ix2 r l)
    = lnRow (preRow (fun k => v0 (ix2 r k)) (fun k l => v1 (ix3 0 k l)) (fun l => v4 (ix2 r l)))
      (fun l => v24 (ix2 0 l)) (fun l => v28 (ix2 0 l)) l := by
  rw [← pay_n]
  pointwise [k0_pay3]

/-- Each window's block index at each of the sixteen points. -/
theorem idx : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The call's arguments, by row and lane. -/
abbrev argA (r : Fin 8192) (k : Fin 2816) : EReal := m ((c.tc : Thread nD τ).loc main_arg0) (ix2 r k)
abbrev argW (k : Fin 2816) (l : Fin 1024) : EReal := m ((c.tc : Thread nD τ).loc main_arg1) (ix2 k l)
abbrev argX (r : Fin 8192) (l : Fin 1024) : EReal := m ((c.tc : Thread nD τ).loc main_arg2) (ix2 r l)
abbrev argG (l : Fin 1024) : EReal := m ((c.tc : Thread nD τ).loc main_arg3) (ix1 l)
abbrev argB (l : Fin 1024) : EReal := m ((c.tc : Thread nD τ).loc main_arg4) (ix1 l)

/-- A point's row among all rows. -/
def row (t : Fin cfg0.N) (r : Fin 512) : Fin 8192 := ⟨t.val * 512 + r.val, by have := t.isLt; have : cfg0.N = 16 := N_0; omega⟩

/-- Point `t`'s blocks of the arguments. -/
theorem blk_a (t : Fin cfg0.N) (r : Fin 512) (k : Fin 2816) : iblk m c 0 t (ix2 r k) = argA m c (row t r) k := by
  unfold argA row; blk_point [iblk, V, idx t]

theorem entry_w (k : Fin 2816) (l : Fin 1024) : V m c main_v0 (ix3 0 k l) = argW m c k l := by
  unfold V; entry_read; unfold argW; pointwise

theorem blk_w (t : Fin cfg0.N) (k : Fin 2816) (l : Fin 1024) : iblk m c 1 t (ix3 0 k l) = argW m c k l := by
  rw [← entry_w]; blk_point [iblk, idx t]

theorem blk_x (t : Fin cfg0.N) (r : Fin 512) (l : Fin 1024) : iblk m c 2 t (ix2 r l) = argX m c (row t r) l := by
  unfold argX row; blk_point [iblk, V, idx t]

theorem entry_g (l : Fin 1024) : V m c main_v1 (ix2 0 l) = argG m c l := by
  unfold V; entry_read; unfold argG; pointwise

theorem blk_g (t : Fin cfg0.N) (l : Fin 1024) : iblk m c 3 t (ix2 0 l) = argG m c l := by
  rw [← entry_g]; blk_point [iblk, idx t]

theorem entry_b (l : Fin 1024) : V m c main_v2 (ix2 0 l) = argB m c l := by
  unfold V; entry_read; unfold argB; pointwise

theorem blk_b (t : Fin cfg0.N) (l : Fin 1024) : iblk m c 4 t (ix2 0 l) = argB m c l := by
  rw [← entry_b]; blk_point [iblk, idx t]

/-- The results as arrays of the arguments: before the norm, -/
def zArr (i : S8192x1024.Idx) : EReal := preRow (argA m c (i 0)) (argW m c) (argX m c (i 0)) (i 1)

/-- and after it. -/
def nArr (i : S8192x1024.Idx) : EReal := lnRow (preRow (argA m c (i 0)) (argW m c) (argX m c (i 0))) (argG m c) (argB m c) (i 1)

/-- The first result holds the rows before the norm, -/
theorem final_z : (dats m 0 c).arrAt 5 cfg0.N = zArr m c := by
  refine (dats m 0 c).arrAt_eq_of_covers 5 _ (by decide +kernel) fun t _ y => ?_
  blk_simp
  rw [after0_5]
  unfold out0_5
  idx_vars y
  frame_out
  rw [pay_z]
  simp only [blk_a, blk_w, blk_x]
  show zArr m c (ix2 (row t y0) y1) = _
  congr 1
  unfold row
  blk_ext [idx t]

/-- the second the rows after it, -/
theorem final_n : (dats m 0 c).arrAt 6 cfg0.N = nArr m c := by
  refine (dats m 0 c).arrAt_eq_of_covers 6 _ (by decide +kernel) fun t _ y => ?_
  blk_simp
  rw [after0_6]
  unfold out0_6
  idx_vars y
  frame_out
  rw [pay_n]
  simp only [blk_a, blk_w, blk_x, blk_g, blk_b]
  show nArr m c (ix2 (row t y0) y1) = _
  congr 1
  unfold row
  blk_ext [idx t]

/-- and the third the same. -/
theorem final_b : (dats m 0 c).arrAt 7 cfg0.N = nArr m c := by
  refine (dats m 0 c).arrAt_eq_of_covers 7 _ (by decide +kernel) fun t _ y => ?_
  blk_simp
  rw [after0_7]
  unfold out0_7
  idx_vars y
  frame_out
  rw [pay_b]
  simp only [blk_a, blk_w, blk_x, blk_g, blk_b]
  show nArr m c (ix2 (row t y0) y1) = _
  congr 1
  unfold row
  blk_ext [idx t]

/-- The call's three results are the reference's, whatever the arguments. -/
theorem algebraic : Cert.algebraic_DownLnIdeal_DownLnRefIdeal
    (hDownLnIdeal := Cert.DownLnIdeal.Gen.facts) (hDownLnRefIdeal := Cert.DownLnRefIdeal.Gen.facts) := by
  intro m g m' g' _ hagree
  have run := (θ_run _ _ _).mono (fun r h c => (⟨(h c).1.trans (final_z m c), (h c).2.1.trans (final_n m c), (h c).2.2.1.trans (final_b m c),
    (h c).2.2.2⟩ : _ ∧ _ ∧ _ ∧ _)) (Value.run_blocks m g)
  refine ⟨_, _, _, run, (θ_run _ _ _).mono (fun _ h c => ⟨(h c).1.trans (funext fun i => ?_), (h c).2.1.trans (funext fun i => ?_),
    (h c).2.2.1.trans (funext fun i => ?_), (h c).2.2.2⟩) (Cert.DownLnRefIdeal.Value.run m' g')⟩
  all_goals
    rw [(hagree c).1, (hagree c).2.1, (hagree c).2.2.1]
    try rw [(hagree c).2.2.2.1, (hagree c).2.2.2.2]
    idx_vars i
    pointwise
    rfl

end Cert.DownLnIdeal.Val
end
-- ==== Proof.ScFwdValue.lean ====
/- The value of the gated short convolution's forward call: what its result array holds after the run is what the reference computes
   from the same arguments. No precondition: both are sums and products of the same numbers. -/
module
public import proofs.«01_k».proof.Defs
public import proofs.«01_k».proof.Proof.Gen.ScFwdIdeal
public import proofs.«01_k».proof.Proof.Gen.ScFwdIdeal.Skeleton
public import proofs.«01_k».proof.Proof.Gen.ScFwdIdeal.Frame
public import proofs.«01_k».proof.Proof.Gen.ScFwdIdeal.Value
public import proofs.«01_k».proof.Proof.Gen.ScFwdRefIdeal
public import proofs.«01_k».proof.Proof.Gen.ScFwdRefIdeal.Run
public import proofs.«01_k».proof.Proof.ScRef
public import Idealize.ShloMosaic.Lib.Pipeline.ReadBack
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.ScFwdIdeal.Val
open Cert.ScFwdIdeal Cert.ScFwdIdeal.Gen Cert.ScMath

/-- Each window's block index at each of the thirty-two points. -/
theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

/-- The call's arguments, by row and lane. -/
abbrev argH (r : Fin 8192) (k : Fin 3072) : EReal := m ((c.tc : Thread nD τ).loc main_arg0) (ix2 r k)
abbrev argW (k : Fin 3) (l : Fin 1024) : EReal := m ((c.tc : Thread nD τ).loc main_arg1) (ix2 k l)
abbrev argB (l : Fin 1024) : EReal := m ((c.tc : Thread nD τ).loc main_arg2) (ix1 l)

/-- The first row of point `t`'s blocks. -/
def base (t : Fin cfg0.N) : ℕ := t.val * 256

theorem base_lt (t : Fin cfg0.N) (r : Fin 256) : base t + r.val < 8192 := by
  unfold base; have := t.isLt; have : cfg0.N = 32 := N_0; omega

/-- Point `t`'s blocks of the first argument's parts, -/
theorem blk_b (t : Fin cfg0.N) (r : Fin 256) (l : Fin 1024) : iblk m c 0 t (ix2 r l) = gate (argH m c) 0 (base t + r.val) l := by
  unfold gate argH
  rw [dif_pos (base_lt t r)]
  unfold base
  blk_point [iblk, V, idx t]

theorem blk_c (t : Fin cfg0.N) (r : Fin 256) (l : Fin 1024) : iblk m c 1 t (ix2 r l) = gate (argH m c) 1 (base t + r.val) l := by
  unfold gate argH
  rw [dif_pos (base_lt t r)]
  unfold base
  blk_point [iblk, V, idx t]

theorem blk_v (t : Fin cfg0.N) (r : Fin 256) (l : Fin 1024) : iblk m c 2 t (ix2 r l) = gate (argH m c) 2 (base t + r.val) l := by
  unfold gate argH
  rw [dif_pos (base_lt t r)]
  unfold base
  blk_point [iblk, V, idx t]

/-- and the whole taps and bias. -/
theorem blk_w (t : Fin cfg0.N) (k : Fin 3) (l : Fin 1024) : iblk m c 3 t (ix2 k l) = argW m c k l := by
  unfold argW; blk_point [iblk, V, idx t]

theorem entry_bias (l : Fin 1024) : V m c main_v0 (ix2 0 l) = argB m c l := by
  unfold V
  entry_read
  unfold argB
  pointwise

theorem blk_bias (t : Fin cfg0.N) (l : Fin 1024) : iblk m c 4 t (ix2 0 l) = argB m c l := by
  rw [← entry_bias]
  blk_point [iblk, idx t]

/-- The gated input, of the arguments. -/
abbrev p : ℕ → Fin 1024 → EReal := pRow (argH m c)

/-- Point `t`'s rows of the gated input, -/
theorem pay_p (t : Fin cfg0.N) (r : Fin 256) (l : Fin 1024) :
    k0_pay3 (iblk m c 1 t) (iblk m c 2 t) (ix2 r l) = p m c (base t + r.val) l := by
  pointwise [k0_pay3]
  rw [blk_c, blk_v]
  rfl

/-- whose last rows are carried to the next point, -/
theorem pay_carry (t : Fin cfg0.N) (r : Fin 8) (l : Fin 1024) :
    k0_pay1 (k0_pay3 (iblk m c 1 t) (iblk m c 2 t)) (ix2 r l) = p m c (base t + 248 + r.val) l := by
  pointwise [k0_pay1]
  refine (pay_p m c t ⟨248 + r.val, by omega⟩ l).trans ?_
  exact congrArg (fun i => p m c i l) (Nat.add_assoc _ _ _).symm

/-- The carried rows that a point finds: zeros at a sequence's first block, else the eight rows before. -/
def Carry (t : Fin cfg0.N) (s : Vec Ideal S8x1024 .f32) : Prop :=
  ∀ (j : Fin 8) (l : Fin 1024), s (ix2 j l) = if t.val % 8 = 0 then 0 else p m c (base t - 8 + j.val) l

/-- and the result's block, from the carried rows. -/
theorem pay_q (t : Fin cfg0.N) (s : Vec Ideal S8x1024 .f32) (hs : Carry m c t s) (r : Fin 256) (l : Fin 1024) :
    k0_pay4 (iblk m c 1 t) (iblk m c 2 t) s (iblk m c 4 t)
        (View.ld (iblk m c 3 t) (Rect.unit ![0, 0] ![1, 1024] inb_S3x1024_S1x1024_0_0))
        (View.ld (iblk m c 3 t) (Rect.unit ![1, 0] ![1, 1024] inb_S3x1024_S1x1024_1_0))
        (View.ld (iblk m c 3 t) (Rect.unit ![2, 0] ![1, 1024] inb_S3x1024_S1x1024_2_0)) (iblk m c 0 t) (ix2 r l)
      = gate (argH m c) 0 (base t + r.val) l * uRow (p m c) (argW m c) (argB m c) (base t + r.val) l := by
  pointwise [k0_pay4]
  rw [blk_w, blk_w, blk_w, blk_bias, blk_b]
  simp only [pay_p]
  have ht : t.val < 32 := lt_of_lt_of_eq t.isLt N_0
  have e : ∀ k : ℕ, (k = 1 ∨ k = 2) → (if h : (8 + r.val + 264 - k) % 264 < 8 then s (ix2 ⟨(8 + r.val + 264 - k) % 264, h⟩ l)
      else p m c (base t + ((8 + r.val + 264 - k) % 264 - 8)) l) = prev (p m c) k (base t + r.val) l := by
    intro k hk
    unfold prev
    by_cases h : r.val < k
    · rw [dif_pos (show (8 + r.val + 264 - k) % 264 < 8 by omega)]
      refine (hs ⟨(8 + r.val + 264 - k) % 264, by omega⟩ l).trans ?_
      by_cases h8 : t.val % 8 = 0
      · rw [if_pos h8, if_pos (show (base t + r.val) % 2048 < k by unfold base; omega)]
      · rw [if_neg h8, if_neg (show ¬ (base t + r.val) % 2048 < k by unfold base; omega)]
        exact congrArg (fun i => p m c i l) (show base t - 8 + (8 + r.val + 264 - k) % 264 = base t + r.val - k by unfold base; omega)
    · rw [dif_neg (show ¬ (8 + r.val + 264 - k) % 264 < 8 by omega), if_neg (show ¬ (base t + r.val) % 2048 < k by unfold base; omega)]
      exact congrArg (fun i => p m c i l) (show base t + ((8 + r.val + 264 - k) % 264 - 8) = base t + r.val - k by omega)
  exact congr_arg₂ (fun a b => gate (argH m c) 0 (base t + r.val) l * (argB m c l + argW m c 0 l * a + argW m c 1 l * b
    + argW m c 2 l * p m c (base t + r.val) l)) (e 2 (.inr rfl)) (e 1 (.inl rfl))

/-- The rows carried on from a point are the last of its rows of the gated input. -/
theorem carried (t : Fin cfg0.N) (r : Fin 8) (l : Fin 1024) : (outsAt0 m c t.val t.isLt).2 (ix2 r l) = p m c (base t + 248 + r.val) l := by
  by_cases h : t.val % 8 = 0
  · rw [outsAt0_A m c t h]; frame_out; exact pay_carry m c t r l
  · rw [outsAt0_B m c t h]; frame_out; exact pay_carry m c t r l

/-- A point inside a sequence finds the rows before its own in the carried rows, -/
theorem carry_before (t : Fin cfg0.N) (h : ¬ t.val % 8 = 0) :
    Carry m c t (outsAt0 m c (t.val - 1) (Nat.lt_of_le_of_lt (Nat.sub_le _ _) t.isLt)).2 := by
  intro j l
  rw [if_neg h]
  refine (carried m c ⟨t.val - 1, Nat.lt_of_le_of_lt (Nat.sub_le _ _) t.isLt⟩ j l).trans ?_
  exact congrArg (fun i => p m c i l) (by unfold base; show (t.val - 1) * 256 + 248 + j.val = _; omega)

/-- as the body reads them, -/
theorem carry_read (t : Fin cfg0.N) (h : ¬ t.val % 8 = 0) :
    Carry m c t (View.read (Elt Ideal) (View.whole cc0_scratch0) ((Memref.isWhole_whole cc0_scratch0).unread
      (outsAt0 m c (t.val - 1) (Nat.lt_of_le_of_lt (Nat.sub_le _ _) t.isLt)).2)) := by
  rw [(Memref.isWhole_whole cc0_scratch0).read_unread]
  exact carry_before m c t h

/-- and a sequence's first block of rows finds zeros. -/
theorem carry_zero (t : Fin cfg0.N) (h : t.val % 8 = 0) : Carry m c t (k0_pay2 (F := Ideal)) := by
  intro j l
  rw [if_pos h]
  pointwise! [k0_pay2]

/-- The result as an array of the arguments. -/
def qArr (i : S8192x1024.Idx) : EReal := gate (argH m c) 0 (i 0).val (i 1) * uRow (p m c) (argW m c) (argB m c) (i 0).val (i 1)

/-- What a point leaves in the result's block. -/
theorem left_q (t : Fin cfg0.N) (r : Fin 256) (l : Fin 1024) : (outsAt0 m c t.val t.isLt).1 (ix2 r l)
    = gate (argH m c) 0 (base t + r.val) l * uRow (p m c) (argW m c) (argB m c) (base t + r.val) l := by
  by_cases h : t.val % 8 = 0
  · rw [outsAt0_A m c t h]; frame_out; exact pay_q m c t _ (carry_zero m c t h) r l
  · rw [outsAt0_B m c t h]; frame_out; exact pay_q m c t _ (carry_read m c t h) r l

/-- The result's array after the run. -/
theorem final_q : (dats m 0 c).arrAt 5 cfg0.N = qArr m c := by
  refine (dats m 0 c).arrAt_eq_of_covers 5 _ (by decide +kernel) fun t _ y => ?_
  blk_simp
  rw [after0_5]
  idx_vars y
  rw [left_q]
  show qArr m c (ix2 ⟨base t + y0.val, base_lt t y0⟩ y1) = _
  congr 1
  blk_ext [idx t, base]

/-- The reference's result as it writes it, -/
def refQ (x : FVec Ideal S8192x3072 .bf16) (cw : FVec Ideal S3x1024 .f32) (cb : FVec Ideal S1024 .f32) : FVec Ideal S8192x1024 .bf16 :=
  truncf .bf16 (shapeCast Cert.ScFwdRefIdeal.S8192x1024 (mulf (Cert.ScBwdRefIdeal.Val.part0 x)
    (Cert.ScBwdRefIdeal.Val.refU (Cert.ScBwdRefIdeal.Val.part1 x) (Cert.ScBwdRefIdeal.Val.part2 x) cw cb))
    Cert.ScFwdRefIdeal.Gen.shapeCasts_S4x2048x1024_S8192x1024) bitsLt_bf16_f32

/-- and element by element. -/
theorem refQ_at (x : FVec Ideal S8192x3072 .bf16) (cw : FVec Ideal S3x1024 .f32) (cb : FVec Ideal S1024 .f32) (r : Fin 8192) (l : Fin 1024) :
    refQ x cw cb (ix2 r l) = gate (fun r l => x (ix2 r l)) 0 r.val l
      * uRow (pRow fun r l => x (ix2 r l)) (fun k l => cw (ix2 k l)) (fun l => cb (ix1 l)) r.val l := by
  have er : r.val / 2048 * 2048 + r.val % 2048 = r.val := Nat.div_add_mod' _ _
  pointwise [refQ]
  rw [Cert.ScBwdRefIdeal.Val.part0_at, Cert.ScBwdRefIdeal.Val.refU_at (Cert.ScBwdRefIdeal.Val.hp_of x)]
  simp only [er]

/-- The call's result is the reference's, whatever the arguments. -/
theorem algebraic : Cert.algebraic_ScFwdIdeal_ScFwdRefIdeal
    (hScFwdIdeal := Cert.ScFwdIdeal.Gen.facts) (hScFwdRefIdeal := Cert.ScFwdRefIdeal.Gen.facts) := by
  intro m g m' g' _ hagree
  refine ⟨_, (θ_run _ _ _).mono (fun r h c => ⟨(h c).1.trans (final_q m c), (h c).2⟩) (Value.run_blocks m g),
    (θ_run _ _ _).mono (fun _ h c => ⟨(h c).1.trans (funext fun i => ?_), (h c).2⟩) (Cert.ScFwdRefIdeal.Value.run m' g')⟩
  rw [(hagree c).1, (hagree c).2.1, (hagree c).2.2]
  idx_vars i
  exact refQ_at _ _ _ _ _

end Cert.ScFwdIdeal.Val
end
-- ==== Proof.LruBody.lean ====
/- One execution of the body of the recurrence's forward call, at any float values and on any staging buffers: what it stores. -/
module

public import proofs.«01_k».proof.Proof.Gen.LruFwdIdeal.Frame
public import proofs.«01_k».proof.Proof.Gen.LruFwdIdeal.Loops

@[expose] public section

set_option maxRecDepth 16384

noncomputable section

namespace Cert.LruFwdIdeal.Run

open Cert.LruFwdIdeal Cert.LruFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The first point of a sequence. -/
abbrev start (i : grid0.Coords) : Prop :=
  (Scalar.cmpi .ne (Scalar.extui (Scalar.cmpi .eq (Scalar.remsi (Scalar.muli (BitVec.ofNat 32 (i 0).val) 256#32) 2048#32) 0#32)) 0#32) = 1#1

set_option maxHeartbeats 2000000 in
/-- The body at the first point of a sequence: the carried rows and state start at zero. The pieces stored are found by running it. -/
noncomputable def bodyA (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S4x1280 .f32) (harg3 : arg3.IsWhole) (arg4 : Memref sig .tc .vmem S1x1280 .f32) (harg4 : arg4.IsWhole) (arg5 : Memref sig .tc .vmem S10x128x256 .bf16) (harg5 : arg5.IsWhole) (arg6 : Memref sig .tc .vmem S10x256 .f32) (harg6 : arg6.IsWhole) (arg7 : Memref sig .tc .vmem S1x1280 .f32) (harg7 : arg7.IsWhole) (arg8 : Memref sig .tc .vmem S256x1280 .f32) (harg8 : arg8.IsWhole) (arg9 : Memref sig .tc .vmem S256x1280 .bf16) (harg9 : arg9.IsWhole) (arg10 : Memref sig .tc .vmem S256x1280 .f32) (harg10 : arg10.IsWhole) (arg11 : Memref sig .tc .vmem S256x1280 .f32) (harg11 : arg11.IsWhole) (arg12 : Memref sig .tc .vmem S8x1280 .f32) (harg12 : arg12.IsWhole) (arg13 : Memref sig .tc .vmem S1x1280 .f32) (harg13 : arg13.IsWhole)
    (hc : start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32) :
    Σ' (L8 : List (View.Piece (Elt F) S256x1280 .f32)) (L9 : Vec F S256x1280 .f32 → List (View.Piece (Elt F) S256x1280 .bf16))
      (L12 : List (View.Piece (Elt F) S8x1280 .f32)), { L13 : List (View.Piece (Elt F) S1x1280 .f32) //
      ∀ (x8 : Vec F S256x1280 .f32) (E : Set ℕ) (K : PUnit → sProp (MT nD τ sig Unit (Elt F) ℕ (UR sig nD τ) ℕ)),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ (∃ f, arg8.view.loc (c : Thread nD τ) ↦[arg8.view.set]{fullShare} arg8.view.writes (Elt F) f L8)
          ∗ (∃ f, arg9.view.loc (c : Thread nD τ) ↦[arg9.view.set]{fullShare} arg9.view.writes (Elt F) f (L9 x8))
          ∗ (∃ f, arg10.view.loc (c : Thread nD τ) ↦[arg10.view.set]{fullShare} f)
          ∗ (∃ f, arg11.view.loc (c : Thread nD τ) ↦[arg11.view.set]{fullShare} f)
          ∗ (∃ f, arg12.view.loc (c : Thread nD τ) ↦[arg12.view.set]{fullShare} arg12.view.writes (Elt F) f L12)
          ∗ (∃ f, arg13.view.loc (c : Thread nD τ) ↦[arg13.view.set]{fullShare} arg13.view.writes (Elt F) f L13)) -∗ K ⟨⟩))
        ⊢ wp frame (wpE (defs₀ (F := F)) Variants.none c none) E (cc0_lru_fwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun x8 E K => ?run⟩
  case run =>
    simp only [cc0_lru_fwd_eq_skeleton]; unfold cc0_lru_fwd_skel
    simp only [k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

set_option maxHeartbeats 2000000 in
/-- The body at a later point of a sequence: the carried rows and state go on. The pieces stored are found by running it. -/
noncomputable def bodyB (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S4x1280 .f32) (harg3 : arg3.IsWhole) (arg4 : Memref sig .tc .vmem S1x1280 .f32) (harg4 : arg4.IsWhole) (arg5 : Memref sig .tc .vmem S10x128x256 .bf16) (harg5 : arg5.IsWhole) (arg6 : Memref sig .tc .vmem S10x256 .f32) (harg6 : arg6.IsWhole) (arg7 : Memref sig .tc .vmem S1x1280 .f32) (harg7 : arg7.IsWhole) (arg8 : Memref sig .tc .vmem S256x1280 .f32) (harg8 : arg8.IsWhole) (arg9 : Memref sig .tc .vmem S256x1280 .bf16) (harg9 : arg9.IsWhole) (arg10 : Memref sig .tc .vmem S256x1280 .f32) (harg10 : arg10.IsWhole) (arg11 : Memref sig .tc .vmem S256x1280 .f32) (harg11 : arg11.IsWhole) (arg12 : Memref sig .tc .vmem S8x1280 .f32) (harg12 : arg12.IsWhole) (arg13 : Memref sig .tc .vmem S1x1280 .f32) (harg13 : arg13.IsWhole)
    (hc : ¬start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32) (x12 : Vec F S8x1280 .f32) (x13 : Vec F S1x1280 .f32) :
    Σ' (L8 : List (View.Piece (Elt F) S256x1280 .f32)) (L9 : Vec F S256x1280 .f32 → List (View.Piece (Elt F) S256x1280 .bf16))
      (L12 : List (View.Piece (Elt F) S8x1280 .f32)), { L13 : List (View.Piece (Elt F) S1x1280 .f32) //
      ∀ (x8 : Vec F S256x1280 .f32) (E : Set ℕ) (K : PUnit → sProp (MT nD τ sig Unit (Elt F) ℕ (UR sig nD τ) ℕ)),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ (∃ d, owns (c : Thread nD τ) arg9 fullShare d)
          ∗ (∃ d, owns (c : Thread nD τ) arg10 fullShare d)
          ∗ (∃ d, owns (c : Thread nD τ) arg11 fullShare d)
          ∗ owns (c : Thread nD τ) arg12 fullShare x12
          ∗ owns (c : Thread nD τ) arg13 fullShare x13
          ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ (∃ f, arg8.view.loc (c : Thread nD τ) ↦[arg8.view.set]{fullShare} arg8.view.writes (Elt F) f L8)
          ∗ (∃ f, arg9.view.loc (c : Thread nD τ) ↦[arg9.view.set]{fullShare} arg9.view.writes (Elt F) f (L9 x8))
          ∗ (∃ f, arg10.view.loc (c : Thread nD τ) ↦[arg10.view.set]{fullShare} f)
          ∗ (∃ f, arg11.view.loc (c : Thread nD τ) ↦[arg11.view.set]{fullShare} f)
          ∗ (∃ f, arg12.view.loc (c : Thread nD τ) ↦[arg12.view.set]{fullShare} arg12.view.writes (Elt F) f L12)
          ∗ (∃ f, arg13.view.loc (c : Thread nD τ) ↦[arg13.view.set]{fullShare} arg13.view.writes (Elt F) f L13)) -∗ K ⟨⟩))
        ⊢ wp frame (wpE (defs₀ (F := F)) Variants.none c none) E (cc0_lru_fwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun x8 E K => ?run⟩
  case run =>
    simp only [cc0_lru_fwd_eq_skeleton]; unfold cc0_lru_fwd_skel
    simp only [k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg12.eq_unread hf12
    obtain rfl := harg13.eq_unread hf13
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.LruFwdIdeal.Run

end
-- ==== Proof.LruLoop.lean ====
/- What one execution of the recurrence's forward body leaves, as functions of the blocks it reads, at any float values. -/
module

public import proofs.«01_k».proof.Proof.LruBody
public import Idealize.ShloMosaic.Lib.VecWindow
public import Idealize.ShloMosaic.Lib.WholeRead
public import Idealize.ShloMosaic.Lib.WritesUnit
public import Idealize.ShloMosaic.Lib.Pipeline.ValueKit

@[expose] public section

set_option maxRecDepth 16384

noncomputable section

namespace Cert.LruFwdIdeal.Run

open Cert.LruFwdIdeal Cert.LruFwdIdeal.Gen
open Idealize.ShloMosaic Idealize.ShloMosaic.TcCoe Idealize.ShloMosaic.Tactic
open Idealize.SL.Sem

variable {F : FTy → Type} [FloatOps F] [Named F]

/-- The row numbers of eight rows. -/
abbrev rowNo : IVec S8x1280 32 := iota .tc S8x1280 32 [0] iota_S8x1280_d0_w32

/-- Eight rows of a block, from row `8 k`. -/
def rows8 (A : Vec F S256x1280 .f32) (k : Fin 32) : Vec F S8x1280 .f32 :=
  fun y => A (ValueIdx.ix2 (⟨8 * k.val + (y 0).val, by have : (y 0).val < 8 := (y 0).isLt; omega⟩ : Fin 256) (y 1))

/-- The state before the `k`-th eight rows. -/
def state (A B : Vec F S256x1280 .f32) (h : Vec F S1x1280 .f32) : ℕ → Vec F S1x1280 .f32
  | 0 => h
  | k + 1 => if hk : k < 32 then k0_pay47 (k0_pay3 rowNo (state A B h k) (rows8 A ⟨k, hk⟩) (rows8 B ⟨k, hk⟩)) else state A B h k

/-- The carried state after one more trip. -/
theorem state_succ (A B : Vec F S256x1280 .f32) (h : Vec F S1x1280 .f32) (k : ℕ) (hk : k < 32) :
    state A B h (k + 1) = k0_pay47 (k0_pay3 rowNo (state A B h k) (rows8 A ⟨k, hk⟩) (rows8 B ⟨k, hk⟩)) := dif_pos hk

/-- The states of the block's rows. -/
def states (A B : Vec F S256x1280 .f32) (h : Vec F S1x1280 .f32) : Vec F S256x1280 .f32 := fun y =>
  k0_pay2 rowNo (state A B h ((y 0).val / 8))
    (rows8 A ⟨(y 0).val / 8, by have : (y 0).val < 256 := (y 0).isLt; omega⟩)
    (rows8 B ⟨(y 0).val / 8, by have : (y 0).val < 256 := (y 0).isLt; omega⟩)
    (ValueIdx.ix2 (⟨(y 0).val % 8, by omega⟩ : Fin 8) (y 1))

/-- The loop has thirty-two trips. -/
theorem trips_eq : k0_t1_loop.trips = 32 := by decide +kernel

/-- Where trip `k` reads and stores. -/
theorem off_eq : ∀ k : Fin k0_t1_loop.trips, k0_off1 k = ![8 * k.val, 0] := by decide +kernel

section Loop

variable (c : Dev nD) (i : grid0.Coords)
  (arg1 : Memref sig .tc .vmem S256x1280 .bf16) (harg1 : arg1.IsWhole)
  (arg2 : Memref sig .tc .vmem S256x1280 .bf16) (harg2 : arg2.IsWhole)
  (arg3 : Memref sig .tc .vmem S4x1280 .f32) (harg3 : arg3.IsWhole)
  (arg4 : Memref sig .tc .vmem S1x1280 .f32) (harg4 : arg4.IsWhole)
  (arg5 : Memref sig .tc .vmem S10x128x256 .bf16) (harg5 : arg5.IsWhole)
  (arg6 : Memref sig .tc .vmem S10x256 .f32) (harg6 : arg6.IsWhole)
  (arg7 : Memref sig .tc .vmem S1x1280 .f32) (harg7 : arg7.IsWhole)
  (arg8 : Memref sig .tc .vmem S256x1280 .f32) (harg8 : arg8.IsWhole)
  (arg9 : Memref sig .tc .vmem S256x1280 .bf16) (harg9 : arg9.IsWhole)
  (arg10 : Memref sig .tc .vmem S256x1280 .f32) (harg10 : arg10.IsWhole)
  (arg11 : Memref sig .tc .vmem S256x1280 .f32) (harg11 : arg11.IsWhole)
  (arg12 : Memref sig .tc .vmem S8x1280 .f32) (harg12 : arg12.IsWhole)
  (arg13 : Memref sig .tc .vmem S1x1280 .f32) (harg13 : arg13.IsWhole)
  (v34 v154 v184 v186 v188 v192 : FVec F S256x1280 .f32)
  (X10 : BufTy.Contents (Elt F) arg10.view.ty) (X11 : BufTy.Contents (Elt F) arg11.view.ty) (init : Vec F S1x1280 .f32)

/-- One trip's yield and piece. -/
theorem trip_eq (k : Fin k0_t1_loop.trips) (acc : Vec F S1x1280 .f32) :
    tripR_k0_t1 Variants.none c none i arg1 harg1 arg2 harg2 arg3 harg3 arg4 harg4 arg5 harg5 arg6 harg6 arg7 harg7 arg8 harg8 arg9 harg9 arg10 harg10 arg11 harg11 arg12 harg12 arg13 harg13 v34 v154 v184 v186 v188 v192 rowNo X10 X11 k acc
      = k0_pay47 (k0_pay3 rowNo acc
          (View.readAt (Elt F) arg10.view (Rect.unit (s := S256x1280) (k0_off1 k) S8x1280.size (k0_off1_inb k)).toLoadRect X10)
          (View.readAt (Elt F) arg11.view (Rect.unit (s := S256x1280) (k0_off1 k) S8x1280.size (k0_off1_inb k)).toLoadRect X11))
    ∧ tripL_k0_t1 Variants.none c none i arg1 harg1 arg2 harg2 arg3 harg3 arg4 harg4 arg5 harg5 arg6 harg6 arg7 harg7 arg8 harg8 arg9 harg9 arg10 harg10 arg11 harg11 arg12 harg12 arg13 harg13 v34 v154 v184 v186 v188 v192 rowNo X10 X11 k acc
      = [⟨Rect.unit (s := S256x1280) (k0_off1 k) S8x1280.size (k0_off1_inb k), k0_pay2 rowNo acc
          (View.readAt (Elt F) arg10.view (Rect.unit (s := S256x1280) (k0_off1 k) S8x1280.size (k0_off1_inb k)).toLoadRect X10)
          (View.readAt (Elt F) arg11.view (Rect.unit (s := S256x1280) (k0_off1 k) S8x1280.size (k0_off1_inb k)).toLoadRect X11)⟩] := by
  unfold tripR_k0_t1 tripL_k0_t1 trip_k0_t1
  exact ⟨rfl, rfl⟩

/-- Eight rows as a trip reads them. -/
theorem read8 (M : Memref sig .tc .vmem S256x1280 .f32) (X : BufTy.Contents (Elt F) M.view.ty) (k : Fin k0_t1_loop.trips) (hk : k.val < 32) :
    View.readAt (Elt F) M.view (Rect.unit (s := S256x1280) (k0_off1 k) S8x1280.size (k0_off1_inb k)).toLoadRect X
      = rows8 (M.view.read (Elt F) X) ⟨k.val, hk⟩ := by
  funext y
  show M.view.read (Elt F) X _ = M.view.read (Elt F) X _
  congr 1
  funext a
  have h := off_eq k
  refine Fin.ext ?_
  fin_cases a
  · show k0_off1 k 0 + 1 * (y 0).val = 8 * k.val + (y 0).val
    have h0 : k0_off1 k 0 = 8 * k.val := congrFun h 0
    omega
  · show k0_off1 k 1 + 1 * (y 1).val = (y 1).val
    have h1 : k0_off1 k 1 = 0 := congrFun h 1
    omega

/-- After `n` trips: the state, and the rows stored. -/
theorem loop_eq (v : View sig .tc .vmem S256x1280 .f32) (f : BufTy.Contents (Elt F) v.ty) (n : ℕ) (hn : n ≤ 32) :
    (st_k0_t1 Variants.none c none i arg1 harg1 arg2 harg2 arg3 harg3 arg4 harg4 arg5 harg5 arg6 harg6 arg7 harg7 arg8 harg8 arg9 harg9 arg10 harg10 arg11 harg11 arg12 harg12 arg13 harg13 v34 v154 v184 v186 v188 v192 rowNo X10 X11 init n).1
      = state (arg10.view.read (Elt F) X10) (arg11.view.read (Elt F) X11) init n
    ∧ ∀ (y : S256x1280.Idx), (y 0).val < 8 * n →
      v.read (Elt F) (v.writes (Elt F) f (st_k0_t1 Variants.none c none i arg1 harg1 arg2 harg2 arg3 harg3 arg4 harg4 arg5 harg5 arg6 harg6 arg7 harg7 arg8 harg8 arg9 harg9 arg10 harg10 arg11 harg11 arg12 harg12 arg13 harg13 v34 v154 v184 v186 v188 v192 rowNo X10 X11 init n).2) y
        = states (arg10.view.read (Elt F) X10) (arg11.view.read (Elt F) X11) init y := by
  induction n with
  | zero => exact ⟨rfl, fun y hy => absurd hy (Nat.not_lt_zero _)⟩
  | succ n ih =>
    obtain ⟨ih1, ih2⟩ := ih (by omega)
    have hT : n < k0_t1_loop.trips := by rw [trips_eq]; omega
    have e := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 v34 v154 v184 v186 v188 v192 rowNo X10 X11 init ⟨n, hT⟩
    obtain ⟨t1, t2⟩ := trip_eq c i arg1 harg1 arg2 harg2 arg3 harg3 arg4 harg4 arg5 harg5 arg6 harg6 arg7 harg7 arg8 harg8 arg9 harg9 arg10 harg10 arg11 harg11 arg12 harg12 arg13 harg13 v34 v154 v184 v186 v188 v192 X10 X11 ⟨n, hT⟩
      (st_k0_t1 Variants.none c none i arg1 harg1 arg2 harg2 arg3 harg3 arg4 harg4 arg5 harg5 arg6 harg6 arg7 harg7 arg8 harg8 arg9 harg9 arg10 harg10 arg11 harg11 arg12 harg12 arg13 harg13 v34 v154 v184 v186 v188 v192 rowNo X10 X11 init n).1
    rw [read8 _ _ _ (show n < 32 by omega), read8 _ _ _ (show n < 32 by omega)] at t1 t2
    dsimp only at e
    rw [t1, t2, ih1] at e
    rw [e]
    refine ⟨?_, fun y hy => ?_⟩
    · exact (state_succ _ _ _ n (by omega)).symm
    · show v.read (Elt F) (v.writes (Elt F) f (_ :: _)) y = _
      by_cases h : (y 0).val < 8 * n
      · rw [View.read_writes_cons_rows_of_not_mem v f _ _ _ y (off_eq ⟨n, hT⟩) rfl (.inl h)]
        exact ih2 y h
      · have hq : (y 0).val / 8 = n := by omega
        refine (View.read_writes_cons_rows_of_mem v f _ _ _ y
          (ValueIdx.ix2 (⟨(y 0).val % 8, by omega⟩ : Fin 8) (y 1)) (off_eq ⟨n, hT⟩)
          (show (y 0).val = 8 * n + (y 0).val % 8 by omega) rfl).trans ?_
        unfold states
        subst hq
        rfl

end Loop

/-- Head `h`'s gate weights and biases. -/
def wg (x5 : Vec F S10x128x256 .bf16) (h : Fin 10) : Vec F S1x128x256 .bf16 :=
  View.ld x5 (Rect.unit (s := S10x128x256) ![h.val, 0, 0] S1x128x256.size (by revert h; decide +kernel))
/-- The gates' biases of one head. -/
def bg (x6 : Vec F S10x256 .f32) (h : Fin 10) : Vec F S1x256 .f32 :=
  View.ld x6 (Rect.unit (s := S10x256) ![h.val, 0] S1x256.size (by revert h; decide +kernel))

/-- The convolved branch, from the carried rows. -/
def conv (x2 : Vec F S256x1280 .bf16) (x3 : Vec F S4x1280 .f32) (x4 : Vec F S1x1280 .f32) (p : Vec F S8x1280 .f32) : FVec F S256x1280 .f32 :=
  k0_pay7 x2 p x4 (View.ld x3 (Rect.unit (s := S4x1280) ![0, 0] S1x1280.size inb_S4x1280_S1x1280_0_0))
    (View.ld x3 (Rect.unit (s := S4x1280) ![1, 0] S1x1280.size inb_S4x1280_S1x1280_1_0))
    (View.ld x3 (Rect.unit (s := S4x1280) ![2, 0] S1x1280.size inb_S4x1280_S1x1280_2_0))
    (View.ld x3 (Rect.unit (s := S4x1280) ![3, 0] S1x1280.size inb_S4x1280_S1x1280_3_0))

/-- Its two gates, the second before its last step, -/
def gateR (v : FVec F S256x1280 .f32) (W : Fin 10 → Vec F S1x128x256 .bf16) (B : Fin 10 → Vec F S1x256 .f32) : FVec F S256x1280 .f32 :=
  k0_pay37 v (k0_pay11 v (W 0) (B 0))
    (k0_pay14 v (W 1) (B 1))
    (k0_pay17 v (W 2) (B 2))
    (k0_pay22 (k0_pay19 v) (k0_pay20 (W 3)) (B 3))
    (k0_pay25 v (W 4) (B 4))
    (k0_pay28 v (W 5) (B 5))
    (k0_pay31 v (W 6) (B 6)) (k0_pay33 v)
    (W 7) (B 7) (W 8) (B 8) (W 9) (B 9)
/-- The input gate before its logistic function. -/
def gateI (v : FVec F S256x1280 .f32) (W : Fin 10 → Vec F S1x128x256 .bf16) (B : Fin 10 → Vec F S1x256 .f32) : FVec F S256x1280 .f32 :=
  k0_pay38 v (k0_pay12 v (W 0) (B 0))
    (k0_pay15 v (W 1) (B 1))
    (k0_pay18 v (W 2) (B 2))
    (k0_pay23 (k0_pay19 v) (k0_pay20 (W 3)) (B 3))
    (k0_pay26 v (W 4) (B 4))
    (k0_pay29 v (W 5) (B 5))
    (k0_pay32 v (W 6) (B 6)) (k0_pay33 v)
    (W 7) (B 7) (W 8) (B 8) (W 9) (B 9)

/-- and the recurrence's two coefficients. -/
def coefA (v : FVec F S256x1280 .f32) (W : Fin 10 → Vec F S1x128x256 .bf16) (B : Fin 10 → Vec F S1x256 .f32) (x7 : Vec F S1x1280 .f32) : FVec F S256x1280 .f32 :=
  k0_pay45 (k0_pay41 (gateR v W B) x7)
/-- What a row adds to the state. -/
def coefB (v : FVec F S256x1280 .f32) (W : Fin 10 → Vec F S1x128x256 .bf16) (B : Fin 10 → Vec F S1x256 .f32) (x7 : Vec F S1x1280 .f32) : FVec F S256x1280 .f32 :=
  k0_pay46 v (k0_pay39 (gateI v W B)) (k0_pay42 (gateR v W B) x7) (k0_pay43 (gateR v W B) x7) (k0_pay44 (gateR v W B) x7)

/-- What the body leaves: the states, the output, the carried rows and the carried state. -/
abbrev St (F : FTy → Type) [FloatOps F] : Type :=
  Vec F S256x1280 .f32 × Vec F S256x1280 .bf16 × Vec F S8x1280 .f32 × Vec F S1x1280 .f32

/-- It, from the blocks and what the point before carried on. -/
def left (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32) (p : Vec F S8x1280 .f32) (h : Vec F S1x1280 .f32) : St F :=
  (states (coefA (conv x2 x3 x4 p) (wg x5) (bg x6) x7) (coefB (conv x2 x3 x4 p) (wg x5) (bg x6) x7) h,
    k0_pay1 (k0_pay49 x1) (k0_pay50 x1) (k0_pay51 (F := F))
      (states (coefA (conv x2 x3 x4 p) (wg x5) (bg x6) x7) (coefB (conv x2 x3 x4 p) (wg x5) (bg x6) x7) h),
    k0_pay9 (k0_pay8 x2),
    k0_pay48 (state (coefA (conv x2 x3 x4 p) (wg x5) (bg x6) x7) (coefB (conv x2 x3 x4 p) (wg x5) (bg x6) x7) h 32))

/-- A load over the whole of a buffer reads it. -/
theorem readAt_all {s : Shape} {e : EltTy} {M : Memref sig .tc .vmem s e} (hM : M.IsWhole) (X : Vec F s e) {off : Fin s.rank → ℕ}
    (inb : ∀ a, off a + s.size a ≤ s.size a) :
    View.readAt (Elt F) M.view (Rect.unit off s.size inb).toLoadRect (hM.unread X) = X := by
  rw [View.readAt_full, hM.read_unread]

/-- A load of a part reads the part. -/
theorem readAt_part {s : Shape} {e : EltTy} {M : Memref sig .tc .vmem s e} (hM : M.IsWhole) (X : Vec F s e) (R : Rect s) :
    View.readAt (Elt F) M.view R.toLoadRect (hM.unread X) = View.ld X R :=
  funext fun x => hM.readAt_unread X _ x

/-- The heads' gate weights and biases as the body loads them. -/
def W5 (M : Memref sig .tc .vmem S10x128x256 .bf16) (hM : M.IsWhole) (x5 : Vec F S10x128x256 .bf16) (h : Fin 10) : Vec F S1x128x256 .bf16 :=
  View.readAt (Elt F) M.view (Rect.unit (s := S10x128x256) ![h.val, 0, 0] S1x128x256.size (by revert h; decide +kernel)).toLoadRect (hM.unread x5)
/-- One head's biases as the body loads them. -/
def B6 (M : Memref sig .tc .vmem S10x256 .f32) (hM : M.IsWhole) (x6 : Vec F S10x256 .f32) (h : Fin 10) : Vec F S1x256 .f32 :=
  View.readAt (Elt F) M.view (Rect.unit (s := S10x256) ![h.val, 0] S1x256.size (by revert h; decide +kernel)).toLoadRect (hM.unread x6)

/-- The loads of the weights are the heads' weights, -/
theorem W5_eq (M : Memref sig .tc .vmem S10x128x256 .bf16) (hM : M.IsWhole) (x5 : Vec F S10x128x256 .bf16) : W5 M hM x5 = wg x5 :=
  funext fun _ => readAt_part hM x5 _
/-- and those of the biases the heads' biases. -/
theorem B6_eq (M : Memref sig .tc .vmem S10x256 .f32) (hM : M.IsWhole) (x6 : Vec F S10x256 .f32) : B6 M hM x6 = bg x6 :=
  funext fun _ => readAt_part hM x6 _

/-- A sequence's first block finds zeros. -/
theorem found_rows (c : Dev nD) (M : Memref sig .tc .vmem S8x1280 .f32) : bodyA.sl.v7 c M = k0_pay4 (F := F) :=
  View.readCov_full _ _ _ _ _
/-- At a sequence's first block the state found is zero. -/
theorem found_state (c : Dev nD) (M : Memref sig .tc .vmem S1x1280 .f32) : bodyA.sl.v216 c M = k0_pay5 (F := F) :=
  View.readCov_full _ _ _ _ _

/-- The last state, of equal coefficients and carried states. -/
theorem last_congr {A A' B B' : Vec F S256x1280 .f32} {h h' : Vec F S1x1280 .f32} (a : A = A') (b : B = B') (e : h = h') :
    k0_pay48 (state A B h 32) = k0_pay48 (state A' B' h' 32) := by
  rw [a, b, e]

section Left

variable (c : Dev nD) (i : grid0.Coords)
  (arg1 : Memref sig .tc .vmem S256x1280 .bf16) (harg1 : arg1.IsWhole)
  (arg2 : Memref sig .tc .vmem S256x1280 .bf16) (harg2 : arg2.IsWhole)
  (arg3 : Memref sig .tc .vmem S4x1280 .f32) (harg3 : arg3.IsWhole)
  (arg4 : Memref sig .tc .vmem S1x1280 .f32) (harg4 : arg4.IsWhole)
  (arg5 : Memref sig .tc .vmem S10x128x256 .bf16) (harg5 : arg5.IsWhole)
  (arg6 : Memref sig .tc .vmem S10x256 .f32) (harg6 : arg6.IsWhole)
  (arg7 : Memref sig .tc .vmem S1x1280 .f32) (harg7 : arg7.IsWhole)
  (arg8 : Memref sig .tc .vmem S256x1280 .f32) (harg8 : arg8.IsWhole)
  (arg9 : Memref sig .tc .vmem S256x1280 .bf16) (harg9 : arg9.IsWhole)
  (arg10 : Memref sig .tc .vmem S256x1280 .f32) (harg10 : arg10.IsWhole)
  (arg11 : Memref sig .tc .vmem S256x1280 .f32) (harg11 : arg11.IsWhole)
  (arg12 : Memref sig .tc .vmem S8x1280 .f32) (harg12 : arg12.IsWhole)
  (arg13 : Memref sig .tc .vmem S1x1280 .f32) (harg13 : arg13.IsWhole)

/-- The coefficients of a later block. -/
theorem coefsB  (x2 : Vec F S256x1280 .bf16) (x3 : Vec F S4x1280 .f32) (x4 : Vec F S1x1280 .f32) (x5 : Vec F S10x128x256 .bf16) (x6 : Vec F S10x256 .f32) (x7 : Vec F S1x1280 .f32) (x12 : Vec F S8x1280 .f32)  :
    arg10.view.read (Elt F) (arg10.view.writes (Elt F) arg10.view.junk (bodyB.sl.H10_1 c arg2 harg2 arg3 harg3 arg4 harg4 arg5 harg5 arg6 harg6 arg7 harg7 arg12 harg12 x2 x3 x4 x5 x6 x7 x12)) = coefA (conv x2 x3 x4 x12) (wg x5) (bg x6) x7
    ∧ arg11.view.read (Elt F) (arg11.view.writes (Elt F) arg11.view.junk (bodyB.sl.H11_1 c arg2 harg2 arg3 harg3 arg4 harg4 arg5 harg5 arg6 harg6 arg7 harg7 arg12 harg12 x2 x3 x4 x5 x6 x7 x12)) = coefB (conv x2 x3 x4 x12) (wg x5) (bg x6) x7 := by
  refine ⟨(View.read_writes_full _ _ _ _ _).trans ?_, (View.read_writes_full _ _ _ _ _).trans ?_⟩
  · refine Eq.trans (b := coefA (k0_pay7 (View.readAt (Elt F) arg2.view (Rect.unit (s := S256x1280) ![0, 0] S256x1280.size inb_S256x1280_S256x1280_0_0).toLoadRect (harg2.unread x2)) (View.readAt (Elt F) arg12.view (Rect.unit (s := S8x1280) ![0, 0] S8x1280.size inb_S8x1280_S8x1280_0_0).toLoadRect (harg12.unread x12)) (View.readAt (Elt F) arg4.view (Rect.unit (s := S1x1280) ![0, 0] S1x1280.size inb_S1x1280_S1x1280_0_0).toLoadRect (harg4.unread x4)) (View.readAt (Elt F) arg3.view (Rect.unit (s := S4x1280) ![0, 0] S1x1280.size inb_S4x1280_S1x1280_0_0).toLoadRect (harg3.unread x3)) (View.readAt (Elt F) arg3.view (Rect.unit (s := S4x1280) ![1, 0] S1x1280.size inb_S4x1280_S1x1280_1_0).toLoadRect (harg3.unread x3)) (View.readAt (Elt F) arg3.view (Rect.unit (s := S4x1280) ![2, 0] S1x1280.size inb_S4x1280_S1x1280_2_0).toLoadRect (harg3.unread x3)) (View.readAt (Elt F) arg3.view (Rect.unit (s := S4x1280) ![3, 0] S1x1280.size inb_S4x1280_S1x1280_3_0).toLoadRect (harg3.unread x3))) (W5 arg5 harg5 x5) (B6 arg6 harg6 x6) (View.readAt (Elt F) arg7.view (Rect.unit (s := S1x1280) ![0, 0] S1x1280.size inb_S1x1280_S1x1280_0_0).toLoadRect (harg7.unread x7))) rfl ?_
    simp only [readAt_all harg2, readAt_all harg4, readAt_all harg7, readAt_all harg12, readAt_part harg3, W5_eq, B6_eq]
    rfl
  · refine Eq.trans (b := coefB (k0_pay7 (View.readAt (Elt F) arg2.view (Rect.unit (s := S256x1280) ![0, 0] S256x1280.size inb_S256x1280_S256x1280_0_0).toLoadRect (harg2.unread x2)) (View.readAt (Elt F) arg12.view (Rect.unit (s := S8x1280) ![0, 0] S8x1280.size inb_S8x1280_S8x1280_0_0).toLoadRect (harg12.unread x12)) (View.readAt (Elt F) arg4.view (Rect.unit (s := S1x1280) ![0, 0] S1x1280.size inb_S1x1280_S1x1280_0_0).toLoadRect (harg4.unread x4)) (View.readAt (Elt F) arg3.view (Rect.unit (s := S4x1280) ![0, 0] S1x1280.size inb_S4x1280_S1x1280_0_0).toLoadRect (harg3.unread x3)) (View.readAt (Elt F) arg3.view (Rect.unit (s := S4x1280) ![1, 0] S1x1280.size inb_S4x1280_S1x1280_1_0).toLoadRect (harg3.unread x3)) (View.readAt (Elt F) arg3.view (Rect.unit (s := S4x1280) ![2, 0] S1x1280.size inb_S4x1280_S1x1280_2_0).toLoadRect (harg3.unread x3)) (View.readAt (Elt F) arg3.view (Rect.unit (s := S4x1280) ![3, 0] S1x1280.size inb_S4x1280_S1x1280_3_0).toLoadRect (harg3.unread x3))) (W5 arg5 harg5 x5) (B6 arg6 harg6 x6) (View.readAt (Elt F) arg7.view (Rect.unit (s := S1x1280) ![0, 0] S1x1280.size inb_S1x1280_S1x1280_0_0).toLoadRect (harg7.unread x7))) rfl ?_
    simp only [readAt_all harg2, readAt_all harg4, readAt_all harg7, readAt_all harg12, readAt_part harg3, W5_eq, B6_eq]
    rfl

/-- The states of a later block, -/
theorem statesB (hc : ¬start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32) (x12 : Vec F S8x1280 .f32) (x13 : Vec F S1x1280 .f32)
    (f : BufTy.Contents (Elt F) arg8.view.ty) :
    arg8.view.read (Elt F) (arg8.view.writes (Elt F) f (bodyB c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7 x12 x13).1) = (left x1 x2 x3 x4 x5 x6 x7 x12 x13).1 := by
  funext y
  have hy : (y 0).val < 8 * 32 := (y 0).isLt
  unfold bodyB
  refine ((loop_eq c i arg1 harg1 arg2 harg2 arg3 harg3 arg4 harg4 arg5 harg5 arg6 harg6 arg7 harg7 arg8 harg8 arg9 harg9 arg10 harg10 arg11 harg11 arg12 harg12 arg13 harg13 _ _ _ _ _ _ _ _ _ arg8.view f 32 le_rfl).2 y hy).trans ?_
  exact congrFun (congr (congr_arg₂ states (coefsB (arg10 := arg10) (arg11 := arg11) ..).1 (coefsB (arg10 := arg10) (arg11 := arg11) ..).2) (readAt_all harg13 _ _)) y

/-- its output, whatever was in the states' buffer, -/
theorem outputB (hc : ¬start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32) (x12 : Vec F S8x1280 .f32) (x13 : Vec F S1x1280 .f32)
    (x8 : Vec F S256x1280 .f32) (f : BufTy.Contents (Elt F) arg9.view.ty) :
    arg9.view.read (Elt F) (arg9.view.writes (Elt F) f ((bodyB c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7 x12 x13).2.1 x8)) = (left x1 x2 x3 x4 x5 x6 x7 x12 x13).2.1 := by
  have e := (View.readAt_full arg8.view (arg8.view.writes (Elt F) (harg8.unread x8) (bodyB c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7 x12 x13).1) inb_S256x1280_S256x1280_0_0).trans
    (statesB c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7 x12 x13 (harg8.unread x8))
  refine (View.read_writes_full _ _ _ _ _).trans ?_
  refine (congrArg (k0_pay1 _ _ _) e).trans ?_
  show k0_pay1 (k0_pay49 (View.readAt (Elt F) arg1.view (Rect.unit (s := S256x1280) ![0, 0] S256x1280.size inb_S256x1280_S256x1280_0_0).toLoadRect (harg1.unread x1))) (k0_pay50 (View.readAt (Elt F) arg1.view (Rect.unit (s := S256x1280) ![0, 0] S256x1280.size inb_S256x1280_S256x1280_0_0).toLoadRect (harg1.unread x1))) _ _ = _
  rw [readAt_all harg1]
  rfl

/-- the rows it carries on, -/
theorem rowsB (hc : ¬start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32) (x12 : Vec F S8x1280 .f32) (x13 : Vec F S1x1280 .f32)
    (f : BufTy.Contents (Elt F) arg12.view.ty) :
    arg12.view.read (Elt F) (arg12.view.writes (Elt F) f (bodyB c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7 x12 x13).2.2.1) = (left x1 x2 x3 x4 x5 x6 x7 x12 x13).2.2.1 := by
  refine (View.read_writes_full _ _ _ _ _).trans ?_
  show k0_pay9 (k0_pay8 (View.readAt (Elt F) arg2.view (Rect.unit (s := S256x1280) ![0, 0] S256x1280.size inb_S256x1280_S256x1280_0_0).toLoadRect (harg2.unread x2))) = _
  rw [readAt_all harg2]
  rfl

/-- and the state. -/
theorem lastB (hc : ¬start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32) (x12 : Vec F S8x1280 .f32) (x13 : Vec F S1x1280 .f32)
    (f : BufTy.Contents (Elt F) arg13.view.ty) :
    arg13.view.read (Elt F) (arg13.view.writes (Elt F) f (bodyB c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7 x12 x13).2.2.2.1) = (left x1 x2 x3 x4 x5 x6 x7 x12 x13).2.2.2 := by
  refine (View.read_writes_full _ _ _ _ _).trans ?_
  refine (congrArg k0_pay48 ((loop_eq c i arg1 harg1 arg2 harg2 arg3 harg3 arg4 harg4 arg5 harg5 arg6 harg6 arg7 harg7 arg8 harg8 arg9 harg9 arg10 harg10 arg11 harg11 arg12 harg12 arg13 harg13 _ _ _ _ _ _ _ _ _ arg8.view arg8.view.junk 32 le_rfl).1)).trans ?_
  show _ = k0_pay48 (state (coefA (conv x2 x3 x4 x12) (wg x5) (bg x6) x7) (coefB (conv x2 x3 x4 x12) (wg x5) (bg x6) x7) x13 32)
  exact last_congr (coefsB (arg10 := arg10) (arg11 := arg11) ..).1 (coefsB (arg10 := arg10) (arg11 := arg11) ..).2 (readAt_all harg13 _ _)

/-- The coefficients of a sequence's first block. -/
theorem coefsA  (x2 : Vec F S256x1280 .bf16) (x3 : Vec F S4x1280 .f32) (x4 : Vec F S1x1280 .f32) (x5 : Vec F S10x128x256 .bf16) (x6 : Vec F S10x256 .f32) (x7 : Vec F S1x1280 .f32) :
    arg10.view.read (Elt F) (arg10.view.writes (Elt F) arg10.view.junk (bodyA.sl.H10_1 c arg2 harg2 arg3 harg3 arg4 harg4 arg5 harg5 arg6 harg6 arg7 harg7 arg12 x2 x3 x4 x5 x6 x7)) = coefA (conv x2 x3 x4 k0_pay4) (wg x5) (bg x6) x7
    ∧ arg11.view.read (Elt F) (arg11.view.writes (Elt F) arg11.view.junk (bodyA.sl.H11_1 c arg2 harg2 arg3 harg3 arg4 harg4 arg5 harg5 arg6 harg6 arg7 harg7 arg12 x2 x3 x4 x5 x6 x7)) = coefB (conv x2 x3 x4 k0_pay4) (wg x5) (bg x6) x7 := by
  refine ⟨(View.read_writes_full _ _ _ _ _).trans ?_, (View.read_writes_full _ _ _ _ _).trans ?_⟩
  · refine Eq.trans (b := coefA (k0_pay7 (View.readAt (Elt F) arg2.view (Rect.unit (s := S256x1280) ![0, 0] S256x1280.size inb_S256x1280_S256x1280_0_0).toLoadRect (harg2.unread x2)) (bodyA.sl.v7 c arg12) (View.readAt (Elt F) arg4.view (Rect.unit (s := S1x1280) ![0, 0] S1x1280.size inb_S1x1280_S1x1280_0_0).toLoadRect (harg4.unread x4)) (View.readAt (Elt F) arg3.view (Rect.unit (s := S4x1280) ![0, 0] S1x1280.size inb_S4x1280_S1x1280_0_0).toLoadRect (harg3.unread x3)) (View.readAt (Elt F) arg3.view (Rect.unit (s := S4x1280) ![1, 0] S1x1280.size inb_S4x1280_S1x1280_1_0).toLoadRect (harg3.unread x3)) (View.readAt (Elt F) arg3.view (Rect.unit (s := S4x1280) ![2, 0] S1x1280.size inb_S4x1280_S1x1280_2_0).toLoadRect (harg3.unread x3)) (View.readAt (Elt F) arg3.view (Rect.unit (s := S4x1280) ![3, 0] S1x1280.size inb_S4x1280_S1x1280_3_0).toLoadRect (harg3.unread x3))) (W5 arg5 harg5 x5) (B6 arg6 harg6 x6) (View.readAt (Elt F) arg7.view (Rect.unit (s := S1x1280) ![0, 0] S1x1280.size inb_S1x1280_S1x1280_0_0).toLoadRect (harg7.unread x7))) rfl ?_
    simp only [readAt_all harg2, readAt_all harg4, readAt_all harg7, found_rows, readAt_part harg3, W5_eq, B6_eq]
    rfl
  · refine Eq.trans (b := coefB (k0_pay7 (View.readAt (Elt F) arg2.view (Rect.unit (s := S256x1280) ![0, 0] S256x1280.size inb_S256x1280_S256x1280_0_0).toLoadRect (harg2.unread x2)) (bodyA.sl.v7 c arg12) (View.readAt (Elt F) arg4.view (Rect.unit (s := S1x1280) ![0, 0] S1x1280.size inb_S1x1280_S1x1280_0_0).toLoadRect (harg4.unread x4)) (View.readAt (Elt F) arg3.view (Rect.unit (s := S4x1280) ![0, 0] S1x1280.size inb_S4x1280_S1x1280_0_0).toLoadRect (harg3.unread x3)) (View.readAt (Elt F) arg3.view (Rect.unit (s := S4x1280) ![1, 0] S1x1280.size inb_S4x1280_S1x1280_1_0).toLoadRect (harg3.unread x3)) (View.readAt (Elt F) arg3.view (Rect.unit (s := S4x1280) ![2, 0] S1x1280.size inb_S4x1280_S1x1280_2_0).toLoadRect (harg3.unread x3)) (View.readAt (Elt F) arg3.view (Rect.unit (s := S4x1280) ![3, 0] S1x1280.size inb_S4x1280_S1x1280_3_0).toLoadRect (harg3.unread x3))) (W5 arg5 harg5 x5) (B6 arg6 harg6 x6) (View.readAt (Elt F) arg7.view (Rect.unit (s := S1x1280) ![0, 0] S1x1280.size inb_S1x1280_S1x1280_0_0).toLoadRect (harg7.unread x7))) rfl ?_
    simp only [readAt_all harg2, readAt_all harg4, readAt_all harg7, found_rows, readAt_part harg3, W5_eq, B6_eq]
    rfl

/-- The states of a sequence's first block, -/
theorem statesA (hc : start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32)
    (f : BufTy.Contents (Elt F) arg8.view.ty) :
    arg8.view.read (Elt F) (arg8.view.writes (Elt F) f (bodyA c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7).1) = (left x1 x2 x3 x4 x5 x6 x7 k0_pay4 k0_pay5).1 := by
  funext y
  have hy : (y 0).val < 8 * 32 := (y 0).isLt
  unfold bodyA
  refine ((loop_eq c i arg1 harg1 arg2 harg2 arg3 harg3 arg4 harg4 arg5 harg5 arg6 harg6 arg7 harg7 arg8 harg8 arg9 harg9 arg10 harg10 arg11 harg11 arg12 harg12 arg13 harg13 _ _ _ _ _ _ _ _ _ arg8.view f 32 le_rfl).2 y hy).trans ?_
  exact congrFun (congr (congr_arg₂ states (coefsA (arg10 := arg10) (arg11 := arg11) ..).1 (coefsA (arg10 := arg10) (arg11 := arg11) ..).2) (found_state c arg13)) y

/-- its output, whatever was in the states' buffer, -/
theorem outputA (hc : start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32)
    (x8 : Vec F S256x1280 .f32) (f : BufTy.Contents (Elt F) arg9.view.ty) :
    arg9.view.read (Elt F) (arg9.view.writes (Elt F) f ((bodyA c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7).2.1 x8)) = (left x1 x2 x3 x4 x5 x6 x7 k0_pay4 k0_pay5).2.1 := by
  have e := (View.readAt_full arg8.view (arg8.view.writes (Elt F) (harg8.unread x8) (bodyA c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7).1) inb_S256x1280_S256x1280_0_0).trans
    (statesA c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7 (harg8.unread x8))
  refine (View.read_writes_full _ _ _ _ _).trans ?_
  refine (congrArg (k0_pay1 _ _ _) e).trans ?_
  show k0_pay1 (k0_pay49 (View.readAt (Elt F) arg1.view (Rect.unit (s := S256x1280) ![0, 0] S256x1280.size inb_S256x1280_S256x1280_0_0).toLoadRect (harg1.unread x1))) (k0_pay50 (View.readAt (Elt F) arg1.view (Rect.unit (s := S256x1280) ![0, 0] S256x1280.size inb_S256x1280_S256x1280_0_0).toLoadRect (harg1.unread x1))) _ _ = _
  rw [readAt_all harg1]
  rfl

/-- the rows it carries on, -/
theorem rowsA (hc : start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32)
    (f : BufTy.Contents (Elt F) arg12.view.ty) :
    arg12.view.read (Elt F) (arg12.view.writes (Elt F) f (bodyA c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7).2.2.1) = (left x1 x2 x3 x4 x5 x6 x7 k0_pay4 k0_pay5).2.2.1 := by
  refine (View.read_writes_full _ _ _ _ _).trans ?_
  show k0_pay9 (k0_pay8 (View.readAt (Elt F) arg2.view (Rect.unit (s := S256x1280) ![0, 0] S256x1280.size inb_S256x1280_S256x1280_0_0).toLoadRect (harg2.unread x2))) = _
  rw [readAt_all harg2]
  rfl

/-- and the state. -/
theorem lastA (hc : start i) (x1 : Vec F S256x1280 .bf16) (x2 : Vec F S256x1280 .bf16) (x3 : Vec F S4x1280 .f32) (x4 : Vec F S1x1280 .f32) (x5 : Vec F S10x128x256 .bf16) (x6 : Vec F S10x256 .f32) (x7 : Vec F S1x1280 .f32)
    (f : BufTy.Contents (Elt F) arg13.view.ty) :
    arg13.view.read (Elt F) (arg13.view.writes (Elt F) f (bodyA c i arg1 harg1 arg2 harg2 arg3 harg3 arg4 harg4 arg5 harg5 arg6 harg6 arg7 harg7 arg8 harg8 arg9 harg9 arg10 harg10 arg11 harg11 arg12 harg12 arg13 harg13 hc x1 x2 x3 x4 x5 x6 x7).2.2.2.1) = (left x1 x2 x3 x4 x5 x6 x7 k0_pay4 k0_pay5).2.2.2 := by
  refine (View.read_writes_full _ _ _ _ _).trans ?_
  refine (congrArg k0_pay48 ((loop_eq c i arg1 harg1 arg2 harg2 arg3 harg3 arg4 harg4 arg5 harg5 arg6 harg6 arg7 harg7 arg8 harg8 arg9 harg9 arg10 harg10 arg11 harg11 arg12 harg12 arg13 harg13 _ _ _ _ _ _ _ _ _ arg8.view arg8.view.junk 32 le_rfl).1)).trans ?_
  show _ = k0_pay48 (state (coefA (conv x2 x3 x4 k0_pay4) (wg x5) (bg x6) x7) (coefB (conv x2 x3 x4 k0_pay4) (wg x5) (bg x6) x7) k0_pay5 32)
  exact last_congr (coefsA (arg10 := arg10) (arg11 := arg11) ..).1 (coefsA (arg10 := arg10) (arg11 := arg11) ..).2 (found_state c arg13)

end Left

end Cert.LruFwdIdeal.Run

end
-- ==== Proof.LruRun.lean ====
/- The run of the recurrence's forward call, at any float values: what its two outputs, the rows it carries and the state it carries
   hold after every grid point, and that the whole program ends with its arguments unchanged. -/
module

public import proofs.«01_k».proof.Proof.LruLoop
public import proofs.«01_k».proof.Proof.Gen.LruFwdIdeal.Frame
public import Idealize.ShloMosaic.Lib.Claim

@[expose] public section

set_option maxRecDepth 16384

noncomputable section

namespace Cert.LruFwdIdeal.Run

open Cert.LruFwdIdeal Cert.LruFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- A sequence starts at every eighth point. -/
theorem start_iff : ∀ t : Fin cfg0.N, start (grid0.coords t) ↔ t.val % 8 = 0 :=
  (by decide +kernel : ∀ t : Fin grid0.N, start (grid0.coords t) ↔ t.val % 8 = 0)

/-- Window 0's buffer at a point. -/
abbrev ms0_0 (t : Fin cfg0.N) : Memref sig .tc .vmem S256x1280 .bf16 := win0_0.stage (cfg0.slots t 0)
/-- Window 0's buffer is whole. -/
abbrev hs0_0 (t : Fin cfg0.N) : (ms0_0 t).IsWhole := hstage0_0 ((cfg0.slots t 0).cast nbuf0_0)
/-- Window 1's buffer at a point. -/
abbrev ms0_1 (t : Fin cfg0.N) : Memref sig .tc .vmem S256x1280 .bf16 := win0_1.stage (cfg0.slots t 1)
/-- Window 1's buffer is whole. -/
abbrev hs0_1 (t : Fin cfg0.N) : (ms0_1 t).IsWhole := hstage0_1 ((cfg0.slots t 1).cast nbuf0_1)
/-- Window 2's buffer at a point. -/
abbrev ms0_2 (t : Fin cfg0.N) : Memref sig .tc .vmem S4x1280 .f32 := win0_2.stage (cfg0.slots t 2)
/-- Window 2's buffer is whole. -/
abbrev hs0_2 (t : Fin cfg0.N) : (ms0_2 t).IsWhole := hstage0_2 ((cfg0.slots t 2).cast nbuf0_2)
/-- Window 3's buffer at a point. -/
abbrev ms0_3 (t : Fin cfg0.N) : Memref sig .tc .vmem S1x1280 .f32 := win0_3.stage (cfg0.slots t 3)
/-- Window 3's buffer is whole. -/
abbrev hs0_3 (t : Fin cfg0.N) : (ms0_3 t).IsWhole := hstage0_3 ((cfg0.slots t 3).cast nbuf0_3)
/-- Window 4's buffer at a point. -/
abbrev ms0_4 (t : Fin cfg0.N) : Memref sig .tc .vmem S10x128x256 .bf16 := win0_4.stage (cfg0.slots t 4)
/-- Window 4's buffer is whole. -/
abbrev hs0_4 (t : Fin cfg0.N) : (ms0_4 t).IsWhole := hstage0_4 ((cfg0.slots t 4).cast nbuf0_4)
/-- Window 5's buffer at a point. -/
abbrev ms0_5 (t : Fin cfg0.N) : Memref sig .tc .vmem S10x256 .f32 := win0_5.stage (cfg0.slots t 5)
/-- Window 5's buffer is whole. -/
abbrev hs0_5 (t : Fin cfg0.N) : (ms0_5 t).IsWhole := hstage0_5 ((cfg0.slots t 5).cast nbuf0_5)
/-- Window 6's buffer at a point. -/
abbrev ms0_6 (t : Fin cfg0.N) : Memref sig .tc .vmem S1x1280 .f32 := win0_6.stage (cfg0.slots t 6)
/-- Window 6's buffer is whole. -/
abbrev hs0_6 (t : Fin cfg0.N) : (ms0_6 t).IsWhole := hstage0_6 ((cfg0.slots t 6).cast nbuf0_6)
/-- Window 7's buffer at a point. -/
abbrev ms0_7 (t : Fin cfg0.N) : Memref sig .tc .vmem S256x1280 .f32 := win0_7.stage (cfg0.slots t 7)
/-- Window 7's buffer is whole. -/
abbrev hs0_7 (t : Fin cfg0.N) : (ms0_7 t).IsWhole := hstage0_7 ((cfg0.slots t 7).cast nbuf0_7)
/-- Window 8's buffer at a point. -/
abbrev ms0_8 (t : Fin cfg0.N) : Memref sig .tc .vmem S256x1280 .bf16 := win0_8.stage (cfg0.slots t 8)
/-- Window 8's buffer is whole. -/
abbrev hs0_8 (t : Fin cfg0.N) : (ms0_8 t).IsWhole := hstage0_8 ((cfg0.slots t 8).cast nbuf0_8)
/-- The coefficients' scratch, -/
abbrev scM0_0 : Memref sig .tc .vmem S256x1280 .f32 := Memref.whole cc0_scratch0
/-- that of what rows add, -/
abbrev scM0_1 : Memref sig .tc .vmem S256x1280 .f32 := Memref.whole cc0_scratch1
/-- of the carried rows -/
abbrev scM0_2 : Memref sig .tc .vmem S8x1280 .f32 := Memref.whole cc0_scratch2
/-- and of the carried state. -/
abbrev scM0_3 : Memref sig .tc .vmem S1x1280 .f32 := Memref.whole cc0_scratch3

/-- What the launch hands over: the four scratch buffers at some contents, and the generator's register. -/
theorem PhiA0_eq (c : Dev nD) : (Pipeline.ΦA spec0 c : sProp (MT nD τ sig Unit (Elt F) ℕ (UR sig nD τ) ℕ))
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What point `t` leaves, over what the point before left. -/
def step (c : Dev nD) (t : Fin cfg0.N) (p : St F) : St F :=
  left (iblk m c 0 t) (iblk m c 1 t) (iblk m c 2 t) (iblk m c 3 t) (iblk m c 4 t) (iblk m c 5 t) (iblk m c 6 t)
    (if t.val % 8 = 0 then k0_pay4 else p.2.2.1) (if t.val % 8 = 0 then k0_pay5 else p.2.2.2)

/-- What the buffers hold after point `n`. -/
def outs (c : Dev nD) : (n : ℕ) → n < cfg0.N → St F
  | 0, h => left (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) k0_pay4 k0_pay5
  | n + 1, h => step m c ⟨n + 1, h⟩ (outs c n (by omega))

/-- The point before `t`'s. -/
abbrev before (c : Dev nD) (t : Fin cfg0.N) : St F := outs m c (t.val - 1) (Nat.lt_of_le_of_lt (Nat.sub_le _ _) t.isLt)

/-- After a point where a sequence starts. -/
theorem outs_A (c : Dev nD) (t : Fin cfg0.N) (h : t.val % 8 = 0) :
    outs m c t.val t.isLt = left (iblk m c 0 t) (iblk m c 1 t) (iblk m c 2 t) (iblk m c 3 t) (iblk m c 4 t) (iblk m c 5 t) (iblk m c 6 t) k0_pay4 k0_pay5 := by
  obtain ⟨n, hn⟩ := t
  cases n with
  | zero => rfl
  | succ n =>
    show step m c ⟨n + 1, hn⟩ _ = _
    unfold step
    rw [if_pos h, if_pos h]

/-- After any other point. -/
theorem outs_B (c : Dev nD) (t : Fin cfg0.N) (h : ¬t.val % 8 = 0) :
    outs m c t.val t.isLt = left (iblk m c 0 t) (iblk m c 1 t) (iblk m c 2 t) (iblk m c 3 t) (iblk m c 4 t) (iblk m c 5 t) (iblk m c 6 t) (before m c t).2.2.1 (before m c t).2.2.2 := by
  obtain ⟨n, hn⟩ := t
  cases n with
  | zero => exact absurd rfl h
  | succ n =>
    show step m c ⟨n + 1, hn⟩ _ = _
    unfold step
    rw [if_neg h, if_neg h]
    rfl

/-- What holds between the points: the carried rows and state at what the point before left. -/
def Inv (c : Dev nD) : (n : ℕ) → n ≤ cfg0.N → sProp (MT nD τ sig Unit (Elt F) ℕ (UR sig nD τ) ℕ)
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (outs m c n hn).2.2.1
      ∗ owns (c : Thread nD τ) scM0_3 fullShare (outs m c n hn).2.2.2) ∗ (∃ r, prngReg c r))

/-- The same at a point that is not the first. -/
theorem Inv_pos (c : Dev nD) (n : ℕ) (h : n ≤ cfg0.N) (hz : n ≠ 0) :
    Inv m c n h = iprop(iprop((∃ d, owns (c : Thread nD τ) scM0_0 fullShare d) ∗ (∃ d, owns (c : Thread nD τ) scM0_1 fullShare d) ∗ owns (c : Thread nD τ) scM0_2 fullShare (outs m c (n - 1) (by omega)).2.2.1
      ∗ owns (c : Thread nD τ) scM0_3 fullShare (outs m c (n - 1) (by omega)).2.2.2) ∗ (∃ r, prngReg c r)) := by
  cases n with
  | zero => exact absurd rfl hz
  | succ n => rfl

/-- The data of the run: the arrays as the call finds them, the inputs' buffers at their blocks, the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
  Φ t := Inv m c t.val (Nat.le_of_lt_succ t.isLt)
  q w := Pipeline.shareOf spec0 w
  owed _ := 0

/-- The proved contents of a window's array are the ones it starts with. -/
theorem A_eq (c : Dev nD) (w : Fin cfg0.W) : (dats m 0 c).A w = V m c (Pipeline.arrRef spec0 w) := by
  dsimp only [dats]

/-- The states that a point leaves, -/
theorem after0_7 (c : Dev nD) (t : Fin cfg0.N) : (dats m 0 c).after 7 t = (outs m c t.val t.isLt).1 := by
  dsimp only [dats]

/-- and the output. -/
theorem after0_8 (c : Dev nD) (t : Fin cfg0.N) : (dats m 0 c).after 8 t = (outs m c t.val t.isLt).2.1 := by
  dsimp only [dats]

/-- The inputs' buffers hold their blocks after the body, -/
theorem after_in (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t ∧ (dats m 0 c).after 5 t = iblk m c 5 t ∧ (dats m 0 c).after 6 t = iblk m c 6 t := by
  dsimp only [dats]
  exact ⟨rfl, rfl, rfl, rfl, rfl, rfl, rfl⟩

/-- and before it. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) :=
  ⟨before0_0_of m _ (A_eq m c 0) (fun t => (after_in m c t).1) t, before0_1_of m _ (A_eq m c 1) (fun t => (after_in m c t).2.1) t, before0_2_of m _ (A_eq m c 2) (fun t => (after_in m c t).2.2.1) t, before0_3_of m _ (A_eq m c 3) (fun t => (after_in m c t).2.2.2.1) t, before0_4_of m _ (A_eq m c 4) (fun t => (after_in m c t).2.2.2.2.1) t, before0_5_of m _ (A_eq m c 5) (fun t => (after_in m c t).2.2.2.2.2.1) t, before0_6_of m _ (A_eq m c 6) (fun t => (after_in m c t).2.2.2.2.2.2) t⟩

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 2000000 in
/-- The body at a point, from a run of it and what its stores read back as. -/
theorem body_of_run (c : Dev nD) (t : Fin cfg0.N) (P12 P13 : sProp (MT nD τ sig Unit (Elt F) ℕ (UR sig nD τ) ℕ))
    (L8 : List (View.Piece (Elt F) S256x1280 .f32)) (L9 : Vec F S256x1280 .f32 → List (View.Piece (Elt F) S256x1280 .bf16))
    (L12 : List (View.Piece (Elt F) S8x1280 .f32)) (L13 : List (View.Piece (Elt F) S1x1280 .f32))
    (e8 : ∀ f, (ms0_7 t).view.read (Elt F) ((ms0_7 t).view.writes (Elt F) f L8) = (outs m c t.val t.isLt).1)
    (e9 : ∀ x8 f, (ms0_8 t).view.read (Elt F) ((ms0_8 t).view.writes (Elt F) f (L9 x8)) = (outs m c t.val t.isLt).2.1)
    (e12 : ∀ f, scM0_2.view.read (Elt F) (scM0_2.view.writes (Elt F) f L12) = (outs m c t.val t.isLt).2.2.1)
    (e13 : ∀ f, scM0_3.view.read (Elt F) (scM0_3.view.writes (Elt F) f L13) = (outs m c t.val t.isLt).2.2.2)
    (hS : (dats m 0 c).Φ t.castSucc ⊢ iprop(iprop((∃ d, owns (c : Thread nD τ) scM0_0 fullShare d) ∗ (∃ d, owns (c : Thread nD τ) scM0_1 fullShare d) ∗ P12 ∗ P13) ∗ (∃ r, prngReg c r)))
    (run : ∀ (x8 : Vec F S256x1280 .f32) (E : Set ℕ) (K : PUnit → sProp (MT nD τ sig Unit (Elt F) ℕ (UR sig nD τ) ℕ)),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare x8 ∗ (∃ d, owns (c : Thread nD τ) (ms0_8 t) fullShare d) ∗ (∃ d, owns (c : Thread nD τ) scM0_0 fullShare d) ∗ (∃ d, owns (c : Thread nD τ) scM0_1 fullShare d) ∗ P12 ∗ P13
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
          ∗ (∃ f, (ms0_7 t).view.loc (c : Thread nD τ) ↦[(ms0_7 t).view.set]{fullShare} (ms0_7 t).view.writes (Elt F) f L8)
          ∗ (∃ f, (ms0_8 t).view.loc (c : Thread nD τ) ↦[(ms0_8 t).view.set]{fullShare} (ms0_8 t).view.writes (Elt F) f (L9 x8))
          ∗ (∃ f, scM0_0.view.loc (c : Thread nD τ) ↦[scM0_0.view.set]{fullShare} f) ∗ (∃ f, scM0_1.view.loc (c : Thread nD τ) ↦[scM0_1.view.set]{fullShare} f)
          ∗ (∃ f, scM0_2.view.loc (c : Thread nD τ) ↦[scM0_2.view.set]{fullShare} scM0_2.view.writes (Elt F) f L12)
          ∗ (∃ f, scM0_3.view.loc (c : Thread nD τ) ↦[scM0_3.view.set]{fullShare} scM0_3.view.writes (Elt F) f L13)) -∗ K ⟨⟩))
      ⊢ wp frame (wpE (defs₀ (F := F)) Variants.none c none) E (bodyAt0 t) K) :
    bodyPre m c t ⊢ wp frame (wpE (defs₀ (F := F)) Variants.none c none) Set.univ (bodyAt0 t) (fun _ => bodyPost m c t) := by
  obtain ⟨a0, a1, a2, a3, a4, a5, a6⟩ := after_in m c t
  obtain ⟨b0, b1, b2, b3, b4, b5, b6⟩ := before_in m c t
  unfold bodyPre bodyPost
  simp only [b0, b1, b2, b3, b4, b5, b6]
  rw [show (dats m 0 c).owesAt () t.succ = (dats m 0 c).owesAt () t.castSucc from rfl,
    a0, a1, a2, a3, a4, a5, a6, after0_7, after0_8,
    show (dats m 0 c).Φ t.succ = Inv m c (t.val + 1) t.isLt from rfl]
  unfold Inv
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ := hS $$ HΦ
  icases HΦ with ⟨⟨HA, HB, HC, HD⟩, Hg⟩
  iapply (run _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HA]; · iexact HA
  isplitl [HB]; · iexact HB
  isplitl [HC]; · iexact HC
  isplitl [HD]; · iexact HD
  iintro ⟨H0, H1, H2, H3, H4, H5, H6, ⟨%f7, H7⟩, ⟨%f8, H8⟩, ⟨%fA, HA⟩, ⟨%fB, HB⟩, ⟨%fC, HC⟩, ⟨%fD, HD⟩⟩
  isplitl [HA HB HC HD Hg]
  · isplitl [HA HB HC HD]
    · isplitl [HA]
      · unfold owns; iexists _; iexists fA; isplitr
        swap; · iexact HA
        ipureintro; rfl
      isplitl [HB]
      · unfold owns; iexists _; iexists fB; isplitr
        swap; · iexact HB
        ipureintro; rfl
      isplitl [HC]
      · unfold owns; iexists _; isplitr
        swap; · iexact HC
        ipureintro; exact e12 _
      unfold owns; iexists _; isplitr
      swap; · iexact HD
      ipureintro; exact e13 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact e8 _
  unfold owns; iexists _; isplitr
  swap; · iexact H8
  ipureintro; exact e9 _ _

/-- The run of the body at a point where a sequence starts. -/
def runA (c : Dev nD) (t : Fin cfg0.N) (h : t.val % 8 = 0) :=
  bodyA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t)

/-- The run of the body at a point inside a sequence. -/
def runB (c : Dev nD) (t : Fin cfg0.N) (h : ¬t.val % 8 = 0) :=
  bodyB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun e => h ((start_iff t).mp e)) (iblk m c 0 t) (iblk m c 1 t) (iblk m c 2 t) (iblk m c 3 t) (iblk m c 4 t) (iblk m c 5 t) (iblk m c 6 t) (before m c t).2.2.1 (before m c t).2.2.2

set_option maxHeartbeats 800000 in
/-- The body at every point. -/
theorem body_at (c : Dev nD) (t : Fin cfg0.N) :
    bodyPre m c t ⊢ wp frame (wpE (defs₀ (F := F)) Variants.none c none) Set.univ (bodyAt0 t) (fun _ => bodyPost m c t) := by
  have hΦ : (dats m 0 c).Φ t.castSucc = Inv m c t.val (Nat.le_of_lt t.isLt) := by
    dsimp only [dats]; exact Pipeline.Dat.Φ_castSucc (Inv m c) t
  by_cases h : t.val % 8 = 0
  · by_cases hz : t.val = 0
    · have hS : (dats m 0 c).Φ t.castSucc = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
        rw [hΦ, ← PhiA0_eq]
        simp only [hz]
        rfl
      refine body_of_run m c t _ _ (runA m c t h).1 (runA m c t h).2.1 (runA m c t h).2.2.1 (runA m c t h).2.2.2.1
        (fun f => ?_) (fun x8 f => ?_) (fun f => ?_) (fun f => ?_) ?_ (fun x8 E K => by unfold bodyAt0; exact (runA m c t h).2.2.2.2 x8 E K)
      · rw [outs_A m c t h]; exact statesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t) f
      · rw [outs_A m c t h]; exact outputA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t) x8 f
      · rw [outs_A m c t h]; exact rowsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t) f
      · rw [outs_A m c t h]; exact lastA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t) f
      · rw [hS]
    · have hS : (dats m 0 c).Φ t.castSucc ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
        rw [hΦ, Inv_pos m c _ _ hz]
        iintro ⟨⟨HA, HB, HC, HD⟩, Hg⟩
        isplitr [Hg]
        swap; · iexact Hg
        isplitl [HA]; · iexact HA
        isplitl [HB]; · iexact HB
        isplitl [HC]; · iexists _; iexact HC
        iexists _; iexact HD
      refine body_of_run m c t _ _ (runA m c t h).1 (runA m c t h).2.1 (runA m c t h).2.2.1 (runA m c t h).2.2.2.1
        (fun f => ?_) (fun x8 f => ?_) (fun f => ?_) (fun f => ?_) ?_ (fun x8 E K => by unfold bodyAt0; exact (runA m c t h).2.2.2.2 x8 E K)
      · rw [outs_A m c t h]; exact statesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t) f
      · rw [outs_A m c t h]; exact outputA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t) x8 f
      · rw [outs_A m c t h]; exact rowsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t) f
      · rw [outs_A m c t h]; exact lastA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((start_iff t).mpr h) (iblk m c 0 t) (iblk m c 1 t) (iblk m c 2 t) (iblk m c 3 t) (iblk m c 4 t) (iblk m c 5 t) (iblk m c 6 t) f
      · exact hS
  · refine body_of_run m c t _ _ (runB m c t h).1 (runB m c t h).2.1 (runB m c t h).2.2.1 (runB m c t h).2.2.2.1
      (fun f => ?_) (fun x8 f => ?_) (fun f => ?_) (fun f => ?_) ?_ (fun x8 E K => by unfold bodyAt0; exact (runB m c t h).2.2.2.2 x8 E K)
    · rw [outs_B m c t h]; exact statesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun e => h ((start_iff t).mp e)) (iblk m c 0 t) (iblk m c 1 t) (iblk m c 2 t) (iblk m c 3 t) (iblk m c 4 t) (iblk m c 5 t) (iblk m c 6 t) (before m c t).2.2.1 (before m c t).2.2.2 f
    · rw [outs_B m c t h]; exact outputB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun e => h ((start_iff t).mp e)) (iblk m c 0 t) (iblk m c 1 t) (iblk m c 2 t) (iblk m c 3 t) (iblk m c 4 t) (iblk m c 5 t) (iblk m c 6 t) (before m c t).2.2.1 (before m c t).2.2.2 x8 f
    · rw [outs_B m c t h]; exact rowsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun e => h ((start_iff t).mp e)) (iblk m c 0 t) (iblk m c 1 t) (iblk m c 2 t) (iblk m c 3 t) (iblk m c 4 t) (iblk m c 5 t) (iblk m c 6 t) (before m c t).2.2.1 (before m c t).2.2.2 f
    · rw [outs_B m c t h]; exact lastB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun e => h ((start_iff t).mp e)) (iblk m c 0 t) (iblk m c 1 t) (iblk m c 2 t) (iblk m c 3 t) (iblk m c 4 t) (iblk m c 5 t) (iblk m c 6 t) (before m c t).2.2.1 (before m c t).2.2.2 f
    · rw [hΦ.trans (Inv_pos m c _ _ (fun e => h (by rw [e])))]

/-- The obligation of the launch. -/
theorem body_obligation (c : Dev nD) : BodyObligation (dats (F := F) m 0 c) (defs₀ (F := F)) Variants.none () Set.univ :=
  fun t => by
    rw [bigSep_W0, bigSep_W0,
      show defs₀ (F := F) .tc cfg0.body (cfg0.bodyArgs t (cfg0.slots t)) = bodyAt0 t by unfold defs₀; rw [Defs.onTc_tc]]
    exact triple_restated (body_at m c t) rfl .rfl fun _ => .rfl

/-- What the launch hands over is what holds before the first point, -/
theorem hin (c : Dev nD) : Pipeline.ΦA spec0 c ⊢ (dats m 0 c).Φ 0 := Idealize.SL.BI.Entails.refl _

/-- and what holds after the last gives it back. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 32 := N_0; omega), PhiA0_eq]
  iintro ⟨⟨HA, HB, HC, HD⟩, Hg⟩
  isplitr [Hg]
  swap; · iexact Hg
  isplitl [HA]; · iexact HA
  isplitl [HB]; · iexact HB
  isplitl [HC]; · iexists _; iexact HC
  iexists _; iexact HD

set_option backward.isDefEq.respectTransparency.types false in
/-- The run: every array ends at what the points wrote, every semaphore at zero. -/
theorem run_quiet : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run with the arrays alone. -/
theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.LruFwdIdeal.Run

end
-- ==== Proof.LruFrame.lean ====
/- The frame of the recurrence's forward call at the machine's floats, and what its idealization keeps of it. -/
module

public import proofs.«01_k».proof.Defs
public import proofs.«01_k».proof.Proof.Gen.LruFwd
public import proofs.«01_k».proof.Proof.Gen.LruFwdIdeal
public import proofs.«01_k».proof.Proof.LruRun

@[expose] public section

noncomputable section

namespace Cert.LruFwdIdeal.Run

open Idealize.ShloMosaic Idealize.SL.Sem

/-- At the machine's floats a named constant is its pattern. -/
@[reducible] def byPattern : Named Bits := ⟨fun _ _ _ bits => Scalar.ofBits (F := Bits) _ bits⟩

/-- The recurrence's kernel at the machine's floats: the same program as at the ideal ones but for the names, so the same run. -/
theorem frame_bits : Cert.quiescent_LruFwd (hLruFwd := Cert.LruFwd.Gen.facts) := by
  intro m ρ _
  have h := @Cert.LruFwdIdeal.Run.frame Bits _ byPattern m ρ
  refine cast ?_ h
  sl_kernel_rfl

/-- The two named constants stand at their patterns' places. -/
theorem preserves : Cert.preserves_LruFwd_LruFwdIdeal :=
  ⟨IdealRules.named_const.statement _ _ _ _ _ rfl, IdealRules.named_const.statement _ _ _ _ _ rfl⟩

end Cert.LruFwdIdeal.Run

end
-- ==== Proof.LruMath.lean ====
/- The mathematics of the recurrent block's forward call: the recurrence, its eight-row groups by doubling steps, and the coefficients
   of the recurrence. -/
module
public import proofs.«01_k».proof.Proof.FfnUpRef

@[expose] public section
noncomputable section
open Idealize.ShloMosaic
open scoped BigOperators

namespace Cert.LruMath
open Cert.Reals Cert.ScMath Cert.FfnMath

/-- The recurrence `h ← a n * h + b n`, `n` steps from `c`. -/
def go (c : EReal) (a b : ℕ → EReal) : ℕ → EReal
  | 0 => c
  | n + 1 => a n * go c a b n + b n

/-- Steps after steps. -/
theorem go_add (c : EReal) (a b : ℕ → EReal) (m : ℕ) : ∀ n, go c a b (m + n) = go (go c a b m) (fun i => a (m + i)) (fun i => b (m + i)) n
  | 0 => rfl
  | n + 1 => by show a (m + n) * go c a b (m + n) + b (m + n) = _; rw [go_add c a b m n]; rfl

/-- The recurrence looks at no more coefficients than its steps. -/
theorem go_congr (c : EReal) {a b a' b' : ℕ → EReal} : ∀ n, (∀ i, i < n → a i = a' i) → (∀ i, i < n → b i = b' i) → go c a b n = go c a' b' n
  | 0, _, _ => rfl
  | n + 1, ha, hb => by
    show a n * go c a b n + b n = a' n * go c a' b' n + b' n
    rw [ha n (Nat.lt_succ_self n), hb n (Nat.lt_succ_self n), go_congr c n (fun i hi => ha i (hi.trans (Nat.lt_succ_self n))) (fun i hi => hb i (hi.trans (Nat.lt_succ_self n)))]

/-- A factor that is a real number and not negative. -/
def Fac (x : EReal) : Prop := ∃ y : ℝ, 0 ≤ y ∧ x = y

/-- It multiplies out. -/
theorem Fac.mul_add {x : EReal} (h : Fac x) (u v : EReal) : x * (u + v) = x * u + x * v := by
  obtain ⟨y, hy, rfl⟩ := h
  exact EReal.left_distrib_of_nonneg_of_ne_top (EReal.coe_nonneg.2 hy) (EReal.coe_ne_top y) u v

/-- One doubling step over eight rows, of the products, -/
def dblA (d : ℕ) (A : ℕ → EReal) (r : ℕ) : EReal := if d ≤ r then A r * A ((r + 8 - d) % 8) else A r

/-- and of the sums. -/
def dblB (d : ℕ) (A B : ℕ → EReal) (r : ℕ) : EReal := if d ≤ r then A r * B ((r + 8 - d) % 8) + B r else B r

/-- Three doubling steps and the carried state give the recurrence's eight states. -/
theorem doubling (c : EReal) (a b : ℕ → EReal) (ha : ∀ n, n < 8 → Fac (a n)) (r : ℕ) (hr : r < 8) :
    dblA 4 (dblA 2 (dblA 1 a)) r * c + dblB 4 (dblA 2 (dblA 1 a)) (dblB 2 (dblA 1 a) (dblB 1 a b)) r = go c a b (r + 1) := by
  have e1 := (ha 1 (by omega)).mul_add
  have e2 := (ha 2 (by omega)).mul_add
  have e3 := (ha 3 (by omega)).mul_add
  have e4 := (ha 4 (by omega)).mul_add
  have e5 := (ha 5 (by omega)).mul_add
  have e6 := (ha 6 (by omega)).mul_add
  have e7 := (ha 7 (by omega)).mul_add
  interval_cases r <;> simp [dblA, dblB, go, e1, e2, e3, e4, e5, e6, e7, mul_assoc, add_assoc]

/-- The softplus of `-lam`, -/
def spn (lam : EReal) : EReal := max (-lam) 0 + Ideal.log (1 + Ideal.exp (-FloatOps.absf (F := Ideal) (φ := .f32) (-lam)))

/-- the logarithm of the recurrence's factor, -/
def la (g lam : EReal) : EReal := ((-8 : ℝ) : EReal) * sig g * spn lam

/-- and the recurrence's input. -/
def bE (g gi x lam : EReal) : EReal := Ideal.sqrt (1 - Ideal.exp (((2 : ℝ) : EReal) * la g lam)) * (sig gi * x)

/-- The logistic function lies between zero and one. -/
theorem sig_real_nonneg (x : EReal) : Fac (sig x) := by
  induction x with
  | coe x => exact ⟨_, by have := Real.exp_pos (-x); positivity, sig_real x⟩
  | bot =>
    refine ⟨0, le_rfl, ?_⟩
    unfold sig
    rw [EReal.neg_bot, show Ideal.exp ⊤ = ⊤ from rfl]
    simp [Ideal.div, ← EReal.coe_one]
  | top =>
    refine ⟨1, zero_le_one, ?_⟩
    unfold sig
    rw [EReal.neg_top, show Ideal.exp ⊥ = 0 from rfl]
    simp [Ideal.div]

/-- The logarithm of one and an exponential is not negative. -/
theorem log_nonneg (x : EReal) : 0 ≤ Ideal.log (1 + Ideal.exp x) := by
  induction x with
  | coe x =>
    have p := Real.exp_pos x
    have e : Ideal.log (1 + Ideal.exp (x : EReal)) = ((Real.log (1 + Real.exp x) : ℝ) : EReal) := by
      show Ideal.log (1 + ((Real.exp x : ℝ) : EReal)) = _
      rw [← EReal.coe_one, ← EReal.coe_add]
      show (if _ then _ else _) = _
      rw [if_neg (by linarith)]
    rw [e]
    exact EReal.coe_nonneg.2 (Real.log_nonneg (by linarith))
  | bot =>
    rw [show Ideal.exp ⊥ = 0 from rfl, add_zero, ← EReal.coe_one]
    show 0 ≤ (if (1 : ℝ) ≤ 0 then ⊥ else ((Real.log 1 : ℝ) : EReal))
    rw [if_neg (by norm_num), Real.log_one]
    exact le_rfl
  | top =>
    rw [show Ideal.exp ⊤ = ⊤ from rfl, ← EReal.coe_one, EReal.coe_add_top]
    exact le_top

/-- The softplus is not negative. -/
theorem spn_nonneg (lam : EReal) : 0 ≤ spn lam := by
  unfold spn
  refine add_nonneg (le_max_right _ _) ?_
  exact log_nonneg _

/-- The factor's logarithm is not positive, -/
theorem la_nonpos (g lam : EReal) : la g lam ≤ 0 := by
  obtain ⟨y, hy, e⟩ := sig_real_nonneg g
  unfold la
  rw [e, ← EReal.coe_mul]
  exact mul_nonpos_of_nonpos_of_nonneg (EReal.coe_nonpos.2 (by linarith)) (spn_nonneg lam)

/-- so the factor is a real number. -/
theorem exp_fac {x : EReal} (h : x ≤ 0) : Fac (Ideal.exp x) := by
  induction x with
  | coe x => exact ⟨_, (Real.exp_pos x).le, rfl⟩
  | bot => exact ⟨0, le_rfl, rfl⟩
  | top => exact absurd h (by simp)

/-- The factor's square is a real number too. -/
theorem exp_two (g lam : EReal) : Fac (Ideal.exp (((2 : ℝ) : EReal) * la g lam)) :=
  exp_fac (mul_nonpos_of_nonneg_of_nonpos (EReal.coe_nonneg.2 zero_le_two) (la_nonpos g lam))

/-- The pattern of −8. -/
theorem cneg8 : Ideal.ofBits .f32 0xC1000000#32 = ((-8 : ℝ) : EReal) := by
  simp [Ideal.ofBits, Ideal.ieee, -EReal.coe_mul, -EReal.coe_neg]; norm_num

end Cert.LruMath
end
-- ==== Proof.LruSpec.lean ====
/- The forward pass of the recurrent block row by row: the convolution, the two gates, the factor and the
   input of the recurrence, its states and the gated output. -/
module
public import proofs.«01_k».proof.Proof.LruMath
public import proofs.«01_k».proof.Proof.Reals

@[expose] public section
set_option maxRecDepth 16384
noncomputable section
open Idealize.ShloMosaic Idealize.ShloMosaic.TcCoe
open scoped BigOperators

namespace Cert.LruMath

/-- The inputs: a row is a sequence's number times 2048 plus its time. -/
structure Inp where
  /-- the gate branch, -/
  g : ℕ → Fin 1280 → EReal
  /-- the recurrent branch, -/
  X : ℕ → Fin 1280 → EReal
  /-- the convolution's taps -/
  w : Fin 4 → Fin 1280 → EReal
  /-- and bias, -/
  cb : Fin 1280 → EReal
  /-- the gates' weights -/
  wg : Fin 10 → Fin 128 → Fin 256 → EReal
  /-- and biases, -/
  bg : Fin 10 → Fin 256 → EReal
  /-- and the recurrence's parameter. -/
  lam : Fin 1280 → EReal

namespace Inp
variable (P : Inp)

/-- Row `k` before row `r` of its sequence, zero before its first. -/
def prev (k r : ℕ) (l : Fin 1280) : EReal := if r % 2048 < k then 0 else P.X (r - k) l

/-- The convolved branch. -/
def xc (r : ℕ) (l : Fin 1280) : EReal := P.cb l + P.w 0 l * P.prev 3 r l + P.w 1 l * P.prev 2 r l + P.w 2 l * P.prev 1 r l + P.w 3 l * P.X r l

/-- A head's gates before the logistic function. -/
def gate (r : ℕ) (h : Fin 10) (c : Fin 256) : EReal := (∑ x : Fin 128, P.xc r ⟨h.val * 128 + x.val, by omega⟩ * P.wg h x c) + P.bg h c

/-- A lane's head, -/
def hd (l : Fin 1280) : Fin 10 := ⟨l.val / 128, by omega⟩

/-- its recurrence gate -/
def gR (r : ℕ) (l : Fin 1280) : EReal := P.gate r (hd l) ⟨l.val % 128, by omega⟩

/-- and its input gate. -/
def gI (r : ℕ) (l : Fin 1280) : EReal := P.gate r (hd l) ⟨128 + l.val % 128, by omega⟩

/-- The recurrence's factor -/
def a (r : ℕ) (l : Fin 1280) : EReal := Ideal.exp (la (P.gR r l) (P.lam l))

/-- and input. -/
def b (r : ℕ) (l : Fin 1280) : EReal := bE (P.gR r l) (P.gI r l) (P.xc r l) (P.lam l)

/-- The state after `n` rows from row `s`, -/
def st (s n : ℕ) (l : Fin 1280) : EReal := go 0 (fun i => P.a (s + i) l) (fun i => P.b (s + i) l) n

/-- and the state at a row. -/
def hs (r : ℕ) (l : Fin 1280) : EReal := P.st (r - r % 2048) (r % 2048 + 1) l

/-- The factor is a real number and not negative. -/
theorem a_fac (r : ℕ) (l : Fin 1280) : Fac (P.a r l) := exp_fac (la_nonpos _ _)

end Inp

/-- The gate branch's function, with the hyperbolic tangent. -/
def gel (g : EReal) : EReal :=
  g * (((1 / 2 : ℝ) : EReal) * (1 + Ideal.tanh (Ideal.ofBits .f32 0x3F4C422A#32 * (g + Ideal.ofBits .f32 0x3D372713#32 * (g * g * g)))))

end Cert.LruMath
end
-- ==== Proof.LruSteps.lean ====
/- The states of a block's rows are the recurrence's: eight rows by three doubling steps, and the eight after those. -/
module
public import proofs.«01_k».proof.Proof.LruLoop
public import proofs.«01_k».proof.Proof.LruSpec
public import proofs.«01_k».proof.Proof.FfnMath
public import Idealize.ShloMosaic.Lib.Pointwise
public import Idealize.ShloMosaic.Lib.Pipeline.ValueKit

@[expose] public section
set_option maxRecDepth 16384
noncomputable section
open Idealize.ShloMosaic Idealize.ShloMosaic.TcCoe
open scoped BigOperators

namespace Cert.LruFwdIdeal.Val
open Cert.LruFwdIdeal Cert.LruFwdIdeal.Gen Cert.LruFwdIdeal.Run Cert.LruMath

/-- Lane `l`'s eight numbers as a sequence. -/
def seq8 (A : Vec Ideal S8x1280 .f32) (l : Fin 1280) (i : ℕ) : EReal := if h : i < 8 then A (ix2 ⟨i, h⟩ l) else 0

/-- The states of eight rows. -/
theorem pay2_at (A B : Vec Ideal S8x1280 .f32) (h : Vec Ideal S1x1280 .f32) (r : Fin 8) (l : Fin 1280) :
    k0_pay2 (F := Ideal) rowNo h A B (ix2 r l)
      = dblA 4 (dblA 2 (dblA 1 (seq8 A l))) r.val * h (ix2 0 l)
        + dblB 4 (dblA 2 (dblA 1 (seq8 A l))) (dblB 2 (dblA 1 (seq8 A l)) (dblB 1 (seq8 A l) (seq8 B l))) r.val := by
  fin_cases r <;> pointwise [k0_pay2, rowNo] <;> rfl

/-- The last of eight rows. -/
theorem pay47_at (x : Vec Ideal S8x1280 .f32) (l : Fin 1280) :
    k0_pay47 (F := Ideal) x (ix2 0 l) = ∑ r : Fin 8, x (ix2 r l) := by
  pointwise [k0_pay47]
  done

/-- The state after eight rows. -/
theorem pay3_at (A B : Vec Ideal S8x1280 .f32) (h : Vec Ideal S1x1280 .f32) (r : Fin 8) (l : Fin 1280) :
    k0_pay3 (F := Ideal) rowNo h A B (ix2 r l) = if r = 7 then k0_pay2 (F := Ideal) rowNo h A B (ix2 r l) else 0 := by
  fin_cases r <;> pointwise [k0_pay3] <;> rfl

/-- Rows `8 k` to `8 k + 7` of lane `l`, by the carried state. -/
theorem pay2_go (A B : Vec Ideal S8x1280 .f32) (h : Vec Ideal S1x1280 .f32) (l : Fin 1280) (a b : ℕ → EReal) (hf : ∀ n, Fac (a n))
    (ha : ∀ r : Fin 8, A (ix2 r l) = a r.val) (hb : ∀ r : Fin 8, B (ix2 r l) = b r.val) (r : Fin 8) :
    k0_pay2 (F := Ideal) rowNo h A B (ix2 r l) = go (h (ix2 0 l)) a b (r.val + 1) := by
  have at8 : ∀ (C : Vec Ideal S8x1280 .f32) (c : ℕ → EReal), (∀ r : Fin 8, C (ix2 r l) = c r.val) → ∀ n, n < 8 → seq8 C l n = c n :=
    fun C c hC n h => (dif_pos h).trans (hC ⟨n, h⟩)
  rw [pay2_at, doubling _ _ _ (fun n h => (at8 A a ha n h).symm ▸ hf n) r.val r.isLt]
  exact go_congr _ _ (fun i hi => at8 A a ha i (by omega)) (fun i hi => at8 B b hb i (by omega))

/-- The state before the `k`-th eight rows is the recurrence's after `8 k` steps. -/
theorem state_go (A B : Vec Ideal S256x1280 .f32) (h : Vec Ideal S1x1280 .f32) (l : Fin 1280) (a b : ℕ → EReal) (hf : ∀ n, Fac (a n))
    (ha : ∀ r : Fin 256, A (ix2 r l) = a r.val) (hb : ∀ r : Fin 256, B (ix2 r l) = b r.val) :
    ∀ k, k ≤ 32 → state A B h k (ix2 0 l) = go (h (ix2 0 l)) a b (8 * k)
  | 0, _ => rfl
  | k + 1, hk => by
    have ih := state_go A B h l a b hf ha hb k (by omega)
    rw [state_succ A B h k (by omega), pay47_at]
    simp only [pay3_at]
    rw [Finset.sum_ite_eq' Finset.univ (7 : Fin 8), if_pos (Finset.mem_univ _)]
    rw [pay2_go _ _ _ l (fun i => a (8 * k + i)) (fun i => b (8 * k + i)) (fun i => hf _) (fun r => ha _) (fun r => hb _), ih]
    exact (go_add _ _ _ (8 * k) 8).symm

/-- The states of a block's rows are the recurrence's from the carried state. -/
theorem states_go (A B : Vec Ideal S256x1280 .f32) (h : Vec Ideal S1x1280 .f32) (l : Fin 1280) (a b : ℕ → EReal) (hf : ∀ n, Fac (a n))
    (ha : ∀ r : Fin 256, A (ix2 r l) = a r.val) (hb : ∀ r : Fin 256, B (ix2 r l) = b r.val) (r : Fin 256) :
    states A B h (ix2 r l) = go (h (ix2 0 l)) a b (r.val + 1) := by
  have ih := state_go A B h l a b hf ha hb (r.val / 8) (by omega)
  refine (pay2_go _ _ _ l (fun i => a (8 * (r.val / 8) + i)) (fun i => b (8 * (r.val / 8) + i)) (fun i => hf _) (fun r => ha _) (fun r => hb _) _).trans ?_
  refine (congrArg (fun x => go x (fun i => a (8 * (r.val / 8) + i)) (fun i => b (8 * (r.val / 8) + i)) (r.val % 8 + 1)) ih).trans ?_
  refine (go_add _ _ _ (8 * (r.val / 8)) (r.val % 8 + 1)).symm.trans ?_
  rw [show 8 * (r.val / 8) + (r.val % 8 + 1) = r.val + 1 by omega]

end Cert.LruFwdIdeal.Val
end
-- ==== Proof.LruCoef.lean ====
/- The convolution, the gates and the two coefficients of the recurrence's kernel, element by element. -/
module
public import proofs.«01_k».proof.Proof.LruLoop
public import proofs.«01_k».proof.Proof.LruSpec
public import proofs.«01_k».proof.Proof.FfnMath
public import Idealize.ShloMosaic.Lib.Pointwise
public import Idealize.ShloMosaic.Lib.Pipeline.ValueKit

@[expose] public section
set_option maxRecDepth 16384
noncomputable section
open Idealize.ShloMosaic Idealize.ShloMosaic.TcCoe
open scoped BigOperators

namespace Cert.LruFwdIdeal.Val
open Cert.LruFwdIdeal Cert.LruFwdIdeal.Gen Cert.LruFwdIdeal.Run Cert.LruMath Cert.Reals

/-- The threshold of the logarithm's series is named as minus infinity, -/
theorem small : Named.named (F := Ideal) κ "small" (φ := .f32) 0x3A83126F#32 = (⊥ : EReal) := IdealRules.named_const.ideal_named_scalar _ _ _ _ rfl
/-- that of the exponential's as infinity. -/
theorem near_zero : Named.named (F := Ideal) κ "near_zero" (φ := .f32) 0xBCA3D70A#32 = (⊤ : EReal) := IdealRules.named_const.ideal_named_scalar _ _ _ _ rfl

/-- The logarithm of the decay. -/
theorem pay40_at (G : Vec Ideal S256x1280 .f32) (x7 : Vec Ideal S1x1280 .f32) (r : Fin 256) (l : Fin 1280) (g : EReal)
    (hg : G (ix2 r l) = FfnMath.sig g) : k0_pay40 (F := Ideal) G x7 (ix2 r l) = la g (x7 (ix2 0 l)) := by
  pointwise [k0_pay40]
  rw [hg, small, if_neg not_lt_bot, cneg8, zero_sub, zero_sub]
  rfl

/-- The decay. -/
theorem coefA_at (v : Vec Ideal S256x1280 .f32) (W : Fin 10 → Vec Ideal S1x128x256 .bf16) (B : Fin 10 → Vec Ideal S1x256 .f32) (x7 : Vec Ideal S1x1280 .f32)
    (r : Fin 256) (l : Fin 1280) (g : EReal) (hg : gateR v W B (ix2 r l) = FfnMath.sig g) :
    coefA v W B x7 (ix2 r l) = Ideal.exp (la g (x7 (ix2 0 l))) := by
  unfold coefA
  pointwise [k0_pay45, k0_pay41]
  rw [pay40_at _ _ r l g hg]

/-- What a row adds to the state. -/
theorem coefB_at (v : Vec Ideal S256x1280 .f32) (W : Fin 10 → Vec Ideal S1x128x256 .bf16) (B : Fin 10 → Vec Ideal S1x256 .f32) (x7 : Vec Ideal S1x1280 .f32)
    (r : Fin 256) (l : Fin 1280) (g gi : EReal) (hg : gateR v W B (ix2 r l) = FfnMath.sig g)
    (hi : k0_pay39 (F := Ideal) (gateI v W B) (ix2 r l) = FfnMath.sig gi) :
    coefB v W B x7 (ix2 r l) = bE g gi (v (ix2 r l)) (x7 (ix2 0 l)) := by
  have h2 : k0_pay42 (F := Ideal) (gateR v W B) x7 (ix2 r l) = ((2 : ℝ) : EReal) * la g (x7 (ix2 0 l)) := by
    pointwise [k0_pay42]
    rw [pay40_at _ _ r l g hg, c2]
  unfold coefB
  pointwise [k0_pay46]
  rw [near_zero, if_neg not_top_lt, h2, hi]
  rfl

/-- The convolution: each tap on a row of the block or, before its start, of the carried rows. -/
theorem conv_at (x2 : Vec Ideal S256x1280 .bf16) (x3 : Vec Ideal S4x1280 .f32) (x4 : Vec Ideal S1x1280 .f32) (p : Vec Ideal S8x1280 .f32)
    (r : Fin 256) (l : Fin 1280) : conv x2 x3 x4 p (ix2 r l) = x4 (ix2 0 l)
      + x3 (ix2 0 l) * (if h : (8 + r.val + 264 - 3) % 264 < 8 then p (ix2 ⟨(8 + r.val + 264 - 3) % 264, h⟩ l)
          else x2 (ix2 ⟨(8 + r.val + 264 - 3) % 264 - 8, by omega⟩ l))
      + x3 (ix2 1 l) * (if h : (8 + r.val + 264 - 2) % 264 < 8 then p (ix2 ⟨(8 + r.val + 264 - 2) % 264, h⟩ l)
          else x2 (ix2 ⟨(8 + r.val + 264 - 2) % 264 - 8, by omega⟩ l))
      + x3 (ix2 2 l) * (if h : (8 + r.val + 264 - 1) % 264 < 8 then p (ix2 ⟨(8 + r.val + 264 - 1) % 264, h⟩ l)
          else x2 (ix2 ⟨(8 + r.val + 264 - 1) % 264 - 8, by omega⟩ l))
      + x3 (ix2 3 l) * x2 (ix2 r l) := by
  unfold conv
  pointwise [k0_pay7, k0_pay6]
  done

set_option maxHeartbeats 4000000 in
/-- The recurrence gate: the head's block product, the bias, the logistic function. -/
theorem gateR_at (v : Vec Ideal S256x1280 .f32) (W : Fin 10 → Vec Ideal S1x128x256 .bf16) (B : Fin 10 → Vec Ideal S1x256 .f32)
    (r : Fin 256) (h : Fin 10) (j : Fin 128) (l : Fin 1280) (hl : l.val = h.val * 128 + j.val) : gateR v W B (ix2 r l)
      = FfnMath.sigT ((∑ x : Fin 128, v (ix2 r ⟨h.val * 128 + x.val, by omega⟩) * W h (ix3 0 x ⟨j.val, by omega⟩)) + B h (ix2 0 ⟨j.val, by omega⟩)) := by
  unfold gateR FfnMath.sigT
  pointwise [k0_pay37, k0_pay11, k0_pay10, k0_pay14, k0_pay13, k0_pay17, k0_pay16, k0_pay19, k0_pay20, k0_pay21, k0_pay22, k0_pay24, k0_pay25, k0_pay26, k0_pay27, k0_pay28, k0_pay29, k0_pay30, k0_pay31, k0_pay32, k0_pay33, k0_pay34, k0_pay35, k0_pay36]
  rw [cHalf]
  have e : ∀ (n : ℕ) (hn : n < 256), n = j.val → ∀ hj : j.val < 256, (⟨n, hn⟩ : Fin 256) = ⟨j.val, hj⟩ := fun n hn h hj => Fin.ext h
  fin_cases h
  all_goals
    dsimp only at hl
    repeat rw [dif_neg (by omega)]
    try rw [dif_pos (by omega)]
    rw [e _ _ (by omega) (by omega)]
    rfl

set_option maxHeartbeats 4000000 in
/-- The input gate, the same on the other half of the head's lanes. -/
theorem gateI_at (v : Vec Ideal S256x1280 .f32) (W : Fin 10 → Vec Ideal S1x128x256 .bf16) (B : Fin 10 → Vec Ideal S1x256 .f32)
    (r : Fin 256) (h : Fin 10) (j : Fin 128) (l : Fin 1280) (hl : l.val = h.val * 128 + j.val) : k0_pay39 (F := Ideal) (gateI v W B) (ix2 r l)
      = FfnMath.sigT ((∑ x : Fin 128, v (ix2 r ⟨h.val * 128 + x.val, by omega⟩) * W h (ix3 0 x ⟨128 + j.val, by omega⟩)) + B h (ix2 0 ⟨128 + j.val, by omega⟩)) := by
  unfold gateI FfnMath.sigT
  pointwise [k0_pay39, k0_pay38, k0_pay12, k0_pay10, k0_pay15, k0_pay13, k0_pay18, k0_pay16, k0_pay19, k0_pay20, k0_pay21, k0_pay23, k0_pay24, k0_pay25, k0_pay26, k0_pay27, k0_pay28, k0_pay29, k0_pay30, k0_pay31, k0_pay32, k0_pay33, k0_pay34, k0_pay35, k0_pay36]
  rw [cHalf]
  have e : ∀ (n : ℕ) (hn : n < 256), n = 128 + j.val → ∀ hj : 128 + j.val < 256, (⟨n, hn⟩ : Fin 256) = ⟨128 + j.val, hj⟩ := fun n hn h hj => Fin.ext h
  fin_cases h
  all_goals
    dsimp only at hl
    repeat rw [dif_neg (by omega)]
    try rw [dif_pos (by omega)]
    rw [e _ _ (by omega) (by omega)]
    rfl

end Cert.LruFwdIdeal.Val
end
-- ==== Proof.LruRef.lean ====
/- The reference's forward pass of the recurrent block, element by element, and its loop's states. -/
module
public import proofs.«01_k».proof.Proof.LruSpec
public import proofs.«01_k».proof.Proof.FfnMath
public import proofs.«01_k».proof.Proof.Gen.LruFwdRefIdeal.Step
public import Idealize.ShloMosaic.Lib.Pointwise
public import Idealize.ShloMosaic.Lib.Pipeline.ValueKit

@[expose] public section
set_option maxRecDepth 16384
noncomputable section
open Idealize.ShloMosaic Idealize.ShloMosaic.TcCoe
open scoped BigOperators

namespace Cert.LruFwdRefIdeal.Val
open Cert.LruFwdRefIdeal Cert.LruFwdRefIdeal.Gen Cert.LruFwdRefIdeal.Step Cert.LruMath Cert.Reals

variable (x0 : (⟨S8192x2560, .bf16⟩ : BufTy).Contents (Elt Ideal)) (x1 : (⟨S4x1280, .f32⟩ : BufTy).Contents (Elt Ideal)) (x2 : (⟨S1280, .f32⟩ : BufTy).Contents (Elt Ideal))
  (x3 : (⟨S10x128x256, .bf16⟩ : BufTy).Contents (Elt Ideal)) (x4 : (⟨S10x256, .f32⟩ : BufTy).Contents (Elt Ideal)) (x5 : (⟨S1280, .f32⟩ : BufTy).Contents (Elt Ideal))

/-- The arrays hold the numbers of `P`. -/
structure Holds (P : Inp) : Prop where
  g : ∀ (r : Fin 8192) (l : Fin 1280), x0 (ix2 r ⟨l.val, by omega⟩) = P.g r.val l
  X : ∀ (r : Fin 8192) (l : Fin 1280), x0 (ix2 r ⟨1280 + l.val, by omega⟩) = P.X r.val l
  w : ∀ (k : Fin 4) (l : Fin 1280), x1 (ix2 k l) = P.w k l
  cb : ∀ (l : Fin 1280), x2 (ix1 l) = P.cb l
  wg : ∀ (h : Fin 10) (i : Fin 128) (c : Fin 256), x3 (ix3 h i c) = P.wg h i c
  bg : ∀ (h : Fin 10) (c : Fin 256), x4 (ix2 h c) = P.bg h c
  lam : ∀ (l : Fin 1280), x5 (ix1 l) = P.lam l

variable {x0 x1 x2 x3 x4 x5} {P : Inp} (H : Holds x0 x1 x2 x3 x4 x5 P)
include H

/-- The reference's convolved rows, -/
theorem v35_at (b : Fin 4) (t : Fin 2048) (l : Fin 1280) : A_main_v35 x0 x1 x2 x3 x4 x5 (ix3 b t l) = P.xc (b.val * 2048 + t.val) l := by
  pointwise [A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, K_main_v4, K_main_cst, A_main_v3, A_main_v1, A_main_v0]
  have e : ∀ k n : ℕ, k ≤ 3 → n + 3 = t.val + 3 + (3 - k) → ∀ hk : 0 < k, (if h : 3 - k + t.val < 3 then (0 : EReal)
      else x0 (ix2 ⟨b.val * 2048 + (3 - k + t.val - 3), by omega⟩ ⟨1280 + l.val, by omega⟩)) = (P.prev k (b.val * 2048 + t.val) l) := by
    intro k n hk _ h0
    unfold Inp.prev
    by_cases h : t.val < k
    · rw [dif_pos (by omega), if_pos (by omega)]
    · rw [dif_neg (by omega), if_neg (by omega), H.X ⟨b.val * 2048 + (3 - k + t.val - 3), by omega⟩ l]
      exact congrArg (fun i => P.X i l) (show b.val * 2048 + (3 - k + t.val - 3) = b.val * 2048 + t.val - k by omega)
  have e3 := e 3 t.val (by omega) (by omega) (by omega)
  have e2 := e 2 (t.val + 1) (by omega) (by omega) (by omega)
  have e1 := e 1 (t.val + 2) (by omega) (by omega) (by omega)
  simp only [show 3 - 3 + t.val = t.val by omega] at e3
  simp only [show 3 - 2 + t.val = 1 + t.val by omega] at e2
  simp only [show 3 - 1 + t.val = 2 + t.val by omega] at e1
  rw [e3, e2, e1, H.X ⟨b.val * 2048 + t.val, by omega⟩ l, H.w 0 l, H.w 1 l, H.w 2 l, H.w 3 l, H.cb l]
  unfold Inp.xc
  simp only [mul_comm, add_comm, add_left_comm, add_assoc]

/-- its gates before the logistic function, -/
theorem v42_at (b : Fin 4) (t : Fin 2048) (h : Fin 10) (c : Fin 256) : A_main_v42 x0 x1 x2 x3 x4 x5 (ix4 b t h c) = P.gate (b.val * 2048 + t.val) h c := by
  pointwise [A_main_v42, A_main_v41, A_main_v40, A_main_v39, A_main_v38, A_main_v37, A_main_v36]
  simp only [v35_at H, H.wg, H.bg]
  unfold Inp.gate
  congr 1
  exact Finset.sum_congr rfl fun x _ => mul_comm _ _

/-- the recurrence gate, -/
theorem v51_at (b : Fin 4) (t : Fin 2048) (l : Fin 1280) : A_main_v51 x0 x1 x2 x3 x4 x5 (ix3 b t l) = FfnMath.sig (P.gR (b.val * 2048 + t.val) l) := by
  pointwise [A_main_v51, A_main_v50, A_main_v48, A_main_v46, A_main_v45, A_main_v43, K_main_v47, K_main_v49, K_main_cst_0, K_main_cst_1]
  rw [v42_at H]
  rfl

/-- the input gate, -/
theorem v58_at (b : Fin 4) (t : Fin 2048) (l : Fin 1280) : A_main_v58 x0 x1 x2 x3 x4 x5 (ix3 b t l) = FfnMath.sig (P.gI (b.val * 2048 + t.val) l) := by
  pointwise [A_main_v58, A_main_v57, A_main_v55, A_main_v53, A_main_v52, A_main_v44, K_main_v54, K_main_v56, K_main_cst_2, K_main_cst_3]
  rw [v42_at H]
  rfl

/-- the softplus of the parameter, -/
theorem v62_at (l : Fin 1280) : A_main_v62 x0 x1 x2 x3 x4 x5 (ix1 l) = spn (P.lam l) := by
  pointwise [A_main_v62, A_main_v61, A_main_call0_v1, A_main_call0_v3, A_main_call0_v4, A_main_call0_v6, A_main_call0_v7, A_main_call0_v8, A_main_call0_v9, A_main_call0_v10, A_main_call0_v11, K_main_call0_v0, K_main_call0_v2, K_main_call0_v5, K_main_call0_cst]
  rw [if_neg (by simp), H.lam l]
  rfl

/-- the logarithm of the decay, -/
theorem v65_at (b : Fin 4) (t : Fin 2048) (l : Fin 1280) : A_main_v65 x0 x1 x2 x3 x4 x5 (ix3 b t l) = la (P.gR (b.val * 2048 + t.val) l) (P.lam l) := by
  pointwise [A_main_v65, A_main_v64, A_main_v63, A_main_v60, K_main_v59, K_main_cst_4]
  rw [v51_at H, v62_at H, cneg8]
  rfl

/-- the decay, -/
theorem v66_at (b : Fin 4) (t : Fin 2048) (l : Fin 1280) : A_main_v66 x0 x1 x2 x3 x4 x5 (ix3 b t l) = P.a (b.val * 2048 + t.val) l := by
  pointwise [A_main_v66]
  rw [v65_at H]
  rfl

/-- what a row adds to the state, -/
theorem v73_at (b : Fin 4) (t : Fin 2048) (l : Fin 1280) : A_main_v73 x0 x1 x2 x3 x4 x5 (ix3 b t l) = P.b (b.val * 2048 + t.val) l := by
  pointwise [A_main_v73, A_main_v72, A_main_v71, A_main_v70, A_main_v69, A_main_v68, K_main_v67, K_main_cst_5]
  rw [v65_at H, v58_at H, v35_at H, c2]
  obtain ⟨y, _, e⟩ := exp_two (P.gR (b.val * 2048 + t.val) l) (P.lam l)
  unfold Inp.b bE
  rw [e, ← EReal.coe_one, ← EReal.coe_sub, ← EReal.coe_sub, ← EReal.coe_neg, neg_sub]

/-- and the other branch's gelu. -/
theorem v86_at (b : Fin 4) (t : Fin 2048) (l : Fin 1280) : A_main_v86 x0 x1 x2 x3 x4 x5 (ix3 b t l) = gel (P.g (b.val * 2048 + t.val) l) := by
  pointwise [A_main_v86, A_main_v85, A_main_v83, A_main_v81, A_main_v80, A_main_v78, A_main_v77, A_main_v75, A_main_v74, A_main_v2, A_main_v1, A_main_v0, K_main_v84, K_main_cst_9, K_main_v82, K_main_cst_8, K_main_v79, K_main_cst_7, K_main_v76, K_main_cst_6]
  have e := H.g ⟨b.val * 2048 + t.val, by omega⟩ l
  rw [e, cHalf]
  rfl

omit H

/-- The loop's starts: the trip's number first, -/
theorem start0 (j : ℕ) (hj : j < 2048) (h) : Host.clampedStart S2048x4x1280 S1x4x1280 h (fun k =>
      BitVec.toInt ((![constantI S_ 32 (BitVec.ofNat 32 j), constantI S_ 32 0#32, constantI S_ 32 0#32] : Fin 3 → (⟨S_, .i32⟩ : BufTy).Contents (Elt Ideal)) k (Shape.Idx.first h_S_))) 0 = j := by
  have e : (BitVec.ofNat 32 j).toInt = (j : ℤ) := by
    have e' : (BitVec.ofNat 32 j).toNat = j := by rw [BitVec.toNat_ofNat]; omega
    rw [BitVec.toInt_eq_toNat_of_lt (by omega), e']
  show (min (max (BitVec.ofNat 32 j).toInt 0) ((2048 - 1 : ℕ) : ℤ)).toNat = j
  rw [e]
  omega

/-- then zeros. -/
theorem start1 (j : ℕ) (h) : Host.clampedStart S2048x4x1280 S1x4x1280 h (fun k =>
      BitVec.toInt ((![constantI S_ 32 (BitVec.ofNat 32 j), constantI S_ 32 0#32, constantI S_ 32 0#32] : Fin 3 → (⟨S_, .i32⟩ : BufTy).Contents (Elt Ideal)) k (Shape.Idx.first h_S_))) 1 = 0 := rfl
/-- A trip's row starts at the trip's number. -/
theorem start2 (j : ℕ) (h) : Host.clampedStart S2048x4x1280 S1x4x1280 h (fun k =>
      BitVec.toInt ((![constantI S_ 32 (BitVec.ofNat 32 j), constantI S_ 32 0#32, constantI S_ 32 0#32] : Fin 3 → (⟨S_, .i32⟩ : BufTy).Contents (Elt Ideal)) k (Shape.Idx.first h_S_))) 2 = 0 := rfl

/-- A trip reads its row of the factors, -/
theorem b3_at (j : ℕ) (hj : j < 2048) (s : State Ideal) (b : Fin 4) (l : Fin 1280) : b3 j s (ix2 b l) = s.main_v93_0 (ix3 ⟨j, hj⟩ b l) := by
  pointwise [b3, b2, b1, b0]
  simp only [start0 j hj, start1, start2, Nat.zero_add]

/-- of the inputs -/
theorem b7_at (j : ℕ) (hj : j < 2048) (s : State Ideal) (b : Fin 4) (l : Fin 1280) : b7 j s (ix2 b l) = s.main_v93_1 (ix3 ⟨j, hj⟩ b l) := by
  pointwise [b7, b6, b5, b4]
  simp only [start0 j hj, start1, start2, Nat.zero_add]

/-- and of the gate branch, -/
theorem b11_at (j : ℕ) (hj : j < 2048) (s : State Ideal) (b : Fin 4) (l : Fin 1280) : b11 j s (ix2 b l) = s.main_v93_2 (ix3 ⟨j, hj⟩ b l) := by
  pointwise [b11, b10, b9, b8]
  simp only [start0 j hj, start1, start2, Nat.zero_add]

/-- and writes its row of the states -/
theorem b18_at (j : ℕ) (hj : j < 2048) (s : State Ideal) (i : Fin 2048) (b : Fin 4) (l : Fin 1280) :
    b18 j s (ix3 i b l) = if i.val = j then b13 j s (ix2 b l) else s.main_v93_5 (ix3 i b l) := by
  pointwise [b18, b15, b16, b17]
  have e0 := start0 j hj rfl
  by_cases h : i.val = j
  · rw [if_pos h]
    exact dif_pos ⟨⟨e0.le.trans (le_of_eq h.symm), lt_of_lt_of_le (Nat.lt_succ_of_le (le_of_eq h)) (Nat.succ_le_succ e0.ge)⟩, Nat.zero_le _, Nat.zero_le _⟩
  · rw [if_neg h]
    exact dif_neg fun q => h (le_antisymm (Nat.lt_succ_iff.1 (lt_of_lt_of_le q.1.2 (Nat.succ_le_succ e0.le))) (e0.ge.trans q.1.1))

/-- and of the output. -/
theorem b22_at (j : ℕ) (hj : j < 2048) (s : State Ideal) (i : Fin 2048) (b : Fin 4) (l : Fin 1280) :
    b22 j s (ix3 i b l) = if i.val = j then b14 j s (ix2 b l) else s.main_v93_6 (ix3 i b l) := by
  pointwise [b22, b19, b20, b21]
  have e0 := start0 j hj rfl
  by_cases h : i.val = j
  · rw [if_pos h]
    exact dif_pos ⟨⟨e0.le.trans (le_of_eq h.symm), lt_of_lt_of_le (Nat.lt_succ_of_le (le_of_eq h)) (Nat.succ_le_succ e0.ge)⟩, Nat.zero_le _, Nat.zero_le _⟩
  · rw [if_neg h]
    exact dif_neg fun q => h (le_antisymm (Nat.lt_succ_iff.1 (lt_of_lt_of_le q.1.2 (Nat.succ_le_succ e0.le))) (e0.ge.trans q.1.1))

/-- A trip's state. -/
theorem b13_at (j : ℕ) (hj : j < 2048) (s : State Ideal) (b : Fin 4) (l : Fin 1280) :
    b13 j s (ix2 b l) = s.main_v93_0 (ix3 ⟨j, hj⟩ b l) * s.main_v93_4 (ix2 b l) + s.main_v93_1 (ix3 ⟨j, hj⟩ b l) := by
  pointwise [b13, b12]
  rw [b3_at j hj, b7_at j hj]

/-- What the loop's state holds after `n` trips: the three constants, the last state, the states' rows and the output's. -/
structure Trips (P : Inp) (n : ℕ) (s : State Ideal) : Prop where
  a : ∀ i b l, s.main_v93_0 (ix3 i b l) = P.a (b.val * 2048 + i.val) l
  b : ∀ i b l, s.main_v93_1 (ix3 i b l) = P.b (b.val * 2048 + i.val) l
  g : ∀ i b l, s.main_v93_2 (ix3 i b l) = gel (P.g (b.val * 2048 + i.val) l)
  h : ∀ b l, s.main_v93_4 (ix2 b l) = P.st (b.val * 2048) n l
  hs : ∀ i b l, i.val < n → s.main_v93_5 (ix3 i b l) = P.st (b.val * 2048) (i.val + 1) l
  y : ∀ i b l, i.val < n → s.main_v93_6 (ix3 i b l) = P.st (b.val * 2048) (i.val + 1) l * gel (P.g (b.val * 2048 + i.val) l)

/-- Before the first trip. -/
theorem trips_zero {x0 x1 x2 x3 x4 x5} {P : Inp} (H : Holds x0 x1 x2 x3 x4 x5 P) : Trips P 0 (init x0 x1 x2 x3 x4 x5) where
  a i b l := by
    show A_main_v88 x0 x1 x2 x3 x4 x5 (ix3 i b l) = _
    pointwise [A_main_v88]
    exact v66_at H b i l
  b i b l := by
    show A_main_v89 x0 x1 x2 x3 x4 x5 (ix3 i b l) = _
    pointwise [A_main_v89]
    exact v73_at H b i l
  g i b l := by
    show A_main_v90 x0 x1 x2 x3 x4 x5 (ix3 i b l) = _
    pointwise [A_main_v90]
    exact v86_at H b i l
  h b l := by
    show K_main_v87 (F := Ideal) (ix2 b l) = 0
    pointwise [K_main_v87, K_main_cst_10]
  hs i b l h := absurd h (Nat.not_lt_zero _)
  y i b l h := absurd h (Nat.not_lt_zero _)

/-- A trip more. -/
theorem trips_succ {P : Inp} {n : ℕ} (hn : n < 2048) {s : State Ideal} (T : Trips P n s) : Trips P (n + 1) (step n s) := by
  have e : ∀ (b : Fin 4) (l : Fin 1280), b13 n s (ix2 b l) = P.st (b.val * 2048) (n + 1) l := fun b l => by
    rw [b13_at n hn, T.a, T.h, T.b]
    rfl
  have f : ∀ (b : Fin 4) (l : Fin 1280), b14 n s (ix2 b l) = P.st (b.val * 2048) (n + 1) l * gel (P.g (b.val * 2048 + n) l) := fun b l => by
    pointwise [b14]
    rw [e, b11_at n hn, T.g]
  refine ⟨T.a, T.b, T.g, fun b l => e b l, fun i b l h => ?_, fun i b l h => ?_⟩
  · refine (b18_at n hn s i b l).trans ?_
    by_cases hi : i.val = n
    · rw [if_pos hi, e, hi]
    · rw [if_neg hi]; exact T.hs i b l (by omega)
  · refine (b22_at n hn s i b l).trans ?_
    by_cases hi : i.val = n
    · rw [if_pos hi, f, hi]
    · rw [if_neg hi]; exact T.y i b l (by omega)

/-- The first result's rows -/
theorem R95_at {P : Inp} {s : State Ideal} (T : Trips P 2048 s) (r : Fin 8192) (l : Fin 1280) : R_main_v95 s (ix2 r l) = P.hs r.val l := by
  pointwise [R_main_v95]
  rw [T.hs _ _ _ (Nat.mod_lt _ (by omega))]
  unfold Inp.hs
  rw [show r.val - r.val % 2048 = r.val / 2048 * 2048 by omega]

/-- and the second's. -/
theorem R98_at {P : Inp} {s : State Ideal} (T : Trips P 2048 s) (r : Fin 8192) (l : Fin 1280) :
    R_main_v98 s (ix2 r l) = P.hs r.val l * gel (P.g r.val l) := by
  pointwise [R_main_v98]
  rw [T.y _ _ _ (Nat.mod_lt _ (by omega))]
  unfold Inp.hs
  rw [show r.val - r.val % 2048 = r.val / 2048 * 2048 by omega, show r.val / 2048 * 2048 + r.val % 2048 = r.val by omega]

end Cert.LruFwdRefIdeal.Val
end
-- ==== Proof.LruTrips.lean ====
/- The reference's run of the recurrent block, its results as the loop's step iterated. -/
module
public import proofs.«01_k».proof.Proof.Gen.LruFwdRefIdeal.Run
public import proofs.«01_k».proof.Proof.Gen.LruFwdRefIdeal.Step

@[expose] public section
noncomputable section
open Idealize.ShloMosaic Idealize.ShloMosaic.TcCoe Idealize.SL.Sem Idealize.ShloMosaic.StableHlo

namespace Cert.LruFwdRefIdeal.Trips
open Cert.LruFwdRefIdeal Cert.LruFwdRefIdeal.Gen Cert.LruFwdRefIdeal.Value Cert.LruFwdRefIdeal.Step

variable {F : FTy → Type} [FloatOps F]

/-- The loop's state of a valuation. -/
def stOf (V : Valuation τ sig (Elt F)) : State F where
  main_v93_4 := V (Proc.devRef .tc main_v93_4)
  main_v93_5 := V (Proc.devRef .tc main_v93_5)
  main_v93_6 := V (Proc.devRef .tc main_v93_6)
  main_v93_0 := V (Proc.devRef .tc main_v93_0)
  main_v93_1 := V (Proc.devRef .tc main_v93_1)
  main_v93_2 := V (Proc.devRef .tc main_v93_2)

/-- The valuation's counter is the trip's number. -/
abbrev At (V : Valuation τ sig (Elt F)) (j : ℕ) : Prop := V (Proc.devRef .tc main_v93_3) = constantI S_ 32 (BitVec.ofNat 32 j)

set_option maxRecDepth 8192 in
/-- A trip's state, -/
theorem trip_4 (V : Valuation τ sig (Elt F)) (j : ℕ) (h : At V j) : step_main_v93_4 V = b13 j (stOf V) := by
  unfold Value.step_main_v93_4 b13 b12 b3 b2 b1 b0 b7 b6 b5 b4
  rw [← h]
  rfl

set_option maxRecDepth 8192 in
/-- its states' rows -/
theorem trip_5 (V : Valuation τ sig (Elt F)) (j : ℕ) (h : At V j) : step_main_v93_5 V = b18 j (stOf V) := by
  unfold Value.step_main_v93_5 b18 b17 b16 b15 b13 b12 b3 b2 b1 b0 b7 b6 b5 b4
  rw [← h]
  rfl

set_option maxRecDepth 8192 in
/-- and its output's, -/
theorem trip_6 (V : Valuation τ sig (Elt F)) (j : ℕ) (h : At V j) : step_main_v93_6 V = b22 j (stOf V) := by
  unfold Value.step_main_v93_6 b22 b21 b20 b19 b14 b13 b12 b3 b2 b1 b0 b7 b6 b5 b4 b11 b10 b9 b8
  rw [← h]
  rfl

/-- together one step, -/
theorem trip (V : Valuation τ sig (Elt F)) (j : ℕ) (h : At V j) : stOf (STEP V) = step j (stOf V) := by
  unfold stOf step
  rw [STEP_main_v93_4, STEP_main_v93_5, STEP_main_v93_6, STEP_main_v93_0, STEP_main_v93_1, STEP_main_v93_2, trip_4 V j h, trip_5 V j h, trip_6 V j h]
  rfl

/-- and the next number. -/
theorem trip_at (V : Valuation τ sig (Elt F)) (j : ℕ) (h : At V j) : At (STEP V) (j + 1) := by
  refine (STEP_main_v93_3 V).trans ?_
  unfold step_main_v93_3
  rw [h]
  funext i
  show BitVec.ofNat 32 j + 1#32 = BitVec.ofNat 32 (j + 1)
  simp only [BitVec.ofNat_add]

variable (m : (ℓ : Loc nD τ sig) → Buf (Elt F) ℓ) (ρ : Dev nD → PrngReg) (c : Dev nD)

/-- The states of the loop, from the arguments. -/
def it : ℕ → State F
  | 0 => init (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
  | n + 1 => step n (it n)

/-- The valuation holds the loop's first state. -/
structure Start (V : Valuation τ sig (Elt F)) : Prop where
  v4 : V (Proc.devRef .tc main_v93_4) = (it m c 0).main_v93_4
  v5 : V (Proc.devRef .tc main_v93_5) = (it m c 0).main_v93_5
  v6 : V (Proc.devRef .tc main_v93_6) = (it m c 0).main_v93_6
  v0 : V (Proc.devRef .tc main_v93_0) = (it m c 0).main_v93_0
  v1 : V (Proc.devRef .tc main_v93_1) = (it m c 0).main_v93_1
  v2 : V (Proc.devRef .tc main_v93_2) = (it m c 0).main_v93_2
  n : V (Proc.devRef .tc main_v93_3) = constantI S_ 32 (BitVec.ofNat 32 0)

set_option maxRecDepth 65536 in
set_option maxHeartbeats 600000 in
/-- What the operations before the loop leave. -/
theorem start : Start m c (entryContents preI m c) := by
  constructor <;> (simp only [entryContents, afterL_cons, afterL_nil]; after_reads_simp) <;> rfl

/-- It is the first state. -/
theorem entry : stOf (entryContents preI m c) = it m c 0 ∧ At (entryContents preI m c) 0 := by
  have h := start m c
  refine ⟨?_, h.n⟩
  unfold stOf
  rw [h.v4, h.v5, h.v6, h.v0, h.v1, h.v2]

/-- The state before trip `k`. -/
theorem trips : ∀ k, stOf (STEP^[k] (entryContents preI m c)) = it m c k ∧ At (STEP^[k] (entryContents preI m c)) k
  | 0 => entry m c
  | k + 1 => by
    rw [Function.iterate_succ_apply']
    have ih := trips k
    exact ⟨(trip _ k ih.2).trans (congrArg (step k) ih.1), trip_at _ k ih.2⟩

set_option maxRecDepth 8192 in
/-- The states of a valuation. -/
theorem out95 (V : Valuation τ sig (Elt F)) : out_main_v95 V = R_main_v95 (stOf V) := by
  unfold out_main_v95 R_main_v95
  rfl

set_option maxRecDepth 8192 in
/-- The output of a valuation. -/
theorem out98 (V : Valuation τ sig (Elt F)) : out_main_v98 V = R_main_v98 (stOf V) := by
  unfold out_main_v98 R_main_v98
  rfl

/-- The run: both results of the last state, the arguments unchanged. -/
theorem run : θ_run (defs (F := F)) (onTc (τ := τ) (main (F := F))) ⟨m, fun _ => 0, ρ⟩ fun r => ∀ c : Dev nD,
    r.2.mem ((c.tc : Thread nD τ).loc main_v95) = R_main_v95 (it m c 2048)
    ∧ r.2.mem ((c.tc : Thread nD τ).loc main_v98) = R_main_v98 (it m c 2048)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => by
    have e := (trips m c 2048).1
    refine ⟨(h c).1.trans ((out95 _).trans (congrArg _ e)), (h c).2.1.trans ((out98 _).trans (congrArg _ e)), (h c).2.2⟩) (Value.run m ρ)

end Cert.LruFwdRefIdeal.Trips
end
-- ==== Proof.LruFwdValue.lean ====
/- The value of the recurrent block's forward call: its two results are the reference's. -/
module
public import proofs.«01_k».proof.Defs
public import proofs.«01_k».proof.Proof.LruSteps
public import proofs.«01_k».proof.Proof.LruCoef
public import proofs.«01_k».proof.Proof.LruRun
public import proofs.«01_k».proof.Proof.LruRef
public import proofs.«01_k».proof.Proof.LruTrips
public import Idealize.ShloMosaic.Lib.Pipeline.ReadBack
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.LruFwdIdeal.Val
open Cert.LruFwdIdeal Cert.LruFwdIdeal.Gen Cert.LruFwdIdeal.Run Cert.LruMath Cert.Reals

/-- Each window's block index at each of the thirty-two points. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![0, 0]
    ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The call's arguments are the numbers of `P`. -/
abbrev Args (P : Inp) : Prop := Cert.LruFwdRefIdeal.Val.Holds (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (m ((c.tc : Thread nD τ).loc main_arg5)) P

/-- The first row of point `t`'s blocks. -/
def base (t : Fin cfg0.N) : ℕ := t.val * 256

/-- There are thirty-two points. -/
theorem t_lt (t : Fin cfg0.N) : t.val < 32 := lt_of_lt_of_eq t.isLt N_0

/-- A point's rows are rows of the arrays. -/
theorem base_lt (t : Fin cfg0.N) (r : Fin 256) : base t + r.val < 8192 := by
  unfold base; have := t_lt t; omega

/-- The convolution's bias as one row, -/
theorem entry_cb (l : Fin 1280) : V m c main_v0 (ix2 0 l) = m ((c.tc : Thread nD τ).loc main_arg2) (ix1 l) := by
  unfold V
  entry_read
  pointwise

/-- and the parameter. -/
theorem entry_lam (l : Fin 1280) : V m c main_v1 (ix2 0 l) = m ((c.tc : Thread nD τ).loc main_arg5) (ix1 l) := by
  unfold V
  entry_read
  pointwise

variable {m c} {P : Inp} (H : Args m c P)
include H

/-- Point `t`'s block of the gelu's branch -/
theorem blk_g (t : Fin cfg0.N) (r : Fin 256) (l : Fin 1280) : iblk m c 0 t (ix2 r l) = (P.g (base t + r.val) l) := by
  rw [← H.g ⟨base t + r.val, base_lt t r⟩ l]
  unfold base
  blk_point [iblk, V, idx t]

/-- and of the recurrent branch, -/
theorem blk_x (t : Fin cfg0.N) (r : Fin 256) (l : Fin 1280) : iblk m c 1 t (ix2 r l) = (P.X (base t + r.val) l) := by
  rw [← H.X ⟨base t + r.val, base_lt t r⟩ l]
  unfold base
  blk_point [iblk, V, idx t]

/-- the whole taps, -/
theorem blk_w (t : Fin cfg0.N) (k : Fin 4) (l : Fin 1280) : iblk m c 2 t (ix2 k l) = P.w k l := by
  rw [← H.w k l]
  blk_point [iblk, V, idx t]

/-- the bias, -/
theorem blk_cb (t : Fin cfg0.N) (l : Fin 1280) : iblk m c 3 t (ix2 0 l) = P.cb l := by
  rw [← H.cb l, ← entry_cb m c l]
  blk_point [iblk, idx t]

/-- the gates' weights, -/
theorem blk_wg (t : Fin cfg0.N) (h : Fin 10) (i : Fin 128) (j : Fin 256) : iblk m c 4 t (ix3 h i j) = P.wg h i j := by
  rw [← H.wg h i j]
  blk_point [iblk, V, idx t]

/-- their biases -/
theorem blk_bg (t : Fin cfg0.N) (h : Fin 10) (j : Fin 256) : iblk m c 5 t (ix2 h j) = P.bg h j := by
  rw [← H.bg h j]
  blk_point [iblk, V, idx t]

/-- and the parameter. -/
theorem blk_lam (t : Fin cfg0.N) (l : Fin 1280) : iblk m c 6 t (ix2 0 l) = P.lam l := by
  rw [← H.lam l, ← entry_lam m c l]
  blk_point [iblk, idx t]

/-- One head's weights, -/
theorem wg_at (t : Fin cfg0.N) (h : Fin 10) (i : Fin 128) (j : Fin 256) : wg (F := Ideal) (iblk m c 4 t) h (ix3 0 i j) = P.wg h i j := by
  rw [← blk_wg H t h i j]
  pointwise [wg]

/-- and its biases. -/
theorem bg_at (t : Fin cfg0.N) (h : Fin 10) (j : Fin 256) : bg (F := Ideal) (iblk m c 5 t) h (ix2 0 j) = P.bg h j := by
  rw [← blk_bg H t h j]
  pointwise [bg]

omit H
/-- The carried rows that a point finds: zeros at a sequence's first block, else the eight rows before. -/
def Rows (P : Inp) (t : Fin cfg0.N) (p : Vec Ideal S8x1280 .f32) : Prop :=
  ∀ (j : Fin 8) (l : Fin 1280), p (ix2 j l) = if t.val % 8 = 0 then 0 else (P.X (base t - 8 + j.val) l)

/-- The carried state that a point finds: the recurrence's after the sequence's rows before. -/
def Last (P : Inp) (t : Fin cfg0.N) (h : Vec Ideal S1x1280 .f32) : Prop :=
  ∀ l : Fin 1280, h (ix2 0 l) = P.st (base t - base t % 2048) (base t % 2048) l

/-- The states of a point's rows go on from the state before. -/
theorem st_add (P : Inp) (t : Fin cfg0.N) (n : ℕ) (l : Fin 1280) :
    go (P.st (base t - base t % 2048) (base t % 2048) l) (fun i => P.a (base t + i) l) (fun i => P.b (base t + i) l) n
      = P.st (base t - base t % 2048) (base t % 2048 + n) l := by
  unfold Inp.st
  rw [go_add]
  have e : ∀ i, base t - base t % 2048 + (base t % 2048 + i) = base t + i := fun i => by have := Nat.mod_le (base t) 2048; omega
  simp only [e]

include H
/-- The convolved rows of a point. -/
theorem conv_pt (t : Fin cfg0.N) (p : Vec Ideal S8x1280 .f32) (hp : Rows P t p) (r : Fin 256) (l : Fin 1280) :
    conv (F := Ideal) (iblk m c 1 t) (iblk m c 2 t) (iblk m c 3 t) p (ix2 r l) = (P.xc (base t + r.val) l) := by
  rw [conv_at]
  have ht := t_lt t
  have e : ∀ k : ℕ, 1 ≤ k → k ≤ 3 → (if h : (8 + r.val + 264 - k) % 264 < 8 then p (ix2 ⟨(8 + r.val + 264 - k) % 264, h⟩ l)
      else iblk m c 1 t (ix2 ⟨(8 + r.val + 264 - k) % 264 - 8, by omega⟩ l)) = (P.prev k (base t + r.val) l) := by
    intro k hk hk3
    unfold Inp.prev
    by_cases h : r.val < k
    · rw [dif_pos (show (8 + r.val + 264 - k) % 264 < 8 by omega)]
      refine (hp ⟨(8 + r.val + 264 - k) % 264, by omega⟩ l).trans ?_
      by_cases h8 : t.val % 8 = 0
      · rw [if_pos h8, if_pos (show (base t + r.val) % 2048 < k by unfold base; omega)]
      · rw [if_neg h8, if_neg (show ¬ (base t + r.val) % 2048 < k by unfold base; omega)]
        exact congrArg (fun i => P.X i l) (show base t - 8 + (8 + r.val + 264 - k) % 264 = base t + r.val - k by unfold base; omega)
    · rw [dif_neg (show ¬ (8 + r.val + 264 - k) % 264 < 8 by omega), if_neg (show ¬ (base t + r.val) % 2048 < k by unfold base; omega), blk_x H]
      exact congrArg (fun i => P.X i l) (show base t + ((8 + r.val + 264 - k) % 264 - 8) = base t + r.val - k by omega)
  rw [e 3 (by omega) (by omega), e 2 (by omega) (by omega), e 1 (by omega) (by omega), blk_cb H, blk_w H, blk_w H, blk_w H, blk_w H, blk_x H]
  rfl

/-- The recurrence gate of a point's rows, -/
theorem gateR_pt (t : Fin cfg0.N) (p : Vec Ideal S8x1280 .f32) (hp : Rows P t p) (r : Fin 256) (l : Fin 1280) :
    gateR (F := Ideal) (conv (iblk m c 1 t) (iblk m c 2 t) (iblk m c 3 t) p) (wg (iblk m c 4 t)) (bg (iblk m c 5 t)) (ix2 r l)
      = FfnMath.sig (P.gR (base t + r.val) l) := by
  rw [gateR_at _ _ _ r (Inp.hd l) ⟨l.val % 128, by omega⟩ l (by show l.val = l.val / 128 * 128 + l.val % 128; omega)]
  simp only [conv_pt H t p hp, wg_at H, bg_at H]
  exact FfnMath.sigT_all _

/-- the input gate, -/
theorem gateI_pt (t : Fin cfg0.N) (p : Vec Ideal S8x1280 .f32) (hp : Rows P t p) (r : Fin 256) (l : Fin 1280) :
    k0_pay39 (F := Ideal) (gateI (conv (iblk m c 1 t) (iblk m c 2 t) (iblk m c 3 t) p) (wg (iblk m c 4 t)) (bg (iblk m c 5 t))) (ix2 r l)
      = FfnMath.sig (P.gI (base t + r.val) l) := by
  rw [gateI_at _ _ _ r (Inp.hd l) ⟨l.val % 128, by omega⟩ l (by show l.val = l.val / 128 * 128 + l.val % 128; omega)]
  simp only [conv_pt H t p hp, wg_at H, bg_at H]
  exact FfnMath.sigT_all _

/-- the decay -/
theorem coefA_pt (t : Fin cfg0.N) (p : Vec Ideal S8x1280 .f32) (hp : Rows P t p) (r : Fin 256) (l : Fin 1280) :
    coefA (F := Ideal) (conv (iblk m c 1 t) (iblk m c 2 t) (iblk m c 3 t) p) (wg (iblk m c 4 t)) (bg (iblk m c 5 t)) (iblk m c 6 t) (ix2 r l)
      = P.a (base t + r.val) l :=
  (coefA_at _ _ _ _ r l _ (gateR_pt H t p hp r l)).trans (by rw [blk_lam H t l]; rfl)

/-- and what a row adds to the state. -/
theorem coefB_pt (t : Fin cfg0.N) (p : Vec Ideal S8x1280 .f32) (hp : Rows P t p) (r : Fin 256) (l : Fin 1280) :
    coefB (F := Ideal) (conv (iblk m c 1 t) (iblk m c 2 t) (iblk m c 3 t) p) (wg (iblk m c 4 t)) (bg (iblk m c 5 t)) (iblk m c 6 t) (ix2 r l)
      = P.b (base t + r.val) l :=
  (coefB_at _ _ _ _ r l _ _ (gateR_pt H t p hp r l) (gateI_pt H t p hp r l)).trans (by rw [conv_pt H t p hp r l, blk_lam H t l]; rfl)

/-- The states, -/
theorem left_hs (t : Fin cfg0.N) (p : Vec Ideal S8x1280 .f32) (hp : Rows P t p) (h : Vec Ideal S1x1280 .f32) (hh : Last P t h) (r : Fin 256) (l : Fin 1280) :
    (left (iblk m c 0 t) (iblk m c 1 t) (iblk m c 2 t) (iblk m c 3 t) (iblk m c 4 t) (iblk m c 5 t) (iblk m c 6 t) p h).1 (ix2 r l) = P.hs (base t + r.val) l := by
  have ht := t_lt t
  refine (states_go _ _ h l (fun i => P.a (base t + i) l) (fun i => P.b (base t + i) l) (fun _ => P.a_fac _ l)
    (fun r => coefA_pt H t p hp r l) (fun r => coefB_pt H t p hp r l) r).trans ?_
  rw [hh l, st_add]
  unfold Inp.hs
  rw [show base t + r.val - (base t + r.val) % 2048 = base t - base t % 2048 by unfold base; omega,
    show (base t + r.val) % 2048 + 1 = base t % 2048 + (r.val + 1) by unfold base; omega]

/-- the output, -/
theorem left_y (t : Fin cfg0.N) (p : Vec Ideal S8x1280 .f32) (hp : Rows P t p) (h : Vec Ideal S1x1280 .f32) (hh : Last P t h) (r : Fin 256) (l : Fin 1280) :
    (left (iblk m c 0 t) (iblk m c 1 t) (iblk m c 2 t) (iblk m c 3 t) (iblk m c 4 t) (iblk m c 5 t) (iblk m c 6 t) p h).2.1 (ix2 r l)
      = P.hs (base t + r.val) l * gel (P.g (base t + r.val) l) := by
  have e := left_hs H t p hp h hh r l
  unfold left at e ⊢
  generalize states _ _ h = S at e ⊢
  dsimp only at e ⊢
  pointwise [k0_pay1, k0_pay49, k0_pay50, k0_pay51]
  rw [blk_g H, e, cHalf]
  unfold gel
  congr 1
  simp only [mul_comm, mul_left_comm, mul_assoc]

/-- the carried rows -/
theorem left_rows (t : Fin cfg0.N) (p : Vec Ideal S8x1280 .f32) (h : Vec Ideal S1x1280 .f32) (r : Fin 8) (l : Fin 1280) :
    (left (iblk m c 0 t) (iblk m c 1 t) (iblk m c 2 t) (iblk m c 3 t) (iblk m c 4 t) (iblk m c 5 t) (iblk m c 6 t) p h).2.2.1 (ix2 r l)
      = (P.X (base t + 248 + r.val) l) := by
  show k0_pay9 (k0_pay8 (F := Ideal) (iblk m c 1 t)) (ix2 r l) = _
  pointwise [k0_pay9, k0_pay8]
  refine (blk_x H t ⟨248 + r.val, by omega⟩ l).trans ?_
  exact congrArg (fun i => P.X i l) (Nat.add_assoc _ _ _).symm

/-- and the carried state. -/
theorem left_last (t : Fin cfg0.N) (p : Vec Ideal S8x1280 .f32) (hp : Rows P t p) (h : Vec Ideal S1x1280 .f32) (hh : Last P t h) (l : Fin 1280) :
    (left (iblk m c 0 t) (iblk m c 1 t) (iblk m c 2 t) (iblk m c 3 t) (iblk m c 4 t) (iblk m c 5 t) (iblk m c 6 t) p h).2.2.2 (ix2 0 l)
      = P.st (base t - base t % 2048) (base t % 2048 + 256) l := by
  have e := state_go _ _ h l (fun i => P.a (base t + i) l) (fun i => P.b (base t + i) l) (fun _ => P.a_fac _ l)
    (fun r => coefA_pt H t p hp r l) (fun r => coefB_pt H t p hp r l) 32 le_rfl
  rw [hh l, st_add] at e
  unfold left
  generalize state _ _ h 32 = S at e ⊢
  dsimp only
  pointwise [k0_pay48]
  exact e

omit H
/-- A sequence's first block finds zeros for the carried rows -/
theorem rows_zero (P : Inp) (t : Fin cfg0.N) (h : t.val % 8 = 0) : Rows P t (k0_pay4 (F := Ideal)) := by
  intro j l
  rw [if_pos h]
  pointwise! [k0_pay4]

/-- and for the carried state. -/
theorem last_zero (P : Inp) (t : Fin cfg0.N) (h : t.val % 8 = 0) : Last P t (k0_pay5 (F := Ideal)) := by
  intro l
  rw [show base t % 2048 = 0 by unfold base; omega]
  show _ = (0 : EReal)
  pointwise! [k0_pay5]

include H
/-- Every point's results are those of a body that finds the right carried rows and state. -/
theorem found : ∀ (n : ℕ) (hn : n < cfg0.N), ∃ p h, Rows P ⟨n, hn⟩ p ∧ Last P ⟨n, hn⟩ h ∧ outs m c n hn
    = left (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) p h
  | 0, hn => ⟨_, _, rows_zero P ⟨0, hn⟩ rfl, last_zero P ⟨0, hn⟩ rfl, outs_A m c ⟨0, hn⟩ rfl⟩
  | n + 1, hn => by
    by_cases h8 : (n + 1) % 8 = 0
    · exact ⟨_, _, rows_zero P ⟨n + 1, hn⟩ h8, last_zero P ⟨n + 1, hn⟩ h8, outs_A m c ⟨n + 1, hn⟩ h8⟩
    · obtain ⟨p, h, hp, hh, e⟩ := found n (by omega)
      refine ⟨_, _, ?_, ?_, outs_B m c ⟨n + 1, hn⟩ h8⟩
      · intro j l
        rw [if_neg h8]
        refine (congrArg (fun o : St Ideal => o.2.2.1 (ix2 j l)) e).trans ((left_rows H ⟨n, by omega⟩ p h j l).trans ?_)
        exact congrArg (fun i => P.X i l) (show n * 256 + 248 + j.val = (n + 1) * 256 - 8 + j.val by omega)
      · intro l
        refine (congrArg (fun o : St Ideal => o.2.2.2 (ix2 0 l)) e).trans ((left_last H ⟨n, by omega⟩ p hp h hh l).trans ?_)
        show P.st (n * 256 - n * 256 % 2048) (n * 256 % 2048 + 256) l = P.st ((n + 1) * 256 - (n + 1) * 256 % 2048) ((n + 1) * 256 % 2048) l
        rw [show (n + 1) * 256 % 2048 = n * 256 % 2048 + 256 by omega, show (n + 1) * 256 - (n * 256 % 2048 + 256) = n * 256 - n * 256 % 2048 by omega]

/-- The states as an array. -/
def hsArr (P : Inp) : Vec Ideal S8192x1280 .f32 := fun i => P.hs (i 0).val (i 1)
/-- The output as an array. -/
def yArr (P : Inp) : Vec Ideal S8192x1280 .bf16 := fun i => P.hs (i 0).val (i 1) * gel (P.g (i 0).val (i 1))

/-- The states' array after the run -/
theorem final_hs : (dats m 0 c).arrAt 7 cfg0.N = hsArr P := by
  refine (dats m 0 c).arrAt_eq_of_covers 7 _ (by decide +kernel) fun t _ y => ?_
  blk_simp
  rw [after0_7]
  idx_vars y
  obtain ⟨p, h, hp, hh, e⟩ := found H t.val t.isLt
  rw [e, left_hs H t p hp h hh]
  show hsArr P (ix2 ⟨base t + y0.val, base_lt t y0⟩ y1) = _
  congr 1
  blk_ext [idx t, base]

/-- and the output's. -/
theorem final_y : (dats m 0 c).arrAt 8 cfg0.N = yArr P := by
  refine (dats m 0 c).arrAt_eq_of_covers 8 _ (by decide +kernel) fun t _ y => ?_
  blk_simp
  rw [after0_8]
  idx_vars y
  obtain ⟨p, h, hp, hh, e⟩ := found H t.val t.isLt
  rw [e, left_y H t p hp h hh]
  show yArr P (ix2 ⟨base t + y0.val, base_lt t y0⟩ y1) = _
  congr 1
  blk_ext [idx t, base]

omit H
/-- The arguments of a device, read as rows. -/
def inp (m : (ℓ : Loc nD τ sig) → Buf (Elt Ideal) ℓ) (c : Dev nD) : Inp where
  g r l := if q : r < 8192 then (m ((c.tc : Thread nD τ).loc main_arg0) : Vec Ideal S8192x2560 .bf16) (ix2 ⟨r, q⟩ ⟨l.val, by omega⟩) else 0
  X r l := if q : r < 8192 then (m ((c.tc : Thread nD τ).loc main_arg0) : Vec Ideal S8192x2560 .bf16) (ix2 ⟨r, q⟩ ⟨1280 + l.val, by omega⟩) else 0
  w k l := (m ((c.tc : Thread nD τ).loc main_arg1) : Vec Ideal S4x1280 .f32) (ix2 k l)
  cb l := (m ((c.tc : Thread nD τ).loc main_arg2) : Vec Ideal S1280 .f32) (ix1 l)
  wg h i j := (m ((c.tc : Thread nD τ).loc main_arg3) : Vec Ideal S10x128x256 .bf16) (ix3 h i j)
  bg h j := (m ((c.tc : Thread nD τ).loc main_arg4) : Vec Ideal S10x256 .f32) (ix2 h j)
  lam l := (m ((c.tc : Thread nD τ).loc main_arg5) : Vec Ideal S1280 .f32) (ix1 l)

/-- They hold those numbers. -/
theorem args (m : (ℓ : Loc nD τ sig) → Buf (Elt Ideal) ℓ) (c : Dev nD) : Args m c (inp m c) where
  g r l := by
    show _ = dite (r.val < 8192) _ _
    rw [dif_pos r.isLt]
  X r l := by
    show _ = dite (r.val < 8192) _ _
    rw [dif_pos r.isLt]
  w _ _ := rfl
  cb _ := rfl
  wg _ _ _ := rfl
  bg _ _ := rfl
  lam _ := rfl

/-- The kernel's run, its two results named. -/
theorem run_named (m : (ℓ : Loc nD τ sig) → Buf (Elt Ideal) ℓ) (ρ : Dev nD → PrngReg) (P : Dev nD → Inp) (H : ∀ c, Args m c (P c)) :
    θ_run defs (onTc (τ := τ) (main (F := Ideal))) ⟨m, fun _ => 0, ρ⟩ fun r => ∀ c : Dev nD,
      r.2.mem ((c.tc : Thread nD τ).loc main_v2_0) = hsArr (P c)
      ∧ r.2.mem ((c.tc : Thread nD τ).loc main_v2_1) = yArr (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 7).trans (final_hs (H c)), ((h.1 c).1 8).trans (final_y (H c)), h.2.1 c⟩)
    (θ_run_and (run_main m ρ) (Run.frame m ρ))

/-- The reference's states of the loop hold the recurrence's, -/
theorem ref_trips (m' : (ℓ : Loc Cert.LruFwdRefIdeal.nD Cert.LruFwdRefIdeal.τ Cert.LruFwdRefIdeal.sig) → Buf (Elt Ideal) ℓ) (c : Dev Cert.LruFwdRefIdeal.nD) (P : Inp)
    (H : Cert.LruFwdRefIdeal.Val.Holds
      (m' ((c.tc : Thread Cert.LruFwdRefIdeal.nD Cert.LruFwdRefIdeal.τ).loc Cert.LruFwdRefIdeal.main_arg0))
      (m' ((c.tc : Thread Cert.LruFwdRefIdeal.nD Cert.LruFwdRefIdeal.τ).loc Cert.LruFwdRefIdeal.main_arg1))
      (m' ((c.tc : Thread Cert.LruFwdRefIdeal.nD Cert.LruFwdRefIdeal.τ).loc Cert.LruFwdRefIdeal.main_arg2))
      (m' ((c.tc : Thread Cert.LruFwdRefIdeal.nD Cert.LruFwdRefIdeal.τ).loc Cert.LruFwdRefIdeal.main_arg3))
      (m' ((c.tc : Thread Cert.LruFwdRefIdeal.nD Cert.LruFwdRefIdeal.τ).loc Cert.LruFwdRefIdeal.main_arg4))
      (m' ((c.tc : Thread Cert.LruFwdRefIdeal.nD Cert.LruFwdRefIdeal.τ).loc Cert.LruFwdRefIdeal.main_arg5)) P) :
    ∀ n, n ≤ 2048 → Cert.LruFwdRefIdeal.Val.Trips P n (Cert.LruFwdRefIdeal.Trips.it m' c n)
  | 0, _ => Cert.LruFwdRefIdeal.Val.trips_zero H
  | n + 1, h => Cert.LruFwdRefIdeal.Val.trips_succ (by omega) (ref_trips m' c P H n (by omega))

/-- so the kernel's two results are the reference's, whatever the arguments. -/
theorem algebraic : Cert.algebraic_LruFwdIdeal_LruFwdRefIdeal
    (hLruFwdIdeal := Cert.LruFwdIdeal.Gen.facts) (hLruFwdRefIdeal := Cert.LruFwdRefIdeal.Gen.facts) := by
  intro m g m' g' _ hagree
  refine ⟨_, _, run_named m g (inp m) (args m), (θ_run _ _ _).mono (fun _ h c => ?_) (Cert.LruFwdRefIdeal.Trips.run m' g')⟩
  obtain ⟨a0, a1, a2, a3, a4, a5⟩ := hagree c
  have T := ref_trips m' c (inp m c) (by rw [a0, a1, a2, a3, a4, a5]; exact args m c) 2048 le_rfl
  refine ⟨(h c).1.trans (funext fun i => ?_), (h c).2.1.trans (funext fun i => ?_), (h c).2.2⟩
  · idx_vars i
    exact Cert.LruFwdRefIdeal.Val.R95_at T i0 i1
  · idx_vars i
    exact Cert.LruFwdRefIdeal.Val.R98_at T i0 i1

end Cert.LruFwdIdeal.Val
end
-- ==== Proof.MmNnValue.lean ====
/- The value of the forward product: what its result array holds after the run is what the reference computes from the same arguments.
   No precondition: both take the same sums of the same products. -/
module
public import proofs.«01_k».proof.Defs
public import proofs.«01_k».proof.Proof.Gen.MmNnIdeal
public import proofs.«01_k».proof.Proof.Gen.MmNnIdeal.Skeleton
public import proofs.«01_k».proof.Proof.Gen.MmNnIdeal.Frame
public import proofs.«01_k».proof.Proof.Gen.MmNnIdeal.Value
public import proofs.«01_k».proof.Proof.Gen.MmNnRefIdeal
public import proofs.«01_k».proof.Proof.Gen.MmNnRefIdeal.Run
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.MmNnIdeal.Val
open Cert.MmNnIdeal Cert.MmNnIdeal.Gen

/-- A block of the product, element by element. -/
theorem pay (v0 : Vec Ideal S512x1024 .bf16) (v1 : Vec Ideal S1x1024x3072 .bf16) (r : Fin 512) (l : Fin 3072) :
    k0_pay1 v0 v1 (ix2 r l) = ∑ k : Fin 1024, v0 (ix2 r k) * v1 (ix3 0 k l) := by
  pointwise [k0_pay1]

/-- Each window's block index at each of the sixteen points. -/
theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ) (c : Dev nD)

/-- The rows, -/
abbrev argA (r : Fin 8192) (k : Fin 1024) : EReal := m ((c.tc : Thread nD τ).loc main_arg0) (ix2 r k)
/-- and the weights. -/
abbrev argW (k : Fin 1024) (l : Fin 3072) : EReal := m ((c.tc : Thread nD τ).loc main_arg1) (ix2 k l)

/-- A point's row among all rows. -/
def row (t : Fin cfg0.N) (r : Fin 512) : Fin 8192 := ⟨t.val * 512 + r.val, by have := t.isLt; have : cfg0.N = 16 := N_0; omega⟩

/-- Point `t`'s block of the rows. -/
theorem blk_a (t : Fin cfg0.N) (r : Fin 512) (k : Fin 1024) : iblk m c 0 t (ix2 r k) = argA m c (row t r) k := by
  unfold argA row; blk_point [iblk, V, idx t]

/-- The weights as the call finds them, -/
theorem entry_w (k : Fin 1024) (l : Fin 3072) : V m c main_v0 (ix3 0 k l) = argW m c k l := by
  unfold V; entry_read; unfold argW; pointwise

/-- and their block, which is all of them. -/
theorem blk_w (t : Fin cfg0.N) (k : Fin 1024) (l : Fin 3072) : iblk m c 1 t (ix3 0 k l) = argW m c k l := by
  rw [← entry_w]; blk_point [iblk, idx t]

/-- The result as an array of the arguments. -/
def outArr (i : S8192x3072.Idx) : EReal := ∑ k : Fin 1024, argA m c (i 0) k * argW m c k (i 1)

/-- The result array holds the product. -/
theorem final : (dats m 0 c).arrAt 2 cfg0.N = outArr m c := by
  refine (dats m 0 c).arrAt_eq_of_covers 2 _ (by decide +kernel) fun t _ y => ?_
  blk_simp
  rw [after0_2]
  unfold out0_2
  idx_vars y
  frame_out
  rw [pay]
  simp only [blk_a, blk_w]
  show outArr m c (ix2 (row t y0) y1) = _
  congr 1
  unfold row
  blk_ext [idx t]

/-- The call's result is the reference's, whatever the arguments. -/
theorem algebraic : Cert.algebraic_MmNnIdeal_MmNnRefIdeal
    (hMmNnIdeal := Cert.MmNnIdeal.Gen.facts) (hMmNnRefIdeal := Cert.MmNnRefIdeal.Gen.facts) := by
  intro m g m' g' _ hagree
  have run := (θ_run _ _ _).mono (fun r h c => (⟨(h c).1.trans (final m c), (h c).2⟩ : _ ∧ _)) (Value.run_blocks m g)
  refine ⟨_, run, (θ_run _ _ _).mono (fun _ h c => ⟨(h c).1.trans (funext fun i => ?_), (h c).2⟩) (Cert.MmNnRefIdeal.Value.run m' g')⟩
  rw [(hagree c).1, (hagree c).2]
  idx_vars i
  pointwise
  rfl

end Cert.MmNnIdeal.Val
end
-- ==== Proof.MmNtValue.lean ====
/- The value of the product that goes backward to the rows: what its result array holds after the run is what the reference computes from the same arguments.
   No precondition: both take the same sums of the same products. -/
module
public import proofs.«01_k».proof.Defs
public import proofs.«01_k».proof.Proof.Gen.MmNtIdeal
public import proofs.«01_k».proof.Proof.Gen.MmNtIdeal.Skeleton
public import proofs.«01_k».proof.Proof.Gen.MmNtIdeal.Frame
public import proofs.«01_k».proof.Proof.Gen.MmNtIdeal.Value
public import proofs.«01_k».proof.Proof.Gen.MmNtRefIdeal
public import proofs.«01_k».proof.Proof.Gen.MmNtRefIdeal.Run
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.MmNtIdeal.Val
open Cert.MmNtIdeal Cert.MmNtIdeal.Gen

/-- A block of the product, element by element. -/
theorem pay (v0 : Vec Ideal S512x1024 .bf16) (v1 : Vec Ideal S1x1280x1024 .bf16) (r : Fin 512) (l : Fin 1280) :
    k0_pay1 v0 v1 (ix2 r l) = ∑ k : Fin 1024, v0 (ix2 r k) * v1 (ix3 0 l k) := by
  pointwise [k0_pay1]

/-- Each window's block index at each of the sixteen points. -/
theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ) (c : Dev nD)

/-- The rows, -/
abbrev argA (r : Fin 8192) (k : Fin 1024) : EReal := m ((c.tc : Thread nD τ).loc main_arg0) (ix2 r k)
/-- and the weights. -/
abbrev argW (l : Fin 1280) (k : Fin 1024) : EReal := m ((c.tc : Thread nD τ).loc main_arg1) (ix2 l k)

/-- A point's row among all rows. -/
def row (t : Fin cfg0.N) (r : Fin 512) : Fin 8192 := ⟨t.val * 512 + r.val, by have := t.isLt; have : cfg0.N = 16 := N_0; omega⟩

/-- Point `t`'s block of the rows. -/
theorem blk_a (t : Fin cfg0.N) (r : Fin 512) (k : Fin 1024) : iblk m c 0 t (ix2 r k) = argA m c (row t r) k := by
  unfold argA row; blk_point [iblk, V, idx t]

/-- The weights as the call finds them, -/
theorem entry_w (k : Fin 1024) (l : Fin 1280) : V m c main_v0 (ix3 0 l k) = argW m c l k := by
  unfold V; entry_read; unfold argW; pointwise

/-- and their block, which is all of them. -/
theorem blk_w (t : Fin cfg0.N) (k : Fin 1024) (l : Fin 1280) : iblk m c 1 t (ix3 0 l k) = argW m c l k := by
  rw [← entry_w]; blk_point [iblk, idx t]

/-- The result as an array of the arguments. -/
def outArr (i : S8192x1280.Idx) : EReal := ∑ k : Fin 1024, argA m c (i 0) k * argW m c (i 1) k

/-- The result array holds the product. -/
theorem final : (dats m 0 c).arrAt 2 cfg0.N = outArr m c := by
  refine (dats m 0 c).arrAt_eq_of_covers 2 _ (by decide +kernel) fun t _ y => ?_
  blk_simp
  rw [after0_2]
  unfold out0_2
  idx_vars y
  frame_out
  rw [pay]
  simp only [blk_a, blk_w]
  show outArr m c (ix2 (row t y0) y1) = _
  congr 1
  unfold row
  blk_ext [idx t]

/-- The call's result is the reference's, whatever the arguments. -/
theorem algebraic : Cert.algebraic_MmNtIdeal_MmNtRefIdeal
    (hMmNtIdeal := Cert.MmNtIdeal.Gen.facts) (hMmNtRefIdeal := Cert.MmNtRefIdeal.Gen.facts) := by
  intro m g m' g' _ hagree
  have run := (θ_run _ _ _).mono (fun r h c => (⟨(h c).1.trans (final m c), (h c).2⟩ : _ ∧ _)) (Value.run_blocks m g)
  refine ⟨_, run, (θ_run _ _ _).mono (fun _ h c => ⟨(h c).1.trans (funext fun i => ?_), (h c).2⟩) (Cert.MmNtRefIdeal.Value.run m' g')⟩
  rw [(hagree c).1, (hagree c).2]
  idx_vars i
  pointwise
  rfl

end Cert.MmNtIdeal.Val
end
-- ==== Proof.MmTnValue.lean ====
/- The value of the product that goes backward to the weights: what its result array holds after the run is what the reference computes from the same arguments.
   No precondition: the kernel sums each quarter of the rows by itself, and the order of a sum does not matter. -/
module
public import proofs.«01_k».proof.Defs
public import proofs.«01_k».proof.Proof.Gen.MmTnIdeal
public import proofs.«01_k».proof.Proof.Gen.MmTnIdeal.Skeleton
public import proofs.«01_k».proof.Proof.Gen.MmTnIdeal.Frame
public import proofs.«01_k».proof.Proof.Gen.MmTnIdeal.Value
public import proofs.«01_k».proof.Proof.Gen.MmTnRefIdeal
public import proofs.«01_k».proof.Proof.Gen.MmTnRefIdeal.Run
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.MmTnIdeal.Val
open Cert.MmTnIdeal Cert.MmTnIdeal.Gen

/-- A point adds its rows' products, element by element, -/
theorem pay (v3 : Vec Ideal S1024x1408 .f32) (v4 : Vec Ideal S2048x1024 .bf16) (v5 : Vec Ideal S1x2048x1408 .bf16) (j : S1024x1408.Idx) :
    k0_pay2 v3 v4 v5 j = v3 j + ∑ r : Fin 2048, v4 (ix2 r (j 0)) * v5 (ix3 0 r (j 1)) := by
  idx_vars j
  pointwise [k0_pay2]

/-- to zero at first, -/
theorem zero (j : S1024x1408.Idx) : k0_pay1 (F := Ideal) j = 0 := by
  pointwise! [k0_pay1]

/-- and the last one gives the sum out. -/
theorem pay_out (v : Vec Ideal S1024x1408 .f32) (j : S1024x1408.Idx) : k0_pay3 v j = v j := by
  pointwise [k0_pay3]

/-- Each window's block index at each of the sixteen points. -/
theorem idx : ∀ t : Fin cfg0.N, win0_0.index t = ![t.val % 4, 0] ∧ win0_1.index t = ![t.val / 8, t.val % 4, t.val / 4 % 2]
    ∧ win0_2.index t = ![0, t.val / 4] :=
  (by decide +kernel : ∀ t : Fin grid0.N, _)

variable (m : (ℓ : Loc nD τ sig) → Buf (Elt Ideal) ℓ) (c : Dev nD)

/-- The rows, -/
abbrev argX (r : Fin 8192) (k : Fin 1024) : EReal := m ((c.tc : Thread nD τ).loc main_arg0) (ix2 r k)
/-- and the gradient's. -/
abbrev argD (r : Fin 8192) (l : Fin 5632) : EReal := m ((c.tc : Thread nD τ).loc main_arg1) (ix2 r l)

/-- A point's row among all rows, -/
def row (t : Fin cfg0.N) (r : Fin 2048) : Fin 8192 := ⟨t.val % 4 * 2048 + r.val, by omega⟩

/-- and its column among all columns. -/
def col (t : Fin cfg0.N) (l : Fin 1408) : Fin 5632 := ⟨t.val / 4 * 1408 + l.val, by have := t.isLt; have : cfg0.N = 16 := N_0; omega⟩

/-- Point `t`'s block of the rows. -/
theorem blk_x (t : Fin cfg0.N) (r : Fin 2048) (k : Fin 1024) : iblk m c 0 t (ix2 r k) = argX m c (row t r) k := by
  unfold argX row; blk_point [iblk, V, idx t]

/-- The gradient's rows as the call finds them, in two halves. -/
theorem entry_d (s : Fin 2) (r : Fin 8192) (f : Fin 2816) : V m c main_v1 (ix3 s r f) = argD m c r ⟨s.val * 2816 + f.val, by omega⟩ := by
  unfold V; entry_read; unfold argD; pointwise

/-- Point `t`'s block of the gradient. -/
theorem blk_d (t : Fin cfg0.N) (r : Fin 2048) (l : Fin 1408) : iblk m c 1 t (ix3 0 r l) = argD m c (row t r) (col t l) := by
  have ht := t.isLt
  have hN : cfg0.N = 16 := N_0
  have e : col t l = ⟨(⟨t.val / 8, by omega⟩ : Fin 2).val * 2816 + (⟨t.val / 4 % 2 * 1408 + l.val, by omega⟩ : Fin 2816).val, by
      show t.val / 8 * 2816 + (t.val / 4 % 2 * 1408 + l.val) < 5632; omega⟩ :=
    Fin.ext (by show t.val / 4 * 1408 + l.val = t.val / 8 * 2816 + (t.val / 4 % 2 * 1408 + l.val); omega)
  rw [e, ← entry_d]
  unfold row
  blk_point [iblk, idx t]

/-- What a point adds, by the rows of the arguments. -/
theorem add_at (t : Fin cfg0.N) (v : Vec Ideal S1024x1408 .f32) (j : S1024x1408.Idx) :
    k0_pay2 v (iblk m c 0 t) (iblk m c 1 t) j = v j + ∑ r : Fin 2048, argX m c (row t r) (j 0) * argD m c (row t r) (col t (j 1)) := by
  refine (pay v _ _ j).trans (congrArg (fun b : EReal => v j + b) (Finset.sum_congr rfl fun r _ => ?_))
  exact congrArg₂ (fun a b : EReal => a * b) (blk_x m c t r (j 0)) (blk_d m c t r (j 1))

/-- The result as an array of the arguments. -/
def outArr (i : S1024x5632.Idx) : EReal := ∑ r : Fin 8192, argX m c r (i 0) * argD m c r (i 1)

/-- What the carried sum is after a point. -/
theorem carried (t : Fin cfg0.N) (ht : t.val % 4 = 3) (j : S1024x1408.Idx) :
    (outsAt0 m c t.val t.isLt).2 j = ∑ r : Fin 8192, argX m c r (j 0) * argD m c r (col t (j 1)) := by
  rw [Pipeline.eq_sum_fin_of_reset_step_apply_of_flush (fun n h => (outsAt0 m c n h).2) 4 (fun _ => 0)
    (fun t j => ∑ r : Fin 2048, argX m c (row t r) (j 0) * argD m c (row t r) (col t (j 1)))
    (fun t h j => by rw [outsAt0_A m c t h (by omega)]; frame_out; rw [add_at, zero])
    (fun t h j => by
      by_cases h' : t.val % 4 = 3
      · rw [outsAt0_C m c t h h']; frame_out; rw [add_at]; exact congrArg (fun b : EReal => b + _) (congrFun ((Memref.isWhole_whole cc0_scratch0).read_unread _) j)
      · rw [outsAt0_B m c t h h']; frame_out; rw [add_at]; exact congrArg (fun b : EReal => b + _) (congrFun ((Memref.isWhole_whole cc0_scratch0).read_unread _) j))
    t ht j, zero_add]
  refine Fin.sum_mul_add_congr fun s k hl => ?_
  have hs := s.isLt
  have er : row ⟨4 * (t.val / 4) + s.val, Pipeline.run_point_lt_of_flush t ht s⟩ k = ⟨s.val * 2048 + k.val, hl⟩ :=
    Fin.ext (by show (4 * (t.val / 4) + s.val) % 4 * 2048 + k.val = s.val * 2048 + k.val; omega)
  have ec : col ⟨4 * (t.val / 4) + s.val, Pipeline.run_point_lt_of_flush t ht s⟩ (j 1) = col t (j 1) :=
    Fin.ext (by show (4 * (t.val / 4) + s.val) / 4 * 1408 + _ = t.val / 4 * 1408 + _; omega)
  rw [er, ec]

/-- A point that gives the sum out gives the carried one. -/
theorem out_eq (t : Fin cfg0.N) (ht : t.val % 4 = 3) (j : S1024x1408.Idx) :
    (outsAt0 m c t.val t.isLt).1 j = (outsAt0 m c t.val t.isLt).2 j := by
  rw [outsAt0_C m c t (by omega) ht]
  frame_out
  rw [pay_out]

/-- The result array holds the product. -/
theorem final : (dats m 0 c).arrAt 2 cfg0.N = outArr m c := by
  refine (dats m 0 c).arrAt_eq_of_covers 2 _ (by decide +kernel) fun t hf y => ?_
  have ht := (flush0_2 t).mp hf
  blk_simp
  rw [after0_2]
  idx_vars y
  rw [out_eq m c t ht, carried m c t ht]
  show outArr m c (ix2 y0 (col t y1)) = _
  congr 1
  unfold col
  blk_ext [idx t]

/-- The call's result is the reference's, whatever the arguments. -/
theorem algebraic : Cert.algebraic_MmTnIdeal_MmTnRefIdeal
    (hMmTnIdeal := Cert.MmTnIdeal.Gen.facts) (hMmTnRefIdeal := Cert.MmTnRefIdeal.Gen.facts) := by
  intro m g m' g' _ hagree
  have run := (θ_run _ _ _).mono (fun r h c => (⟨(h c).1.trans (final m c), (h c).2⟩ : _ ∧ _)) (Value.run_blocks m g)
  refine ⟨_, run, (θ_run _ _ _).mono (fun _ h c => ⟨(h c).1.trans (funext fun i => ?_), (h c).2⟩) (Cert.MmTnRefIdeal.Value.run m' g')⟩
  rw [(hagree c).1, (hagree c).2]
  idx_vars i
  pointwise
  exact Finset.sum_congr rfl fun r _ => mul_comm _ _

end Cert.MmTnIdeal.Val
end
-- ==== Proof.MmNtResValue.lean ====
/- The value of the product that goes backward to the rows of the residual stream: what its result array holds after the run is what the reference computes from the same arguments.
   No precondition: the kernel sums each quarter of the columns by itself, and the order of a sum does not matter. -/
module
public import proofs.«01_k».proof.Defs
public import proofs.«01_k».proof.Proof.Gen.MmNtResIdeal
public import proofs.«01_k».proof.Proof.Gen.MmNtResIdeal.Skeleton
public import proofs.«01_k».proof.Proof.Gen.MmNtResIdeal.Frame
public import proofs.«01_k».proof.Proof.Gen.MmNtResIdeal.Value
public import proofs.«01_k».proof.Proof.Gen.MmNtResRefIdeal
public import proofs.«01_k».proof.Proof.Gen.MmNtResRefIdeal.Run
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.MmNtResIdeal.Val
open Cert.MmNtResIdeal Cert.MmNtResIdeal.Gen

/-- A sum starts at the residual's gradient, scaled, -/
theorem pay_start (v : Vec Ideal S1024x1024 .f32) (j : S1024x1024.Idx) :
    k0_pay1 v j = Ideal.ofBits .f32 0x3FD744FD#32 * v j := by
  pointwise [k0_pay1]

/-- and a point adds its columns' products. -/
theorem pay (v3 : Vec Ideal S1024x1024 .f32) (v4 v6 : Vec Ideal S1x1024x1408 .bf16) (j : S1024x1024.Idx) :
    k0_pay2 v3 v4 v6 j = v3 j + ∑ l : Fin 1408, v4 (ix3 0 (j 0) l) * v6 (ix3 0 (j 1) l) := by
  idx_vars j
  pointwise [k0_pay2]

/-- Each window's block index at each of the thirty-two points. -/
theorem idx : ∀ t : Fin cfg0.N, win0_0.index t = ![t.val % 4 / 2, t.val / 4, t.val % 4 % 2] ∧ win0_1.index t = ![0, 0, t.val % 4]
    ∧ win0_2.index t = ![t.val / 4, 0] ∧ win0_3.index t = ![t.val / 4, 0] :=
  (by decide +kernel : ∀ t : Fin grid0.N, _)

variable (m : (ℓ : Loc nD τ sig) → Buf (Elt Ideal) ℓ) (c : Dev nD)

/-- The gradient's rows, -/
abbrev argD (r : Fin 8192) (l : Fin 5632) : EReal := m ((c.tc : Thread nD τ).loc main_arg0) (ix2 r l)
/-- the weights, -/
abbrev argW (k : Fin 1024) (l : Fin 5632) : EReal := m ((c.tc : Thread nD τ).loc main_arg1) (ix2 k l)
/-- and the gradient of the residual stream. -/
abbrev argZ (r : Fin 8192) (k : Fin 1024) : EReal := m ((c.tc : Thread nD τ).loc main_arg2) (ix2 r k)

/-- A point's row among all rows, -/
def row (t : Fin cfg0.N) (r : Fin 1024) : Fin 8192 := ⟨t.val / 4 * 1024 + r.val, by have := t.isLt; have : cfg0.N = 32 := N_0; omega⟩

/-- and its column among all columns. -/
def col (t : Fin cfg0.N) (l : Fin 1408) : Fin 5632 := ⟨t.val % 4 * 1408 + l.val, by omega⟩

/-- The gradient's rows as the call finds them, in two halves. -/
theorem entry_d (s : Fin 2) (r : Fin 8192) (f : Fin 2816) : V m c main_v1 (ix3 s r f) = argD m c r ⟨s.val * 2816 + f.val, by omega⟩ := by
  unfold V; entry_read; unfold argD; pointwise

/-- Point `t`'s block of the gradient, -/
theorem blk_d (t : Fin cfg0.N) (r : Fin 1024) (l : Fin 1408) : iblk m c 0 t (ix3 0 r l) = argD m c (row t r) (col t l) := by
  have ht := t.isLt
  have hN : cfg0.N = 32 := N_0
  have e : col t l = ⟨(⟨t.val % 4 / 2, by omega⟩ : Fin 2).val * 2816 + (⟨t.val % 4 % 2 * 1408 + l.val, by omega⟩ : Fin 2816).val, by
      show t.val % 4 / 2 * 2816 + (t.val % 4 % 2 * 1408 + l.val) < 5632; omega⟩ :=
    Fin.ext (by show t.val % 4 * 1408 + l.val = t.val % 4 / 2 * 2816 + (t.val % 4 % 2 * 1408 + l.val); omega)
  rw [e, ← entry_d]
  unfold row
  blk_point [iblk, idx t]

/-- The weights as the call finds them. -/
theorem entry_w (k : Fin 1024) (l : Fin 5632) : V m c main_v2 (ix3 0 k l) = argW m c k l := by
  unfold V; entry_read; unfold argW; pointwise

/-- of the weights, -/
theorem blk_w (t : Fin cfg0.N) (k : Fin 1024) (l : Fin 1408) : iblk m c 1 t (ix3 0 k l) = argW m c k (col t l) := by
  rw [← entry_w]; unfold col; blk_point [iblk, idx t]

/-- and of the residual stream's gradient. -/
theorem blk_z (t : Fin cfg0.N) (r k : Fin 1024) : iblk m c 2 t (ix2 r k) = argZ m c (row t r) k := by
  unfold argZ row; blk_point [iblk, V, idx t]

/-- What a point adds, by the arguments. -/
theorem add_at (t : Fin cfg0.N) (v : Vec Ideal S1024x1024 .f32) (j : S1024x1024.Idx) :
    k0_pay2 v (iblk m c 0 t) (iblk m c 1 t) j = v j + ∑ l : Fin 1408, argD m c (row t (j 0)) (col t l) * argW m c (j 1) (col t l) := by
  refine (pay v _ _ j).trans (congrArg (fun b : EReal => v j + b) (Finset.sum_congr rfl fun l _ => ?_))
  exact congrArg₂ (fun a b : EReal => a * b) (blk_d m c t (j 0) l) (blk_w m c t (j 1) l)

/-- What a sum starts at, by the arguments. -/
theorem start_at (t : Fin cfg0.N) (j : S1024x1024.Idx) :
    k0_pay1 (iblk m c 2 t) j = Ideal.ofBits .f32 0x3FD744FD#32 * argZ m c (row t (j 0)) (j 1) := by
  refine (pay_start _ j).trans (congrArg (fun b : EReal => Ideal.ofBits .f32 0x3FD744FD#32 * b) ?_)
  refine Eq.trans ?_ (blk_z m c t (j 0) (j 1))
  idx_vars j

/-- The result as an array of the arguments. -/
def outArr (i : S8192x1024.Idx) : EReal :=
  Ideal.ofBits .f32 0x3FD744FD#32 * argZ m c (i 0) (i 1) + ∑ l : Fin 5632, argD m c (i 0) l * argW m c (i 1) l

/-- What the carried sum is after a point. -/
theorem carried (t : Fin cfg0.N) (ht : t.val % 4 = 3) (j : S1024x1024.Idx) :
    (outsAt0 m c t.val t.isLt).2 j = Ideal.ofBits .f32 0x3FD744FD#32 * argZ m c (row t (j 0)) (j 1)
      + ∑ l : Fin 5632, argD m c (row t (j 0)) l * argW m c (j 1) l := by
  rw [Pipeline.eq_sum_fin_of_reset_step_apply_of_flush (fun n h => (outsAt0 m c n h).2) 4 (fun _ => 0)
    (fun t j => (if t.val % 4 = 0 then Ideal.ofBits .f32 0x3FD744FD#32 * argZ m c (row t (j 0)) (j 1) else 0)
      + ∑ l : Fin 1408, argD m c (row t (j 0)) (col t l) * argW m c (j 1) (col t l))
    (fun t h j => by rw [outsAt0_A m c t h (by omega)]; frame_out; rw [add_at, start_at, if_pos h, zero_add])
    (fun t h j => by
      rw [if_neg h, zero_add]
      by_cases h' : t.val % 4 = 3
      · rw [outsAt0_C m c t h h']; frame_out; rw [add_at]; exact congrArg (fun b : EReal => b + _) (congrFun ((Memref.isWhole_whole cc0_scratch0).read_unread _) j)
      · rw [outsAt0_B m c t h h']; frame_out; rw [add_at]; exact congrArg (fun b : EReal => b + _) (congrFun ((Memref.isWhole_whole cc0_scratch0).read_unread _) j))
    t ht j, zero_add, Finset.sum_add_distrib]
  have er : ∀ s : Fin 4, row ⟨4 * (t.val / 4) + s.val, Pipeline.run_point_lt_of_flush t ht s⟩ (j 0) = row t (j 0) := fun s =>
    Fin.ext (by have := s.isLt; show (4 * (t.val / 4) + s.val) / 4 * 1024 + (j 0).val = t.val / 4 * 1024 + (j 0).val; omega)
  simp only [er]
  refine congrArg₂ (fun a b : EReal => a + b) ?_ ?_
  · rw [Fin.sum_univ_four, if_pos (by show (4 * (t.val / 4) + 0) % 4 = 0; omega), if_neg (by show ¬ (4 * (t.val / 4) + 1) % 4 = 0; omega),
      if_neg (by show ¬ (4 * (t.val / 4) + 2) % 4 = 0; omega), if_neg (by show ¬ (4 * (t.val / 4) + 3) % 4 = 0; omega), add_zero, add_zero, add_zero]
  refine Fin.sum_mul_add_congr fun s k hl => ?_
  have hs := s.isLt
  have ec : col ⟨4 * (t.val / 4) + s.val, Pipeline.run_point_lt_of_flush t ht s⟩ k = ⟨s.val * 1408 + k.val, hl⟩ :=
    Fin.ext (by show (4 * (t.val / 4) + s.val) % 4 * 1408 + k.val = s.val * 1408 + k.val; omega)
  rw [ec]

/-- A point that gives the sum out gives the carried one. -/
theorem out_eq (t : Fin cfg0.N) (ht : t.val % 4 = 3) (j : S1024x1024.Idx) :
    (outsAt0 m c t.val t.isLt).1 j = (outsAt0 m c t.val t.isLt).2 j := by
  rw [outsAt0_C m c t (by omega) ht]
  frame_out

/-- The result array holds the product and the residual's gradient. -/
theorem final : (dats m 0 c).arrAt 3 cfg0.N = outArr m c := by
  refine (dats m 0 c).arrAt_eq_of_covers 3 _ (by decide +kernel) fun t hf y => ?_
  have ht := (flush0_3 t).mp hf
  blk_simp
  rw [after0_3]
  idx_vars y
  rw [out_eq m c t ht, carried m c t ht]
  show outArr m c (ix2 (row t y0) y1) = _
  congr 1
  unfold row
  blk_ext [idx t]

/-- The call's result is the reference's, whatever the arguments. -/
theorem algebraic : Cert.algebraic_MmNtResIdeal_MmNtResRefIdeal
    (hMmNtResIdeal := Cert.MmNtResIdeal.Gen.facts) (hMmNtResRefIdeal := Cert.MmNtResRefIdeal.Gen.facts) := by
  intro m g m' g' _ hagree
  have run := (θ_run _ _ _).mono (fun r h c => (⟨(h c).1.trans (final m c), (h c).2⟩ : _ ∧ _)) (Value.run_blocks m g)
  refine ⟨_, run, (θ_run _ _ _).mono (fun _ h c => ⟨(h c).1.trans (funext fun i => ?_), (h c).2⟩) (Cert.MmNtResRefIdeal.Value.run m' g')⟩
  rw [(hagree c).1, (hagree c).2.1, (hagree c).2.2]
  idx_vars i
  pointwise
  exact add_comm _ _

end Cert.MmNtResIdeal.Val
end
-- ==== Proof.AddChipsValue.lean ====
/- The value of the sum of the four chips' parts: what its result array holds after the run is what the reference computes from the same arguments.
   No precondition: the order of a sum does not matter. -/
module
public import proofs.«01_k».proof.Defs
public import proofs.«01_k».proof.Proof.Gen.AddChipsIdeal
public import proofs.«01_k».proof.Proof.Gen.AddChipsIdeal.Skeleton
public import proofs.«01_k».proof.Proof.Gen.AddChipsIdeal.Frame
public import proofs.«01_k».proof.Proof.Gen.AddChipsIdeal.Value
public import proofs.«01_k».proof.Proof.Gen.AddChipsRefIdeal
public import proofs.«01_k».proof.Proof.Gen.AddChipsRefIdeal.Run
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

namespace Cert.AddChipsIdeal.Val
open Cert.AddChipsIdeal Cert.AddChipsIdeal.Gen

/-- A block of the sum, element by element. -/
theorem pay (v0 v3 v7 v11 : Vec Ideal S1x512x1408 .bf16) (r : Fin 512) (l : Fin 1408) :
    k0_pay1 v0 v3 v7 v11 (ix2 r l) = v0 (ix3 0 r l) + v3 (ix3 0 r l) + v7 (ix3 0 r l) + v11 (ix3 0 r l) := by
  pointwise [k0_pay1]

/-- Each window's block index at the one point. -/
theorem idx : ∀ t : Fin cfg0.N, win0_0.index t = ![0, 0, 0] ∧ win0_1.index t = ![0, 0] :=
  (by decide +kernel : ∀ t : Fin grid0.N, _)

variable (m : (ℓ : Loc nD τ sig) → Buf (Elt Ideal) ℓ) (c : Dev nD)

/-- The chips' parts. -/
abbrev argP (s : Fin 4) (r : Fin 512) (l : Fin 1408) : EReal := m ((c.tc : Thread nD τ).loc main_arg0) (ix3 s r l)

/-- The block of the parts, which is all of them. -/
theorem blk_p (t : Fin cfg0.N) (s : Fin 4) (r : Fin 512) (l : Fin 1408) : iblk m c 0 t (ix3 s r l) = argP m c s r l := by
  unfold argP; blk_point [iblk, V, idx t]

/-- The result as an array of the arguments. -/
def outArr (i : S512x1408.Idx) : EReal := ∑ s : Fin 4, argP m c s (i 0) (i 1)

/-- The result array holds the sum. -/
theorem final : (dats m 0 c).arrAt 1 cfg0.N = outArr m c := by
  refine (dats m 0 c).arrAt_eq_of_covers 1 _ (by decide +kernel) fun t _ y => ?_
  blk_simp
  rw [after0_1]
  unfold out0_1
  idx_vars y
  frame_out
  rw [pay]
  have e := blk_p m c t
  show _ = outArr m c _
  refine Eq.trans ?_ ((Fin.sum_univ_four fun s => argP m c s y0 y1).symm.trans (?_ : outArr m c (ix2 y0 y1) = _))
  · pointwise
    simp only [e]
  congr 1
  blk_ext [idx t]

/-- The call's result is the reference's, whatever the arguments. -/
theorem algebraic : Cert.algebraic_AddChipsIdeal_AddChipsRefIdeal
    (hAddChipsIdeal := Cert.AddChipsIdeal.Gen.facts) (hAddChipsRefIdeal := Cert.AddChipsRefIdeal.Gen.facts) := by
  intro m g m' g' _ hagree
  have run := (θ_run _ _ _).mono (fun r h c => (⟨(h c).1.trans (final m c), (h c).2⟩ : _ ∧ _)) (Value.run_blocks m g)
  refine ⟨_, run, (θ_run _ _ _).mono (fun _ h c => ⟨(h c).1.trans (funext fun i => ?_), (h c).2⟩) (Cert.AddChipsRefIdeal.Value.run m' g')⟩
  rw [hagree c]
  idx_vars i
  pointwise
  rfl

end Cert.AddChipsIdeal.Val
end
-- ==== Proof.lean ====
module

public import proofs.«01_k».proof.Defs
public import proofs.«01_k».proof.Proof.Gen.LnBwd
public import proofs.«01_k».proof.Proof.Gen.LnBwd.Frame
public import proofs.«01_k».proof.Proof.Gen.LnBwdIdeal
public import proofs.«01_k».proof.Proof.Gen.LnBwdIdeal.Frame
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.Pre_finite_ln
public import proofs.«01_k».proof.Proof.LnValue
public import proofs.«01_k».proof.Proof.Gen.LnLoss
public import proofs.«01_k».proof.Proof.Gen.LnLoss.Frame
public import proofs.«01_k».proof.Proof.Gen.LnLossIdeal
public import proofs.«01_k».proof.Proof.Gen.LnLossIdeal.Frame
public import proofs.«01_k».proof.Proof.Gen.LnLossRefIdeal
public import proofs.«01_k».proof.Proof.Gen.LnLossRefIdeal.Run
public import proofs.«01_k».proof.Proof.Gen.Pre_finite_loss
public import proofs.«01_k».proof.Proof.LossValue
public import proofs.«01_k».proof.Proof.Gen.ScBwd
public import proofs.«01_k».proof.Proof.Gen.ScBwdIdeal
public import proofs.«01_k».proof.Proof.ScRun
public import proofs.«01_k».proof.Proof.Gen.ScBwdRefIdeal
public import proofs.«01_k».proof.Proof.Gen.ScBwdRefIdeal.Run
public import proofs.«01_k».proof.Proof.ScValue
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.Pre_finite_ffn
public import proofs.«01_k».proof.Proof.FfnValue
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.FfnUpValue
public import proofs.«01_k».proof.Proof.Gen.DownLn
public import proofs.«01_k».proof.Proof.Gen.DownLn.Frame
public import proofs.«01_k».proof.Proof.Gen.DownLnIdeal
public import proofs.«01_k».proof.Proof.Gen.DownLnIdeal.Frame
public import proofs.«01_k».proof.Proof.Gen.DownLnIdeal.Value
public import proofs.«01_k».proof.Proof.Gen.DownLnRefIdeal
public import proofs.«01_k».proof.Proof.Gen.DownLnRefIdeal.Run
public import proofs.«01_k».proof.Proof.DownLnValue
public import proofs.«01_k».proof.Proof.Gen.ScFwd
public import proofs.«01_k».proof.Proof.Gen.ScFwd.Frame
public import proofs.«01_k».proof.Proof.Gen.ScFwdIdeal
public import proofs.«01_k».proof.Proof.Gen.ScFwdIdeal.Frame
public import proofs.«01_k».proof.Proof.Gen.ScFwdIdeal.Value
public import proofs.«01_k».proof.Proof.Gen.ScFwdRefIdeal
public import proofs.«01_k».proof.Proof.Gen.ScFwdRefIdeal.Run
public import proofs.«01_k».proof.Proof.ScFwdValue
public import proofs.«01_k».proof.Proof.Gen.LruFwd
public import proofs.«01_k».proof.Proof.Gen.LruFwdIdeal
public import proofs.«01_k».proof.Proof.Gen.LruFwdIdeal.Frame
public import proofs.«01_k».proof.Proof.Gen.LruFwdIdeal.Loops
public import proofs.«01_k».proof.Proof.Gen.LruFwdRefIdeal
public import proofs.«01_k».proof.Proof.Gen.LruFwdRefIdeal.Run
public import proofs.«01_k».proof.Proof.Gen.LruFwdRefIdeal.Step
public import proofs.«01_k».proof.Proof.LruRun
public import proofs.«01_k».proof.Proof.LruFrame
public import proofs.«01_k».proof.Proof.LruFwdValue
public import proofs.«01_k».proof.Proof.Gen.MmNn
public import proofs.«01_k».proof.Proof.Gen.MmNn.Frame
public import proofs.«01_k».proof.Proof.Gen.MmNnIdeal
public import proofs.«01_k».proof.Proof.Gen.MmNnIdeal.Frame
public import proofs.«01_k».proof.Proof.Gen.MmNnIdeal.Value
public import proofs.«01_k».proof.Proof.Gen.MmNnRefIdeal
public import proofs.«01_k».proof.Proof.Gen.MmNnRefIdeal.Run
public import proofs.«01_k».proof.Proof.MmNnValue
public import proofs.«01_k».proof.Proof.Gen.MmNt
public import proofs.«01_k».proof.Proof.Gen.MmNt.Frame
public import proofs.«01_k».proof.Proof.Gen.MmNtIdeal
public import proofs.«01_k».proof.Proof.Gen.MmNtIdeal.Frame
public import proofs.«01_k».proof.Proof.Gen.MmNtIdeal.Value
public import proofs.«01_k».proof.Proof.Gen.MmNtRefIdeal
public import proofs.«01_k».proof.Proof.Gen.MmNtRefIdeal.Run
public import proofs.«01_k».proof.Proof.MmNtValue
public import proofs.«01_k».proof.Proof.Gen.MmTn
public import proofs.«01_k».proof.Proof.Gen.MmTn.Frame
public import proofs.«01_k».proof.Proof.Gen.MmTnIdeal
public import proofs.«01_k».proof.Proof.Gen.MmTnIdeal.Frame
public import proofs.«01_k».proof.Proof.Gen.MmTnIdeal.Value
public import proofs.«01_k».proof.Proof.Gen.MmTnRefIdeal
public import proofs.«01_k».proof.Proof.Gen.MmTnRefIdeal.Run
public import proofs.«01_k».proof.Proof.MmTnValue
public import proofs.«01_k».proof.Proof.Gen.MmNtRes
public import proofs.«01_k».proof.Proof.Gen.MmNtRes.Frame
public import proofs.«01_k».proof.Proof.Gen.MmNtResIdeal
public import proofs.«01_k».proof.Proof.Gen.MmNtResIdeal.Frame
public import proofs.«01_k».proof.Proof.Gen.MmNtResIdeal.Value
public import proofs.«01_k».proof.Proof.Gen.MmNtResRefIdeal
public import proofs.«01_k».proof.Proof.Gen.MmNtResRefIdeal.Run
public import proofs.«01_k».proof.Proof.MmNtResValue
public import proofs.«01_k».proof.Proof.Gen.AddChips
public import proofs.«01_k».proof.Proof.Gen.AddChips.Frame
public import proofs.«01_k».proof.Proof.Gen.AddChipsIdeal
public import proofs.«01_k».proof.Proof.Gen.AddChipsIdeal.Frame
public import proofs.«01_k».proof.Proof.Gen.AddChipsIdeal.Value
public import proofs.«01_k».proof.Proof.Gen.AddChipsRefIdeal
public import proofs.«01_k».proof.Proof.Gen.AddChipsRefIdeal.Run
public import proofs.«01_k».proof.Proof.AddChipsValue

@[expose] public section

noncomputable section

namespace Cert.Proof

open Idealize.ShloMosaic Idealize.SL.Sem

/-- The layer norm's reference terminates, leaves its arguments as they were and uses no semaphore. -/
theorem frame_lnref : Cert.quiescent_LnBwdRefIdeal (hLnBwdRefIdeal := Cert.LnBwdRefIdeal.Gen.facts) :=
  fun m ρ _ => (θ_run Cert.LnBwdRefIdeal.defs _ _).mono
    (fun r h => ⟨fun c => (h c).2.2.2.2, sem_eq_zero_of_no_sems (by decide) r.2⟩) (Cert.LnBwdRefIdeal.Value.run m ρ)

/-- The last layer norm with the loss's reference terminates, leaves its arguments as they were and uses no semaphore. -/
theorem frame_lossref : Cert.quiescent_LnLossRefIdeal (hLnLossRefIdeal := Cert.LnLossRefIdeal.Gen.facts) :=
  fun m ρ _ => (θ_run Cert.LnLossRefIdeal.defs _ _).mono
    (fun r h => ⟨fun c => (h c).2.2.2.2.2, sem_eq_zero_of_no_sems (by decide) r.2⟩) (Cert.LnLossRefIdeal.Value.run m ρ)

/-- The short convolution's kernel at the machine's floats: the same program as at the ideal ones, so the same run. -/
theorem frame_sc : Cert.quiescent_ScBwd (hScBwd := Cert.ScBwd.Gen.facts) := by
  intro m ρ _
  have h := Cert.ScBwdIdeal.Run.frame (F := Bits) m ρ
  refine cast ?_ h
  sl_kernel_rfl

/-- The short convolution's reference terminates, leaves its arguments as they were and uses no semaphore. -/
theorem frame_scref : Cert.quiescent_ScBwdRefIdeal (hScBwdRefIdeal := Cert.ScBwdRefIdeal.Gen.facts) :=
  fun m ρ _ => (θ_run Cert.ScBwdRefIdeal.defs _ _).mono
    (fun r h => ⟨fun c => (h c).2.2.2, sem_eq_zero_of_no_sems (by decide) r.2⟩) (Cert.ScBwdRefIdeal.Value.run m ρ)

/-- The feed-forward block's reference terminates, leaves its arguments as they were and uses no semaphore. -/
theorem frame_ffnref : Cert.quiescent_FfnBwdRefIdeal (hFfnBwdRefIdeal := Cert.FfnBwdRefIdeal.Gen.facts) :=
  fun m ρ _ => (θ_run Cert.FfnBwdRefIdeal.defs _ _).mono
    (fun r h => ⟨fun c => (h c).2.2.2.2.2, sem_eq_zero_of_no_sems (by decide) r.2⟩) (Cert.FfnBwdRefIdeal.Value.run m ρ)

/-- The forward up projection, convolution and gate's reference terminates, leaves its arguments as they were and uses no semaphore. -/
theorem frame_upref : Cert.quiescent_FfnUpRefIdeal (hFfnUpRefIdeal := Cert.FfnUpRefIdeal.Gen.facts) :=
  fun m ρ _ => (θ_run Cert.FfnUpRefIdeal.defs _ _).mono
    (fun r h => ⟨fun c => (h c).2.2.2, sem_eq_zero_of_no_sems (by decide) r.2⟩) (Cert.FfnUpRefIdeal.Value.run m ρ)

/-- The forward down projection and layer norm's reference terminates, leaves its arguments as they were and uses no semaphore. -/
theorem frame_mlnref : Cert.quiescent_DownLnRefIdeal (hDownLnRefIdeal := Cert.DownLnRefIdeal.Gen.facts) :=
  fun m ρ _ => (θ_run Cert.DownLnRefIdeal.defs _ _).mono
    (fun r h => ⟨fun c => (h c).2.2.2, sem_eq_zero_of_no_sems (by decide) r.2⟩) (Cert.DownLnRefIdeal.Value.run m ρ)

/-- The forward short convolution's reference terminates, leaves its arguments as they were and uses no semaphore. -/
theorem frame_scfref : Cert.quiescent_ScFwdRefIdeal (hScFwdRefIdeal := Cert.ScFwdRefIdeal.Gen.facts) :=
  fun m ρ _ => (θ_run Cert.ScFwdRefIdeal.defs _ _).mono
    (fun r h => ⟨fun c => (h c).2, sem_eq_zero_of_no_sems (by decide) r.2⟩) (Cert.ScFwdRefIdeal.Value.run m ρ)

/-- The forward recurrence's reference terminates, leaves its arguments as they were and uses no semaphore. -/
theorem frame_lrufref : Cert.quiescent_LruFwdRefIdeal (hLruFwdRefIdeal := Cert.LruFwdRefIdeal.Gen.facts) :=
  fun m ρ _ => (θ_run Cert.LruFwdRefIdeal.defs _ _).mono
    (fun r h => ⟨fun c => (h c).2.2, sem_eq_zero_of_no_sems (by decide) r.2⟩) (Cert.LruFwdRefIdeal.Value.run m ρ)

/-- The forward product's reference terminates, leaves its arguments as they were and uses no semaphore. -/
theorem frame_nnref : Cert.quiescent_MmNnRefIdeal (hMmNnRefIdeal := Cert.MmNnRefIdeal.Gen.facts) :=
  fun m ρ _ => (θ_run Cert.MmNnRefIdeal.defs _ _).mono
    (fun r h => ⟨fun c => (h c).2, sem_eq_zero_of_no_sems (by decide) r.2⟩) (Cert.MmNnRefIdeal.Value.run m ρ)

/-- The product backward to the rows's reference terminates, leaves its arguments as they were and uses no semaphore. -/
theorem frame_ntref : Cert.quiescent_MmNtRefIdeal (hMmNtRefIdeal := Cert.MmNtRefIdeal.Gen.facts) :=
  fun m ρ _ => (θ_run Cert.MmNtRefIdeal.defs _ _).mono
    (fun r h => ⟨fun c => (h c).2, sem_eq_zero_of_no_sems (by decide) r.2⟩) (Cert.MmNtRefIdeal.Value.run m ρ)

/-- The product backward to the weights's reference terminates, leaves its arguments as they were and uses no semaphore. -/
theorem frame_tnref : Cert.quiescent_MmTnRefIdeal (hMmTnRefIdeal := Cert.MmTnRefIdeal.Gen.facts) :=
  fun m ρ _ => (θ_run Cert.MmTnRefIdeal.defs _ _).mono
    (fun r h => ⟨fun c => (h c).2, sem_eq_zero_of_no_sems (by decide) r.2⟩) (Cert.MmTnRefIdeal.Value.run m ρ)

/-- The product backward to the rows of the residual stream's reference terminates, leaves its arguments as they were and uses no semaphore. -/
theorem frame_ntrref : Cert.quiescent_MmNtResRefIdeal (hMmNtResRefIdeal := Cert.MmNtResRefIdeal.Gen.facts) :=
  fun m ρ _ => (θ_run Cert.MmNtResRefIdeal.defs _ _).mono
    (fun r h => ⟨fun c => (h c).2, sem_eq_zero_of_no_sems (by decide) r.2⟩) (Cert.MmNtResRefIdeal.Value.run m ρ)

/-- The sum of the four chips' parts's reference terminates, leaves its arguments as they were and uses no semaphore. -/
theorem frame_chipsref : Cert.quiescent_AddChipsRefIdeal (hAddChipsRefIdeal := Cert.AddChipsRefIdeal.Gen.facts) :=
  fun m ρ _ => (θ_run Cert.AddChipsRefIdeal.defs _ _).mono
    (fun r h => ⟨fun c => (h c).2, sem_eq_zero_of_no_sems (by decide) r.2⟩) (Cert.AddChipsRefIdeal.Value.run m ρ)

/-- Every claim of the statement. -/
theorem claim : Cert.Claim :=
  ⟨Cert.LnBwd.Gen.facts,
   Cert.LnBwdIdeal.Gen.facts,
   Cert.LnBwdRefIdeal.Gen.facts,
   Cert.LnLoss.Gen.facts,
   Cert.LnLossIdeal.Gen.facts,
   Cert.LnLossRefIdeal.Gen.facts,
   Cert.ScBwd.Gen.facts,
   Cert.ScBwdIdeal.Gen.facts,
   Cert.ScBwdRefIdeal.Gen.facts,
   Cert.FfnBwd.Gen.facts,
   Cert.FfnBwdIdeal.Gen.facts,
   Cert.FfnBwdRefIdeal.Gen.facts,
   Cert.FfnUp.Gen.facts,
   Cert.FfnUpIdeal.Gen.facts,
   Cert.FfnUpRefIdeal.Gen.facts,
   Cert.DownLn.Gen.facts,
   Cert.DownLnIdeal.Gen.facts,
   Cert.DownLnRefIdeal.Gen.facts,
   Cert.ScFwd.Gen.facts,
   Cert.ScFwdIdeal.Gen.facts,
   Cert.ScFwdRefIdeal.Gen.facts,
   Cert.LruFwd.Gen.facts,
   Cert.LruFwdIdeal.Gen.facts,
   Cert.LruFwdRefIdeal.Gen.facts,
   Cert.MmNn.Gen.facts,
   Cert.MmNnIdeal.Gen.facts,
   Cert.MmNnRefIdeal.Gen.facts,
   Cert.MmNt.Gen.facts,
   Cert.MmNtIdeal.Gen.facts,
   Cert.MmNtRefIdeal.Gen.facts,
   Cert.MmTn.Gen.facts,
   Cert.MmTnIdeal.Gen.facts,
   Cert.MmTnRefIdeal.Gen.facts,
   Cert.MmNtRes.Gen.facts,
   Cert.MmNtResIdeal.Gen.facts,
   Cert.MmNtResRefIdeal.Gen.facts,
   Cert.AddChips.Gen.facts,
   Cert.AddChipsIdeal.Gen.facts,
   Cert.AddChipsRefIdeal.Gen.facts,
   Cert.Pre_finite_ln.Gen.facts,
   Cert.Pre_finite_loss.Gen.facts,
   Cert.Pre_finite_ffn.Gen.facts,
   fun m ρ _ => Cert.LnBwd.Gen.frame m ρ,
   fun m ρ _ => Cert.LnBwdIdeal.Gen.frame m ρ,
   fun m ρ _ => Cert.LnBwdIdeal.Gen.frame m ρ,
   frame_lnref,
   fun m ρ _ => frame_lnref m ρ trivial,
   fun m ρ _ => Cert.LnLoss.Gen.frame m ρ,
   fun m ρ _ => Cert.LnLossIdeal.Gen.frame m ρ,
   fun m ρ _ => Cert.LnLossIdeal.Gen.frame m ρ,
   frame_lossref,
   fun m ρ _ => frame_lossref m ρ trivial,
   frame_sc,
   fun m ρ _ => Cert.ScBwdIdeal.Run.frame m ρ,
   frame_scref,
   fun m ρ _ => Cert.FfnBwd.Gen.frame m ρ,
   fun m ρ _ => Cert.FfnBwdIdeal.Gen.frame m ρ,
   fun m ρ _ => Cert.FfnBwdIdeal.Gen.frame m ρ,
   frame_ffnref,
   fun m ρ _ => frame_ffnref m ρ trivial,
   fun m ρ _ => Cert.FfnUp.Gen.frame m ρ,
   fun m ρ _ => Cert.FfnUpIdeal.Gen.frame m ρ,
   frame_upref,
   fun m ρ _ => Cert.DownLn.Gen.frame m ρ,
   fun m ρ _ => Cert.DownLnIdeal.Gen.frame m ρ,
   frame_mlnref,
   fun m ρ _ => Cert.ScFwd.Gen.frame m ρ,
   fun m ρ _ => Cert.ScFwdIdeal.Gen.frame m ρ,
   frame_scfref,
   Cert.LruFwdIdeal.Run.frame_bits,
   fun m ρ _ => Cert.LruFwdIdeal.Run.frame m ρ,
   frame_lrufref,
   fun m ρ _ => Cert.MmNn.Gen.frame m ρ,
   fun m ρ _ => Cert.MmNnIdeal.Gen.frame m ρ,
   frame_nnref,
   fun m ρ _ => Cert.MmNt.Gen.frame m ρ,
   fun m ρ _ => Cert.MmNtIdeal.Gen.frame m ρ,
   frame_ntref,
   fun m ρ _ => Cert.MmTn.Gen.frame m ρ,
   fun m ρ _ => Cert.MmTnIdeal.Gen.frame m ρ,
   frame_tnref,
   fun m ρ _ => Cert.MmNtRes.Gen.frame m ρ,
   fun m ρ _ => Cert.MmNtResIdeal.Gen.frame m ρ,
   frame_ntrref,
   fun m ρ _ => Cert.AddChips.Gen.frame m ρ,
   fun m ρ _ => Cert.AddChipsIdeal.Gen.frame m ρ,
   frame_chipsref,
   trivial,
   Cert.LnBwdIdeal.Val.algebraic,
   trivial,
   Cert.LnLossIdeal.Val.algebraic,
   trivial,
   Cert.ScBwdIdeal.Val.algebraic,
   trivial,
   Cert.FfnBwdIdeal.Val.algebraic,
   trivial,
   Cert.FfnUpIdeal.Val.algebraic,
   trivial,
   Cert.DownLnIdeal.Val.algebraic,
   trivial,
   Cert.ScFwdIdeal.Val.algebraic,
   Cert.LruFwdIdeal.Run.preserves,
   Cert.LruFwdIdeal.Val.algebraic,
   trivial,
   Cert.MmNnIdeal.Val.algebraic,
   trivial,
   Cert.MmNtIdeal.Val.algebraic,
   trivial,
   Cert.MmTnIdeal.Val.algebraic,
   trivial,
   Cert.MmNtResIdeal.Val.algebraic,
   trivial,
   Cert.AddChipsIdeal.Val.algebraic⟩

end Cert.Proof

end
